-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_at_most_64 [hPre_logits_at_most_64 : Cert.Pre_logits_at_most_64.Facts] (m : (ℓ : Loc Cert.KernelIdeal.nD Cert.KernelIdeal.τ Cert.KernelIdeal.sig) → Buf (Elt Ideal) ℓ) : Prop :=
  ∀ c : Dev Cert.KernelIdeal.nD,
    (Cert.Pre_logits_at_most_64.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_at_most_64 [hPre_logits_at_most_64 : Cert.Pre_logits_at_most_64.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_at_most_64.fn (F := Ideal) (m ((c.tc : Thread Cert.ReferenceIdeal.nD Cert.ReferenceIdeal.τ).loc Cert.ReferenceIdeal.main_arg0))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainReferenceIdeal (m : (ℓ : Loc Cert.PlainReferenceIdeal.nD Cert.PlainReferenceIdeal.τ Cert.PlainReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Vt (m : (ℓ : Loc Cert.Vt.nD Cert.Vt.τ Cert.Vt.sig) → Buf (Elt Bits) ℓ) : Prop :=
  True

def Pre_VtIdeal (m : (ℓ : Loc Cert.VtIdeal.nD Cert.VtIdeal.τ Cert.VtIdeal.sig) → Buf (Elt Ideal) ℓ) : Prop :=
  True

def Pre_VtReferenceIdeal (m : (ℓ : Loc Cert.VtReferenceIdeal.nD Cert.VtReferenceIdeal.τ Cert.VtReferenceIdeal.sig) → Buf (Elt Ideal) ℓ) : Prop :=
  True

def Pre_FfnUpSecond (m : (ℓ : Loc Cert.FfnUpSecond.nD Cert.FfnUpSecond.τ Cert.FfnUpSecond.sig) → Buf (Elt Bits) ℓ) : Prop :=
  True

def Pre_FfnUpSecondIdeal (m : (ℓ : Loc Cert.FfnUpSecondIdeal.nD Cert.FfnUpSecondIdeal.τ Cert.FfnUpSecondIdeal.sig) → Buf (Elt Ideal) ℓ) : Prop :=
  True

def Pre_FfnUpSecondReferenceIdeal (m : (ℓ : Loc Cert.FfnUpSecondReferenceIdeal.nD Cert.FfnUpSecondReferenceIdeal.τ Cert.FfnUpSecondReferenceIdeal.sig) → Buf (Elt Ideal) ℓ) : Prop :=
  True

def Pre_DownSecond (m : (ℓ : Loc Cert.DownSecond.nD Cert.DownSecond.τ Cert.DownSecond.sig) → Buf (Elt Bits) ℓ) : Prop :=
  True

def Pre_DownSecondIdeal (m : (ℓ : Loc Cert.DownSecondIdeal.nD Cert.DownSecondIdeal.τ Cert.DownSecondIdeal.sig) → Buf (Elt Ideal) ℓ) : Prop :=
  True

def Pre_DownSecondReferenceIdeal (m : (ℓ : Loc Cert.DownSecondReferenceIdeal.nD Cert.DownSecondReferenceIdeal.τ Cert.DownSecondReferenceIdeal.sig) → Buf (Elt Ideal) ℓ) : Prop :=
  True

def Pre_GatesSecond (m : (ℓ : Loc Cert.GatesSecond.nD Cert.GatesSecond.τ Cert.GatesSecond.sig) → Buf (Elt Bits) ℓ) : Prop :=
  True

def Pre_GatesSecondIdeal (m : (ℓ : Loc Cert.GatesSecondIdeal.nD Cert.GatesSecondIdeal.τ Cert.GatesSecondIdeal.sig) → Buf (Elt Ideal) ℓ) : Prop :=
  True

def Pre_GatesSecondReferenceIdeal (m : (ℓ : Loc Cert.GatesSecondReferenceIdeal.nD Cert.GatesSecondReferenceIdeal.τ Cert.GatesSecondReferenceIdeal.sig) → Buf (Elt Ideal) ℓ) : Prop :=
  True

def Pre_PlainSecond (m : (ℓ : Loc Cert.PlainSecond.nD Cert.PlainSecond.τ Cert.PlainSecond.sig) → Buf (Elt Bits) ℓ) : Prop :=
  True

def Pre_PlainSecondIdeal (m : (ℓ : Loc Cert.PlainSecondIdeal.nD Cert.PlainSecondIdeal.τ Cert.PlainSecondIdeal.sig) → Buf (Elt Ideal) ℓ) : Prop :=
  True

def Pre_PlainSecondReferenceIdeal (m : (ℓ : Loc Cert.PlainSecondReferenceIdeal.nD Cert.PlainSecondReferenceIdeal.τ Cert.PlainSecondReferenceIdeal.sig) → Buf (Elt Ideal) ℓ) : Prop :=
  True

def Pre_OutProjSecond (m : (ℓ : Loc Cert.OutProjSecond.nD Cert.OutProjSecond.τ Cert.OutProjSecond.sig) → Buf (Elt Bits) ℓ) : Prop :=
  True

def Pre_OutProjSecondIdeal (m : (ℓ : Loc Cert.OutProjSecondIdeal.nD Cert.OutProjSecondIdeal.τ Cert.OutProjSecondIdeal.sig) → Buf (Elt Ideal) ℓ) : Prop :=
  True

def Pre_OutProjSecondReferenceIdeal (m : (ℓ : Loc Cert.OutProjSecondReferenceIdeal.nD Cert.OutProjSecondReferenceIdeal.τ Cert.OutProjSecondReferenceIdeal.sig) → Buf (Elt Ideal) ℓ) : Prop :=
  True

def Pre_MergeSecond (m : (ℓ : Loc Cert.MergeSecond.nD Cert.MergeSecond.τ Cert.MergeSecond.sig) → Buf (Elt Bits) ℓ) : Prop :=
  True

def Pre_MergeSecondIdeal (m : (ℓ : Loc Cert.MergeSecondIdeal.nD Cert.MergeSecondIdeal.τ Cert.MergeSecondIdeal.sig) → Buf (Elt Ideal) ℓ) : Prop :=
  True

def Pre_MergeSecondReferenceIdeal (m : (ℓ : Loc Cert.MergeSecondReferenceIdeal.nD Cert.MergeSecondReferenceIdeal.τ Cert.MergeSecondReferenceIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormReferenceIdeal (m : (ℓ : Loc Cert.PrenormReferenceIdeal.nD Cert.PrenormReferenceIdeal.τ Cert.PrenormReferenceIdeal.sig) → Buf (Elt Ideal) ℓ) : Prop :=
  True

def Pre_PostnormMix (m : (ℓ : Loc Cert.PostnormMix.nD Cert.PostnormMix.τ Cert.PostnormMix.sig) → Buf (Elt Bits) ℓ) : Prop :=
  True

def Pre_PostnormMixIdeal (m : (ℓ : Loc Cert.PostnormMixIdeal.nD Cert.PostnormMixIdeal.τ Cert.PostnormMixIdeal.sig) → Buf (Elt Ideal) ℓ) : Prop :=
  True

def Pre_PostnormMixReferenceIdeal (m : (ℓ : Loc Cert.PostnormMixReferenceIdeal.nD Cert.PostnormMixReferenceIdeal.τ Cert.PostnormMixReferenceIdeal.sig) → Buf (Elt Ideal) ℓ) : Prop :=
  True

def Pre_PostnormFfn (m : (ℓ : Loc Cert.PostnormFfn.nD Cert.PostnormFfn.τ Cert.PostnormFfn.sig) → Buf (Elt Bits) ℓ) : Prop :=
  True

def Pre_PostnormFfnIdeal (m : (ℓ : Loc Cert.PostnormFfnIdeal.nD Cert.PostnormFfnIdeal.τ Cert.PostnormFfnIdeal.sig) → Buf (Elt Ideal) ℓ) : Prop :=
  True

def Pre_PostnormFfnReferenceIdeal (m : (ℓ : Loc Cert.PostnormFfnReferenceIdeal.nD Cert.PostnormFfnReferenceIdeal.τ Cert.PostnormFfnReferenceIdeal.sig) → Buf (Elt Ideal) ℓ) : Prop :=
  True

def Pre_PostnormLast (m : (ℓ : Loc Cert.PostnormLast.nD Cert.PostnormLast.τ Cert.PostnormLast.sig) → Buf (Elt Bits) ℓ) : Prop :=
  True

def Pre_PostnormLastIdeal (m : (ℓ : Loc Cert.PostnormLastIdeal.nD Cert.PostnormLastIdeal.τ Cert.PostnormLastIdeal.sig) → Buf (Elt Ideal) ℓ) : Prop :=
  True

def Pre_PostnormLastReferenceIdeal (m : (ℓ : Loc Cert.PostnormLastReferenceIdeal.nD Cert.PostnormLastReferenceIdeal.τ Cert.PostnormLastReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeIdeal_tables_of_angles [hPre_tables_of_angles : Cert.Pre_tables_of_angles.Facts] (m : (ℓ : Loc Cert.RopeIdeal.nD Cert.RopeIdeal.τ Cert.RopeIdeal.sig) → Buf (Elt Ideal) ℓ) : Prop :=
  ∀ c : Dev Cert.RopeIdeal.nD,
    (Cert.Pre_tables_of_angles.fn (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)) (m ((c.tc : Thread Cert.RopeIdeal.nD Cert.RopeIdeal.τ).loc Cert.RopeIdeal.main_arg2)) (m ((c.tc : Thread Cert.RopeIdeal.nD Cert.RopeIdeal.τ).loc Cert.RopeIdeal.main_arg3)) (m ((c.tc : Thread Cert.RopeIdeal.nD Cert.RopeIdeal.τ).loc Cert.RopeIdeal.main_arg4))) = (fun _ => 1#1)

def Pre_RopeReferenceIdeal (m : (ℓ : Loc Cert.RopeReferenceIdeal.nD Cert.RopeReferenceIdeal.τ Cert.RopeReferenceIdeal.sig) → Buf (Elt Ideal) ℓ) : Prop :=
  True

def Pre_RopeReferenceIdeal_tables_of_angles [hPre_tables_of_angles : Cert.Pre_tables_of_angles.Facts] (m : (ℓ : Loc Cert.RopeReferenceIdeal.nD Cert.RopeReferenceIdeal.τ Cert.RopeReferenceIdeal.sig) → Buf (Elt Ideal) ℓ) : Prop :=
  ∀ c : Dev Cert.RopeReferenceIdeal.nD,
    (Cert.Pre_tables_of_angles.fn (F := Ideal) (m ((c.tc : Thread Cert.RopeReferenceIdeal.nD Cert.RopeReferenceIdeal.τ).loc Cert.RopeReferenceIdeal.main_arg0)) (m ((c.tc : Thread Cert.RopeReferenceIdeal.nD Cert.RopeReferenceIdeal.τ).loc Cert.RopeReferenceIdeal.main_arg1)) (m ((c.tc : Thread Cert.RopeReferenceIdeal.nD Cert.RopeReferenceIdeal.τ).loc Cert.RopeReferenceIdeal.main_arg2)) (m ((c.tc : Thread Cert.RopeReferenceIdeal.nD Cert.RopeReferenceIdeal.τ).loc Cert.RopeReferenceIdeal.main_arg3)) (m ((c.tc : Thread Cert.RopeReferenceIdeal.nD Cert.RopeReferenceIdeal.τ).loc Cert.RopeReferenceIdeal.main_arg4))) = (fun _ => 1#1)

def Pre_RopeSecond (m : (ℓ : Loc Cert.RopeSecond.nD Cert.RopeSecond.τ Cert.RopeSecond.sig) → Buf (Elt Bits) ℓ) : Prop :=
  True

def Pre_RopeSecondIdeal (m : (ℓ : Loc Cert.RopeSecondIdeal.nD Cert.RopeSecondIdeal.τ Cert.RopeSecondIdeal.sig) → Buf (Elt Ideal) ℓ) : Prop :=
  True

def Pre_RopeSecondIdeal_tables_of_angles [hPre_tables_of_angles : Cert.Pre_tables_of_angles.Facts] (m : (ℓ : Loc Cert.RopeSecondIdeal.nD Cert.RopeSecondIdeal.τ Cert.RopeSecondIdeal.sig) → Buf (Elt Ideal) ℓ) : Prop :=
  ∀ c : Dev Cert.RopeSecondIdeal.nD,
    (Cert.Pre_tables_of_angles.fn (F := Ideal) (m ((c.tc : Thread Cert.RopeSecondIdeal.nD Cert.RopeSecondIdeal.τ).loc Cert.RopeSecondIdeal.main_arg0)) (m ((c.tc : Thread Cert.RopeSecondIdeal.nD Cert.RopeSecondIdeal.τ).loc Cert.RopeSecondIdeal.main_arg1)) (m ((c.tc : Thread Cert.RopeSecondIdeal.nD Cert.RopeSecondIdeal.τ).loc Cert.RopeSecondIdeal.main_arg2)) (m ((c.tc : Thread Cert.RopeSecondIdeal.nD Cert.RopeSecondIdeal.τ).loc Cert.RopeSecondIdeal.main_arg3)) (m ((c.tc : Thread Cert.RopeSecondIdeal.nD Cert.RopeSecondIdeal.τ).loc Cert.RopeSecondIdeal.main_arg4))) = (fun _ => 1#1)

def Pre_RopeSecondReferenceIdeal (m : (ℓ : Loc Cert.RopeSecondReferenceIdeal.nD Cert.RopeSecondReferenceIdeal.τ Cert.RopeSecondReferenceIdeal.sig) → Buf (Elt Ideal) ℓ) : Prop :=
  True

def Pre_RopeSecondReferenceIdeal_tables_of_angles [hPre_tables_of_angles : Cert.Pre_tables_of_angles.Facts] (m : (ℓ : Loc Cert.RopeSecondReferenceIdeal.nD Cert.RopeSecondReferenceIdeal.τ Cert.RopeSecondReferenceIdeal.sig) → Buf (Elt Ideal) ℓ) : Prop :=
  ∀ c : Dev Cert.RopeSecondReferenceIdeal.nD,
    (Cert.Pre_tables_of_angles.fn (F := Ideal) (m ((c.tc : Thread Cert.RopeSecondReferenceIdeal.nD Cert.RopeSecondReferenceIdeal.τ).loc Cert.RopeSecondReferenceIdeal.main_arg0)) (m ((c.tc : Thread Cert.RopeSecondReferenceIdeal.nD Cert.RopeSecondReferenceIdeal.τ).loc Cert.RopeSecondReferenceIdeal.main_arg1)) (m ((c.tc : Thread Cert.RopeSecondReferenceIdeal.nD Cert.RopeSecondReferenceIdeal.τ).loc Cert.RopeSecondReferenceIdeal.main_arg2)) (m ((c.tc : Thread Cert.RopeSecondReferenceIdeal.nD Cert.RopeSecondReferenceIdeal.τ).loc Cert.RopeSecondReferenceIdeal.main_arg3)) (m ((c.tc : Thread Cert.RopeSecondReferenceIdeal.nD Cert.RopeSecondReferenceIdeal.τ).loc Cert.RopeSecondReferenceIdeal.main_arg4))) = (fun _ => 1#1)

def Pre_Index (m : (ℓ : Loc Cert.Index.nD Cert.Index.τ Cert.Index.sig) → Buf (Elt Bits) ℓ) : Prop :=
  True

def Pre_IndexIdeal (m : (ℓ : Loc Cert.IndexIdeal.nD Cert.IndexIdeal.τ Cert.IndexIdeal.sig) → Buf (Elt Ideal) ℓ) : Prop :=
  True

def Pre_IndexIdeal_index_tables_of_angles [hPre_index_tables_of_angles : Cert.Pre_index_tables_of_angles.Facts] (m : (ℓ : Loc Cert.IndexIdeal.nD Cert.IndexIdeal.τ Cert.IndexIdeal.sig) → Buf (Elt Ideal) ℓ) : Prop :=
  ∀ c : Dev Cert.IndexIdeal.nD,
    (Cert.Pre_index_tables_of_angles.fn (F := Ideal) (m ((c.tc : Thread Cert.IndexIdeal.nD Cert.IndexIdeal.τ).loc Cert.IndexIdeal.main_arg0)) (m ((c.tc : Thread Cert.IndexIdeal.nD Cert.IndexIdeal.τ).loc Cert.IndexIdeal.main_arg1)) (m ((c.tc : Thread Cert.IndexIdeal.nD Cert.IndexIdeal.τ).loc Cert.IndexIdeal.main_arg2)) (m ((c.tc : Thread Cert.IndexIdeal.nD Cert.IndexIdeal.τ).loc Cert.IndexIdeal.main_arg3)) (m ((c.tc : Thread Cert.IndexIdeal.nD Cert.IndexIdeal.τ).loc Cert.IndexIdeal.main_arg4))) = (fun _ => 1#1)

def Pre_IndexReferenceIdeal (m : (ℓ : Loc Cert.IndexReferenceIdeal.nD Cert.IndexReferenceIdeal.τ Cert.IndexReferenceIdeal.sig) → Buf (Elt Ideal) ℓ) : Prop :=
  True

def Pre_IndexReferenceIdeal_index_tables_of_angles [hPre_index_tables_of_angles : Cert.Pre_index_tables_of_angles.Facts] (m : (ℓ : Loc Cert.IndexReferenceIdeal.nD Cert.IndexReferenceIdeal.τ Cert.IndexReferenceIdeal.sig) → Buf (Elt Ideal) ℓ) : Prop :=
  ∀ c : Dev Cert.IndexReferenceIdeal.nD,
    (Cert.Pre_index_tables_of_angles.fn (F := Ideal) (m ((c.tc : Thread Cert.IndexReferenceIdeal.nD Cert.IndexReferenceIdeal.τ).loc Cert.IndexReferenceIdeal.main_arg0)) (m ((c.tc : Thread Cert.IndexReferenceIdeal.nD Cert.IndexReferenceIdeal.τ).loc Cert.IndexReferenceIdeal.main_arg1)) (m ((c.tc : Thread Cert.IndexReferenceIdeal.nD Cert.IndexReferenceIdeal.τ).loc Cert.IndexReferenceIdeal.main_arg2)) (m ((c.tc : Thread Cert.IndexReferenceIdeal.nD Cert.IndexReferenceIdeal.τ).loc Cert.IndexReferenceIdeal.main_arg3)) (m ((c.tc : Thread Cert.IndexReferenceIdeal.nD Cert.IndexReferenceIdeal.τ).loc Cert.IndexReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_logits_at_most_64 [hKernelIdeal : Cert.KernelIdeal.Facts] [hPre_logits_at_most_64 : Cert.Pre_logits_at_most_64.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_at_most_64 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_logits_at_most_64 [hReferenceIdeal : Cert.ReferenceIdeal.Facts] [hPre_logits_at_most_64 : Cert.Pre_logits_at_most_64.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_at_most_64 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ r.2.sem = fun _ => 0)

def quiescent_PlainReferenceIdeal [hPlainReferenceIdeal : Cert.PlainReferenceIdeal.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1)
      ∧ r.2.mem ((c.tc : Thread Cert.PlainReferenceIdeal.nD Cert.PlainReferenceIdeal.τ).loc Cert.PlainReferenceIdeal.main_arg2) = m ((c.tc : Thread Cert.PlainReferenceIdeal.nD Cert.PlainReferenceIdeal.τ).loc Cert.PlainReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Vt [hVt : Cert.Vt.Facts] : Prop :=
  ∀ (m : (ℓ : Loc Cert.Vt.nD Cert.Vt.τ Cert.Vt.sig) → Buf (Elt Bits) ℓ) (g : Dev Cert.Vt.nD → PrngReg), Pre_Vt m →
    θ_run (Cert.Vt.defs (F := Bits)) (onTc (τ := Cert.Vt.τ) (Cert.Vt.main (F := Bits))) ⟨m, fun _ => 0, g⟩ (fun r => (∀ c : Dev Cert.Vt.nD,
      r.2.mem ((c.tc : Thread Cert.Vt.nD Cert.Vt.τ).loc Cert.Vt.main_arg0) = m ((c.tc : Thread Cert.Vt.nD Cert.Vt.τ).loc Cert.Vt.main_arg0)
      ∧ r.2.mem ((c.tc : Thread Cert.Vt.nD Cert.Vt.τ).loc Cert.Vt.main_arg1) = m ((c.tc : Thread Cert.Vt.nD Cert.Vt.τ).loc Cert.Vt.main_arg1))
      ∧ r.2.sem = fun _ => 0)

def quiescent_VtIdeal [hVtIdeal : Cert.VtIdeal.Facts] : Prop :=
  ∀ (m : (ℓ : Loc Cert.VtIdeal.nD Cert.VtIdeal.τ Cert.VtIdeal.sig) → Buf (Elt Ideal) ℓ) (g : Dev Cert.VtIdeal.nD → PrngReg), Pre_VtIdeal m →
    θ_run (Cert.VtIdeal.defs (F := Ideal)) (onTc (τ := Cert.VtIdeal.τ) (Cert.VtIdeal.main (F := Ideal))) ⟨m, fun _ => 0, g⟩ (fun r => (∀ c : Dev Cert.VtIdeal.nD,
      r.2.mem ((c.tc : Thread Cert.VtIdeal.nD Cert.VtIdeal.τ).loc Cert.VtIdeal.main_arg0) = m ((c.tc : Thread Cert.VtIdeal.nD Cert.VtIdeal.τ).loc Cert.VtIdeal.main_arg0)
      ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ r.2.sem = fun _ => 0)

def quiescent_VtReferenceIdeal [hVtReferenceIdeal : Cert.VtReferenceIdeal.Facts] : Prop :=
  ∀ (m : (ℓ : Loc Cert.VtReferenceIdeal.nD Cert.VtReferenceIdeal.τ Cert.VtReferenceIdeal.sig) → Buf (Elt Ideal) ℓ) (g : Dev Cert.VtReferenceIdeal.nD → PrngReg), Pre_VtReferenceIdeal m →
    θ_run (Cert.VtReferenceIdeal.defs (F := Ideal)) (onTc (τ := Cert.VtReferenceIdeal.τ) (Cert.VtReferenceIdeal.main (F := Ideal))) ⟨m, fun _ => 0, g⟩ (fun r => (∀ c : Dev Cert.VtReferenceIdeal.nD,
      r.2.mem ((c.tc : Thread Cert.VtReferenceIdeal.nD Cert.VtReferenceIdeal.τ).loc Cert.VtReferenceIdeal.main_arg0) = m ((c.tc : Thread Cert.VtReferenceIdeal.nD Cert.VtReferenceIdeal.τ).loc Cert.VtReferenceIdeal.main_arg0)
      ∧ r.2.mem ((c.tc : Thread Cert.VtReferenceIdeal.nD Cert.VtReferenceIdeal.τ).loc Cert.VtReferenceIdeal.main_arg1) = m ((c.tc : Thread Cert.VtReferenceIdeal.nD Cert.VtReferenceIdeal.τ).loc Cert.VtReferenceIdeal.main_arg1))
      ∧ r.2.sem = fun _ => 0)

def quiescent_FfnUpSecond [hFfnUpSecond : Cert.FfnUpSecond.Facts] : Prop :=
  ∀ (m : (ℓ : Loc Cert.FfnUpSecond.nD Cert.FfnUpSecond.τ Cert.FfnUpSecond.sig) → Buf (Elt Bits) ℓ) (g : Dev Cert.FfnUpSecond.nD → PrngReg), Pre_FfnUpSecond m →
    θ_run (Cert.FfnUpSecond.defs (F := Bits)) (onTc (τ := Cert.FfnUpSecond.τ) (Cert.FfnUpSecond.main (F := Bits))) ⟨m, fun _ => 0, g⟩ (fun r => (∀ c : Dev Cert.FfnUpSecond.nD,
      r.2.mem ((c.tc : Thread Cert.FfnUpSecond.nD Cert.FfnUpSecond.τ).loc Cert.FfnUpSecond.main_arg0) = m ((c.tc : Thread Cert.FfnUpSecond.nD Cert.FfnUpSecond.τ).loc Cert.FfnUpSecond.main_arg0)
      ∧ r.2.mem ((c.tc : Thread Cert.FfnUpSecond.nD Cert.FfnUpSecond.τ).loc Cert.FfnUpSecond.main_arg1) = m ((c.tc : Thread Cert.FfnUpSecond.nD Cert.FfnUpSecond.τ).loc Cert.FfnUpSecond.main_arg1)
      ∧ r.2.mem ((c.tc : Thread Cert.FfnUpSecond.nD Cert.FfnUpSecond.τ).loc Cert.FfnUpSecond.main_arg2) = m ((c.tc : Thread Cert.FfnUpSecond.nD Cert.FfnUpSecond.τ).loc Cert.FfnUpSecond.main_arg2))
      ∧ r.2.sem = fun _ => 0)

def quiescent_FfnUpSecondIdeal [hFfnUpSecondIdeal : Cert.FfnUpSecondIdeal.Facts] : Prop :=
  ∀ (m : (ℓ : Loc Cert.FfnUpSecondIdeal.nD Cert.FfnUpSecondIdeal.τ Cert.FfnUpSecondIdeal.sig) → Buf (Elt Ideal) ℓ) (g : Dev Cert.FfnUpSecondIdeal.nD → PrngReg), Pre_FfnUpSecondIdeal m →
    θ_run (Cert.FfnUpSecondIdeal.defs (F := Ideal)) (onTc (τ := Cert.FfnUpSecondIdeal.τ) (Cert.FfnUpSecondIdeal.main (F := Ideal))) ⟨m, fun _ => 0, g⟩ (fun r => (∀ c : Dev Cert.FfnUpSecondIdeal.nD,
      r.2.mem ((c.tc : Thread Cert.FfnUpSecondIdeal.nD Cert.FfnUpSecondIdeal.τ).loc Cert.FfnUpSecondIdeal.main_arg0) = m ((c.tc : Thread Cert.FfnUpSecondIdeal.nD Cert.FfnUpSecondIdeal.τ).loc Cert.FfnUpSecondIdeal.main_arg0)
      ∧ r.2.mem ((c.tc : Thread Cert.FfnUpSecondIdeal.nD Cert.FfnUpSecondIdeal.τ).loc Cert.FfnUpSecondIdeal.main_arg1) = m ((c.tc : Thread Cert.FfnUpSecondIdeal.nD Cert.FfnUpSecondIdeal.τ).loc Cert.FfnUpSecondIdeal.main_arg1)
      ∧ r.2.mem ((c.tc : Thread Cert.FfnUpSecondIdeal.nD Cert.FfnUpSecondIdeal.τ).loc Cert.FfnUpSecondIdeal.main_arg2) = m ((c.tc : Thread Cert.FfnUpSecondIdeal.nD Cert.FfnUpSecondIdeal.τ).loc Cert.FfnUpSecondIdeal.main_arg2))
      ∧ r.2.sem = fun _ => 0)

def quiescent_FfnUpSecondReferenceIdeal [hFfnUpSecondReferenceIdeal : Cert.FfnUpSecondReferenceIdeal.Facts] : Prop :=
  ∀ (m : (ℓ : Loc Cert.FfnUpSecondReferenceIdeal.nD Cert.FfnUpSecondReferenceIdeal.τ Cert.FfnUpSecondReferenceIdeal.sig) → Buf (Elt Ideal) ℓ) (g : Dev Cert.FfnUpSecondReferenceIdeal.nD → PrngReg), Pre_FfnUpSecondReferenceIdeal m →
    θ_run (Cert.FfnUpSecondReferenceIdeal.defs (F := Ideal)) (onTc (τ := Cert.FfnUpSecondReferenceIdeal.τ) (Cert.FfnUpSecondReferenceIdeal.main (F := Ideal))) ⟨m, fun _ => 0, g⟩ (fun r => (∀ c : Dev Cert.FfnUpSecondReferenceIdeal.nD,
      r.2.mem ((c.tc : Thread Cert.FfnUpSecondReferenceIdeal.nD Cert.FfnUpSecondReferenceIdeal.τ).loc Cert.FfnUpSecondReferenceIdeal.main_arg0) = m ((c.tc : Thread Cert.FfnUpSecondReferenceIdeal.nD Cert.FfnUpSecondReferenceIdeal.τ).loc Cert.FfnUpSecondReferenceIdeal.main_arg0)
      ∧ r.2.mem ((c.tc : Thread Cert.FfnUpSecondReferenceIdeal.nD Cert.FfnUpSecondReferenceIdeal.τ).loc Cert.FfnUpSecondReferenceIdeal.main_arg1) = m ((c.tc : Thread Cert.FfnUpSecondReferenceIdeal.nD Cert.FfnUpSecondReferenceIdeal.τ).loc Cert.FfnUpSecondReferenceIdeal.main_arg1)
      ∧ r.2.mem ((c.tc : Thread Cert.FfnUpSecondReferenceIdeal.nD Cert.FfnUpSecondReferenceIdeal.τ).loc Cert.FfnUpSecondReferenceIdeal.main_arg2) = m ((c.tc : Thread Cert.FfnUpSecondReferenceIdeal.nD Cert.FfnUpSecondReferenceIdeal.τ).loc Cert.FfnUpSecondReferenceIdeal.main_arg2))
      ∧ r.2.sem = fun _ => 0)

def quiescent_DownSecond [hDownSecond : Cert.DownSecond.Facts] : Prop :=
  ∀ (m : (ℓ : Loc Cert.DownSecond.nD Cert.DownSecond.τ Cert.DownSecond.sig) → Buf (Elt Bits) ℓ) (g : Dev Cert.DownSecond.nD → PrngReg), Pre_DownSecond m →
    θ_run (Cert.DownSecond.defs (F := Bits)) (onTc (τ := Cert.DownSecond.τ) (Cert.DownSecond.main (F := Bits))) ⟨m, fun _ => 0, g⟩ (fun r => (∀ c : Dev Cert.DownSecond.nD,
      r.2.mem ((c.tc : Thread Cert.DownSecond.nD Cert.DownSecond.τ).loc Cert.DownSecond.main_arg0) = m ((c.tc : Thread Cert.DownSecond.nD Cert.DownSecond.τ).loc Cert.DownSecond.main_arg0)
      ∧ r.2.mem ((c.tc : Thread Cert.DownSecond.nD Cert.DownSecond.τ).loc Cert.DownSecond.main_arg1) = m ((c.tc : Thread Cert.DownSecond.nD Cert.DownSecond.τ).loc Cert.DownSecond.main_arg1))
      ∧ r.2.sem = fun _ => 0)

def quiescent_DownSecondIdeal [hDownSecondIdeal : Cert.DownSecondIdeal.Facts] : Prop :=
  ∀ (m : (ℓ : Loc Cert.DownSecondIdeal.nD Cert.DownSecondIdeal.τ Cert.DownSecondIdeal.sig) → Buf (Elt Ideal) ℓ) (g : Dev Cert.DownSecondIdeal.nD → PrngReg), Pre_DownSecondIdeal m →
    θ_run (Cert.DownSecondIdeal.defs (F := Ideal)) (onTc (τ := Cert.DownSecondIdeal.τ) (Cert.DownSecondIdeal.main (F := Ideal))) ⟨m, fun _ => 0, g⟩ (fun r => (∀ c : Dev Cert.DownSecondIdeal.nD,
      r.2.mem ((c.tc : Thread Cert.DownSecondIdeal.nD Cert.DownSecondIdeal.τ).loc Cert.DownSecondIdeal.main_arg0) = m ((c.tc : Thread Cert.DownSecondIdeal.nD Cert.DownSecondIdeal.τ).loc Cert.DownSecondIdeal.main_arg0)
      ∧ r.2.mem ((c.tc : Thread Cert.DownSecondIdeal.nD Cert.DownSecondIdeal.τ).loc Cert.DownSecondIdeal.main_arg1) = m ((c.tc : Thread Cert.DownSecondIdeal.nD Cert.DownSecondIdeal.τ).loc Cert.DownSecondIdeal.main_arg1))
      ∧ r.2.sem = fun _ => 0)

def quiescent_DownSecondReferenceIdeal [hDownSecondReferenceIdeal : Cert.DownSecondReferenceIdeal.Facts] : Prop :=
  ∀ (m : (ℓ : Loc Cert.DownSecondReferenceIdeal.nD Cert.DownSecondReferenceIdeal.τ Cert.DownSecondReferenceIdeal.sig) → Buf (Elt Ideal) ℓ) (g : Dev Cert.DownSecondReferenceIdeal.nD → PrngReg), Pre_DownSecondReferenceIdeal m →
    θ_run (Cert.DownSecondReferenceIdeal.defs (F := Ideal)) (onTc (τ := Cert.DownSecondReferenceIdeal.τ) (Cert.DownSecondReferenceIdeal.main (F := Ideal))) ⟨m, fun _ => 0, g⟩ (fun r => (∀ c : Dev Cert.DownSecondReferenceIdeal.nD,
      r.2.mem ((c.tc : Thread Cert.DownSecondReferenceIdeal.nD Cert.DownSecondReferenceIdeal.τ).loc Cert.DownSecondReferenceIdeal.main_arg0) = m ((c.tc : Thread Cert.DownSecondReferenceIdeal.nD Cert.DownSecondReferenceIdeal.τ).loc Cert.DownSecondReferenceIdeal.main_arg0)
      ∧ r.2.mem ((c.tc : Thread Cert.DownSecondReferenceIdeal.nD Cert.DownSecondReferenceIdeal.τ).loc Cert.DownSecondReferenceIdeal.main_arg1) = m ((c.tc : Thread Cert.DownSecondReferenceIdeal.nD Cert.DownSecondReferenceIdeal.τ).loc Cert.DownSecondReferenceIdeal.main_arg1))
      ∧ r.2.sem = fun _ => 0)

def quiescent_GatesSecond [hGatesSecond : Cert.GatesSecond.Facts] : Prop :=
  ∀ (m : (ℓ : Loc Cert.GatesSecond.nD Cert.GatesSecond.τ Cert.GatesSecond.sig) → Buf (Elt Bits) ℓ) (g : Dev Cert.GatesSecond.nD → PrngReg), Pre_GatesSecond m →
    θ_run (Cert.GatesSecond.defs (F := Bits)) (onTc (τ := Cert.GatesSecond.τ) (Cert.GatesSecond.main (F := Bits))) ⟨m, fun _ => 0, g⟩ (fun r => (∀ c : Dev Cert.GatesSecond.nD,
      r.2.mem ((c.tc : Thread Cert.GatesSecond.nD Cert.GatesSecond.τ).loc Cert.GatesSecond.main_arg0) = m ((c.tc : Thread Cert.GatesSecond.nD Cert.GatesSecond.τ).loc Cert.GatesSecond.main_arg0)
      ∧ r.2.mem ((c.tc : Thread Cert.GatesSecond.nD Cert.GatesSecond.τ).loc Cert.GatesSecond.main_arg1) = m ((c.tc : Thread Cert.GatesSecond.nD Cert.GatesSecond.τ).loc Cert.GatesSecond.main_arg1))
      ∧ r.2.sem = fun _ => 0)

def quiescent_GatesSecondIdeal [hGatesSecondIdeal : Cert.GatesSecondIdeal.Facts] : Prop :=
  ∀ (m : (ℓ : Loc Cert.GatesSecondIdeal.nD Cert.GatesSecondIdeal.τ Cert.GatesSecondIdeal.sig) → Buf (Elt Ideal) ℓ) (g : Dev Cert.GatesSecondIdeal.nD → PrngReg), Pre_GatesSecondIdeal m →
    θ_run (Cert.GatesSecondIdeal.defs (F := Ideal)) (onTc (τ := Cert.GatesSecondIdeal.τ) (Cert.GatesSecondIdeal.main (F := Ideal))) ⟨m, fun _ => 0, g⟩ (fun r => (∀ c : Dev Cert.GatesSecondIdeal.nD,
      r.2.mem ((c.tc : Thread Cert.GatesSecondIdeal.nD Cert.GatesSecondIdeal.τ).loc Cert.GatesSecondIdeal.main_arg0) = m ((c.tc : Thread Cert.GatesSecondIdeal.nD Cert.GatesSecondIdeal.τ).loc Cert.GatesSecondIdeal.main_arg0)
      ∧ r.2.mem ((c.tc : Thread Cert.GatesSecondIdeal.nD Cert.GatesSecondIdeal.τ).loc Cert.GatesSecondIdeal.main_arg1) = m ((c.tc : Thread Cert.GatesSecondIdeal.nD Cert.GatesSecondIdeal.τ).loc Cert.GatesSecondIdeal.main_arg1))
      ∧ r.2.sem = fun _ => 0)

def quiescent_GatesSecondReferenceIdeal [hGatesSecondReferenceIdeal : Cert.GatesSecondReferenceIdeal.Facts] : Prop :=
  ∀ (m : (ℓ : Loc Cert.GatesSecondReferenceIdeal.nD Cert.GatesSecondReferenceIdeal.τ Cert.GatesSecondReferenceIdeal.sig) → Buf (Elt Ideal) ℓ) (g : Dev Cert.GatesSecondReferenceIdeal.nD → PrngReg), Pre_GatesSecondReferenceIdeal m →
    θ_run (Cert.GatesSecondReferenceIdeal.defs (F := Ideal)) (onTc (τ := Cert.GatesSecondReferenceIdeal.τ) (Cert.GatesSecondReferenceIdeal.main (F := Ideal))) ⟨m, fun _ => 0, g⟩ (fun r => (∀ c : Dev Cert.GatesSecondReferenceIdeal.nD,
      r.2.mem ((c.tc : Thread Cert.GatesSecondReferenceIdeal.nD Cert.GatesSecondReferenceIdeal.τ).loc Cert.GatesSecondReferenceIdeal.main_arg0) = m ((c.tc : Thread Cert.GatesSecondReferenceIdeal.nD Cert.GatesSecondReferenceIdeal.τ).loc Cert.GatesSecondReferenceIdeal.main_arg0)
      ∧ r.2.mem ((c.tc : Thread Cert.GatesSecondReferenceIdeal.nD Cert.GatesSecondReferenceIdeal.τ).loc Cert.GatesSecondReferenceIdeal.main_arg1) = m ((c.tc : Thread Cert.GatesSecondReferenceIdeal.nD Cert.GatesSecondReferenceIdeal.τ).loc Cert.GatesSecondReferenceIdeal.main_arg1))
      ∧ r.2.sem = fun _ => 0)

def quiescent_PlainSecond [hPlainSecond : Cert.PlainSecond.Facts] : Prop :=
  ∀ (m : (ℓ : Loc Cert.PlainSecond.nD Cert.PlainSecond.τ Cert.PlainSecond.sig) → Buf (Elt Bits) ℓ) (g : Dev Cert.PlainSecond.nD → PrngReg), Pre_PlainSecond m →
    θ_run (Cert.PlainSecond.defs (F := Bits)) (onTc (τ := Cert.PlainSecond.τ) (Cert.PlainSecond.main (F := Bits))) ⟨m, fun _ => 0, g⟩ (fun r => (∀ c : Dev Cert.PlainSecond.nD,
      r.2.mem ((c.tc : Thread Cert.PlainSecond.nD Cert.PlainSecond.τ).loc Cert.PlainSecond.main_arg0) = m ((c.tc : Thread Cert.PlainSecond.nD Cert.PlainSecond.τ).loc Cert.PlainSecond.main_arg0)
      ∧ r.2.mem ((c.tc : Thread Cert.PlainSecond.nD Cert.PlainSecond.τ).loc Cert.PlainSecond.main_arg1) = m ((c.tc : Thread Cert.PlainSecond.nD Cert.PlainSecond.τ).loc Cert.PlainSecond.main_arg1)
      ∧ r.2.mem ((c.tc : Thread Cert.PlainSecond.nD Cert.PlainSecond.τ).loc Cert.PlainSecond.main_arg2) = m ((c.tc : Thread Cert.PlainSecond.nD Cert.PlainSecond.τ).loc Cert.PlainSecond.main_arg2))
      ∧ r.2.sem = fun _ => 0)

def quiescent_PlainSecondIdeal [hPlainSecondIdeal : Cert.PlainSecondIdeal.Facts] : Prop :=
  ∀ (m : (ℓ : Loc Cert.PlainSecondIdeal.nD Cert.PlainSecondIdeal.τ Cert.PlainSecondIdeal.sig) → Buf (Elt Ideal) ℓ) (g : Dev Cert.PlainSecondIdeal.nD → PrngReg), Pre_PlainSecondIdeal m →
    θ_run (Cert.PlainSecondIdeal.defs (F := Ideal)) (onTc (τ := Cert.PlainSecondIdeal.τ) (Cert.PlainSecondIdeal.main (F := Ideal))) ⟨m, fun _ => 0, g⟩ (fun r => (∀ c : Dev Cert.PlainSecondIdeal.nD,
      r.2.mem ((c.tc : Thread Cert.PlainSecondIdeal.nD Cert.PlainSecondIdeal.τ).loc Cert.PlainSecondIdeal.main_arg0) = m ((c.tc : Thread Cert.PlainSecondIdeal.nD Cert.PlainSecondIdeal.τ).loc Cert.PlainSecondIdeal.main_arg0)
      ∧ r.2.mem ((c.tc : Thread Cert.PlainSecondIdeal.nD Cert.PlainSecondIdeal.τ).loc Cert.PlainSecondIdeal.main_arg1) = m ((c.tc : Thread Cert.PlainSecondIdeal.nD Cert.PlainSecondIdeal.τ).loc Cert.PlainSecondIdeal.main_arg1)
      ∧ r.2.mem ((c.tc : Thread Cert.PlainSecondIdeal.nD Cert.PlainSecondIdeal.τ).loc Cert.PlainSecondIdeal.main_arg2) = m ((c.tc : Thread Cert.PlainSecondIdeal.nD Cert.PlainSecondIdeal.τ).loc Cert.PlainSecondIdeal.main_arg2))
      ∧ r.2.sem = fun _ => 0)

def quiescent_PlainSecondReferenceIdeal [hPlainSecondReferenceIdeal : Cert.PlainSecondReferenceIdeal.Facts] : Prop :=
  ∀ (m : (ℓ : Loc Cert.PlainSecondReferenceIdeal.nD Cert.PlainSecondReferenceIdeal.τ Cert.PlainSecondReferenceIdeal.sig) → Buf (Elt Ideal) ℓ) (g : Dev Cert.PlainSecondReferenceIdeal.nD → PrngReg), Pre_PlainSecondReferenceIdeal m →
    θ_run (Cert.PlainSecondReferenceIdeal.defs (F := Ideal)) (onTc (τ := Cert.PlainSecondReferenceIdeal.τ) (Cert.PlainSecondReferenceIdeal.main (F := Ideal))) ⟨m, fun _ => 0, g⟩ (fun r => (∀ c : Dev Cert.PlainSecondReferenceIdeal.nD,
      r.2.mem ((c.tc : Thread Cert.PlainSecondReferenceIdeal.nD Cert.PlainSecondReferenceIdeal.τ).loc Cert.PlainSecondReferenceIdeal.main_arg0) = m ((c.tc : Thread Cert.PlainSecondReferenceIdeal.nD Cert.PlainSecondReferenceIdeal.τ).loc Cert.PlainSecondReferenceIdeal.main_arg0)
      ∧ r.2.mem ((c.tc : Thread Cert.PlainSecondReferenceIdeal.nD Cert.PlainSecondReferenceIdeal.τ).loc Cert.PlainSecondReferenceIdeal.main_arg1) = m ((c.tc : Thread Cert.PlainSecondReferenceIdeal.nD Cert.PlainSecondReferenceIdeal.τ).loc Cert.PlainSecondReferenceIdeal.main_arg1)
      ∧ r.2.mem ((c.tc : Thread Cert.PlainSecondReferenceIdeal.nD Cert.PlainSecondReferenceIdeal.τ).loc Cert.PlainSecondReferenceIdeal.main_arg2) = m ((c.tc : Thread Cert.PlainSecondReferenceIdeal.nD Cert.PlainSecondReferenceIdeal.τ).loc Cert.PlainSecondReferenceIdeal.main_arg2))
      ∧ r.2.sem = fun _ => 0)

def quiescent_OutProjSecond [hOutProjSecond : Cert.OutProjSecond.Facts] : Prop :=
  ∀ (m : (ℓ : Loc Cert.OutProjSecond.nD Cert.OutProjSecond.τ Cert.OutProjSecond.sig) → Buf (Elt Bits) ℓ) (g : Dev Cert.OutProjSecond.nD → PrngReg), Pre_OutProjSecond m →
    θ_run (Cert.OutProjSecond.defs (F := Bits)) (onTc (τ := Cert.OutProjSecond.τ) (Cert.OutProjSecond.main (F := Bits))) ⟨m, fun _ => 0, g⟩ (fun r => (∀ c : Dev Cert.OutProjSecond.nD,
      r.2.mem ((c.tc : Thread Cert.OutProjSecond.nD Cert.OutProjSecond.τ).loc Cert.OutProjSecond.main_arg0) = m ((c.tc : Thread Cert.OutProjSecond.nD Cert.OutProjSecond.τ).loc Cert.OutProjSecond.main_arg0)
      ∧ r.2.mem ((c.tc : Thread Cert.OutProjSecond.nD Cert.OutProjSecond.τ).loc Cert.OutProjSecond.main_arg1) = m ((c.tc : Thread Cert.OutProjSecond.nD Cert.OutProjSecond.τ).loc Cert.OutProjSecond.main_arg1))
      ∧ r.2.sem = fun _ => 0)

def quiescent_OutProjSecondIdeal [hOutProjSecondIdeal : Cert.OutProjSecondIdeal.Facts] : Prop :=
  ∀ (m : (ℓ : Loc Cert.OutProjSecondIdeal.nD Cert.OutProjSecondIdeal.τ Cert.OutProjSecondIdeal.sig) → Buf (Elt Ideal) ℓ) (g : Dev Cert.OutProjSecondIdeal.nD → PrngReg), Pre_OutProjSecondIdeal m →
    θ_run (Cert.OutProjSecondIdeal.defs (F := Ideal)) (onTc (τ := Cert.OutProjSecondIdeal.τ) (Cert.OutProjSecondIdeal.main (F := Ideal))) ⟨m, fun _ => 0, g⟩ (fun r => (∀ c : Dev Cert.OutProjSecondIdeal.nD,
      r.2.mem ((c.tc : Thread Cert.OutProjSecondIdeal.nD Cert.OutProjSecondIdeal.τ).loc Cert.OutProjSecondIdeal.main_arg0) = m ((c.tc : Thread Cert.OutProjSecondIdeal.nD Cert.OutProjSecondIdeal.τ).loc Cert.OutProjSecondIdeal.main_arg0)
      ∧ r.2.mem ((c.tc : Thread Cert.OutProjSecondIdeal.nD Cert.OutProjSecondIdeal.τ).loc Cert.OutProjSecondIdeal.main_arg1) = m ((c.tc : Thread Cert.OutProjSecondIdeal.nD Cert.OutProjSecondIdeal.τ).loc Cert.OutProjSecondIdeal.main_arg1))
      ∧ r.2.sem = fun _ => 0)

def quiescent_OutProjSecondReferenceIdeal [hOutProjSecondReferenceIdeal : Cert.OutProjSecondReferenceIdeal.Facts] : Prop :=
  ∀ (m : (ℓ : Loc Cert.OutProjSecondReferenceIdeal.nD Cert.OutProjSecondReferenceIdeal.τ Cert.OutProjSecondReferenceIdeal.sig) → Buf (Elt Ideal) ℓ) (g : Dev Cert.OutProjSecondReferenceIdeal.nD → PrngReg), Pre_OutProjSecondReferenceIdeal m →
    θ_run (Cert.OutProjSecondReferenceIdeal.defs (F := Ideal)) (onTc (τ := Cert.OutProjSecondReferenceIdeal.τ) (Cert.OutProjSecondReferenceIdeal.main (F := Ideal))) ⟨m, fun _ => 0, g⟩ (fun r => (∀ c : Dev Cert.OutProjSecondReferenceIdeal.nD,
      r.2.mem ((c.tc : Thread Cert.OutProjSecondReferenceIdeal.nD Cert.OutProjSecondReferenceIdeal.τ).loc Cert.OutProjSecondReferenceIdeal.main_arg0) = m ((c.tc : Thread Cert.OutProjSecondReferenceIdeal.nD Cert.OutProjSecondReferenceIdeal.τ).loc Cert.OutProjSecondReferenceIdeal.main_arg0)
      ∧ r.2.mem ((c.tc : Thread Cert.OutProjSecondReferenceIdeal.nD Cert.OutProjSecondReferenceIdeal.τ).loc Cert.OutProjSecondReferenceIdeal.main_arg1) = m ((c.tc : Thread Cert.OutProjSecondReferenceIdeal.nD Cert.OutProjSecondReferenceIdeal.τ).loc Cert.OutProjSecondReferenceIdeal.main_arg1))
      ∧ r.2.sem = fun _ => 0)

def quiescent_MergeSecond [hMergeSecond : Cert.MergeSecond.Facts] : Prop :=
  ∀ (m : (ℓ : Loc Cert.MergeSecond.nD Cert.MergeSecond.τ Cert.MergeSecond.sig) → Buf (Elt Bits) ℓ) (g : Dev Cert.MergeSecond.nD → PrngReg), Pre_MergeSecond m →
    θ_run (Cert.MergeSecond.defs (F := Bits)) (onTc (τ := Cert.MergeSecond.τ) (Cert.MergeSecond.main (F := Bits))) ⟨m, fun _ => 0, g⟩ (fun r => (∀ c : Dev Cert.MergeSecond.nD,
      r.2.mem ((c.tc : Thread Cert.MergeSecond.nD Cert.MergeSecond.τ).loc Cert.MergeSecond.main_arg0) = m ((c.tc : Thread Cert.MergeSecond.nD Cert.MergeSecond.τ).loc Cert.MergeSecond.main_arg0)
      ∧ r.2.mem ((c.tc : Thread Cert.MergeSecond.nD Cert.MergeSecond.τ).loc Cert.MergeSecond.main_arg1) = m ((c.tc : Thread Cert.MergeSecond.nD Cert.MergeSecond.τ).loc Cert.MergeSecond.main_arg1)
      ∧ r.2.mem ((c.tc : Thread Cert.MergeSecond.nD Cert.MergeSecond.τ).loc Cert.MergeSecond.main_arg2) = m ((c.tc : Thread Cert.MergeSecond.nD Cert.MergeSecond.τ).loc Cert.MergeSecond.main_arg2)
      ∧ r.2.mem ((c.tc : Thread Cert.MergeSecond.nD Cert.MergeSecond.τ).loc Cert.MergeSecond.main_arg3) = m ((c.tc : Thread Cert.MergeSecond.nD Cert.MergeSecond.τ).loc Cert.MergeSecond.main_arg3)
      ∧ r.2.mem ((c.tc : Thread Cert.MergeSecond.nD Cert.MergeSecond.τ).loc Cert.MergeSecond.main_arg4) = m ((c.tc : Thread Cert.MergeSecond.nD Cert.MergeSecond.τ).loc Cert.MergeSecond.main_arg4))
      ∧ r.2.sem = fun _ => 0)

def quiescent_MergeSecondIdeal [hMergeSecondIdeal : Cert.MergeSecondIdeal.Facts] : Prop :=
  ∀ (m : (ℓ : Loc Cert.MergeSecondIdeal.nD Cert.MergeSecondIdeal.τ Cert.MergeSecondIdeal.sig) → Buf (Elt Ideal) ℓ) (g : Dev Cert.MergeSecondIdeal.nD → PrngReg), Pre_MergeSecondIdeal m →
    θ_run (Cert.MergeSecondIdeal.defs (F := Ideal)) (onTc (τ := Cert.MergeSecondIdeal.τ) (Cert.MergeSecondIdeal.main (F := Ideal))) ⟨m, fun _ => 0, g⟩ (fun r => (∀ c : Dev Cert.MergeSecondIdeal.nD,
      r.2.mem ((c.tc : Thread Cert.MergeSecondIdeal.nD Cert.MergeSecondIdeal.τ).loc Cert.MergeSecondIdeal.main_arg0) = m ((c.tc : Thread Cert.MergeSecondIdeal.nD Cert.MergeSecondIdeal.τ).loc Cert.MergeSecondIdeal.main_arg0)
      ∧ r.2.mem ((c.tc : Thread Cert.MergeSecondIdeal.nD Cert.MergeSecondIdeal.τ).loc Cert.MergeSecondIdeal.main_arg1) = m ((c.tc : Thread Cert.MergeSecondIdeal.nD Cert.MergeSecondIdeal.τ).loc Cert.MergeSecondIdeal.main_arg1)
      ∧ r.2.mem ((c.tc : Thread Cert.MergeSecondIdeal.nD Cert.MergeSecondIdeal.τ).loc Cert.MergeSecondIdeal.main_arg2) = m ((c.tc : Thread Cert.MergeSecondIdeal.nD Cert.MergeSecondIdeal.τ).loc Cert.MergeSecondIdeal.main_arg2)
      ∧ r.2.mem ((c.tc : Thread Cert.MergeSecondIdeal.nD Cert.MergeSecondIdeal.τ).loc Cert.MergeSecondIdeal.main_arg3) = m ((c.tc : Thread Cert.MergeSecondIdeal.nD Cert.MergeSecondIdeal.τ).loc Cert.MergeSecondIdeal.main_arg3)
      ∧ r.2.mem ((c.tc : Thread Cert.MergeSecondIdeal.nD Cert.MergeSecondIdeal.τ).loc Cert.MergeSecondIdeal.main_arg4) = m ((c.tc : Thread Cert.MergeSecondIdeal.nD Cert.MergeSecondIdeal.τ).loc Cert.MergeSecondIdeal.main_arg4))
      ∧ r.2.sem = fun _ => 0)

def quiescent_MergeSecondReferenceIdeal [hMergeSecondReferenceIdeal : Cert.MergeSecondReferenceIdeal.Facts] : Prop :=
  ∀ (m : (ℓ : Loc Cert.MergeSecondReferenceIdeal.nD Cert.MergeSecondReferenceIdeal.τ Cert.MergeSecondReferenceIdeal.sig) → Buf (Elt Ideal) ℓ) (g : Dev Cert.MergeSecondReferenceIdeal.nD → PrngReg), Pre_MergeSecondReferenceIdeal m →
    θ_run (Cert.MergeSecondReferenceIdeal.defs (F := Ideal)) (onTc (τ := Cert.MergeSecondReferenceIdeal.τ) (Cert.MergeSecondReferenceIdeal.main (F := Ideal))) ⟨m, fun _ => 0, g⟩ (fun r => (∀ c : Dev Cert.MergeSecondReferenceIdeal.nD,
      r.2.mem ((c.tc : Thread Cert.MergeSecondReferenceIdeal.nD Cert.MergeSecondReferenceIdeal.τ).loc Cert.MergeSecondReferenceIdeal.main_arg0) = m ((c.tc : Thread Cert.MergeSecondReferenceIdeal.nD Cert.MergeSecondReferenceIdeal.τ).loc Cert.MergeSecondReferenceIdeal.main_arg0)
      ∧ r.2.mem ((c.tc : Thread Cert.MergeSecondReferenceIdeal.nD Cert.MergeSecondReferenceIdeal.τ).loc Cert.MergeSecondReferenceIdeal.main_arg1) = m ((c.tc : Thread Cert.MergeSecondReferenceIdeal.nD Cert.MergeSecondReferenceIdeal.τ).loc Cert.MergeSecondReferenceIdeal.main_arg1)
      ∧ r.2.mem ((c.tc : Thread Cert.MergeSecondReferenceIdeal.nD Cert.MergeSecondReferenceIdeal.τ).loc Cert.MergeSecondReferenceIdeal.main_arg2) = m ((c.tc : Thread Cert.MergeSecondReferenceIdeal.nD Cert.MergeSecondReferenceIdeal.τ).loc Cert.MergeSecondReferenceIdeal.main_arg2)
      ∧ r.2.mem ((c.tc : Thread Cert.MergeSecondReferenceIdeal.nD Cert.MergeSecondReferenceIdeal.τ).loc Cert.MergeSecondReferenceIdeal.main_arg3) = m ((c.tc : Thread Cert.MergeSecondReferenceIdeal.nD Cert.MergeSecondReferenceIdeal.τ).loc Cert.MergeSecondReferenceIdeal.main_arg3)
      ∧ r.2.mem ((c.tc : Thread Cert.MergeSecondReferenceIdeal.nD Cert.MergeSecondReferenceIdeal.τ).loc Cert.MergeSecondReferenceIdeal.main_arg4) = m ((c.tc : Thread Cert.MergeSecondReferenceIdeal.nD Cert.MergeSecondReferenceIdeal.τ).loc Cert.MergeSecondReferenceIdeal.main_arg4))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PrenormReferenceIdeal [hPrenormReferenceIdeal : Cert.PrenormReferenceIdeal.Facts] : Prop :=
  ∀ (m : (ℓ : Loc Cert.PrenormReferenceIdeal.nD Cert.PrenormReferenceIdeal.τ Cert.PrenormReferenceIdeal.sig) → Buf (Elt Ideal) ℓ) (g : Dev Cert.PrenormReferenceIdeal.nD → PrngReg), Pre_PrenormReferenceIdeal m →
    θ_run (Cert.PrenormReferenceIdeal.defs (F := Ideal)) (onTc (τ := Cert.PrenormReferenceIdeal.τ) (Cert.PrenormReferenceIdeal.main (F := Ideal))) ⟨m, fun _ => 0, g⟩ (fun r => (∀ c : Dev Cert.PrenormReferenceIdeal.nD,
      r.2.mem ((c.tc : Thread Cert.PrenormReferenceIdeal.nD Cert.PrenormReferenceIdeal.τ).loc Cert.PrenormReferenceIdeal.main_arg0) = m ((c.tc : Thread Cert.PrenormReferenceIdeal.nD Cert.PrenormReferenceIdeal.τ).loc Cert.PrenormReferenceIdeal.main_arg0)
      ∧ r.2.mem ((c.tc : Thread Cert.PrenormReferenceIdeal.nD Cert.PrenormReferenceIdeal.τ).loc Cert.PrenormReferenceIdeal.main_arg1) = m ((c.tc : Thread Cert.PrenormReferenceIdeal.nD Cert.PrenormReferenceIdeal.τ).loc Cert.PrenormReferenceIdeal.main_arg1)
      ∧ r.2.mem ((c.tc : Thread Cert.PrenormReferenceIdeal.nD Cert.PrenormReferenceIdeal.τ).loc Cert.PrenormReferenceIdeal.main_arg2) = m ((c.tc : Thread Cert.PrenormReferenceIdeal.nD Cert.PrenormReferenceIdeal.τ).loc Cert.PrenormReferenceIdeal.main_arg2))
      ∧ r.2.sem = fun _ => 0)

def quiescent_PostnormMix [hPostnormMix : Cert.PostnormMix.Facts] : Prop :=
  ∀ (m : (ℓ : Loc Cert.PostnormMix.nD Cert.PostnormMix.τ Cert.PostnormMix.sig) → Buf (Elt Bits) ℓ) (g : Dev Cert.PostnormMix.nD → PrngReg), Pre_PostnormMix m →
    θ_run (Cert.PostnormMix.defs (F := Bits)) (onTc (τ := Cert.PostnormMix.τ) (Cert.PostnormMix.main (F := Bits))) ⟨m, fun _ => 0, g⟩ (fun r => (∀ c : Dev Cert.PostnormMix.nD,
      r.2.mem ((c.tc : Thread Cert.PostnormMix.nD Cert.PostnormMix.τ).loc Cert.PostnormMix.main_arg0) = m ((c.tc : Thread Cert.PostnormMix.nD Cert.PostnormMix.τ).loc Cert.PostnormMix.main_arg0)
      ∧ r.2.mem ((c.tc : Thread Cert.PostnormMix.nD Cert.PostnormMix.τ).loc Cert.PostnormMix.main_arg1) = m ((c.tc : Thread Cert.PostnormMix.nD Cert.PostnormMix.τ).loc Cert.PostnormMix.main_arg1)
      ∧ r.2.mem ((c.tc : Thread Cert.PostnormMix.nD Cert.PostnormMix.τ).loc Cert.PostnormMix.main_arg2) = m ((c.tc : Thread Cert.PostnormMix.nD Cert.PostnormMix.τ).loc Cert.PostnormMix.main_arg2)
      ∧ r.2.mem ((c.tc : Thread Cert.PostnormMix.nD Cert.PostnormMix.τ).loc Cert.PostnormMix.main_arg3) = m ((c.tc : Thread Cert.PostnormMix.nD Cert.PostnormMix.τ).loc Cert.PostnormMix.main_arg3)
      ∧ r.2.mem ((c.tc : Thread Cert.PostnormMix.nD Cert.PostnormMix.τ).loc Cert.PostnormMix.main_arg4) = m ((c.tc : Thread Cert.PostnormMix.nD Cert.PostnormMix.τ).loc Cert.PostnormMix.main_arg4))
      ∧ r.2.sem = fun _ => 0)

def quiescent_PostnormMixIdeal [hPostnormMixIdeal : Cert.PostnormMixIdeal.Facts] : Prop :=
  ∀ (m : (ℓ : Loc Cert.PostnormMixIdeal.nD Cert.PostnormMixIdeal.τ Cert.PostnormMixIdeal.sig) → Buf (Elt Ideal) ℓ) (g : Dev Cert.PostnormMixIdeal.nD → PrngReg), Pre_PostnormMixIdeal m →
    θ_run (Cert.PostnormMixIdeal.defs (F := Ideal)) (onTc (τ := Cert.PostnormMixIdeal.τ) (Cert.PostnormMixIdeal.main (F := Ideal))) ⟨m, fun _ => 0, g⟩ (fun r => (∀ c : Dev Cert.PostnormMixIdeal.nD,
      r.2.mem ((c.tc : Thread Cert.PostnormMixIdeal.nD Cert.PostnormMixIdeal.τ).loc Cert.PostnormMixIdeal.main_arg0) = m ((c.tc : Thread Cert.PostnormMixIdeal.nD Cert.PostnormMixIdeal.τ).loc Cert.PostnormMixIdeal.main_arg0)
      ∧ r.2.mem ((c.tc : Thread Cert.PostnormMixIdeal.nD Cert.PostnormMixIdeal.τ).loc Cert.PostnormMixIdeal.main_arg1) = m ((c.tc : Thread Cert.PostnormMixIdeal.nD Cert.PostnormMixIdeal.τ).loc Cert.PostnormMixIdeal.main_arg1)
      ∧ r.2.mem ((c.tc : Thread Cert.PostnormMixIdeal.nD Cert.PostnormMixIdeal.τ).loc Cert.PostnormMixIdeal.main_arg2) = m ((c.tc : Thread Cert.PostnormMixIdeal.nD Cert.PostnormMixIdeal.τ).loc Cert.PostnormMixIdeal.main_arg2)
      ∧ r.2.mem ((c.tc : Thread Cert.PostnormMixIdeal.nD Cert.PostnormMixIdeal.τ).loc Cert.PostnormMixIdeal.main_arg3) = m ((c.tc : Thread Cert.PostnormMixIdeal.nD Cert.PostnormMixIdeal.τ).loc Cert.PostnormMixIdeal.main_arg3)
      ∧ r.2.mem ((c.tc : Thread Cert.PostnormMixIdeal.nD Cert.PostnormMixIdeal.τ).loc Cert.PostnormMixIdeal.main_arg4) = m ((c.tc : Thread Cert.PostnormMixIdeal.nD Cert.PostnormMixIdeal.τ).loc Cert.PostnormMixIdeal.main_arg4))
      ∧ r.2.sem = fun _ => 0)

def quiescent_PostnormMixReferenceIdeal [hPostnormMixReferenceIdeal : Cert.PostnormMixReferenceIdeal.Facts] : Prop :=
  ∀ (m : (ℓ : Loc Cert.PostnormMixReferenceIdeal.nD Cert.PostnormMixReferenceIdeal.τ Cert.PostnormMixReferenceIdeal.sig) → Buf (Elt Ideal) ℓ) (g : Dev Cert.PostnormMixReferenceIdeal.nD → PrngReg), Pre_PostnormMixReferenceIdeal m →
    θ_run (Cert.PostnormMixReferenceIdeal.defs (F := Ideal)) (onTc (τ := Cert.PostnormMixReferenceIdeal.τ) (Cert.PostnormMixReferenceIdeal.main (F := Ideal))) ⟨m, fun _ => 0, g⟩ (fun r => (∀ c : Dev Cert.PostnormMixReferenceIdeal.nD,
      r.2.mem ((c.tc : Thread Cert.PostnormMixReferenceIdeal.nD Cert.PostnormMixReferenceIdeal.τ).loc Cert.PostnormMixReferenceIdeal.main_arg0) = m ((c.tc : Thread Cert.PostnormMixReferenceIdeal.nD Cert.PostnormMixReferenceIdeal.τ).loc Cert.PostnormMixReferenceIdeal.main_arg0)
      ∧ r.2.mem ((c.tc : Thread Cert.PostnormMixReferenceIdeal.nD Cert.PostnormMixReferenceIdeal.τ).loc Cert.PostnormMixReferenceIdeal.main_arg1) = m ((c.tc : Thread Cert.PostnormMixReferenceIdeal.nD Cert.PostnormMixReferenceIdeal.τ).loc Cert.PostnormMixReferenceIdeal.main_arg1)
      ∧ r.2.mem ((c.tc : Thread Cert.PostnormMixReferenceIdeal.nD Cert.PostnormMixReferenceIdeal.τ).loc Cert.PostnormMixReferenceIdeal.main_arg2) = m ((c.tc : Thread Cert.PostnormMixReferenceIdeal.nD Cert.PostnormMixReferenceIdeal.τ).loc Cert.PostnormMixReferenceIdeal.main_arg2)
      ∧ r.2.mem ((c.tc : Thread Cert.PostnormMixReferenceIdeal.nD Cert.PostnormMixReferenceIdeal.τ).loc Cert.PostnormMixReferenceIdeal.main_arg3) = m ((c.tc : Thread Cert.PostnormMixReferenceIdeal.nD Cert.PostnormMixReferenceIdeal.τ).loc Cert.PostnormMixReferenceIdeal.main_arg3)
      ∧ r.2.mem ((c.tc : Thread Cert.PostnormMixReferenceIdeal.nD Cert.PostnormMixReferenceIdeal.τ).loc Cert.PostnormMixReferenceIdeal.main_arg4) = m ((c.tc : Thread Cert.PostnormMixReferenceIdeal.nD Cert.PostnormMixReferenceIdeal.τ).loc Cert.PostnormMixReferenceIdeal.main_arg4))
      ∧ r.2.sem = fun _ => 0)

def quiescent_PostnormFfn [hPostnormFfn : Cert.PostnormFfn.Facts] : Prop :=
  ∀ (m : (ℓ : Loc Cert.PostnormFfn.nD Cert.PostnormFfn.τ Cert.PostnormFfn.sig) → Buf (Elt Bits) ℓ) (g : Dev Cert.PostnormFfn.nD → PrngReg), Pre_PostnormFfn m →
    θ_run (Cert.PostnormFfn.defs (F := Bits)) (onTc (τ := Cert.PostnormFfn.τ) (Cert.PostnormFfn.main (F := Bits))) ⟨m, fun _ => 0, g⟩ (fun r => (∀ c : Dev Cert.PostnormFfn.nD,
      r.2.mem ((c.tc : Thread Cert.PostnormFfn.nD Cert.PostnormFfn.τ).loc Cert.PostnormFfn.main_arg0) = m ((c.tc : Thread Cert.PostnormFfn.nD Cert.PostnormFfn.τ).loc Cert.PostnormFfn.main_arg0)
      ∧ r.2.mem ((c.tc : Thread Cert.PostnormFfn.nD Cert.PostnormFfn.τ).loc Cert.PostnormFfn.main_arg1) = m ((c.tc : Thread Cert.PostnormFfn.nD Cert.PostnormFfn.τ).loc Cert.PostnormFfn.main_arg1)
      ∧ r.2.mem ((c.tc : Thread Cert.PostnormFfn.nD Cert.PostnormFfn.τ).loc Cert.PostnormFfn.main_arg2) = m ((c.tc : Thread Cert.PostnormFfn.nD Cert.PostnormFfn.τ).loc Cert.PostnormFfn.main_arg2)
      ∧ r.2.mem ((c.tc : Thread Cert.PostnormFfn.nD Cert.PostnormFfn.τ).loc Cert.PostnormFfn.main_arg3) = m ((c.tc : Thread Cert.PostnormFfn.nD Cert.PostnormFfn.τ).loc Cert.PostnormFfn.main_arg3)
      ∧ r.2.mem ((c.tc : Thread Cert.PostnormFfn.nD Cert.PostnormFfn.τ).loc Cert.PostnormFfn.main_arg4) = m ((c.tc : Thread Cert.PostnormFfn.nD Cert.PostnormFfn.τ).loc Cert.PostnormFfn.main_arg4)
      ∧ r.2.mem ((c.tc : Thread Cert.PostnormFfn.nD Cert.PostnormFfn.τ).loc Cert.PostnormFfn.main_arg5) = m ((c.tc : Thread Cert.PostnormFfn.nD Cert.PostnormFfn.τ).loc Cert.PostnormFfn.main_arg5))
      ∧ r.2.sem = fun _ => 0)

def quiescent_PostnormFfnIdeal [hPostnormFfnIdeal : Cert.PostnormFfnIdeal.Facts] : Prop :=
  ∀ (m : (ℓ : Loc Cert.PostnormFfnIdeal.nD Cert.PostnormFfnIdeal.τ Cert.PostnormFfnIdeal.sig) → Buf (Elt Ideal) ℓ) (g : Dev Cert.PostnormFfnIdeal.nD → PrngReg), Pre_PostnormFfnIdeal m →
    θ_run (Cert.PostnormFfnIdeal.defs (F := Ideal)) (onTc (τ := Cert.PostnormFfnIdeal.τ) (Cert.PostnormFfnIdeal.main (F := Ideal))) ⟨m, fun _ => 0, g⟩ (fun r => (∀ c : Dev Cert.PostnormFfnIdeal.nD,
      r.2.mem ((c.tc : Thread Cert.PostnormFfnIdeal.nD Cert.PostnormFfnIdeal.τ).loc Cert.PostnormFfnIdeal.main_arg0) = m ((c.tc : Thread Cert.PostnormFfnIdeal.nD Cert.PostnormFfnIdeal.τ).loc Cert.PostnormFfnIdeal.main_arg0)
      ∧ r.2.mem ((c.tc : Thread Cert.PostnormFfnIdeal.nD Cert.PostnormFfnIdeal.τ).loc Cert.PostnormFfnIdeal.main_arg1) = m ((c.tc : Thread Cert.PostnormFfnIdeal.nD Cert.PostnormFfnIdeal.τ).loc Cert.PostnormFfnIdeal.main_arg1)
      ∧ r.2.mem ((c.tc : Thread Cert.PostnormFfnIdeal.nD Cert.PostnormFfnIdeal.τ).loc Cert.PostnormFfnIdeal.main_arg2) = m ((c.tc : Thread Cert.PostnormFfnIdeal.nD Cert.PostnormFfnIdeal.τ).loc Cert.PostnormFfnIdeal.main_arg2)
      ∧ r.2.mem ((c.tc : Thread Cert.PostnormFfnIdeal.nD Cert.PostnormFfnIdeal.τ).loc Cert.PostnormFfnIdeal.main_arg3) = m ((c.tc : Thread Cert.PostnormFfnIdeal.nD Cert.PostnormFfnIdeal.τ).loc Cert.PostnormFfnIdeal.main_arg3)
      ∧ r.2.mem ((c.tc : Thread Cert.PostnormFfnIdeal.nD Cert.PostnormFfnIdeal.τ).loc Cert.PostnormFfnIdeal.main_arg4) = m ((c.tc : Thread Cert.PostnormFfnIdeal.nD Cert.PostnormFfnIdeal.τ).loc Cert.PostnormFfnIdeal.main_arg4)
      ∧ r.2.mem ((c.tc : Thread Cert.PostnormFfnIdeal.nD Cert.PostnormFfnIdeal.τ).loc Cert.PostnormFfnIdeal.main_arg5) = m ((c.tc : Thread Cert.PostnormFfnIdeal.nD Cert.PostnormFfnIdeal.τ).loc Cert.PostnormFfnIdeal.main_arg5))
      ∧ r.2.sem = fun _ => 0)

def quiescent_PostnormFfnReferenceIdeal [hPostnormFfnReferenceIdeal : Cert.PostnormFfnReferenceIdeal.Facts] : Prop :=
  ∀ (m : (ℓ : Loc Cert.PostnormFfnReferenceIdeal.nD Cert.PostnormFfnReferenceIdeal.τ Cert.PostnormFfnReferenceIdeal.sig) → Buf (Elt Ideal) ℓ) (g : Dev Cert.PostnormFfnReferenceIdeal.nD → PrngReg), Pre_PostnormFfnReferenceIdeal m →
    θ_run (Cert.PostnormFfnReferenceIdeal.defs (F := Ideal)) (onTc (τ := Cert.PostnormFfnReferenceIdeal.τ) (Cert.PostnormFfnReferenceIdeal.main (F := Ideal))) ⟨m, fun _ => 0, g⟩ (fun r => (∀ c : Dev Cert.PostnormFfnReferenceIdeal.nD,
      r.2.mem ((c.tc : Thread Cert.PostnormFfnReferenceIdeal.nD Cert.PostnormFfnReferenceIdeal.τ).loc Cert.PostnormFfnReferenceIdeal.main_arg0) = m ((c.tc : Thread Cert.PostnormFfnReferenceIdeal.nD Cert.PostnormFfnReferenceIdeal.τ).loc Cert.PostnormFfnReferenceIdeal.main_arg0)
      ∧ r.2.mem ((c.tc : Thread Cert.PostnormFfnReferenceIdeal.nD Cert.PostnormFfnReferenceIdeal.τ).loc Cert.PostnormFfnReferenceIdeal.main_arg1) = m ((c.tc : Thread Cert.PostnormFfnReferenceIdeal.nD Cert.PostnormFfnReferenceIdeal.τ).loc Cert.PostnormFfnReferenceIdeal.main_arg1)
      ∧ r.2.mem ((c.tc : Thread Cert.PostnormFfnReferenceIdeal.nD Cert.PostnormFfnReferenceIdeal.τ).loc Cert.PostnormFfnReferenceIdeal.main_arg2) = m ((c.tc : Thread Cert.PostnormFfnReferenceIdeal.nD Cert.PostnormFfnReferenceIdeal.τ).loc Cert.PostnormFfnReferenceIdeal.main_arg2)
      ∧ r.2.mem ((c.tc : Thread Cert.PostnormFfnReferenceIdeal.nD Cert.PostnormFfnReferenceIdeal.τ).loc Cert.PostnormFfnReferenceIdeal.main_arg3) = m ((c.tc : Thread Cert.PostnormFfnReferenceIdeal.nD Cert.PostnormFfnReferenceIdeal.τ).loc Cert.PostnormFfnReferenceIdeal.main_arg3)
      ∧ r.2.mem ((c.tc : Thread Cert.PostnormFfnReferenceIdeal.nD Cert.PostnormFfnReferenceIdeal.τ).loc Cert.PostnormFfnReferenceIdeal.main_arg4) = m ((c.tc : Thread Cert.PostnormFfnReferenceIdeal.nD Cert.PostnormFfnReferenceIdeal.τ).loc Cert.PostnormFfnReferenceIdeal.main_arg4)
      ∧ r.2.mem ((c.tc : Thread Cert.PostnormFfnReferenceIdeal.nD Cert.PostnormFfnReferenceIdeal.τ).loc Cert.PostnormFfnReferenceIdeal.main_arg5) = m ((c.tc : Thread Cert.PostnormFfnReferenceIdeal.nD Cert.PostnormFfnReferenceIdeal.τ).loc Cert.PostnormFfnReferenceIdeal.main_arg5))
      ∧ r.2.sem = fun _ => 0)

def quiescent_PostnormLast [hPostnormLast : Cert.PostnormLast.Facts] : Prop :=
  ∀ (m : (ℓ : Loc Cert.PostnormLast.nD Cert.PostnormLast.τ Cert.PostnormLast.sig) → Buf (Elt Bits) ℓ) (g : Dev Cert.PostnormLast.nD → PrngReg), Pre_PostnormLast m →
    θ_run (Cert.PostnormLast.defs (F := Bits)) (onTc (τ := Cert.PostnormLast.τ) (Cert.PostnormLast.main (F := Bits))) ⟨m, fun _ => 0, g⟩ (fun r => (∀ c : Dev Cert.PostnormLast.nD,
      r.2.mem ((c.tc : Thread Cert.PostnormLast.nD Cert.PostnormLast.τ).loc Cert.PostnormLast.main_arg0) = m ((c.tc : Thread Cert.PostnormLast.nD Cert.PostnormLast.τ).loc Cert.PostnormLast.main_arg0)
      ∧ r.2.mem ((c.tc : Thread Cert.PostnormLast.nD Cert.PostnormLast.τ).loc Cert.PostnormLast.main_arg1) = m ((c.tc : Thread Cert.PostnormLast.nD Cert.PostnormLast.τ).loc Cert.PostnormLast.main_arg1)
      ∧ r.2.mem ((c.tc : Thread Cert.PostnormLast.nD Cert.PostnormLast.τ).loc Cert.PostnormLast.main_arg2) = m ((c.tc : Thread Cert.PostnormLast.nD Cert.PostnormLast.τ).loc Cert.PostnormLast.main_arg2)
      ∧ r.2.mem ((c.tc : Thread Cert.PostnormLast.nD Cert.PostnormLast.τ).loc Cert.PostnormLast.main_arg3) = m ((c.tc : Thread Cert.PostnormLast.nD Cert.PostnormLast.τ).loc Cert.PostnormLast.main_arg3))
      ∧ r.2.sem = fun _ => 0)

def quiescent_PostnormLastIdeal [hPostnormLastIdeal : Cert.PostnormLastIdeal.Facts] : Prop :=
  ∀ (m : (ℓ : Loc Cert.PostnormLastIdeal.nD Cert.PostnormLastIdeal.τ Cert.PostnormLastIdeal.sig) → Buf (Elt Ideal) ℓ) (g : Dev Cert.PostnormLastIdeal.nD → PrngReg), Pre_PostnormLastIdeal m →
    θ_run (Cert.PostnormLastIdeal.defs (F := Ideal)) (onTc (τ := Cert.PostnormLastIdeal.τ) (Cert.PostnormLastIdeal.main (F := Ideal))) ⟨m, fun _ => 0, g⟩ (fun r => (∀ c : Dev Cert.PostnormLastIdeal.nD,
      r.2.mem ((c.tc : Thread Cert.PostnormLastIdeal.nD Cert.PostnormLastIdeal.τ).loc Cert.PostnormLastIdeal.main_arg0) = m ((c.tc : Thread Cert.PostnormLastIdeal.nD Cert.PostnormLastIdeal.τ).loc Cert.PostnormLastIdeal.main_arg0)
      ∧ r.2.mem ((c.tc : Thread Cert.PostnormLastIdeal.nD Cert.PostnormLastIdeal.τ).loc Cert.PostnormLastIdeal.main_arg1) = m ((c.tc : Thread Cert.PostnormLastIdeal.nD Cert.PostnormLastIdeal.τ).loc Cert.PostnormLastIdeal.main_arg1)
      ∧ r.2.mem ((c.tc : Thread Cert.PostnormLastIdeal.nD Cert.PostnormLastIdeal.τ).loc Cert.PostnormLastIdeal.main_arg2) = m ((c.tc : Thread Cert.PostnormLastIdeal.nD Cert.PostnormLastIdeal.τ).loc Cert.PostnormLastIdeal.main_arg2)
      ∧ r.2.mem ((c.tc : Thread Cert.PostnormLastIdeal.nD Cert.PostnormLastIdeal.τ).loc Cert.PostnormLastIdeal.main_arg3) = m ((c.tc : Thread Cert.PostnormLastIdeal.nD Cert.PostnormLastIdeal.τ).loc Cert.PostnormLastIdeal.main_arg3))
      ∧ r.2.sem = fun _ => 0)

def quiescent_PostnormLastReferenceIdeal [hPostnormLastReferenceIdeal : Cert.PostnormLastReferenceIdeal.Facts] : Prop :=
  ∀ (m : (ℓ : Loc Cert.PostnormLastReferenceIdeal.nD Cert.PostnormLastReferenceIdeal.τ Cert.PostnormLastReferenceIdeal.sig) → Buf (Elt Ideal) ℓ) (g : Dev Cert.PostnormLastReferenceIdeal.nD → PrngReg), Pre_PostnormLastReferenceIdeal m →
    θ_run (Cert.PostnormLastReferenceIdeal.defs (F := Ideal)) (onTc (τ := Cert.PostnormLastReferenceIdeal.τ) (Cert.PostnormLastReferenceIdeal.main (F := Ideal))) ⟨m, fun _ => 0, g⟩ (fun r => (∀ c : Dev Cert.PostnormLastReferenceIdeal.nD,
      r.2.mem ((c.tc : Thread Cert.PostnormLastReferenceIdeal.nD Cert.PostnormLastReferenceIdeal.τ).loc Cert.PostnormLastReferenceIdeal.main_arg0) = m ((c.tc : Thread Cert.PostnormLastReferenceIdeal.nD Cert.PostnormLastReferenceIdeal.τ).loc Cert.PostnormLastReferenceIdeal.main_arg0)
      ∧ r.2.mem ((c.tc : Thread Cert.PostnormLastReferenceIdeal.nD Cert.PostnormLastReferenceIdeal.τ).loc Cert.PostnormLastReferenceIdeal.main_arg1) = m ((c.tc : Thread Cert.PostnormLastReferenceIdeal.nD Cert.PostnormLastReferenceIdeal.τ).loc Cert.PostnormLastReferenceIdeal.main_arg1)
      ∧ r.2.mem ((c.tc : Thread Cert.PostnormLastReferenceIdeal.nD Cert.PostnormLastReferenceIdeal.τ).loc Cert.PostnormLastReferenceIdeal.main_arg2) = m ((c.tc : Thread Cert.PostnormLastReferenceIdeal.nD Cert.PostnormLastReferenceIdeal.τ).loc Cert.PostnormLastReferenceIdeal.main_arg2)
      ∧ r.2.mem ((c.tc : Thread Cert.PostnormLastReferenceIdeal.nD Cert.PostnormLastReferenceIdeal.τ).loc Cert.PostnormLastReferenceIdeal.main_arg3) = m ((c.tc : Thread Cert.PostnormLastReferenceIdeal.nD Cert.PostnormLastReferenceIdeal.τ).loc Cert.PostnormLastReferenceIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ r.2.sem = fun _ => 0)

def quiescent_RopeIdeal_pre_tables_of_angles [hRopeIdeal : Cert.RopeIdeal.Facts] [hPre_tables_of_angles : Cert.Pre_tables_of_angles.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal_tables_of_angles m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4))
      ∧ r.2.sem = fun _ => 0)

def quiescent_RopeReferenceIdeal_pre_tables_of_angles [hRopeReferenceIdeal : Cert.RopeReferenceIdeal.Facts] [hPre_tables_of_angles : Cert.Pre_tables_of_angles.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal_tables_of_angles m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4))
      ∧ r.2.sem = fun _ => 0)

def quiescent_RopeSecond [hRopeSecond : Cert.RopeSecond.Facts] : Prop :=
  ∀ (m : (ℓ : Loc Cert.RopeSecond.nD Cert.RopeSecond.τ Cert.RopeSecond.sig) → Buf (Elt Bits) ℓ) (g : Dev Cert.RopeSecond.nD → PrngReg), Pre_RopeSecond m →
    θ_run (Cert.RopeSecond.defs (F := Bits)) (onTc (τ := Cert.RopeSecond.τ) (Cert.RopeSecond.main (F := Bits))) ⟨m, fun _ => 0, g⟩ (fun r => (∀ c : Dev Cert.RopeSecond.nD,
      r.2.mem ((c.tc : Thread Cert.RopeSecond.nD Cert.RopeSecond.τ).loc Cert.RopeSecond.main_arg0) = m ((c.tc : Thread Cert.RopeSecond.nD Cert.RopeSecond.τ).loc Cert.RopeSecond.main_arg0)
      ∧ r.2.mem ((c.tc : Thread Cert.RopeSecond.nD Cert.RopeSecond.τ).loc Cert.RopeSecond.main_arg1) = m ((c.tc : Thread Cert.RopeSecond.nD Cert.RopeSecond.τ).loc Cert.RopeSecond.main_arg1)
      ∧ r.2.mem ((c.tc : Thread Cert.RopeSecond.nD Cert.RopeSecond.τ).loc Cert.RopeSecond.main_arg2) = m ((c.tc : Thread Cert.RopeSecond.nD Cert.RopeSecond.τ).loc Cert.RopeSecond.main_arg2)
      ∧ r.2.mem ((c.tc : Thread Cert.RopeSecond.nD Cert.RopeSecond.τ).loc Cert.RopeSecond.main_arg3) = m ((c.tc : Thread Cert.RopeSecond.nD Cert.RopeSecond.τ).loc Cert.RopeSecond.main_arg3)
      ∧ r.2.mem ((c.tc : Thread Cert.RopeSecond.nD Cert.RopeSecond.τ).loc Cert.RopeSecond.main_arg4) = m ((c.tc : Thread Cert.RopeSecond.nD Cert.RopeSecond.τ).loc Cert.RopeSecond.main_arg4))
      ∧ r.2.sem = fun _ => 0)

def quiescent_RopeSecondIdeal [hRopeSecondIdeal : Cert.RopeSecondIdeal.Facts] : Prop :=
  ∀ (m : (ℓ : Loc Cert.RopeSecondIdeal.nD Cert.RopeSecondIdeal.τ Cert.RopeSecondIdeal.sig) → Buf (Elt Ideal) ℓ) (g : Dev Cert.RopeSecondIdeal.nD → PrngReg), Pre_RopeSecondIdeal m →
    θ_run (Cert.RopeSecondIdeal.defs (F := Ideal)) (onTc (τ := Cert.RopeSecondIdeal.τ) (Cert.RopeSecondIdeal.main (F := Ideal))) ⟨m, fun _ => 0, g⟩ (fun r => (∀ c : Dev Cert.RopeSecondIdeal.nD,
      r.2.mem ((c.tc : Thread Cert.RopeSecondIdeal.nD Cert.RopeSecondIdeal.τ).loc Cert.RopeSecondIdeal.main_arg0) = m ((c.tc : Thread Cert.RopeSecondIdeal.nD Cert.RopeSecondIdeal.τ).loc Cert.RopeSecondIdeal.main_arg0)
      ∧ r.2.mem ((c.tc : Thread Cert.RopeSecondIdeal.nD Cert.RopeSecondIdeal.τ).loc Cert.RopeSecondIdeal.main_arg1) = m ((c.tc : Thread Cert.RopeSecondIdeal.nD Cert.RopeSecondIdeal.τ).loc Cert.RopeSecondIdeal.main_arg1)
      ∧ r.2.mem ((c.tc : Thread Cert.RopeSecondIdeal.nD Cert.RopeSecondIdeal.τ).loc Cert.RopeSecondIdeal.main_arg2) = m ((c.tc : Thread Cert.RopeSecondIdeal.nD Cert.RopeSecondIdeal.τ).loc Cert.RopeSecondIdeal.main_arg2)
      ∧ r.2.mem ((c.tc : Thread Cert.RopeSecondIdeal.nD Cert.RopeSecondIdeal.τ).loc Cert.RopeSecondIdeal.main_arg3) = m ((c.tc : Thread Cert.RopeSecondIdeal.nD Cert.RopeSecondIdeal.τ).loc Cert.RopeSecondIdeal.main_arg3)
      ∧ r.2.mem ((c.tc : Thread Cert.RopeSecondIdeal.nD Cert.RopeSecondIdeal.τ).loc Cert.RopeSecondIdeal.main_arg4) = m ((c.tc : Thread Cert.RopeSecondIdeal.nD Cert.RopeSecondIdeal.τ).loc Cert.RopeSecondIdeal.main_arg4))
      ∧ r.2.sem = fun _ => 0)

def quiescent_RopeSecondIdeal_pre_tables_of_angles [hRopeSecondIdeal : Cert.RopeSecondIdeal.Facts] [hPre_tables_of_angles : Cert.Pre_tables_of_angles.Facts] : Prop :=
  ∀ (m : (ℓ : Loc Cert.RopeSecondIdeal.nD Cert.RopeSecondIdeal.τ Cert.RopeSecondIdeal.sig) → Buf (Elt Ideal) ℓ) (g : Dev Cert.RopeSecondIdeal.nD → PrngReg), Pre_RopeSecondIdeal_tables_of_angles m →
    θ_run (Cert.RopeSecondIdeal.defs (F := Ideal)) (onTc (τ := Cert.RopeSecondIdeal.τ) (Cert.RopeSecondIdeal.main (F := Ideal))) ⟨m, fun _ => 0, g⟩ (fun r => (∀ c : Dev Cert.RopeSecondIdeal.nD,
      r.2.mem ((c.tc : Thread Cert.RopeSecondIdeal.nD Cert.RopeSecondIdeal.τ).loc Cert.RopeSecondIdeal.main_arg0) = m ((c.tc : Thread Cert.RopeSecondIdeal.nD Cert.RopeSecondIdeal.τ).loc Cert.RopeSecondIdeal.main_arg0)
      ∧ r.2.mem ((c.tc : Thread Cert.RopeSecondIdeal.nD Cert.RopeSecondIdeal.τ).loc Cert.RopeSecondIdeal.main_arg1) = m ((c.tc : Thread Cert.RopeSecondIdeal.nD Cert.RopeSecondIdeal.τ).loc Cert.RopeSecondIdeal.main_arg1)
      ∧ r.2.mem ((c.tc : Thread Cert.RopeSecondIdeal.nD Cert.RopeSecondIdeal.τ).loc Cert.RopeSecondIdeal.main_arg2) = m ((c.tc : Thread Cert.RopeSecondIdeal.nD Cert.RopeSecondIdeal.τ).loc Cert.RopeSecondIdeal.main_arg2)
      ∧ r.2.mem ((c.tc : Thread Cert.RopeSecondIdeal.nD Cert.RopeSecondIdeal.τ).loc Cert.RopeSecondIdeal.main_arg3) = m ((c.tc : Thread Cert.RopeSecondIdeal.nD Cert.RopeSecondIdeal.τ).loc Cert.RopeSecondIdeal.main_arg3)
      ∧ r.2.mem ((c.tc : Thread Cert.RopeSecondIdeal.nD Cert.RopeSecondIdeal.τ).loc Cert.RopeSecondIdeal.main_arg4) = m ((c.tc : Thread Cert.RopeSecondIdeal.nD Cert.RopeSecondIdeal.τ).loc Cert.RopeSecondIdeal.main_arg4))
      ∧ r.2.sem = fun _ => 0)

def quiescent_RopeSecondReferenceIdeal [hRopeSecondReferenceIdeal : Cert.RopeSecondReferenceIdeal.Facts] : Prop :=
  ∀ (m : (ℓ : Loc Cert.RopeSecondReferenceIdeal.nD Cert.RopeSecondReferenceIdeal.τ Cert.RopeSecondReferenceIdeal.sig) → Buf (Elt Ideal) ℓ) (g : Dev Cert.RopeSecondReferenceIdeal.nD → PrngReg), Pre_RopeSecondReferenceIdeal m →
    θ_run (Cert.RopeSecondReferenceIdeal.defs (F := Ideal)) (onTc (τ := Cert.RopeSecondReferenceIdeal.τ) (Cert.RopeSecondReferenceIdeal.main (F := Ideal))) ⟨m, fun _ => 0, g⟩ (fun r => (∀ c : Dev Cert.RopeSecondReferenceIdeal.nD,
      r.2.mem ((c.tc : Thread Cert.RopeSecondReferenceIdeal.nD Cert.RopeSecondReferenceIdeal.τ).loc Cert.RopeSecondReferenceIdeal.main_arg0) = m ((c.tc : Thread Cert.RopeSecondReferenceIdeal.nD Cert.RopeSecondReferenceIdeal.τ).loc Cert.RopeSecondReferenceIdeal.main_arg0)
      ∧ r.2.mem ((c.tc : Thread Cert.RopeSecondReferenceIdeal.nD Cert.RopeSecondReferenceIdeal.τ).loc Cert.RopeSecondReferenceIdeal.main_arg1) = m ((c.tc : Thread Cert.RopeSecondReferenceIdeal.nD Cert.RopeSecondReferenceIdeal.τ).loc Cert.RopeSecondReferenceIdeal.main_arg1)
      ∧ r.2.mem ((c.tc : Thread Cert.RopeSecondReferenceIdeal.nD Cert.RopeSecondReferenceIdeal.τ).loc Cert.RopeSecondReferenceIdeal.main_arg2) = m ((c.tc : Thread Cert.RopeSecondReferenceIdeal.nD Cert.RopeSecondReferenceIdeal.τ).loc Cert.RopeSecondReferenceIdeal.main_arg2)
      ∧ r.2.mem ((c.tc : Thread Cert.RopeSecondReferenceIdeal.nD Cert.RopeSecondReferenceIdeal.τ).loc Cert.RopeSecondReferenceIdeal.main_arg3) = m ((c.tc : Thread Cert.RopeSecondReferenceIdeal.nD Cert.RopeSecondReferenceIdeal.τ).loc Cert.RopeSecondReferenceIdeal.main_arg3)
      ∧ r.2.mem ((c.tc : Thread Cert.RopeSecondReferenceIdeal.nD Cert.RopeSecondReferenceIdeal.τ).loc Cert.RopeSecondReferenceIdeal.main_arg4) = m ((c.tc : Thread Cert.RopeSecondReferenceIdeal.nD Cert.RopeSecondReferenceIdeal.τ).loc Cert.RopeSecondReferenceIdeal.main_arg4))
      ∧ r.2.sem = fun _ => 0)

def quiescent_RopeSecondReferenceIdeal_pre_tables_of_angles [hRopeSecondReferenceIdeal : Cert.RopeSecondReferenceIdeal.Facts] [hPre_tables_of_angles : Cert.Pre_tables_of_angles.Facts] : Prop :=
  ∀ (m : (ℓ : Loc Cert.RopeSecondReferenceIdeal.nD Cert.RopeSecondReferenceIdeal.τ Cert.RopeSecondReferenceIdeal.sig) → Buf (Elt Ideal) ℓ) (g : Dev Cert.RopeSecondReferenceIdeal.nD → PrngReg), Pre_RopeSecondReferenceIdeal_tables_of_angles m →
    θ_run (Cert.RopeSecondReferenceIdeal.defs (F := Ideal)) (onTc (τ := Cert.RopeSecondReferenceIdeal.τ) (Cert.RopeSecondReferenceIdeal.main (F := Ideal))) ⟨m, fun _ => 0, g⟩ (fun r => (∀ c : Dev Cert.RopeSecondReferenceIdeal.nD,
      r.2.mem ((c.tc : Thread Cert.RopeSecondReferenceIdeal.nD Cert.RopeSecondReferenceIdeal.τ).loc Cert.RopeSecondReferenceIdeal.main_arg0) = m ((c.tc : Thread Cert.RopeSecondReferenceIdeal.nD Cert.RopeSecondReferenceIdeal.τ).loc Cert.RopeSecondReferenceIdeal.main_arg0)
      ∧ r.2.mem ((c.tc : Thread Cert.RopeSecondReferenceIdeal.nD Cert.RopeSecondReferenceIdeal.τ).loc Cert.RopeSecondReferenceIdeal.main_arg1) = m ((c.tc : Thread Cert.RopeSecondReferenceIdeal.nD Cert.RopeSecondReferenceIdeal.τ).loc Cert.RopeSecondReferenceIdeal.main_arg1)
      ∧ r.2.mem ((c.tc : Thread Cert.RopeSecondReferenceIdeal.nD Cert.RopeSecondReferenceIdeal.τ).loc Cert.RopeSecondReferenceIdeal.main_arg2) = m ((c.tc : Thread Cert.RopeSecondReferenceIdeal.nD Cert.RopeSecondReferenceIdeal.τ).loc Cert.RopeSecondReferenceIdeal.main_arg2)
      ∧ r.2.mem ((c.tc : Thread Cert.RopeSecondReferenceIdeal.nD Cert.RopeSecondReferenceIdeal.τ).loc Cert.RopeSecondReferenceIdeal.main_arg3) = m ((c.tc : Thread Cert.RopeSecondReferenceIdeal.nD Cert.RopeSecondReferenceIdeal.τ).loc Cert.RopeSecondReferenceIdeal.main_arg3)
      ∧ r.2.mem ((c.tc : Thread Cert.RopeSecondReferenceIdeal.nD Cert.RopeSecondReferenceIdeal.τ).loc Cert.RopeSecondReferenceIdeal.main_arg4) = m ((c.tc : Thread Cert.RopeSecondReferenceIdeal.nD Cert.RopeSecondReferenceIdeal.τ).loc Cert.RopeSecondReferenceIdeal.main_arg4))
      ∧ r.2.sem = fun _ => 0)

def quiescent_Index [hIndex : Cert.Index.Facts] : Prop :=
  ∀ (m : (ℓ : Loc Cert.Index.nD Cert.Index.τ Cert.Index.sig) → Buf (Elt Bits) ℓ) (g : Dev Cert.Index.nD → PrngReg), Pre_Index m →
    θ_run (Cert.Index.defs (F := Bits)) (onTc (τ := Cert.Index.τ) (Cert.Index.main (F := Bits))) ⟨m, fun _ => 0, g⟩ (fun r => (∀ c : Dev Cert.Index.nD,
      r.2.mem ((c.tc : Thread Cert.Index.nD Cert.Index.τ).loc Cert.Index.main_arg0) = m ((c.tc : Thread Cert.Index.nD Cert.Index.τ).loc Cert.Index.main_arg0)
      ∧ r.2.mem ((c.tc : Thread Cert.Index.nD Cert.Index.τ).loc Cert.Index.main_arg1) = m ((c.tc : Thread Cert.Index.nD Cert.Index.τ).loc Cert.Index.main_arg1)
      ∧ r.2.mem ((c.tc : Thread Cert.Index.nD Cert.Index.τ).loc Cert.Index.main_arg2) = m ((c.tc : Thread Cert.Index.nD Cert.Index.τ).loc Cert.Index.main_arg2)
      ∧ r.2.mem ((c.tc : Thread Cert.Index.nD Cert.Index.τ).loc Cert.Index.main_arg3) = m ((c.tc : Thread Cert.Index.nD Cert.Index.τ).loc Cert.Index.main_arg3)
      ∧ r.2.mem ((c.tc : Thread Cert.Index.nD Cert.Index.τ).loc Cert.Index.main_arg4) = m ((c.tc : Thread Cert.Index.nD Cert.Index.τ).loc Cert.Index.main_arg4))
      ∧ r.2.sem = fun _ => 0)

def quiescent_IndexIdeal [hIndexIdeal : Cert.IndexIdeal.Facts] : Prop :=
  ∀ (m : (ℓ : Loc Cert.IndexIdeal.nD Cert.IndexIdeal.τ Cert.IndexIdeal.sig) → Buf (Elt Ideal) ℓ) (g : Dev Cert.IndexIdeal.nD → PrngReg), Pre_IndexIdeal m →
    θ_run (Cert.IndexIdeal.defs (F := Ideal)) (onTc (τ := Cert.IndexIdeal.τ) (Cert.IndexIdeal.main (F := Ideal))) ⟨m, fun _ => 0, g⟩ (fun r => (∀ c : Dev Cert.IndexIdeal.nD,
      r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
      ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1)
      ∧ r.2.mem ((c.tc : Thread Cert.IndexIdeal.nD Cert.IndexIdeal.τ).loc Cert.IndexIdeal.main_arg2) = m ((c.tc : Thread Cert.IndexIdeal.nD Cert.IndexIdeal.τ).loc Cert.IndexIdeal.main_arg2)
      ∧ r.2.mem ((c.tc : Thread Cert.IndexIdeal.nD Cert.IndexIdeal.τ).loc Cert.IndexIdeal.main_arg3) = m ((c.tc : Thread Cert.IndexIdeal.nD Cert.IndexIdeal.τ).loc Cert.IndexIdeal.main_arg3)
      ∧ r.2.mem ((c.tc : Thread Cert.IndexIdeal.nD Cert.IndexIdeal.τ).loc Cert.IndexIdeal.main_arg4) = m ((c.tc : Thread Cert.IndexIdeal.nD Cert.IndexIdeal.τ).loc Cert.IndexIdeal.main_arg4))
      ∧ r.2.sem = fun _ => 0)

def quiescent_IndexIdeal_pre_index_tables_of_angles [hIndexIdeal : Cert.IndexIdeal.Facts] [hPre_index_tables_of_angles : Cert.Pre_index_tables_of_angles.Facts] : Prop :=
  ∀ (m : (ℓ : Loc Cert.IndexIdeal.nD Cert.IndexIdeal.τ Cert.IndexIdeal.sig) → Buf (Elt Ideal) ℓ) (g : Dev Cert.IndexIdeal.nD → PrngReg), Pre_IndexIdeal_index_tables_of_angles m →
    θ_run (Cert.IndexIdeal.defs (F := Ideal)) (onTc (τ := Cert.IndexIdeal.τ) (Cert.IndexIdeal.main (F := Ideal))) ⟨m, fun _ => 0, g⟩ (fun r => (∀ c : Dev Cert.IndexIdeal.nD,
      r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
      ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1)
      ∧ r.2.mem ((c.tc : Thread Cert.IndexIdeal.nD Cert.IndexIdeal.τ).loc Cert.IndexIdeal.main_arg2) = m ((c.tc : Thread Cert.IndexIdeal.nD Cert.IndexIdeal.τ).loc Cert.IndexIdeal.main_arg2)
      ∧ r.2.mem ((c.tc : Thread Cert.IndexIdeal.nD Cert.IndexIdeal.τ).loc Cert.IndexIdeal.main_arg3) = m ((c.tc : Thread Cert.IndexIdeal.nD Cert.IndexIdeal.τ).loc Cert.IndexIdeal.main_arg3)
      ∧ r.2.mem ((c.tc : Thread Cert.IndexIdeal.nD Cert.IndexIdeal.τ).loc Cert.IndexIdeal.main_arg4) = m ((c.tc : Thread Cert.IndexIdeal.nD Cert.IndexIdeal.τ).loc Cert.IndexIdeal.main_arg4))
      ∧ r.2.sem = fun _ => 0)

def quiescent_IndexReferenceIdeal [hIndexReferenceIdeal : Cert.IndexReferenceIdeal.Facts] : Prop :=
  ∀ (m : (ℓ : Loc Cert.IndexReferenceIdeal.nD Cert.IndexReferenceIdeal.τ Cert.IndexReferenceIdeal.sig) → Buf (Elt Ideal) ℓ) (g : Dev Cert.IndexReferenceIdeal.nD → PrngReg), Pre_IndexReferenceIdeal m →
    θ_run (Cert.IndexReferenceIdeal.defs (F := Ideal)) (onTc (τ := Cert.IndexReferenceIdeal.τ) (Cert.IndexReferenceIdeal.main (F := Ideal))) ⟨m, fun _ => 0, g⟩ (fun r => (∀ c : Dev Cert.IndexReferenceIdeal.nD,
      r.2.mem ((c.tc : Thread Cert.IndexReferenceIdeal.nD Cert.IndexReferenceIdeal.τ).loc Cert.IndexReferenceIdeal.main_arg0) = m ((c.tc : Thread Cert.IndexReferenceIdeal.nD Cert.IndexReferenceIdeal.τ).loc Cert.IndexReferenceIdeal.main_arg0)
      ∧ r.2.mem ((c.tc : Thread Cert.IndexReferenceIdeal.nD Cert.IndexReferenceIdeal.τ).loc Cert.IndexReferenceIdeal.main_arg1) = m ((c.tc : Thread Cert.IndexReferenceIdeal.nD Cert.IndexReferenceIdeal.τ).loc Cert.IndexReferenceIdeal.main_arg1)
      ∧ r.2.mem ((c.tc : Thread Cert.IndexReferenceIdeal.nD Cert.IndexReferenceIdeal.τ).loc Cert.IndexReferenceIdeal.main_arg2) = m ((c.tc : Thread Cert.IndexReferenceIdeal.nD Cert.IndexReferenceIdeal.τ).loc Cert.IndexReferenceIdeal.main_arg2)
      ∧ r.2.mem ((c.tc : Thread Cert.IndexReferenceIdeal.nD Cert.IndexReferenceIdeal.τ).loc Cert.IndexReferenceIdeal.main_arg3) = m ((c.tc : Thread Cert.IndexReferenceIdeal.nD Cert.IndexReferenceIdeal.τ).loc Cert.IndexReferenceIdeal.main_arg3)
      ∧ r.2.mem ((c.tc : Thread Cert.IndexReferenceIdeal.nD Cert.IndexReferenceIdeal.τ).loc Cert.IndexReferenceIdeal.main_arg4) = m ((c.tc : Thread Cert.IndexReferenceIdeal.nD Cert.IndexReferenceIdeal.τ).loc Cert.IndexReferenceIdeal.main_arg4))
      ∧ r.2.sem = fun _ => 0)

def quiescent_IndexReferenceIdeal_pre_index_tables_of_angles [hIndexReferenceIdeal : Cert.IndexReferenceIdeal.Facts] [hPre_index_tables_of_angles : Cert.Pre_index_tables_of_angles.Facts] : Prop :=
  ∀ (m : (ℓ : Loc Cert.IndexReferenceIdeal.nD Cert.IndexReferenceIdeal.τ Cert.IndexReferenceIdeal.sig) → Buf (Elt Ideal) ℓ) (g : Dev Cert.IndexReferenceIdeal.nD → PrngReg), Pre_IndexReferenceIdeal_index_tables_of_angles m →
    θ_run (Cert.IndexReferenceIdeal.defs (F := Ideal)) (onTc (τ := Cert.IndexReferenceIdeal.τ) (Cert.IndexReferenceIdeal.main (F := Ideal))) ⟨m, fun _ => 0, g⟩ (fun r => (∀ c : Dev Cert.IndexReferenceIdeal.nD,
      r.2.mem ((c.tc : Thread Cert.IndexReferenceIdeal.nD Cert.IndexReferenceIdeal.τ).loc Cert.IndexReferenceIdeal.main_arg0) = m ((c.tc : Thread Cert.IndexReferenceIdeal.nD Cert.IndexReferenceIdeal.τ).loc Cert.IndexReferenceIdeal.main_arg0)
      ∧ r.2.mem ((c.tc : Thread Cert.IndexReferenceIdeal.nD Cert.IndexReferenceIdeal.τ).loc Cert.IndexReferenceIdeal.main_arg1) = m ((c.tc : Thread Cert.IndexReferenceIdeal.nD Cert.IndexReferenceIdeal.τ).loc Cert.IndexReferenceIdeal.main_arg1)
      ∧ r.2.mem ((c.tc : Thread Cert.IndexReferenceIdeal.nD Cert.IndexReferenceIdeal.τ).loc Cert.IndexReferenceIdeal.main_arg2) = m ((c.tc : Thread Cert.IndexReferenceIdeal.nD Cert.IndexReferenceIdeal.τ).loc Cert.IndexReferenceIdeal.main_arg2)
      ∧ r.2.mem ((c.tc : Thread Cert.IndexReferenceIdeal.nD Cert.IndexReferenceIdeal.τ).loc Cert.IndexReferenceIdeal.main_arg3) = m ((c.tc : Thread Cert.IndexReferenceIdeal.nD Cert.IndexReferenceIdeal.τ).loc Cert.IndexReferenceIdeal.main_arg3)
      ∧ r.2.mem ((c.tc : Thread Cert.IndexReferenceIdeal.nD Cert.IndexReferenceIdeal.τ).loc Cert.IndexReferenceIdeal.main_arg4) = m ((c.tc : Thread Cert.IndexReferenceIdeal.nD Cert.IndexReferenceIdeal.τ).loc Cert.IndexReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_logits_at_most_64 [hKernelIdeal : Cert.KernelIdeal.Facts] [hReferenceIdeal : Cert.ReferenceIdeal.Facts] [hPre_logits_at_most_64 : Cert.Pre_logits_at_most_64.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_at_most_64 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v32) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v11) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Plain_PlainIdeal : Prop :=
  True

def algebraic_PlainIdeal_PlainReferenceIdeal [hPlainIdeal : Cert.PlainIdeal.Facts] [hPlainReferenceIdeal : Cert.PlainReferenceIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainReferenceIdeal.nD Cert.PlainReferenceIdeal.τ Cert.PlainReferenceIdeal.sig) → Buf (Elt Ideal) ℓ) (g' : Dev Cert.PlainReferenceIdeal.nD → PrngReg), Pre_PlainIdeal m →
    (∀ c : Dev Cert.PlainIdeal.nD,
      m' ((c.tc : Thread Cert.PlainReferenceIdeal.nD Cert.PlainReferenceIdeal.τ).loc Cert.PlainReferenceIdeal.main_arg0) = m ((c.tc : Thread Cert.PlainIdeal.nD Cert.PlainIdeal.τ).loc Cert.PlainIdeal.main_arg0)
      ∧ m' ((c.tc : Thread Cert.PlainReferenceIdeal.nD Cert.PlainReferenceIdeal.τ).loc Cert.PlainReferenceIdeal.main_arg1) = m ((c.tc : Thread Cert.PlainIdeal.nD Cert.PlainIdeal.τ).loc Cert.PlainIdeal.main_arg1)
      ∧ m' ((c.tc : Thread Cert.PlainReferenceIdeal.nD Cert.PlainReferenceIdeal.τ).loc Cert.PlainReferenceIdeal.main_arg2) = m ((c.tc : Thread Cert.PlainIdeal.nD Cert.PlainIdeal.τ).loc Cert.PlainIdeal.main_arg2)) →
    ∃ (v0 : (c : Dev Cert.PlainIdeal.nD) → Buf (Elt Ideal) ((c.tc : Thread Cert.PlainIdeal.nD Cert.PlainIdeal.τ).loc Cert.PlainIdeal.main_v0)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v0) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ θ_run (Cert.PlainReferenceIdeal.defs (F := Ideal)) (onTc (τ := Cert.PlainReferenceIdeal.τ) (Cert.PlainReferenceIdeal.main (F := Ideal))) ⟨m', fun _ => 0, g'⟩ (fun r => ∀ c : Dev Cert.PlainReferenceIdeal.nD,
          r.2.mem ((c.tc : Thread Cert.PlainReferenceIdeal.nD Cert.PlainReferenceIdeal.τ).loc Cert.PlainReferenceIdeal.main_v7) = v0 c
          ∧ r.2.mem ((c.tc : Thread Cert.PlainReferenceIdeal.nD Cert.PlainReferenceIdeal.τ).loc Cert.PlainReferenceIdeal.main_arg0) = m' ((c.tc : Thread Cert.PlainReferenceIdeal.nD Cert.PlainReferenceIdeal.τ).loc Cert.PlainReferenceIdeal.main_arg0)
          ∧ r.2.mem ((c.tc : Thread Cert.PlainReferenceIdeal.nD Cert.PlainReferenceIdeal.τ).loc Cert.PlainReferenceIdeal.main_arg1) = m' ((c.tc : Thread Cert.PlainReferenceIdeal.nD Cert.PlainReferenceIdeal.τ).loc Cert.PlainReferenceIdeal.main_arg1)
          ∧ r.2.mem ((c.tc : Thread Cert.PlainReferenceIdeal.nD Cert.PlainReferenceIdeal.τ).loc Cert.PlainReferenceIdeal.main_arg2) = m' ((c.tc : Thread Cert.PlainReferenceIdeal.nD Cert.PlainReferenceIdeal.τ).loc Cert.PlainReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Vt_VtIdeal : Prop :=
  True

def algebraic_VtIdeal_VtReferenceIdeal [hVtIdeal : Cert.VtIdeal.Facts] [hVtReferenceIdeal : Cert.VtReferenceIdeal.Facts] : Prop :=
  ∀ (m : (ℓ : Loc Cert.VtIdeal.nD Cert.VtIdeal.τ Cert.VtIdeal.sig) → Buf (Elt Ideal) ℓ) (g : Dev Cert.VtIdeal.nD → PrngReg)
    (m' : (ℓ : Loc Cert.VtReferenceIdeal.nD Cert.VtReferenceIdeal.τ Cert.VtReferenceIdeal.sig) → Buf (Elt Ideal) ℓ) (g' : Dev Cert.VtReferenceIdeal.nD → PrngReg), Pre_VtIdeal m →
    (∀ c : Dev Cert.VtIdeal.nD,
      m' ((c.tc : Thread Cert.VtReferenceIdeal.nD Cert.VtReferenceIdeal.τ).loc Cert.VtReferenceIdeal.main_arg0) = m ((c.tc : Thread Cert.VtIdeal.nD Cert.VtIdeal.τ).loc Cert.VtIdeal.main_arg0)
      ∧ m' ((c.tc : Thread Cert.VtReferenceIdeal.nD Cert.VtReferenceIdeal.τ).loc Cert.VtReferenceIdeal.main_arg1) = m ((c.tc : Thread Cert.VtIdeal.nD Cert.VtIdeal.τ).loc Cert.VtIdeal.main_arg1)) →
    ∃ (v0 : (c : Dev Cert.VtIdeal.nD) → Buf (Elt Ideal) ((c.tc : Thread Cert.VtIdeal.nD Cert.VtIdeal.τ).loc Cert.VtIdeal.main_v0)),
      θ_run (Cert.VtIdeal.defs (F := Ideal)) (onTc (τ := Cert.VtIdeal.τ) (Cert.VtIdeal.main (F := Ideal))) ⟨m, fun _ => 0, g⟩ (fun r => ∀ c : Dev Cert.VtIdeal.nD,
          r.2.mem ((c.tc : Thread Cert.VtIdeal.nD Cert.VtIdeal.τ).loc Cert.VtIdeal.main_v0) = v0 c
          ∧ r.2.mem ((c.tc : Thread Cert.VtIdeal.nD Cert.VtIdeal.τ).loc Cert.VtIdeal.main_arg0) = m ((c.tc : Thread Cert.VtIdeal.nD Cert.VtIdeal.τ).loc Cert.VtIdeal.main_arg0)
          ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ θ_run (Cert.VtReferenceIdeal.defs (F := Ideal)) (onTc (τ := Cert.VtReferenceIdeal.τ) (Cert.VtReferenceIdeal.main (F := Ideal))) ⟨m', fun _ => 0, g'⟩ (fun r => ∀ c : Dev Cert.VtReferenceIdeal.nD,
          r.2.mem ((c.tc : Thread Cert.VtReferenceIdeal.nD Cert.VtReferenceIdeal.τ).loc Cert.VtReferenceIdeal.main_v5) = v0 c
          ∧ r.2.mem ((c.tc : Thread Cert.VtReferenceIdeal.nD Cert.VtReferenceIdeal.τ).loc Cert.VtReferenceIdeal.main_arg0) = m' ((c.tc : Thread Cert.VtReferenceIdeal.nD Cert.VtReferenceIdeal.τ).loc Cert.VtReferenceIdeal.main_arg0)
          ∧ r.2.mem ((c.tc : Thread Cert.VtReferenceIdeal.nD Cert.VtReferenceIdeal.τ).loc Cert.VtReferenceIdeal.main_arg1) = m' ((c.tc : Thread Cert.VtReferenceIdeal.nD Cert.VtReferenceIdeal.τ).loc Cert.VtReferenceIdeal.main_arg1))

def preserves_FfnUpSecond_FfnUpSecondIdeal : Prop :=
  True

def algebraic_FfnUpSecondIdeal_FfnUpSecondReferenceIdeal [hFfnUpSecondIdeal : Cert.FfnUpSecondIdeal.Facts] [hFfnUpSecondReferenceIdeal : Cert.FfnUpSecondReferenceIdeal.Facts] : Prop :=
  ∀ (m : (ℓ : Loc Cert.FfnUpSecondIdeal.nD Cert.FfnUpSecondIdeal.τ Cert.FfnUpSecondIdeal.sig) → Buf (Elt Ideal) ℓ) (g : Dev Cert.FfnUpSecondIdeal.nD → PrngReg)
    (m' : (ℓ : Loc Cert.FfnUpSecondReferenceIdeal.nD Cert.FfnUpSecondReferenceIdeal.τ Cert.FfnUpSecondReferenceIdeal.sig) → Buf (Elt Ideal) ℓ) (g' : Dev Cert.FfnUpSecondReferenceIdeal.nD → PrngReg), Pre_FfnUpSecondIdeal m →
    (∀ c : Dev Cert.FfnUpSecondIdeal.nD,
      m' ((c.tc : Thread Cert.FfnUpSecondReferenceIdeal.nD Cert.FfnUpSecondReferenceIdeal.τ).loc Cert.FfnUpSecondReferenceIdeal.main_arg0) = m ((c.tc : Thread Cert.FfnUpSecondIdeal.nD Cert.FfnUpSecondIdeal.τ).loc Cert.FfnUpSecondIdeal.main_arg0)
      ∧ m' ((c.tc : Thread Cert.FfnUpSecondReferenceIdeal.nD Cert.FfnUpSecondReferenceIdeal.τ).loc Cert.FfnUpSecondReferenceIdeal.main_arg1) = m ((c.tc : Thread Cert.FfnUpSecondIdeal.nD Cert.FfnUpSecondIdeal.τ).loc Cert.FfnUpSecondIdeal.main_arg1)
      ∧ m' ((c.tc : Thread Cert.FfnUpSecondReferenceIdeal.nD Cert.FfnUpSecondReferenceIdeal.τ).loc Cert.FfnUpSecondReferenceIdeal.main_arg2) = m ((c.tc : Thread Cert.FfnUpSecondIdeal.nD Cert.FfnUpSecondIdeal.τ).loc Cert.FfnUpSecondIdeal.main_arg2)) →
    ∃ (v0 : (c : Dev Cert.FfnUpSecondIdeal.nD) → Buf (Elt Ideal) ((c.tc : Thread Cert.FfnUpSecondIdeal.nD Cert.FfnUpSecondIdeal.τ).loc Cert.FfnUpSecondIdeal.main_v0)),
      θ_run (Cert.FfnUpSecondIdeal.defs (F := Ideal)) (onTc (τ := Cert.FfnUpSecondIdeal.τ) (Cert.FfnUpSecondIdeal.main (F := Ideal))) ⟨m, fun _ => 0, g⟩ (fun r => ∀ c : Dev Cert.FfnUpSecondIdeal.nD,
          r.2.mem ((c.tc : Thread Cert.FfnUpSecondIdeal.nD Cert.FfnUpSecondIdeal.τ).loc Cert.FfnUpSecondIdeal.main_v0) = v0 c
          ∧ r.2.mem ((c.tc : Thread Cert.FfnUpSecondIdeal.nD Cert.FfnUpSecondIdeal.τ).loc Cert.FfnUpSecondIdeal.main_arg0) = m ((c.tc : Thread Cert.FfnUpSecondIdeal.nD Cert.FfnUpSecondIdeal.τ).loc Cert.FfnUpSecondIdeal.main_arg0)
          ∧ r.2.mem ((c.tc : Thread Cert.FfnUpSecondIdeal.nD Cert.FfnUpSecondIdeal.τ).loc Cert.FfnUpSecondIdeal.main_arg1) = m ((c.tc : Thread Cert.FfnUpSecondIdeal.nD Cert.FfnUpSecondIdeal.τ).loc Cert.FfnUpSecondIdeal.main_arg1)
          ∧ r.2.mem ((c.tc : Thread Cert.FfnUpSecondIdeal.nD Cert.FfnUpSecondIdeal.τ).loc Cert.FfnUpSecondIdeal.main_arg2) = m ((c.tc : Thread Cert.FfnUpSecondIdeal.nD Cert.FfnUpSecondIdeal.τ).loc Cert.FfnUpSecondIdeal.main_arg2))
      ∧ θ_run (Cert.FfnUpSecondReferenceIdeal.defs (F := Ideal)) (onTc (τ := Cert.FfnUpSecondReferenceIdeal.τ) (Cert.FfnUpSecondReferenceIdeal.main (F := Ideal))) ⟨m', fun _ => 0, g'⟩ (fun r => ∀ c : Dev Cert.FfnUpSecondReferenceIdeal.nD,
          r.2.mem ((c.tc : Thread Cert.FfnUpSecondReferenceIdeal.nD Cert.FfnUpSecondReferenceIdeal.τ).loc Cert.FfnUpSecondReferenceIdeal.main_v32) = v0 c
          ∧ r.2.mem ((c.tc : Thread Cert.FfnUpSecondReferenceIdeal.nD Cert.FfnUpSecondReferenceIdeal.τ).loc Cert.FfnUpSecondReferenceIdeal.main_arg0) = m' ((c.tc : Thread Cert.FfnUpSecondReferenceIdeal.nD Cert.FfnUpSecondReferenceIdeal.τ).loc Cert.FfnUpSecondReferenceIdeal.main_arg0)
          ∧ r.2.mem ((c.tc : Thread Cert.FfnUpSecondReferenceIdeal.nD Cert.FfnUpSecondReferenceIdeal.τ).loc Cert.FfnUpSecondReferenceIdeal.main_arg1) = m' ((c.tc : Thread Cert.FfnUpSecondReferenceIdeal.nD Cert.FfnUpSecondReferenceIdeal.τ).loc Cert.FfnUpSecondReferenceIdeal.main_arg1)
          ∧ r.2.mem ((c.tc : Thread Cert.FfnUpSecondReferenceIdeal.nD Cert.FfnUpSecondReferenceIdeal.τ).loc Cert.FfnUpSecondReferenceIdeal.main_arg2) = m' ((c.tc : Thread Cert.FfnUpSecondReferenceIdeal.nD Cert.FfnUpSecondReferenceIdeal.τ).loc Cert.FfnUpSecondReferenceIdeal.main_arg2))

def preserves_DownSecond_DownSecondIdeal : Prop :=
  True

def algebraic_DownSecondIdeal_DownSecondReferenceIdeal [hDownSecondIdeal : Cert.DownSecondIdeal.Facts] [hDownSecondReferenceIdeal : Cert.DownSecondReferenceIdeal.Facts] : Prop :=
  ∀ (m : (ℓ : Loc Cert.DownSecondIdeal.nD Cert.DownSecondIdeal.τ Cert.DownSecondIdeal.sig) → Buf (Elt Ideal) ℓ) (g : Dev Cert.DownSecondIdeal.nD → PrngReg)
    (m' : (ℓ : Loc Cert.DownSecondReferenceIdeal.nD Cert.DownSecondReferenceIdeal.τ Cert.DownSecondReferenceIdeal.sig) → Buf (Elt Ideal) ℓ) (g' : Dev Cert.DownSecondReferenceIdeal.nD → PrngReg), Pre_DownSecondIdeal m →
    (∀ c : Dev Cert.DownSecondIdeal.nD,
      m' ((c.tc : Thread Cert.DownSecondReferenceIdeal.nD Cert.DownSecondReferenceIdeal.τ).loc Cert.DownSecondReferenceIdeal.main_arg0) = m ((c.tc : Thread Cert.DownSecondIdeal.nD Cert.DownSecondIdeal.τ).loc Cert.DownSecondIdeal.main_arg0)
      ∧ m' ((c.tc : Thread Cert.DownSecondReferenceIdeal.nD Cert.DownSecondReferenceIdeal.τ).loc Cert.DownSecondReferenceIdeal.main_arg1) = m ((c.tc : Thread Cert.DownSecondIdeal.nD Cert.DownSecondIdeal.τ).loc Cert.DownSecondIdeal.main_arg1)) →
    ∃ (v0 : (c : Dev Cert.DownSecondIdeal.nD) → Buf (Elt Ideal) ((c.tc : Thread Cert.DownSecondIdeal.nD Cert.DownSecondIdeal.τ).loc Cert.DownSecondIdeal.main_v0)),
      θ_run (Cert.DownSecondIdeal.defs (F := Ideal)) (onTc (τ := Cert.DownSecondIdeal.τ) (Cert.DownSecondIdeal.main (F := Ideal))) ⟨m, fun _ => 0, g⟩ (fun r => ∀ c : Dev Cert.DownSecondIdeal.nD,
          r.2.mem ((c.tc : Thread Cert.DownSecondIdeal.nD Cert.DownSecondIdeal.τ).loc Cert.DownSecondIdeal.main_v0) = v0 c
          ∧ r.2.mem ((c.tc : Thread Cert.DownSecondIdeal.nD Cert.DownSecondIdeal.τ).loc Cert.DownSecondIdeal.main_arg0) = m ((c.tc : Thread Cert.DownSecondIdeal.nD Cert.DownSecondIdeal.τ).loc Cert.DownSecondIdeal.main_arg0)
          ∧ r.2.mem ((c.tc : Thread Cert.DownSecondIdeal.nD Cert.DownSecondIdeal.τ).loc Cert.DownSecondIdeal.main_arg1) = m ((c.tc : Thread Cert.DownSecondIdeal.nD Cert.DownSecondIdeal.τ).loc Cert.DownSecondIdeal.main_arg1))
      ∧ θ_run (Cert.DownSecondReferenceIdeal.defs (F := Ideal)) (onTc (τ := Cert.DownSecondReferenceIdeal.τ) (Cert.DownSecondReferenceIdeal.main (F := Ideal))) ⟨m', fun _ => 0, g'⟩ (fun r => ∀ c : Dev Cert.DownSecondReferenceIdeal.nD,
          r.2.mem ((c.tc : Thread Cert.DownSecondReferenceIdeal.nD Cert.DownSecondReferenceIdeal.τ).loc Cert.DownSecondReferenceIdeal.main_v5) = v0 c
          ∧ r.2.mem ((c.tc : Thread Cert.DownSecondReferenceIdeal.nD Cert.DownSecondReferenceIdeal.τ).loc Cert.DownSecondReferenceIdeal.main_arg0) = m' ((c.tc : Thread Cert.DownSecondReferenceIdeal.nD Cert.DownSecondReferenceIdeal.τ).loc Cert.DownSecondReferenceIdeal.main_arg0)
          ∧ r.2.mem ((c.tc : Thread Cert.DownSecondReferenceIdeal.nD Cert.DownSecondReferenceIdeal.τ).loc Cert.DownSecondReferenceIdeal.main_arg1) = m' ((c.tc : Thread Cert.DownSecondReferenceIdeal.nD Cert.DownSecondReferenceIdeal.τ).loc Cert.DownSecondReferenceIdeal.main_arg1))

def preserves_GatesSecond_GatesSecondIdeal : Prop :=
  True

def algebraic_GatesSecondIdeal_GatesSecondReferenceIdeal [hGatesSecondIdeal : Cert.GatesSecondIdeal.Facts] [hGatesSecondReferenceIdeal : Cert.GatesSecondReferenceIdeal.Facts] : Prop :=
  ∀ (m : (ℓ : Loc Cert.GatesSecondIdeal.nD Cert.GatesSecondIdeal.τ Cert.GatesSecondIdeal.sig) → Buf (Elt Ideal) ℓ) (g : Dev Cert.GatesSecondIdeal.nD → PrngReg)
    (m' : (ℓ : Loc Cert.GatesSecondReferenceIdeal.nD Cert.GatesSecondReferenceIdeal.τ Cert.GatesSecondReferenceIdeal.sig) → Buf (Elt Ideal) ℓ) (g' : Dev Cert.GatesSecondReferenceIdeal.nD → PrngReg), Pre_GatesSecondIdeal m →
    (∀ c : Dev Cert.GatesSecondIdeal.nD,
      m' ((c.tc : Thread Cert.GatesSecondReferenceIdeal.nD Cert.GatesSecondReferenceIdeal.τ).loc Cert.GatesSecondReferenceIdeal.main_arg0) = m ((c.tc : Thread Cert.GatesSecondIdeal.nD Cert.GatesSecondIdeal.τ).loc Cert.GatesSecondIdeal.main_arg0)
      ∧ m' ((c.tc : Thread Cert.GatesSecondReferenceIdeal.nD Cert.GatesSecondReferenceIdeal.τ).loc Cert.GatesSecondReferenceIdeal.main_arg1) = m ((c.tc : Thread Cert.GatesSecondIdeal.nD Cert.GatesSecondIdeal.τ).loc Cert.GatesSecondIdeal.main_arg1)) →
    ∃ (v0 : (c : Dev Cert.GatesSecondIdeal.nD) → Buf (Elt Ideal) ((c.tc : Thread Cert.GatesSecondIdeal.nD Cert.GatesSecondIdeal.τ).loc Cert.GatesSecondIdeal.main_v0)),
      θ_run (Cert.GatesSecondIdeal.defs (F := Ideal)) (onTc (τ := Cert.GatesSecondIdeal.τ) (Cert.GatesSecondIdeal.main (F := Ideal))) ⟨m, fun _ => 0, g⟩ (fun r => ∀ c : Dev Cert.GatesSecondIdeal.nD,
          r.2.mem ((c.tc : Thread Cert.GatesSecondIdeal.nD Cert.GatesSecondIdeal.τ).loc Cert.GatesSecondIdeal.main_v0) = v0 c
          ∧ r.2.mem ((c.tc : Thread Cert.GatesSecondIdeal.nD Cert.GatesSecondIdeal.τ).loc Cert.GatesSecondIdeal.main_arg0) = m ((c.tc : Thread Cert.GatesSecondIdeal.nD Cert.GatesSecondIdeal.τ).loc Cert.GatesSecondIdeal.main_arg0)
          ∧ r.2.mem ((c.tc : Thread Cert.GatesSecondIdeal.nD Cert.GatesSecondIdeal.τ).loc Cert.GatesSecondIdeal.main_arg1) = m ((c.tc : Thread Cert.GatesSecondIdeal.nD Cert.GatesSecondIdeal.τ).loc Cert.GatesSecondIdeal.main_arg1))
      ∧ θ_run (Cert.GatesSecondReferenceIdeal.defs (F := Ideal)) (onTc (τ := Cert.GatesSecondReferenceIdeal.τ) (Cert.GatesSecondReferenceIdeal.main (F := Ideal))) ⟨m', fun _ => 0, g'⟩ (fun r => ∀ c : Dev Cert.GatesSecondReferenceIdeal.nD,
          r.2.mem ((c.tc : Thread Cert.GatesSecondReferenceIdeal.nD Cert.GatesSecondReferenceIdeal.τ).loc Cert.GatesSecondReferenceIdeal.main_v11) = v0 c
          ∧ r.2.mem ((c.tc : Thread Cert.GatesSecondReferenceIdeal.nD Cert.GatesSecondReferenceIdeal.τ).loc Cert.GatesSecondReferenceIdeal.main_arg0) = m' ((c.tc : Thread Cert.GatesSecondReferenceIdeal.nD Cert.GatesSecondReferenceIdeal.τ).loc Cert.GatesSecondReferenceIdeal.main_arg0)
          ∧ r.2.mem ((c.tc : Thread Cert.GatesSecondReferenceIdeal.nD Cert.GatesSecondReferenceIdeal.τ).loc Cert.GatesSecondReferenceIdeal.main_arg1) = m' ((c.tc : Thread Cert.GatesSecondReferenceIdeal.nD Cert.GatesSecondReferenceIdeal.τ).loc Cert.GatesSecondReferenceIdeal.main_arg1))

def preserves_PlainSecond_PlainSecondIdeal : Prop :=
  True

def algebraic_PlainSecondIdeal_PlainSecondReferenceIdeal [hPlainSecondIdeal : Cert.PlainSecondIdeal.Facts] [hPlainSecondReferenceIdeal : Cert.PlainSecondReferenceIdeal.Facts] : Prop :=
  ∀ (m : (ℓ : Loc Cert.PlainSecondIdeal.nD Cert.PlainSecondIdeal.τ Cert.PlainSecondIdeal.sig) → Buf (Elt Ideal) ℓ) (g : Dev Cert.PlainSecondIdeal.nD → PrngReg)
    (m' : (ℓ : Loc Cert.PlainSecondReferenceIdeal.nD Cert.PlainSecondReferenceIdeal.τ Cert.PlainSecondReferenceIdeal.sig) → Buf (Elt Ideal) ℓ) (g' : Dev Cert.PlainSecondReferenceIdeal.nD → PrngReg), Pre_PlainSecondIdeal m →
    (∀ c : Dev Cert.PlainSecondIdeal.nD,
      m' ((c.tc : Thread Cert.PlainSecondReferenceIdeal.nD Cert.PlainSecondReferenceIdeal.τ).loc Cert.PlainSecondReferenceIdeal.main_arg0) = m ((c.tc : Thread Cert.PlainSecondIdeal.nD Cert.PlainSecondIdeal.τ).loc Cert.PlainSecondIdeal.main_arg0)
      ∧ m' ((c.tc : Thread Cert.PlainSecondReferenceIdeal.nD Cert.PlainSecondReferenceIdeal.τ).loc Cert.PlainSecondReferenceIdeal.main_arg1) = m ((c.tc : Thread Cert.PlainSecondIdeal.nD Cert.PlainSecondIdeal.τ).loc Cert.PlainSecondIdeal.main_arg1)
      ∧ m' ((c.tc : Thread Cert.PlainSecondReferenceIdeal.nD Cert.PlainSecondReferenceIdeal.τ).loc Cert.PlainSecondReferenceIdeal.main_arg2) = m ((c.tc : Thread Cert.PlainSecondIdeal.nD Cert.PlainSecondIdeal.τ).loc Cert.PlainSecondIdeal.main_arg2)) →
    ∃ (v0 : (c : Dev Cert.PlainSecondIdeal.nD) → Buf (Elt Ideal) ((c.tc : Thread Cert.PlainSecondIdeal.nD Cert.PlainSecondIdeal.τ).loc Cert.PlainSecondIdeal.main_v0)),
      θ_run (Cert.PlainSecondIdeal.defs (F := Ideal)) (onTc (τ := Cert.PlainSecondIdeal.τ) (Cert.PlainSecondIdeal.main (F := Ideal))) ⟨m, fun _ => 0, g⟩ (fun r => ∀ c : Dev Cert.PlainSecondIdeal.nD,
          r.2.mem ((c.tc : Thread Cert.PlainSecondIdeal.nD Cert.PlainSecondIdeal.τ).loc Cert.PlainSecondIdeal.main_v0) = v0 c
          ∧ r.2.mem ((c.tc : Thread Cert.PlainSecondIdeal.nD Cert.PlainSecondIdeal.τ).loc Cert.PlainSecondIdeal.main_arg0) = m ((c.tc : Thread Cert.PlainSecondIdeal.nD Cert.PlainSecondIdeal.τ).loc Cert.PlainSecondIdeal.main_arg0)
          ∧ r.2.mem ((c.tc : Thread Cert.PlainSecondIdeal.nD Cert.PlainSecondIdeal.τ).loc Cert.PlainSecondIdeal.main_arg1) = m ((c.tc : Thread Cert.PlainSecondIdeal.nD Cert.PlainSecondIdeal.τ).loc Cert.PlainSecondIdeal.main_arg1)
          ∧ r.2.mem ((c.tc : Thread Cert.PlainSecondIdeal.nD Cert.PlainSecondIdeal.τ).loc Cert.PlainSecondIdeal.main_arg2) = m ((c.tc : Thread Cert.PlainSecondIdeal.nD Cert.PlainSecondIdeal.τ).loc Cert.PlainSecondIdeal.main_arg2))
      ∧ θ_run (Cert.PlainSecondReferenceIdeal.defs (F := Ideal)) (onTc (τ := Cert.PlainSecondReferenceIdeal.τ) (Cert.PlainSecondReferenceIdeal.main (F := Ideal))) ⟨m', fun _ => 0, g'⟩ (fun r => ∀ c : Dev Cert.PlainSecondReferenceIdeal.nD,
          r.2.mem ((c.tc : Thread Cert.PlainSecondReferenceIdeal.nD Cert.PlainSecondReferenceIdeal.τ).loc Cert.PlainSecondReferenceIdeal.main_v7) = v0 c
          ∧ r.2.mem ((c.tc : Thread Cert.PlainSecondReferenceIdeal.nD Cert.PlainSecondReferenceIdeal.τ).loc Cert.PlainSecondReferenceIdeal.main_arg0) = m' ((c.tc : Thread Cert.PlainSecondReferenceIdeal.nD Cert.PlainSecondReferenceIdeal.τ).loc Cert.PlainSecondReferenceIdeal.main_arg0)
          ∧ r.2.mem ((c.tc : Thread Cert.PlainSecondReferenceIdeal.nD Cert.PlainSecondReferenceIdeal.τ).loc Cert.PlainSecondReferenceIdeal.main_arg1) = m' ((c.tc : Thread Cert.PlainSecondReferenceIdeal.nD Cert.PlainSecondReferenceIdeal.τ).loc Cert.PlainSecondReferenceIdeal.main_arg1)
          ∧ r.2.mem ((c.tc : Thread Cert.PlainSecondReferenceIdeal.nD Cert.PlainSecondReferenceIdeal.τ).loc Cert.PlainSecondReferenceIdeal.main_arg2) = m' ((c.tc : Thread Cert.PlainSecondReferenceIdeal.nD Cert.PlainSecondReferenceIdeal.τ).loc Cert.PlainSecondReferenceIdeal.main_arg2))

def preserves_OutProjSecond_OutProjSecondIdeal : Prop :=
  True

def algebraic_OutProjSecondIdeal_OutProjSecondReferenceIdeal [hOutProjSecondIdeal : Cert.OutProjSecondIdeal.Facts] [hOutProjSecondReferenceIdeal : Cert.OutProjSecondReferenceIdeal.Facts] : Prop :=
  ∀ (m : (ℓ : Loc Cert.OutProjSecondIdeal.nD Cert.OutProjSecondIdeal.τ Cert.OutProjSecondIdeal.sig) → Buf (Elt Ideal) ℓ) (g : Dev Cert.OutProjSecondIdeal.nD → PrngReg)
    (m' : (ℓ : Loc Cert.OutProjSecondReferenceIdeal.nD Cert.OutProjSecondReferenceIdeal.τ Cert.OutProjSecondReferenceIdeal.sig) → Buf (Elt Ideal) ℓ) (g' : Dev Cert.OutProjSecondReferenceIdeal.nD → PrngReg), Pre_OutProjSecondIdeal m →
    (∀ c : Dev Cert.OutProjSecondIdeal.nD,
      m' ((c.tc : Thread Cert.OutProjSecondReferenceIdeal.nD Cert.OutProjSecondReferenceIdeal.τ).loc Cert.OutProjSecondReferenceIdeal.main_arg0) = m ((c.tc : Thread Cert.OutProjSecondIdeal.nD Cert.OutProjSecondIdeal.τ).loc Cert.OutProjSecondIdeal.main_arg0)
      ∧ m' ((c.tc : Thread Cert.OutProjSecondReferenceIdeal.nD Cert.OutProjSecondReferenceIdeal.τ).loc Cert.OutProjSecondReferenceIdeal.main_arg1) = m ((c.tc : Thread Cert.OutProjSecondIdeal.nD Cert.OutProjSecondIdeal.τ).loc Cert.OutProjSecondIdeal.main_arg1)) →
    ∃ (v0 : (c : Dev Cert.OutProjSecondIdeal.nD) → Buf (Elt Ideal) ((c.tc : Thread Cert.OutProjSecondIdeal.nD Cert.OutProjSecondIdeal.τ).loc Cert.OutProjSecondIdeal.main_v0)),
      θ_run (Cert.OutProjSecondIdeal.defs (F := Ideal)) (onTc (τ := Cert.OutProjSecondIdeal.τ) (Cert.OutProjSecondIdeal.main (F := Ideal))) ⟨m, fun _ => 0, g⟩ (fun r => ∀ c : Dev Cert.OutProjSecondIdeal.nD,
          r.2.mem ((c.tc : Thread Cert.OutProjSecondIdeal.nD Cert.OutProjSecondIdeal.τ).loc Cert.OutProjSecondIdeal.main_v0) = v0 c
          ∧ r.2.mem ((c.tc : Thread Cert.OutProjSecondIdeal.nD Cert.OutProjSecondIdeal.τ).loc Cert.OutProjSecondIdeal.main_arg0) = m ((c.tc : Thread Cert.OutProjSecondIdeal.nD Cert.OutProjSecondIdeal.τ).loc Cert.OutProjSecondIdeal.main_arg0)
          ∧ r.2.mem ((c.tc : Thread Cert.OutProjSecondIdeal.nD Cert.OutProjSecondIdeal.τ).loc Cert.OutProjSecondIdeal.main_arg1) = m ((c.tc : Thread Cert.OutProjSecondIdeal.nD Cert.OutProjSecondIdeal.τ).loc Cert.OutProjSecondIdeal.main_arg1))
      ∧ θ_run (Cert.OutProjSecondReferenceIdeal.defs (F := Ideal)) (onTc (τ := Cert.OutProjSecondReferenceIdeal.τ) (Cert.OutProjSecondReferenceIdeal.main (F := Ideal))) ⟨m', fun _ => 0, g'⟩ (fun r => ∀ c : Dev Cert.OutProjSecondReferenceIdeal.nD,
          r.2.mem ((c.tc : Thread Cert.OutProjSecondReferenceIdeal.nD Cert.OutProjSecondReferenceIdeal.τ).loc Cert.OutProjSecondReferenceIdeal.main_v5) = v0 c
          ∧ r.2.mem ((c.tc : Thread Cert.OutProjSecondReferenceIdeal.nD Cert.OutProjSecondReferenceIdeal.τ).loc Cert.OutProjSecondReferenceIdeal.main_arg0) = m' ((c.tc : Thread Cert.OutProjSecondReferenceIdeal.nD Cert.OutProjSecondReferenceIdeal.τ).loc Cert.OutProjSecondReferenceIdeal.main_arg0)
          ∧ r.2.mem ((c.tc : Thread Cert.OutProjSecondReferenceIdeal.nD Cert.OutProjSecondReferenceIdeal.τ).loc Cert.OutProjSecondReferenceIdeal.main_arg1) = m' ((c.tc : Thread Cert.OutProjSecondReferenceIdeal.nD Cert.OutProjSecondReferenceIdeal.τ).loc Cert.OutProjSecondReferenceIdeal.main_arg1))

def preserves_MergeSecond_MergeSecondIdeal : Prop :=
  True

def algebraic_MergeSecondIdeal_MergeSecondReferenceIdeal [hMergeSecondIdeal : Cert.MergeSecondIdeal.Facts] [hMergeSecondReferenceIdeal : Cert.MergeSecondReferenceIdeal.Facts] : Prop :=
  ∀ (m : (ℓ : Loc Cert.MergeSecondIdeal.nD Cert.MergeSecondIdeal.τ Cert.MergeSecondIdeal.sig) → Buf (Elt Ideal) ℓ) (g : Dev Cert.MergeSecondIdeal.nD → PrngReg)
    (m' : (ℓ : Loc Cert.MergeSecondReferenceIdeal.nD Cert.MergeSecondReferenceIdeal.τ Cert.MergeSecondReferenceIdeal.sig) → Buf (Elt Ideal) ℓ) (g' : Dev Cert.MergeSecondReferenceIdeal.nD → PrngReg), Pre_MergeSecondIdeal m →
    (∀ c : Dev Cert.MergeSecondIdeal.nD,
      m' ((c.tc : Thread Cert.MergeSecondReferenceIdeal.nD Cert.MergeSecondReferenceIdeal.τ).loc Cert.MergeSecondReferenceIdeal.main_arg0) = m ((c.tc : Thread Cert.MergeSecondIdeal.nD Cert.MergeSecondIdeal.τ).loc Cert.MergeSecondIdeal.main_arg0)
      ∧ m' ((c.tc : Thread Cert.MergeSecondReferenceIdeal.nD Cert.MergeSecondReferenceIdeal.τ).loc Cert.MergeSecondReferenceIdeal.main_arg1) = m ((c.tc : Thread Cert.MergeSecondIdeal.nD Cert.MergeSecondIdeal.τ).loc Cert.MergeSecondIdeal.main_arg1)
      ∧ m' ((c.tc : Thread Cert.MergeSecondReferenceIdeal.nD Cert.MergeSecondReferenceIdeal.τ).loc Cert.MergeSecondReferenceIdeal.main_arg2) = m ((c.tc : Thread Cert.MergeSecondIdeal.nD Cert.MergeSecondIdeal.τ).loc Cert.MergeSecondIdeal.main_arg2)
      ∧ m' ((c.tc : Thread Cert.MergeSecondReferenceIdeal.nD Cert.MergeSecondReferenceIdeal.τ).loc Cert.MergeSecondReferenceIdeal.main_arg3) = m ((c.tc : Thread Cert.MergeSecondIdeal.nD Cert.MergeSecondIdeal.τ).loc Cert.MergeSecondIdeal.main_arg3)
      ∧ m' ((c.tc : Thread Cert.MergeSecondReferenceIdeal.nD Cert.MergeSecondReferenceIdeal.τ).loc Cert.MergeSecondReferenceIdeal.main_arg4) = m ((c.tc : Thread Cert.MergeSecondIdeal.nD Cert.MergeSecondIdeal.τ).loc Cert.MergeSecondIdeal.main_arg4)) →
    ∃ (v0 : (c : Dev Cert.MergeSecondIdeal.nD) → Buf (Elt Ideal) ((c.tc : Thread Cert.MergeSecondIdeal.nD Cert.MergeSecondIdeal.τ).loc Cert.MergeSecondIdeal.main_v0)),
      θ_run (Cert.MergeSecondIdeal.defs (F := Ideal)) (onTc (τ := Cert.MergeSecondIdeal.τ) (Cert.MergeSecondIdeal.main (F := Ideal))) ⟨m, fun _ => 0, g⟩ (fun r => ∀ c : Dev Cert.MergeSecondIdeal.nD,
          r.2.mem ((c.tc : Thread Cert.MergeSecondIdeal.nD Cert.MergeSecondIdeal.τ).loc Cert.MergeSecondIdeal.main_v0) = v0 c
          ∧ r.2.mem ((c.tc : Thread Cert.MergeSecondIdeal.nD Cert.MergeSecondIdeal.τ).loc Cert.MergeSecondIdeal.main_arg0) = m ((c.tc : Thread Cert.MergeSecondIdeal.nD Cert.MergeSecondIdeal.τ).loc Cert.MergeSecondIdeal.main_arg0)
          ∧ r.2.mem ((c.tc : Thread Cert.MergeSecondIdeal.nD Cert.MergeSecondIdeal.τ).loc Cert.MergeSecondIdeal.main_arg1) = m ((c.tc : Thread Cert.MergeSecondIdeal.nD Cert.MergeSecondIdeal.τ).loc Cert.MergeSecondIdeal.main_arg1)
          ∧ r.2.mem ((c.tc : Thread Cert.MergeSecondIdeal.nD Cert.MergeSecondIdeal.τ).loc Cert.MergeSecondIdeal.main_arg2) = m ((c.tc : Thread Cert.MergeSecondIdeal.nD Cert.MergeSecondIdeal.τ).loc Cert.MergeSecondIdeal.main_arg2)
          ∧ r.2.mem ((c.tc : Thread Cert.MergeSecondIdeal.nD Cert.MergeSecondIdeal.τ).loc Cert.MergeSecondIdeal.main_arg3) = m ((c.tc : Thread Cert.MergeSecondIdeal.nD Cert.MergeSecondIdeal.τ).loc Cert.MergeSecondIdeal.main_arg3)
          ∧ r.2.mem ((c.tc : Thread Cert.MergeSecondIdeal.nD Cert.MergeSecondIdeal.τ).loc Cert.MergeSecondIdeal.main_arg4) = m ((c.tc : Thread Cert.MergeSecondIdeal.nD Cert.MergeSecondIdeal.τ).loc Cert.MergeSecondIdeal.main_arg4))
      ∧ θ_run (Cert.MergeSecondReferenceIdeal.defs (F := Ideal)) (onTc (τ := Cert.MergeSecondReferenceIdeal.τ) (Cert.MergeSecondReferenceIdeal.main (F := Ideal))) ⟨m', fun _ => 0, g'⟩ (fun r => ∀ c : Dev Cert.MergeSecondReferenceIdeal.nD,
          r.2.mem ((c.tc : Thread Cert.MergeSecondReferenceIdeal.nD Cert.MergeSecondReferenceIdeal.τ).loc Cert.MergeSecondReferenceIdeal.main_v28) = v0 c
          ∧ r.2.mem ((c.tc : Thread Cert.MergeSecondReferenceIdeal.nD Cert.MergeSecondReferenceIdeal.τ).loc Cert.MergeSecondReferenceIdeal.main_arg0) = m' ((c.tc : Thread Cert.MergeSecondReferenceIdeal.nD Cert.MergeSecondReferenceIdeal.τ).loc Cert.MergeSecondReferenceIdeal.main_arg0)
          ∧ r.2.mem ((c.tc : Thread Cert.MergeSecondReferenceIdeal.nD Cert.MergeSecondReferenceIdeal.τ).loc Cert.MergeSecondReferenceIdeal.main_arg1) = m' ((c.tc : Thread Cert.MergeSecondReferenceIdeal.nD Cert.MergeSecondReferenceIdeal.τ).loc Cert.MergeSecondReferenceIdeal.main_arg1)
          ∧ r.2.mem ((c.tc : Thread Cert.MergeSecondReferenceIdeal.nD Cert.MergeSecondReferenceIdeal.τ).loc Cert.MergeSecondReferenceIdeal.main_arg2) = m' ((c.tc : Thread Cert.MergeSecondReferenceIdeal.nD Cert.MergeSecondReferenceIdeal.τ).loc Cert.MergeSecondReferenceIdeal.main_arg2)
          ∧ r.2.mem ((c.tc : Thread Cert.MergeSecondReferenceIdeal.nD Cert.MergeSecondReferenceIdeal.τ).loc Cert.MergeSecondReferenceIdeal.main_arg3) = m' ((c.tc : Thread Cert.MergeSecondReferenceIdeal.nD Cert.MergeSecondReferenceIdeal.τ).loc Cert.MergeSecondReferenceIdeal.main_arg3)
          ∧ r.2.mem ((c.tc : Thread Cert.MergeSecondReferenceIdeal.nD Cert.MergeSecondReferenceIdeal.τ).loc Cert.MergeSecondReferenceIdeal.main_arg4) = m' ((c.tc : Thread Cert.MergeSecondReferenceIdeal.nD Cert.MergeSecondReferenceIdeal.τ).loc Cert.MergeSecondReferenceIdeal.main_arg4))

def preserves_Prenorm_PrenormIdeal : Prop :=
  True

def algebraic_PrenormIdeal_PrenormReferenceIdeal [hPrenormIdeal : Cert.PrenormIdeal.Facts] [hPrenormReferenceIdeal : Cert.PrenormReferenceIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormReferenceIdeal.nD Cert.PrenormReferenceIdeal.τ Cert.PrenormReferenceIdeal.sig) → Buf (Elt Ideal) ℓ) (g' : Dev Cert.PrenormReferenceIdeal.nD → PrngReg), Pre_PrenormIdeal m →
    (∀ c : Dev Cert.PrenormIdeal.nD,
      m' ((c.tc : Thread Cert.PrenormReferenceIdeal.nD Cert.PrenormReferenceIdeal.τ).loc Cert.PrenormReferenceIdeal.main_arg0) = m ((c.tc : Thread Cert.PrenormIdeal.nD Cert.PrenormIdeal.τ).loc Cert.PrenormIdeal.main_arg0)
      ∧ m' ((c.tc : Thread Cert.PrenormReferenceIdeal.nD Cert.PrenormReferenceIdeal.τ).loc Cert.PrenormReferenceIdeal.main_arg1) = m ((c.tc : Thread Cert.PrenormIdeal.nD Cert.PrenormIdeal.τ).loc Cert.PrenormIdeal.main_arg1)
      ∧ m' ((c.tc : Thread Cert.PrenormReferenceIdeal.nD Cert.PrenormReferenceIdeal.τ).loc Cert.PrenormReferenceIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PrenormReferenceIdeal.defs (F := Ideal)) (onTc (τ := Cert.PrenormReferenceIdeal.τ) (Cert.PrenormReferenceIdeal.main (F := Ideal))) ⟨m', fun _ => 0, g'⟩ (fun r => ∀ c : Dev Cert.PrenormReferenceIdeal.nD,
          r.2.mem ((c.tc : Thread Cert.PrenormReferenceIdeal.nD Cert.PrenormReferenceIdeal.τ).loc Cert.PrenormReferenceIdeal.main_v28) = v0 c
          ∧ r.2.mem ((c.tc : Thread Cert.PrenormReferenceIdeal.nD Cert.PrenormReferenceIdeal.τ).loc Cert.PrenormReferenceIdeal.main_arg0) = m' ((c.tc : Thread Cert.PrenormReferenceIdeal.nD Cert.PrenormReferenceIdeal.τ).loc Cert.PrenormReferenceIdeal.main_arg0)
          ∧ r.2.mem ((c.tc : Thread Cert.PrenormReferenceIdeal.nD Cert.PrenormReferenceIdeal.τ).loc Cert.PrenormReferenceIdeal.main_arg1) = m' ((c.tc : Thread Cert.PrenormReferenceIdeal.nD Cert.PrenormReferenceIdeal.τ).loc Cert.PrenormReferenceIdeal.main_arg1)
          ∧ r.2.mem ((c.tc : Thread Cert.PrenormReferenceIdeal.nD Cert.PrenormReferenceIdeal.τ).loc Cert.PrenormReferenceIdeal.main_arg2) = m' ((c.tc : Thread Cert.PrenormReferenceIdeal.nD Cert.PrenormReferenceIdeal.τ).loc Cert.PrenormReferenceIdeal.main_arg2))

def preserves_PostnormMix_PostnormMixIdeal : Prop :=
  True

def algebraic_PostnormMixIdeal_PostnormMixReferenceIdeal [hPostnormMixIdeal : Cert.PostnormMixIdeal.Facts] [hPostnormMixReferenceIdeal : Cert.PostnormMixReferenceIdeal.Facts] : Prop :=
  ∀ (m : (ℓ : Loc Cert.PostnormMixIdeal.nD Cert.PostnormMixIdeal.τ Cert.PostnormMixIdeal.sig) → Buf (Elt Ideal) ℓ) (g : Dev Cert.PostnormMixIdeal.nD → PrngReg)
    (m' : (ℓ : Loc Cert.PostnormMixReferenceIdeal.nD Cert.PostnormMixReferenceIdeal.τ Cert.PostnormMixReferenceIdeal.sig) → Buf (Elt Ideal) ℓ) (g' : Dev Cert.PostnormMixReferenceIdeal.nD → PrngReg), Pre_PostnormMixIdeal m →
    (∀ c : Dev Cert.PostnormMixIdeal.nD,
      m' ((c.tc : Thread Cert.PostnormMixReferenceIdeal.nD Cert.PostnormMixReferenceIdeal.τ).loc Cert.PostnormMixReferenceIdeal.main_arg0) = m ((c.tc : Thread Cert.PostnormMixIdeal.nD Cert.PostnormMixIdeal.τ).loc Cert.PostnormMixIdeal.main_arg0)
      ∧ m' ((c.tc : Thread Cert.PostnormMixReferenceIdeal.nD Cert.PostnormMixReferenceIdeal.τ).loc Cert.PostnormMixReferenceIdeal.main_arg1) = m ((c.tc : Thread Cert.PostnormMixIdeal.nD Cert.PostnormMixIdeal.τ).loc Cert.PostnormMixIdeal.main_arg1)
      ∧ m' ((c.tc : Thread Cert.PostnormMixReferenceIdeal.nD Cert.PostnormMixReferenceIdeal.τ).loc Cert.PostnormMixReferenceIdeal.main_arg2) = m ((c.tc : Thread Cert.PostnormMixIdeal.nD Cert.PostnormMixIdeal.τ).loc Cert.PostnormMixIdeal.main_arg2)
      ∧ m' ((c.tc : Thread Cert.PostnormMixReferenceIdeal.nD Cert.PostnormMixReferenceIdeal.τ).loc Cert.PostnormMixReferenceIdeal.main_arg3) = m ((c.tc : Thread Cert.PostnormMixIdeal.nD Cert.PostnormMixIdeal.τ).loc Cert.PostnormMixIdeal.main_arg3)
      ∧ m' ((c.tc : Thread Cert.PostnormMixReferenceIdeal.nD Cert.PostnormMixReferenceIdeal.τ).loc Cert.PostnormMixReferenceIdeal.main_arg4) = m ((c.tc : Thread Cert.PostnormMixIdeal.nD Cert.PostnormMixIdeal.τ).loc Cert.PostnormMixIdeal.main_arg4)) →
    ∃ (v0 : (c : Dev Cert.PostnormMixIdeal.nD) → Buf (Elt Ideal) ((c.tc : Thread Cert.PostnormMixIdeal.nD Cert.PostnormMixIdeal.τ).loc Cert.PostnormMixIdeal.main_v0_0)) (v1 : (c : Dev Cert.PostnormMixIdeal.nD) → Buf (Elt Ideal) ((c.tc : Thread Cert.PostnormMixIdeal.nD Cert.PostnormMixIdeal.τ).loc Cert.PostnormMixIdeal.main_v0_1)),
      θ_run (Cert.PostnormMixIdeal.defs (F := Ideal)) (onTc (τ := Cert.PostnormMixIdeal.τ) (Cert.PostnormMixIdeal.main (F := Ideal))) ⟨m, fun _ => 0, g⟩ (fun r => ∀ c : Dev Cert.PostnormMixIdeal.nD,
          r.2.mem ((c.tc : Thread Cert.PostnormMixIdeal.nD Cert.PostnormMixIdeal.τ).loc Cert.PostnormMixIdeal.main_v0_0) = v0 c
          ∧ r.2.mem ((c.tc : Thread Cert.PostnormMixIdeal.nD Cert.PostnormMixIdeal.τ).loc Cert.PostnormMixIdeal.main_v0_1) = v1 c
          ∧ r.2.mem ((c.tc : Thread Cert.PostnormMixIdeal.nD Cert.PostnormMixIdeal.τ).loc Cert.PostnormMixIdeal.main_arg0) = m ((c.tc : Thread Cert.PostnormMixIdeal.nD Cert.PostnormMixIdeal.τ).loc Cert.PostnormMixIdeal.main_arg0)
          ∧ r.2.mem ((c.tc : Thread Cert.PostnormMixIdeal.nD Cert.PostnormMixIdeal.τ).loc Cert.PostnormMixIdeal.main_arg1) = m ((c.tc : Thread Cert.PostnormMixIdeal.nD Cert.PostnormMixIdeal.τ).loc Cert.PostnormMixIdeal.main_arg1)
          ∧ r.2.mem ((c.tc : Thread Cert.PostnormMixIdeal.nD Cert.PostnormMixIdeal.τ).loc Cert.PostnormMixIdeal.main_arg2) = m ((c.tc : Thread Cert.PostnormMixIdeal.nD Cert.PostnormMixIdeal.τ).loc Cert.PostnormMixIdeal.main_arg2)
          ∧ r.2.mem ((c.tc : Thread Cert.PostnormMixIdeal.nD Cert.PostnormMixIdeal.τ).loc Cert.PostnormMixIdeal.main_arg3) = m ((c.tc : Thread Cert.PostnormMixIdeal.nD Cert.PostnormMixIdeal.τ).loc Cert.PostnormMixIdeal.main_arg3)
          ∧ r.2.mem ((c.tc : Thread Cert.PostnormMixIdeal.nD Cert.PostnormMixIdeal.τ).loc Cert.PostnormMixIdeal.main_arg4) = m ((c.tc : Thread Cert.PostnormMixIdeal.nD Cert.PostnormMixIdeal.τ).loc Cert.PostnormMixIdeal.main_arg4))
      ∧ θ_run (Cert.PostnormMixReferenceIdeal.defs (F := Ideal)) (onTc (τ := Cert.PostnormMixReferenceIdeal.τ) (Cert.PostnormMixReferenceIdeal.main (F := Ideal))) ⟨m', fun _ => 0, g'⟩ (fun r => ∀ c : Dev Cert.PostnormMixReferenceIdeal.nD,
          r.2.mem ((c.tc : Thread Cert.PostnormMixReferenceIdeal.nD Cert.PostnormMixReferenceIdeal.τ).loc Cert.PostnormMixReferenceIdeal.main_v23) = v0 c
          ∧ r.2.mem ((c.tc : Thread Cert.PostnormMixReferenceIdeal.nD Cert.PostnormMixReferenceIdeal.τ).loc Cert.PostnormMixReferenceIdeal.main_v51) = v1 c
          ∧ r.2.mem ((c.tc : Thread Cert.PostnormMixReferenceIdeal.nD Cert.PostnormMixReferenceIdeal.τ).loc Cert.PostnormMixReferenceIdeal.main_arg0) = m' ((c.tc : Thread Cert.PostnormMixReferenceIdeal.nD Cert.PostnormMixReferenceIdeal.τ).loc Cert.PostnormMixReferenceIdeal.main_arg0)
          ∧ r.2.mem ((c.tc : Thread Cert.PostnormMixReferenceIdeal.nD Cert.PostnormMixReferenceIdeal.τ).loc Cert.PostnormMixReferenceIdeal.main_arg1) = m' ((c.tc : Thread Cert.PostnormMixReferenceIdeal.nD Cert.PostnormMixReferenceIdeal.τ).loc Cert.PostnormMixReferenceIdeal.main_arg1)
          ∧ r.2.mem ((c.tc : Thread Cert.PostnormMixReferenceIdeal.nD Cert.PostnormMixReferenceIdeal.τ).loc Cert.PostnormMixReferenceIdeal.main_arg2) = m' ((c.tc : Thread Cert.PostnormMixReferenceIdeal.nD Cert.PostnormMixReferenceIdeal.τ).loc Cert.PostnormMixReferenceIdeal.main_arg2)
          ∧ r.2.mem ((c.tc : Thread Cert.PostnormMixReferenceIdeal.nD Cert.PostnormMixReferenceIdeal.τ).loc Cert.PostnormMixReferenceIdeal.main_arg3) = m' ((c.tc : Thread Cert.PostnormMixReferenceIdeal.nD Cert.PostnormMixReferenceIdeal.τ).loc Cert.PostnormMixReferenceIdeal.main_arg3)
          ∧ r.2.mem ((c.tc : Thread Cert.PostnormMixReferenceIdeal.nD Cert.PostnormMixReferenceIdeal.τ).loc Cert.PostnormMixReferenceIdeal.main_arg4) = m' ((c.tc : Thread Cert.PostnormMixReferenceIdeal.nD Cert.PostnormMixReferenceIdeal.τ).loc Cert.PostnormMixReferenceIdeal.main_arg4))

def preserves_PostnormFfn_PostnormFfnIdeal : Prop :=
  True

def algebraic_PostnormFfnIdeal_PostnormFfnReferenceIdeal [hPostnormFfnIdeal : Cert.PostnormFfnIdeal.Facts] [hPostnormFfnReferenceIdeal : Cert.PostnormFfnReferenceIdeal.Facts] : Prop :=
  ∀ (m : (ℓ : Loc Cert.PostnormFfnIdeal.nD Cert.PostnormFfnIdeal.τ Cert.PostnormFfnIdeal.sig) → Buf (Elt Ideal) ℓ) (g : Dev Cert.PostnormFfnIdeal.nD → PrngReg)
    (m' : (ℓ : Loc Cert.PostnormFfnReferenceIdeal.nD Cert.PostnormFfnReferenceIdeal.τ Cert.PostnormFfnReferenceIdeal.sig) → Buf (Elt Ideal) ℓ) (g' : Dev Cert.PostnormFfnReferenceIdeal.nD → PrngReg), Pre_PostnormFfnIdeal m →
    (∀ c : Dev Cert.PostnormFfnIdeal.nD,
      m' ((c.tc : Thread Cert.PostnormFfnReferenceIdeal.nD Cert.PostnormFfnReferenceIdeal.τ).loc Cert.PostnormFfnReferenceIdeal.main_arg0) = m ((c.tc : Thread Cert.PostnormFfnIdeal.nD Cert.PostnormFfnIdeal.τ).loc Cert.PostnormFfnIdeal.main_arg0)
      ∧ m' ((c.tc : Thread Cert.PostnormFfnReferenceIdeal.nD Cert.PostnormFfnReferenceIdeal.τ).loc Cert.PostnormFfnReferenceIdeal.main_arg1) = m ((c.tc : Thread Cert.PostnormFfnIdeal.nD Cert.PostnormFfnIdeal.τ).loc Cert.PostnormFfnIdeal.main_arg1)
      ∧ m' ((c.tc : Thread Cert.PostnormFfnReferenceIdeal.nD Cert.PostnormFfnReferenceIdeal.τ).loc Cert.PostnormFfnReferenceIdeal.main_arg2) = m ((c.tc : Thread Cert.PostnormFfnIdeal.nD Cert.PostnormFfnIdeal.τ).loc Cert.PostnormFfnIdeal.main_arg2)
      ∧ m' ((c.tc : Thread Cert.PostnormFfnReferenceIdeal.nD Cert.PostnormFfnReferenceIdeal.τ).loc Cert.PostnormFfnReferenceIdeal.main_arg3) = m ((c.tc : Thread Cert.PostnormFfnIdeal.nD Cert.PostnormFfnIdeal.τ).loc Cert.PostnormFfnIdeal.main_arg3)
      ∧ m' ((c.tc : Thread Cert.PostnormFfnReferenceIdeal.nD Cert.PostnormFfnReferenceIdeal.τ).loc Cert.PostnormFfnReferenceIdeal.main_arg4) = m ((c.tc : Thread Cert.PostnormFfnIdeal.nD Cert.PostnormFfnIdeal.τ).loc Cert.PostnormFfnIdeal.main_arg4)
      ∧ m' ((c.tc : Thread Cert.PostnormFfnReferenceIdeal.nD Cert.PostnormFfnReferenceIdeal.τ).loc Cert.PostnormFfnReferenceIdeal.main_arg5) = m ((c.tc : Thread Cert.PostnormFfnIdeal.nD Cert.PostnormFfnIdeal.τ).loc Cert.PostnormFfnIdeal.main_arg5)) →
    ∃ (v0 : (c : Dev Cert.PostnormFfnIdeal.nD) → Buf (Elt Ideal) ((c.tc : Thread Cert.PostnormFfnIdeal.nD Cert.PostnormFfnIdeal.τ).loc Cert.PostnormFfnIdeal.main_v0_0)) (v1 : (c : Dev Cert.PostnormFfnIdeal.nD) → Buf (Elt Ideal) ((c.tc : Thread Cert.PostnormFfnIdeal.nD Cert.PostnormFfnIdeal.τ).loc Cert.PostnormFfnIdeal.main_v0_1)),
      θ_run (Cert.PostnormFfnIdeal.defs (F := Ideal)) (onTc (τ := Cert.PostnormFfnIdeal.τ) (Cert.PostnormFfnIdeal.main (F := Ideal))) ⟨m, fun _ => 0, g⟩ (fun r => ∀ c : Dev Cert.PostnormFfnIdeal.nD,
          r.2.mem ((c.tc : Thread Cert.PostnormFfnIdeal.nD Cert.PostnormFfnIdeal.τ).loc Cert.PostnormFfnIdeal.main_v0_0) = v0 c
          ∧ r.2.mem ((c.tc : Thread Cert.PostnormFfnIdeal.nD Cert.PostnormFfnIdeal.τ).loc Cert.PostnormFfnIdeal.main_v0_1) = v1 c
          ∧ r.2.mem ((c.tc : Thread Cert.PostnormFfnIdeal.nD Cert.PostnormFfnIdeal.τ).loc Cert.PostnormFfnIdeal.main_arg0) = m ((c.tc : Thread Cert.PostnormFfnIdeal.nD Cert.PostnormFfnIdeal.τ).loc Cert.PostnormFfnIdeal.main_arg0)
          ∧ r.2.mem ((c.tc : Thread Cert.PostnormFfnIdeal.nD Cert.PostnormFfnIdeal.τ).loc Cert.PostnormFfnIdeal.main_arg1) = m ((c.tc : Thread Cert.PostnormFfnIdeal.nD Cert.PostnormFfnIdeal.τ).loc Cert.PostnormFfnIdeal.main_arg1)
          ∧ r.2.mem ((c.tc : Thread Cert.PostnormFfnIdeal.nD Cert.PostnormFfnIdeal.τ).loc Cert.PostnormFfnIdeal.main_arg2) = m ((c.tc : Thread Cert.PostnormFfnIdeal.nD Cert.PostnormFfnIdeal.τ).loc Cert.PostnormFfnIdeal.main_arg2)
          ∧ r.2.mem ((c.tc : Thread Cert.PostnormFfnIdeal.nD Cert.PostnormFfnIdeal.τ).loc Cert.PostnormFfnIdeal.main_arg3) = m ((c.tc : Thread Cert.PostnormFfnIdeal.nD Cert.PostnormFfnIdeal.τ).loc Cert.PostnormFfnIdeal.main_arg3)
          ∧ r.2.mem ((c.tc : Thread Cert.PostnormFfnIdeal.nD Cert.PostnormFfnIdeal.τ).loc Cert.PostnormFfnIdeal.main_arg4) = m ((c.tc : Thread Cert.PostnormFfnIdeal.nD Cert.PostnormFfnIdeal.τ).loc Cert.PostnormFfnIdeal.main_arg4)
          ∧ r.2.mem ((c.tc : Thread Cert.PostnormFfnIdeal.nD Cert.PostnormFfnIdeal.τ).loc Cert.PostnormFfnIdeal.main_arg5) = m ((c.tc : Thread Cert.PostnormFfnIdeal.nD Cert.PostnormFfnIdeal.τ).loc Cert.PostnormFfnIdeal.main_arg5))
      ∧ θ_run (Cert.PostnormFfnReferenceIdeal.defs (F := Ideal)) (onTc (τ := Cert.PostnormFfnReferenceIdeal.τ) (Cert.PostnormFfnReferenceIdeal.main (F := Ideal))) ⟨m', fun _ => 0, g'⟩ (fun r => ∀ c : Dev Cert.PostnormFfnReferenceIdeal.nD,
          r.2.mem ((c.tc : Thread Cert.PostnormFfnReferenceIdeal.nD Cert.PostnormFfnReferenceIdeal.τ).loc Cert.PostnormFfnReferenceIdeal.main_v23) = v0 c
          ∧ r.2.mem ((c.tc : Thread Cert.PostnormFfnReferenceIdeal.nD Cert.PostnormFfnReferenceIdeal.τ).loc Cert.PostnormFfnReferenceIdeal.main_v51) = v1 c
          ∧ r.2.mem ((c.tc : Thread Cert.PostnormFfnReferenceIdeal.nD Cert.PostnormFfnReferenceIdeal.τ).loc Cert.PostnormFfnReferenceIdeal.main_arg0) = m' ((c.tc : Thread Cert.PostnormFfnReferenceIdeal.nD Cert.PostnormFfnReferenceIdeal.τ).loc Cert.PostnormFfnReferenceIdeal.main_arg0)
          ∧ r.2.mem ((c.tc : Thread Cert.PostnormFfnReferenceIdeal.nD Cert.PostnormFfnReferenceIdeal.τ).loc Cert.PostnormFfnReferenceIdeal.main_arg1) = m' ((c.tc : Thread Cert.PostnormFfnReferenceIdeal.nD Cert.PostnormFfnReferenceIdeal.τ).loc Cert.PostnormFfnReferenceIdeal.main_arg1)
          ∧ r.2.mem ((c.tc : Thread Cert.PostnormFfnReferenceIdeal.nD Cert.PostnormFfnReferenceIdeal.τ).loc Cert.PostnormFfnReferenceIdeal.main_arg2) = m' ((c.tc : Thread Cert.PostnormFfnReferenceIdeal.nD Cert.PostnormFfnReferenceIdeal.τ).loc Cert.PostnormFfnReferenceIdeal.main_arg2)
          ∧ r.2.mem ((c.tc : Thread Cert.PostnormFfnReferenceIdeal.nD Cert.PostnormFfnReferenceIdeal.τ).loc Cert.PostnormFfnReferenceIdeal.main_arg3) = m' ((c.tc : Thread Cert.PostnormFfnReferenceIdeal.nD Cert.PostnormFfnReferenceIdeal.τ).loc Cert.PostnormFfnReferenceIdeal.main_arg3)
          ∧ r.2.mem ((c.tc : Thread Cert.PostnormFfnReferenceIdeal.nD Cert.PostnormFfnReferenceIdeal.τ).loc Cert.PostnormFfnReferenceIdeal.main_arg4) = m' ((c.tc : Thread Cert.PostnormFfnReferenceIdeal.nD Cert.PostnormFfnReferenceIdeal.τ).loc Cert.PostnormFfnReferenceIdeal.main_arg4)
          ∧ r.2.mem ((c.tc : Thread Cert.PostnormFfnReferenceIdeal.nD Cert.PostnormFfnReferenceIdeal.τ).loc Cert.PostnormFfnReferenceIdeal.main_arg5) = m' ((c.tc : Thread Cert.PostnormFfnReferenceIdeal.nD Cert.PostnormFfnReferenceIdeal.τ).loc Cert.PostnormFfnReferenceIdeal.main_arg5))

def preserves_PostnormLast_PostnormLastIdeal : Prop :=
  True

def algebraic_PostnormLastIdeal_PostnormLastReferenceIdeal [hPostnormLastIdeal : Cert.PostnormLastIdeal.Facts] [hPostnormLastReferenceIdeal : Cert.PostnormLastReferenceIdeal.Facts] : Prop :=
  ∀ (m : (ℓ : Loc Cert.PostnormLastIdeal.nD Cert.PostnormLastIdeal.τ Cert.PostnormLastIdeal.sig) → Buf (Elt Ideal) ℓ) (g : Dev Cert.PostnormLastIdeal.nD → PrngReg)
    (m' : (ℓ : Loc Cert.PostnormLastReferenceIdeal.nD Cert.PostnormLastReferenceIdeal.τ Cert.PostnormLastReferenceIdeal.sig) → Buf (Elt Ideal) ℓ) (g' : Dev Cert.PostnormLastReferenceIdeal.nD → PrngReg), Pre_PostnormLastIdeal m →
    (∀ c : Dev Cert.PostnormLastIdeal.nD,
      m' ((c.tc : Thread Cert.PostnormLastReferenceIdeal.nD Cert.PostnormLastReferenceIdeal.τ).loc Cert.PostnormLastReferenceIdeal.main_arg0) = m ((c.tc : Thread Cert.PostnormLastIdeal.nD Cert.PostnormLastIdeal.τ).loc Cert.PostnormLastIdeal.main_arg0)
      ∧ m' ((c.tc : Thread Cert.PostnormLastReferenceIdeal.nD Cert.PostnormLastReferenceIdeal.τ).loc Cert.PostnormLastReferenceIdeal.main_arg1) = m ((c.tc : Thread Cert.PostnormLastIdeal.nD Cert.PostnormLastIdeal.τ).loc Cert.PostnormLastIdeal.main_arg1)
      ∧ m' ((c.tc : Thread Cert.PostnormLastReferenceIdeal.nD Cert.PostnormLastReferenceIdeal.τ).loc Cert.PostnormLastReferenceIdeal.main_arg2) = m ((c.tc : Thread Cert.PostnormLastIdeal.nD Cert.PostnormLastIdeal.τ).loc Cert.PostnormLastIdeal.main_arg2)
      ∧ m' ((c.tc : Thread Cert.PostnormLastReferenceIdeal.nD Cert.PostnormLastReferenceIdeal.τ).loc Cert.PostnormLastReferenceIdeal.main_arg3) = m ((c.tc : Thread Cert.PostnormLastIdeal.nD Cert.PostnormLastIdeal.τ).loc Cert.PostnormLastIdeal.main_arg3)) →
    ∃ (v0 : (c : Dev Cert.PostnormLastIdeal.nD) → Buf (Elt Ideal) ((c.tc : Thread Cert.PostnormLastIdeal.nD Cert.PostnormLastIdeal.τ).loc Cert.PostnormLastIdeal.main_v0)),
      θ_run (Cert.PostnormLastIdeal.defs (F := Ideal)) (onTc (τ := Cert.PostnormLastIdeal.τ) (Cert.PostnormLastIdeal.main (F := Ideal))) ⟨m, fun _ => 0, g⟩ (fun r => ∀ c : Dev Cert.PostnormLastIdeal.nD,
          r.2.mem ((c.tc : Thread Cert.PostnormLastIdeal.nD Cert.PostnormLastIdeal.τ).loc Cert.PostnormLastIdeal.main_v0) = v0 c
          ∧ r.2.mem ((c.tc : Thread Cert.PostnormLastIdeal.nD Cert.PostnormLastIdeal.τ).loc Cert.PostnormLastIdeal.main_arg0) = m ((c.tc : Thread Cert.PostnormLastIdeal.nD Cert.PostnormLastIdeal.τ).loc Cert.PostnormLastIdeal.main_arg0)
          ∧ r.2.mem ((c.tc : Thread Cert.PostnormLastIdeal.nD Cert.PostnormLastIdeal.τ).loc Cert.PostnormLastIdeal.main_arg1) = m ((c.tc : Thread Cert.PostnormLastIdeal.nD Cert.PostnormLastIdeal.τ).loc Cert.PostnormLastIdeal.main_arg1)
          ∧ r.2.mem ((c.tc : Thread Cert.PostnormLastIdeal.nD Cert.PostnormLastIdeal.τ).loc Cert.PostnormLastIdeal.main_arg2) = m ((c.tc : Thread Cert.PostnormLastIdeal.nD Cert.PostnormLastIdeal.τ).loc Cert.PostnormLastIdeal.main_arg2)
          ∧ r.2.mem ((c.tc : Thread Cert.PostnormLastIdeal.nD Cert.PostnormLastIdeal.τ).loc Cert.PostnormLastIdeal.main_arg3) = m ((c.tc : Thread Cert.PostnormLastIdeal.nD Cert.PostnormLastIdeal.τ).loc Cert.PostnormLastIdeal.main_arg3))
      ∧ θ_run (Cert.PostnormLastReferenceIdeal.defs (F := Ideal)) (onTc (τ := Cert.PostnormLastReferenceIdeal.τ) (Cert.PostnormLastReferenceIdeal.main (F := Ideal))) ⟨m', fun _ => 0, g'⟩ (fun r => ∀ c : Dev Cert.PostnormLastReferenceIdeal.nD,
          r.2.mem ((c.tc : Thread Cert.PostnormLastReferenceIdeal.nD Cert.PostnormLastReferenceIdeal.τ).loc Cert.PostnormLastReferenceIdeal.main_v23) = v0 c
          ∧ r.2.mem ((c.tc : Thread Cert.PostnormLastReferenceIdeal.nD Cert.PostnormLastReferenceIdeal.τ).loc Cert.PostnormLastReferenceIdeal.main_arg0) = m' ((c.tc : Thread Cert.PostnormLastReferenceIdeal.nD Cert.PostnormLastReferenceIdeal.τ).loc Cert.PostnormLastReferenceIdeal.main_arg0)
          ∧ r.2.mem ((c.tc : Thread Cert.PostnormLastReferenceIdeal.nD Cert.PostnormLastReferenceIdeal.τ).loc Cert.PostnormLastReferenceIdeal.main_arg1) = m' ((c.tc : Thread Cert.PostnormLastReferenceIdeal.nD Cert.PostnormLastReferenceIdeal.τ).loc Cert.PostnormLastReferenceIdeal.main_arg1)
          ∧ r.2.mem ((c.tc : Thread Cert.PostnormLastReferenceIdeal.nD Cert.PostnormLastReferenceIdeal.τ).loc Cert.PostnormLastReferenceIdeal.main_arg2) = m' ((c.tc : Thread Cert.PostnormLastReferenceIdeal.nD Cert.PostnormLastReferenceIdeal.τ).loc Cert.PostnormLastReferenceIdeal.main_arg2)
          ∧ r.2.mem ((c.tc : Thread Cert.PostnormLastReferenceIdeal.nD Cert.PostnormLastReferenceIdeal.τ).loc Cert.PostnormLastReferenceIdeal.main_arg3) = m' ((c.tc : Thread Cert.PostnormLastReferenceIdeal.nD Cert.PostnormLastReferenceIdeal.τ).loc Cert.PostnormLastReferenceIdeal.main_arg3))

def preserves_Rope_RopeIdeal : Prop :=
  True

def algebraic_RopeIdeal_RopeReferenceIdeal_pre_tables_of_angles [hRopeIdeal : Cert.RopeIdeal.Facts] [hRopeReferenceIdeal : Cert.RopeReferenceIdeal.Facts] [hPre_tables_of_angles : Cert.Pre_tables_of_angles.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal_tables_of_angles m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)
      ∧ m' ((c.tc : Thread Cert.RopeReferenceIdeal.nD Cert.RopeReferenceIdeal.τ).loc Cert.RopeReferenceIdeal.main_arg4) = m ((c.tc : Thread Cert.RopeIdeal.nD Cert.RopeIdeal.τ).loc Cert.RopeIdeal.main_arg4)) →
    ∃ (v0 : (c : Dev Cert.RopeIdeal.nD) → Buf (Elt Ideal) ((c.tc : Thread Cert.RopeIdeal.nD Cert.RopeIdeal.τ).loc Cert.RopeIdeal.main_v0)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v0) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v27) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4))

def preserves_RopeSecond_RopeSecondIdeal : Prop :=
  True

def algebraic_RopeSecondIdeal_RopeSecondReferenceIdeal_pre_tables_of_angles [hRopeSecondIdeal : Cert.RopeSecondIdeal.Facts] [hRopeSecondReferenceIdeal : Cert.RopeSecondReferenceIdeal.Facts] [hPre_tables_of_angles : Cert.Pre_tables_of_angles.Facts] : Prop :=
  ∀ (m : (ℓ : Loc Cert.RopeSecondIdeal.nD Cert.RopeSecondIdeal.τ Cert.RopeSecondIdeal.sig) → Buf (Elt Ideal) ℓ) (g : Dev Cert.RopeSecondIdeal.nD → PrngReg)
    (m' : (ℓ : Loc Cert.RopeSecondReferenceIdeal.nD Cert.RopeSecondReferenceIdeal.τ Cert.RopeSecondReferenceIdeal.sig) → Buf (Elt Ideal) ℓ) (g' : Dev Cert.RopeSecondReferenceIdeal.nD → PrngReg), Pre_RopeSecondIdeal_tables_of_angles m →
    (∀ c : Dev Cert.RopeSecondIdeal.nD,
      m' ((c.tc : Thread Cert.RopeSecondReferenceIdeal.nD Cert.RopeSecondReferenceIdeal.τ).loc Cert.RopeSecondReferenceIdeal.main_arg0) = m ((c.tc : Thread Cert.RopeSecondIdeal.nD Cert.RopeSecondIdeal.τ).loc Cert.RopeSecondIdeal.main_arg0)
      ∧ m' ((c.tc : Thread Cert.RopeSecondReferenceIdeal.nD Cert.RopeSecondReferenceIdeal.τ).loc Cert.RopeSecondReferenceIdeal.main_arg1) = m ((c.tc : Thread Cert.RopeSecondIdeal.nD Cert.RopeSecondIdeal.τ).loc Cert.RopeSecondIdeal.main_arg1)
      ∧ m' ((c.tc : Thread Cert.RopeSecondReferenceIdeal.nD Cert.RopeSecondReferenceIdeal.τ).loc Cert.RopeSecondReferenceIdeal.main_arg2) = m ((c.tc : Thread Cert.RopeSecondIdeal.nD Cert.RopeSecondIdeal.τ).loc Cert.RopeSecondIdeal.main_arg2)
      ∧ m' ((c.tc : Thread Cert.RopeSecondReferenceIdeal.nD Cert.RopeSecondReferenceIdeal.τ).loc Cert.RopeSecondReferenceIdeal.main_arg3) = m ((c.tc : Thread Cert.RopeSecondIdeal.nD Cert.RopeSecondIdeal.τ).loc Cert.RopeSecondIdeal.main_arg3)
      ∧ m' ((c.tc : Thread Cert.RopeSecondReferenceIdeal.nD Cert.RopeSecondReferenceIdeal.τ).loc Cert.RopeSecondReferenceIdeal.main_arg4) = m ((c.tc : Thread Cert.RopeSecondIdeal.nD Cert.RopeSecondIdeal.τ).loc Cert.RopeSecondIdeal.main_arg4)) →
    ∃ (v0 : (c : Dev Cert.RopeSecondIdeal.nD) → Buf (Elt Ideal) ((c.tc : Thread Cert.RopeSecondIdeal.nD Cert.RopeSecondIdeal.τ).loc Cert.RopeSecondIdeal.main_v0)),
      θ_run (Cert.RopeSecondIdeal.defs (F := Ideal)) (onTc (τ := Cert.RopeSecondIdeal.τ) (Cert.RopeSecondIdeal.main (F := Ideal))) ⟨m, fun _ => 0, g⟩ (fun r => ∀ c : Dev Cert.RopeSecondIdeal.nD,
          r.2.mem ((c.tc : Thread Cert.RopeSecondIdeal.nD Cert.RopeSecondIdeal.τ).loc Cert.RopeSecondIdeal.main_v0) = v0 c
          ∧ r.2.mem ((c.tc : Thread Cert.RopeSecondIdeal.nD Cert.RopeSecondIdeal.τ).loc Cert.RopeSecondIdeal.main_arg0) = m ((c.tc : Thread Cert.RopeSecondIdeal.nD Cert.RopeSecondIdeal.τ).loc Cert.RopeSecondIdeal.main_arg0)
          ∧ r.2.mem ((c.tc : Thread Cert.RopeSecondIdeal.nD Cert.RopeSecondIdeal.τ).loc Cert.RopeSecondIdeal.main_arg1) = m ((c.tc : Thread Cert.RopeSecondIdeal.nD Cert.RopeSecondIdeal.τ).loc Cert.RopeSecondIdeal.main_arg1)
          ∧ r.2.mem ((c.tc : Thread Cert.RopeSecondIdeal.nD Cert.RopeSecondIdeal.τ).loc Cert.RopeSecondIdeal.main_arg2) = m ((c.tc : Thread Cert.RopeSecondIdeal.nD Cert.RopeSecondIdeal.τ).loc Cert.RopeSecondIdeal.main_arg2)
          ∧ r.2.mem ((c.tc : Thread Cert.RopeSecondIdeal.nD Cert.RopeSecondIdeal.τ).loc Cert.RopeSecondIdeal.main_arg3) = m ((c.tc : Thread Cert.RopeSecondIdeal.nD Cert.RopeSecondIdeal.τ).loc Cert.RopeSecondIdeal.main_arg3)
          ∧ r.2.mem ((c.tc : Thread Cert.RopeSecondIdeal.nD Cert.RopeSecondIdeal.τ).loc Cert.RopeSecondIdeal.main_arg4) = m ((c.tc : Thread Cert.RopeSecondIdeal.nD Cert.RopeSecondIdeal.τ).loc Cert.RopeSecondIdeal.main_arg4))
      ∧ θ_run (Cert.RopeSecondReferenceIdeal.defs (F := Ideal)) (onTc (τ := Cert.RopeSecondReferenceIdeal.τ) (Cert.RopeSecondReferenceIdeal.main (F := Ideal))) ⟨m', fun _ => 0, g'⟩ (fun r => ∀ c : Dev Cert.RopeSecondReferenceIdeal.nD,
          r.2.mem ((c.tc : Thread Cert.RopeSecondReferenceIdeal.nD Cert.RopeSecondReferenceIdeal.τ).loc Cert.RopeSecondReferenceIdeal.main_v27) = v0 c
          ∧ r.2.mem ((c.tc : Thread Cert.RopeSecondReferenceIdeal.nD Cert.RopeSecondReferenceIdeal.τ).loc Cert.RopeSecondReferenceIdeal.main_arg0) = m' ((c.tc : Thread Cert.RopeSecondReferenceIdeal.nD Cert.RopeSecondReferenceIdeal.τ).loc Cert.RopeSecondReferenceIdeal.main_arg0)
          ∧ r.2.mem ((c.tc : Thread Cert.RopeSecondReferenceIdeal.nD Cert.RopeSecondReferenceIdeal.τ).loc Cert.RopeSecondReferenceIdeal.main_arg1) = m' ((c.tc : Thread Cert.RopeSecondReferenceIdeal.nD Cert.RopeSecondReferenceIdeal.τ).loc Cert.RopeSecondReferenceIdeal.main_arg1)
          ∧ r.2.mem ((c.tc : Thread Cert.RopeSecondReferenceIdeal.nD Cert.RopeSecondReferenceIdeal.τ).loc Cert.RopeSecondReferenceIdeal.main_arg2) = m' ((c.tc : Thread Cert.RopeSecondReferenceIdeal.nD Cert.RopeSecondReferenceIdeal.τ).loc Cert.RopeSecondReferenceIdeal.main_arg2)
          ∧ r.2.mem ((c.tc : Thread Cert.RopeSecondReferenceIdeal.nD Cert.RopeSecondReferenceIdeal.τ).loc Cert.RopeSecondReferenceIdeal.main_arg3) = m' ((c.tc : Thread Cert.RopeSecondReferenceIdeal.nD Cert.RopeSecondReferenceIdeal.τ).loc Cert.RopeSecondReferenceIdeal.main_arg3)
          ∧ r.2.mem ((c.tc : Thread Cert.RopeSecondReferenceIdeal.nD Cert.RopeSecondReferenceIdeal.τ).loc Cert.RopeSecondReferenceIdeal.main_arg4) = m' ((c.tc : Thread Cert.RopeSecondReferenceIdeal.nD Cert.RopeSecondReferenceIdeal.τ).loc Cert.RopeSecondReferenceIdeal.main_arg4))

def preserves_Index_IndexIdeal : Prop :=
  True

def algebraic_IndexIdeal_IndexReferenceIdeal_pre_index_tables_of_angles [hIndexIdeal : Cert.IndexIdeal.Facts] [hIndexReferenceIdeal : Cert.IndexReferenceIdeal.Facts] [hPre_index_tables_of_angles : Cert.Pre_index_tables_of_angles.Facts] : Prop :=
  ∀ (m : (ℓ : Loc Cert.IndexIdeal.nD Cert.IndexIdeal.τ Cert.IndexIdeal.sig) → Buf (Elt Ideal) ℓ) (g : Dev Cert.IndexIdeal.nD → PrngReg)
    (m' : (ℓ : Loc Cert.IndexReferenceIdeal.nD Cert.IndexReferenceIdeal.τ Cert.IndexReferenceIdeal.sig) → Buf (Elt Ideal) ℓ) (g' : Dev Cert.IndexReferenceIdeal.nD → PrngReg), Pre_IndexIdeal_index_tables_of_angles m →
    (∀ c : Dev Cert.IndexIdeal.nD,
      m' ((c.tc : Thread Cert.IndexReferenceIdeal.nD Cert.IndexReferenceIdeal.τ).loc Cert.IndexReferenceIdeal.main_arg0) = m ((c.tc : Thread Cert.IndexIdeal.nD Cert.IndexIdeal.τ).loc Cert.IndexIdeal.main_arg0)
      ∧ m' ((c.tc : Thread Cert.IndexReferenceIdeal.nD Cert.IndexReferenceIdeal.τ).loc Cert.IndexReferenceIdeal.main_arg1) = m ((c.tc : Thread Cert.IndexIdeal.nD Cert.IndexIdeal.τ).loc Cert.IndexIdeal.main_arg1)
      ∧ m' ((c.tc : Thread Cert.IndexReferenceIdeal.nD Cert.IndexReferenceIdeal.τ).loc Cert.IndexReferenceIdeal.main_arg2) = m ((c.tc : Thread Cert.IndexIdeal.nD Cert.IndexIdeal.τ).loc Cert.IndexIdeal.main_arg2)
      ∧ m' ((c.tc : Thread Cert.IndexReferenceIdeal.nD Cert.IndexReferenceIdeal.τ).loc Cert.IndexReferenceIdeal.main_arg3) = m ((c.tc : Thread Cert.IndexIdeal.nD Cert.IndexIdeal.τ).loc Cert.IndexIdeal.main_arg3)
      ∧ m' ((c.tc : Thread Cert.IndexReferenceIdeal.nD Cert.IndexReferenceIdeal.τ).loc Cert.IndexReferenceIdeal.main_arg4) = m ((c.tc : Thread Cert.IndexIdeal.nD Cert.IndexIdeal.τ).loc Cert.IndexIdeal.main_arg4)) →
    ∃ (v0 : (c : Dev Cert.IndexIdeal.nD) → Buf (Elt Ideal) ((c.tc : Thread Cert.IndexIdeal.nD Cert.IndexIdeal.τ).loc Cert.IndexIdeal.main_v0_0)) (v1 : (c : Dev Cert.IndexIdeal.nD) → Buf (Elt Ideal) ((c.tc : Thread Cert.IndexIdeal.nD Cert.IndexIdeal.τ).loc Cert.IndexIdeal.main_v0_1)) (v2 : (c : Dev Cert.IndexIdeal.nD) → Buf (Elt Ideal) ((c.tc : Thread Cert.IndexIdeal.nD Cert.IndexIdeal.τ).loc Cert.IndexIdeal.main_v0_2)),
      θ_run (Cert.IndexIdeal.defs (F := Ideal)) (onTc (τ := Cert.IndexIdeal.τ) (Cert.IndexIdeal.main (F := Ideal))) ⟨m, fun _ => 0, g⟩ (fun r => ∀ c : Dev Cert.IndexIdeal.nD,
          r.2.mem ((c.tc : Thread Cert.IndexIdeal.nD Cert.IndexIdeal.τ).loc Cert.IndexIdeal.main_v0_0) = v0 c
          ∧ r.2.mem ((c.tc : Thread Cert.IndexIdeal.nD Cert.IndexIdeal.τ).loc Cert.IndexIdeal.main_v0_1) = v1 c
          ∧ r.2.mem ((c.tc : Thread Cert.IndexIdeal.nD Cert.IndexIdeal.τ).loc Cert.IndexIdeal.main_v0_2) = v2 c
          ∧ r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
          ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1)
          ∧ r.2.mem ((c.tc : Thread Cert.IndexIdeal.nD Cert.IndexIdeal.τ).loc Cert.IndexIdeal.main_arg2) = m ((c.tc : Thread Cert.IndexIdeal.nD Cert.IndexIdeal.τ).loc Cert.IndexIdeal.main_arg2)
          ∧ r.2.mem ((c.tc : Thread Cert.IndexIdeal.nD Cert.IndexIdeal.τ).loc Cert.IndexIdeal.main_arg3) = m ((c.tc : Thread Cert.IndexIdeal.nD Cert.IndexIdeal.τ).loc Cert.IndexIdeal.main_arg3)
          ∧ r.2.mem ((c.tc : Thread Cert.IndexIdeal.nD Cert.IndexIdeal.τ).loc Cert.IndexIdeal.main_arg4) = m ((c.tc : Thread Cert.IndexIdeal.nD Cert.IndexIdeal.τ).loc Cert.IndexIdeal.main_arg4))
      ∧ θ_run (Cert.IndexReferenceIdeal.defs (F := Ideal)) (onTc (τ := Cert.IndexReferenceIdeal.τ) (Cert.IndexReferenceIdeal.main (F := Ideal))) ⟨m', fun _ => 0, g'⟩ (fun r => ∀ c : Dev Cert.IndexReferenceIdeal.nD,
          r.2.mem ((c.tc : Thread Cert.IndexReferenceIdeal.nD Cert.IndexReferenceIdeal.τ).loc Cert.IndexReferenceIdeal.main_v54) = v0 c
          ∧ r.2.mem ((c.tc : Thread Cert.IndexReferenceIdeal.nD Cert.IndexReferenceIdeal.τ).loc Cert.IndexReferenceIdeal.main_v55) = v1 c
          ∧ r.2.mem ((c.tc : Thread Cert.IndexReferenceIdeal.nD Cert.IndexReferenceIdeal.τ).loc Cert.IndexReferenceIdeal.main_v56) = v2 c
          ∧ r.2.mem ((c.tc : Thread Cert.IndexReferenceIdeal.nD Cert.IndexReferenceIdeal.τ).loc Cert.IndexReferenceIdeal.main_arg0) = m' ((c.tc : Thread Cert.IndexReferenceIdeal.nD Cert.IndexReferenceIdeal.τ).loc Cert.IndexReferenceIdeal.main_arg0)
          ∧ r.2.mem ((c.tc : Thread Cert.IndexReferenceIdeal.nD Cert.IndexReferenceIdeal.τ).loc Cert.IndexReferenceIdeal.main_arg1) = m' ((c.tc : Thread Cert.IndexReferenceIdeal.nD Cert.IndexReferenceIdeal.τ).loc Cert.IndexReferenceIdeal.main_arg1)
          ∧ r.2.mem ((c.tc : Thread Cert.IndexReferenceIdeal.nD Cert.IndexReferenceIdeal.τ).loc Cert.IndexReferenceIdeal.main_arg2) = m' ((c.tc : Thread Cert.IndexReferenceIdeal.nD Cert.IndexReferenceIdeal.τ).loc Cert.IndexReferenceIdeal.main_arg2)
          ∧ r.2.mem ((c.tc : Thread Cert.IndexReferenceIdeal.nD Cert.IndexReferenceIdeal.τ).loc Cert.IndexReferenceIdeal.main_arg3) = m' ((c.tc : Thread Cert.IndexReferenceIdeal.nD Cert.IndexReferenceIdeal.τ).loc Cert.IndexReferenceIdeal.main_arg3)
          ∧ r.2.mem ((c.tc : Thread Cert.IndexReferenceIdeal.nD Cert.IndexReferenceIdeal.τ).loc Cert.IndexReferenceIdeal.main_arg4) = m' ((c.tc : Thread Cert.IndexReferenceIdeal.nD Cert.IndexReferenceIdeal.τ).loc Cert.IndexReferenceIdeal.main_arg4))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hDown : Cert.Down.Facts) (hDownIdeal : Cert.DownIdeal.Facts) (hDownReferenceIdeal : Cert.DownReferenceIdeal.Facts) (hGates : Cert.Gates.Facts) (hGatesIdeal : Cert.GatesIdeal.Facts) (hGatesReferenceIdeal : Cert.GatesReferenceIdeal.Facts) (hPlain : Cert.Plain.Facts) (hPlainIdeal : Cert.PlainIdeal.Facts) (hPlainReferenceIdeal : Cert.PlainReferenceIdeal.Facts) (hOutProj : Cert.OutProj.Facts) (hOutProjIdeal : Cert.OutProjIdeal.Facts) (hOutProjReferenceIdeal : Cert.OutProjReferenceIdeal.Facts) (hMerge : Cert.Merge.Facts) (hMergeIdeal : Cert.MergeIdeal.Facts) (hMergeReferenceIdeal : Cert.MergeReferenceIdeal.Facts) (hVt : Cert.Vt.Facts) (hVtIdeal : Cert.VtIdeal.Facts) (hVtReferenceIdeal : Cert.VtReferenceIdeal.Facts) (hFfnUpSecond : Cert.FfnUpSecond.Facts) (hFfnUpSecondIdeal : Cert.FfnUpSecondIdeal.Facts) (hFfnUpSecondReferenceIdeal : Cert.FfnUpSecondReferenceIdeal.Facts) (hDownSecond : Cert.DownSecond.Facts) (hDownSecondIdeal : Cert.DownSecondIdeal.Facts) (hDownSecondReferenceIdeal : Cert.DownSecondReferenceIdeal.Facts) (hGatesSecond : Cert.GatesSecond.Facts) (hGatesSecondIdeal : Cert.GatesSecondIdeal.Facts) (hGatesSecondReferenceIdeal : Cert.GatesSecondReferenceIdeal.Facts) (hPlainSecond : Cert.PlainSecond.Facts) (hPlainSecondIdeal : Cert.PlainSecondIdeal.Facts) (hPlainSecondReferenceIdeal : Cert.PlainSecondReferenceIdeal.Facts) (hOutProjSecond : Cert.OutProjSecond.Facts) (hOutProjSecondIdeal : Cert.OutProjSecondIdeal.Facts) (hOutProjSecondReferenceIdeal : Cert.OutProjSecondReferenceIdeal.Facts) (hMergeSecond : Cert.MergeSecond.Facts) (hMergeSecondIdeal : Cert.MergeSecondIdeal.Facts) (hMergeSecondReferenceIdeal : Cert.MergeSecondReferenceIdeal.Facts) (hPrenorm : Cert.Prenorm.Facts) (hPrenormIdeal : Cert.PrenormIdeal.Facts) (hPrenormReferenceIdeal : Cert.PrenormReferenceIdeal.Facts) (hPostnormMix : Cert.PostnormMix.Facts) (hPostnormMixIdeal : Cert.PostnormMixIdeal.Facts) (hPostnormMixReferenceIdeal : Cert.PostnormMixReferenceIdeal.Facts) (hPostnormFfn : Cert.PostnormFfn.Facts) (hPostnormFfnIdeal : Cert.PostnormFfnIdeal.Facts) (hPostnormFfnReferenceIdeal : Cert.PostnormFfnReferenceIdeal.Facts) (hPostnormLast : Cert.PostnormLast.Facts) (hPostnormLastIdeal : Cert.PostnormLastIdeal.Facts) (hPostnormLastReferenceIdeal : Cert.PostnormLastReferenceIdeal.Facts) (hRope : Cert.Rope.Facts) (hRopeIdeal : Cert.RopeIdeal.Facts) (hRopeReferenceIdeal : Cert.RopeReferenceIdeal.Facts) (hRopeSecond : Cert.RopeSecond.Facts) (hRopeSecondIdeal : Cert.RopeSecondIdeal.Facts) (hRopeSecondReferenceIdeal : Cert.RopeSecondReferenceIdeal.Facts) (hIndex : Cert.Index.Facts) (hIndexIdeal : Cert.IndexIdeal.Facts) (hIndexReferenceIdeal : Cert.IndexReferenceIdeal.Facts) (hPre_logits_at_most_64 : Cert.Pre_logits_at_most_64.Facts) (hPre_tables_of_angles : Cert.Pre_tables_of_angles.Facts) (hPre_index_tables_of_angles : Cert.Pre_index_tables_of_angles.Facts),
    quiescent_Kernel (hKernel := hKernel)
    ∧ quiescent_KernelIdeal (hKernelIdeal := hKernelIdeal)
    ∧ quiescent_KernelIdeal_pre_logits_at_most_64 (hKernelIdeal := hKernelIdeal) (hPre_logits_at_most_64 := hPre_logits_at_most_64)
    ∧ quiescent_ReferenceIdeal (hReferenceIdeal := hReferenceIdeal)
    ∧ quiescent_ReferenceIdeal_pre_logits_at_most_64 (hReferenceIdeal := hReferenceIdeal) (hPre_logits_at_most_64 := hPre_logits_at_most_64)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Plain (hPlain := hPlain)
    ∧ quiescent_PlainIdeal (hPlainIdeal := hPlainIdeal)
    ∧ quiescent_PlainReferenceIdeal (hPlainReferenceIdeal := hPlainReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Vt (hVt := hVt)
    ∧ quiescent_VtIdeal (hVtIdeal := hVtIdeal)
    ∧ quiescent_VtReferenceIdeal (hVtReferenceIdeal := hVtReferenceIdeal)
    ∧ quiescent_FfnUpSecond (hFfnUpSecond := hFfnUpSecond)
    ∧ quiescent_FfnUpSecondIdeal (hFfnUpSecondIdeal := hFfnUpSecondIdeal)
    ∧ quiescent_FfnUpSecondReferenceIdeal (hFfnUpSecondReferenceIdeal := hFfnUpSecondReferenceIdeal)
    ∧ quiescent_DownSecond (hDownSecond := hDownSecond)
    ∧ quiescent_DownSecondIdeal (hDownSecondIdeal := hDownSecondIdeal)
    ∧ quiescent_DownSecondReferenceIdeal (hDownSecondReferenceIdeal := hDownSecondReferenceIdeal)
    ∧ quiescent_GatesSecond (hGatesSecond := hGatesSecond)
    ∧ quiescent_GatesSecondIdeal (hGatesSecondIdeal := hGatesSecondIdeal)
    ∧ quiescent_GatesSecondReferenceIdeal (hGatesSecondReferenceIdeal := hGatesSecondReferenceIdeal)
    ∧ quiescent_PlainSecond (hPlainSecond := hPlainSecond)
    ∧ quiescent_PlainSecondIdeal (hPlainSecondIdeal := hPlainSecondIdeal)
    ∧ quiescent_PlainSecondReferenceIdeal (hPlainSecondReferenceIdeal := hPlainSecondReferenceIdeal)
    ∧ quiescent_OutProjSecond (hOutProjSecond := hOutProjSecond)
    ∧ quiescent_OutProjSecondIdeal (hOutProjSecondIdeal := hOutProjSecondIdeal)
    ∧ quiescent_OutProjSecondReferenceIdeal (hOutProjSecondReferenceIdeal := hOutProjSecondReferenceIdeal)
    ∧ quiescent_MergeSecond (hMergeSecond := hMergeSecond)
    ∧ quiescent_MergeSecondIdeal (hMergeSecondIdeal := hMergeSecondIdeal)
    ∧ quiescent_MergeSecondReferenceIdeal (hMergeSecondReferenceIdeal := hMergeSecondReferenceIdeal)
    ∧ quiescent_Prenorm (hPrenorm := hPrenorm)
    ∧ quiescent_PrenormIdeal (hPrenormIdeal := hPrenormIdeal)
    ∧ quiescent_PrenormReferenceIdeal (hPrenormReferenceIdeal := hPrenormReferenceIdeal)
    ∧ quiescent_PostnormMix (hPostnormMix := hPostnormMix)
    ∧ quiescent_PostnormMixIdeal (hPostnormMixIdeal := hPostnormMixIdeal)
    ∧ quiescent_PostnormMixReferenceIdeal (hPostnormMixReferenceIdeal := hPostnormMixReferenceIdeal)
    ∧ quiescent_PostnormFfn (hPostnormFfn := hPostnormFfn)
    ∧ quiescent_PostnormFfnIdeal (hPostnormFfnIdeal := hPostnormFfnIdeal)
    ∧ quiescent_PostnormFfnReferenceIdeal (hPostnormFfnReferenceIdeal := hPostnormFfnReferenceIdeal)
    ∧ quiescent_PostnormLast (hPostnormLast := hPostnormLast)
    ∧ quiescent_PostnormLastIdeal (hPostnormLastIdeal := hPostnormLastIdeal)
    ∧ quiescent_PostnormLastReferenceIdeal (hPostnormLastReferenceIdeal := hPostnormLastReferenceIdeal)
    ∧ quiescent_Rope (hRope := hRope)
    ∧ quiescent_RopeIdeal (hRopeIdeal := hRopeIdeal)
    ∧ quiescent_RopeIdeal_pre_tables_of_angles (hRopeIdeal := hRopeIdeal) (hPre_tables_of_angles := hPre_tables_of_angles)
    ∧ quiescent_RopeReferenceIdeal (hRopeReferenceIdeal := hRopeReferenceIdeal)
    ∧ quiescent_RopeReferenceIdeal_pre_tables_of_angles (hRopeReferenceIdeal := hRopeReferenceIdeal) (hPre_tables_of_angles := hPre_tables_of_angles)
    ∧ quiescent_RopeSecond (hRopeSecond := hRopeSecond)
    ∧ quiescent_RopeSecondIdeal (hRopeSecondIdeal := hRopeSecondIdeal)
    ∧ quiescent_RopeSecondIdeal_pre_tables_of_angles (hRopeSecondIdeal := hRopeSecondIdeal) (hPre_tables_of_angles := hPre_tables_of_angles)
    ∧ quiescent_RopeSecondReferenceIdeal (hRopeSecondReferenceIdeal := hRopeSecondReferenceIdeal)
    ∧ quiescent_RopeSecondReferenceIdeal_pre_tables_of_angles (hRopeSecondReferenceIdeal := hRopeSecondReferenceIdeal) (hPre_tables_of_angles := hPre_tables_of_angles)
    ∧ quiescent_Index (hIndex := hIndex)
    ∧ quiescent_IndexIdeal (hIndexIdeal := hIndexIdeal)
    ∧ quiescent_IndexIdeal_pre_index_tables_of_angles (hIndexIdeal := hIndexIdeal) (hPre_index_tables_of_angles := hPre_index_tables_of_angles)
    ∧ quiescent_IndexReferenceIdeal (hIndexReferenceIdeal := hIndexReferenceIdeal)
    ∧ quiescent_IndexReferenceIdeal_pre_index_tables_of_angles (hIndexReferenceIdeal := hIndexReferenceIdeal) (hPre_index_tables_of_angles := hPre_index_tables_of_angles)
    ∧ preserves_Kernel_KernelIdeal
    ∧ algebraic_KernelIdeal_ReferenceIdeal_pre_logits_at_most_64 (hKernelIdeal := hKernelIdeal) (hReferenceIdeal := hReferenceIdeal) (hPre_logits_at_most_64 := hPre_logits_at_most_64)
    ∧ preserves_FfnUp_FfnUpIdeal
    ∧ algebraic_FfnUpIdeal_FfnUpReferenceIdeal (hFfnUpIdeal := hFfnUpIdeal) (hFfnUpReferenceIdeal := hFfnUpReferenceIdeal)
    ∧ preserves_Down_DownIdeal
    ∧ algebraic_DownIdeal_DownReferenceIdeal (hDownIdeal := hDownIdeal) (hDownReferenceIdeal := hDownReferenceIdeal)
    ∧ preserves_Gates_GatesIdeal
    ∧ algebraic_GatesIdeal_GatesReferenceIdeal (hGatesIdeal := hGatesIdeal) (hGatesReferenceIdeal := hGatesReferenceIdeal)
    ∧ preserves_Plain_PlainIdeal
    ∧ algebraic_PlainIdeal_PlainReferenceIdeal (hPlainIdeal := hPlainIdeal) (hPlainReferenceIdeal := hPlainReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Merge_MergeIdeal
    ∧ algebraic_MergeIdeal_MergeReferenceIdeal (hMergeIdeal := hMergeIdeal) (hMergeReferenceIdeal := hMergeReferenceIdeal)
    ∧ preserves_Vt_VtIdeal
    ∧ algebraic_VtIdeal_VtReferenceIdeal (hVtIdeal := hVtIdeal) (hVtReferenceIdeal := hVtReferenceIdeal)
    ∧ preserves_FfnUpSecond_FfnUpSecondIdeal
    ∧ algebraic_FfnUpSecondIdeal_FfnUpSecondReferenceIdeal (hFfnUpSecondIdeal := hFfnUpSecondIdeal) (hFfnUpSecondReferenceIdeal := hFfnUpSecondReferenceIdeal)
    ∧ preserves_DownSecond_DownSecondIdeal
    ∧ algebraic_DownSecondIdeal_DownSecondReferenceIdeal (hDownSecondIdeal := hDownSecondIdeal) (hDownSecondReferenceIdeal := hDownSecondReferenceIdeal)
    ∧ preserves_GatesSecond_GatesSecondIdeal
    ∧ algebraic_GatesSecondIdeal_GatesSecondReferenceIdeal (hGatesSecondIdeal := hGatesSecondIdeal) (hGatesSecondReferenceIdeal := hGatesSecondReferenceIdeal)
    ∧ preserves_PlainSecond_PlainSecondIdeal
    ∧ algebraic_PlainSecondIdeal_PlainSecondReferenceIdeal (hPlainSecondIdeal := hPlainSecondIdeal) (hPlainSecondReferenceIdeal := hPlainSecondReferenceIdeal)
    ∧ preserves_OutProjSecond_OutProjSecondIdeal
    ∧ algebraic_OutProjSecondIdeal_OutProjSecondReferenceIdeal (hOutProjSecondIdeal := hOutProjSecondIdeal) (hOutProjSecondReferenceIdeal := hOutProjSecondReferenceIdeal)
    ∧ preserves_MergeSecond_MergeSecondIdeal
    ∧ algebraic_MergeSecondIdeal_MergeSecondReferenceIdeal (hMergeSecondIdeal := hMergeSecondIdeal) (hMergeSecondReferenceIdeal := hMergeSecondReferenceIdeal)
    ∧ preserves_Prenorm_PrenormIdeal
    ∧ algebraic_PrenormIdeal_PrenormReferenceIdeal (hPrenormIdeal := hPrenormIdeal) (hPrenormReferenceIdeal := hPrenormReferenceIdeal)
    ∧ preserves_PostnormMix_PostnormMixIdeal
    ∧ algebraic_PostnormMixIdeal_PostnormMixReferenceIdeal (hPostnormMixIdeal := hPostnormMixIdeal) (hPostnormMixReferenceIdeal := hPostnormMixReferenceIdeal)
    ∧ preserves_PostnormFfn_PostnormFfnIdeal
    ∧ algebraic_PostnormFfnIdeal_PostnormFfnReferenceIdeal (hPostnormFfnIdeal := hPostnormFfnIdeal) (hPostnormFfnReferenceIdeal := hPostnormFfnReferenceIdeal)
    ∧ preserves_PostnormLast_PostnormLastIdeal
    ∧ algebraic_PostnormLastIdeal_PostnormLastReferenceIdeal (hPostnormLastIdeal := hPostnormLastIdeal) (hPostnormLastReferenceIdeal := hPostnormLastReferenceIdeal)
    ∧ preserves_Rope_RopeIdeal
    ∧ algebraic_RopeIdeal_RopeReferenceIdeal_pre_tables_of_angles (hRopeIdeal := hRopeIdeal) (hRopeReferenceIdeal := hRopeReferenceIdeal) (hPre_tables_of_angles := hPre_tables_of_angles)
    ∧ preserves_RopeSecond_RopeSecondIdeal
    ∧ algebraic_RopeSecondIdeal_RopeSecondReferenceIdeal_pre_tables_of_angles (hRopeSecondIdeal := hRopeSecondIdeal) (hRopeSecondReferenceIdeal := hRopeSecondReferenceIdeal) (hPre_tables_of_angles := hPre_tables_of_angles)
    ∧ preserves_Index_IndexIdeal
    ∧ algebraic_IndexIdeal_IndexReferenceIdeal_pre_index_tables_of_angles (hIndexIdeal := hIndexIdeal) (hIndexReferenceIdeal := hIndexReferenceIdeal) (hPre_index_tables_of_angles := hPre_index_tables_of_angles)
-- ==== Pre_index_tables_of_angles.lean ====
abbrev S16384x4096 : Shape := ⟨2, ![16384, 4096]⟩
abbrev S1x4096x1152 : Shape := ⟨3, ![1, 4096, 1152]⟩
abbrev S128x4096 : Shape := ⟨2, ![128, 4096]⟩
abbrev S16384x128 : Shape := ⟨2, ![16384, 128]⟩
abbrev S16384x64 : Shape := ⟨2, ![16384, 64]⟩
abbrev S_ : Shape := ⟨0, ![]⟩
abbrev S16384x8 : Shape := ⟨2, ![16384, 8]⟩
abbrev S16384x48 : Shape := ⟨2, ![16384, 48]⟩

class Facts : Prop where
  slices_S16384x128_S16384x64_0_0 : S16384x128.Slices ![0, 0] S16384x64
  slices_S16384x128_S16384x64_0_64 : S16384x128.Slices ![0, 64] S16384x64
  reducesTo_S16384x64_S_d0_1 : S16384x64.ReducesTo [0, 1] S_
  h_S_ : 0 < S_.numel
  slices_S16384x128_S16384x8_0_0 : S16384x128.Slices ![0, 0] S16384x8
  slices_S16384x128_S16384x8_0_8 : S16384x128.Slices ![0, 8] S16384x8
  reducesTo_S16384x8_S_d0_1 : S16384x8.ReducesTo [0, 1] S_
  slices_S16384x128_S16384x48_0_16 : S16384x128.Slices ![0, 16] S16384x48
  bcast_S_S16384x48 : S_.BroadcastsInDim S16384x48 (![] : Fin 0 → Fin S16384x48.rank)
  reducesTo_S16384x48_S_d0_1 : S16384x48.ReducesTo [0, 1] S_

variable [Facts]

def fn_part1 {F : FTy → Type} [FloatOps F] (main_v7 : IVec S_ 1) (main_v16 : IVec S_ 1) (main_v19 : IVec S16384x48 1) (main_v20 : FVec F S16384x48 .f32) : IVec S_ 1 :=
  let main_cst_1 : FVec F S_ .f32 := constant S_ .f32 0x00000000#32
  let main_v21 : FVec F S16384x48 .f32 := broadcastInDim S16384x48 ![] bcast_S_S16384x48 main_cst_1
  let main_v22 : IVec S16384x48 1 := cmpf .oeq main_v20 main_v21
  let main_v23 : IVec S16384x48 1 := andi main_v19 main_v22
  let main_c_2 : IVec S_ 1 := constantI S_ 1 1#1
  let main_v24 : IVec S_ 1 := (fun x v => Host.reduce IntOp.andi x v reducesTo_S16384x48_S_d0_1 h_S_) main_v23 main_c_2
  let main_v25 : IVec S_ 1 := andi main_v7 main_v16
  let main_v26 : IVec S_ 1 := andi main_v25 main_v24
  main_v26

def fn {F : FTy → Type} [FloatOps F] (main_arg0 : FVec F S16384x4096 .bf16) (main_arg1 : FVec F S1x4096x1152 .bf16) (main_arg2 : FVec F S128x4096 .bf16) (main_arg3 : FVec F S16384x128 .f32) (main_arg4 : FVec F S16384x128 .f32) : IVec S_ 1 :=
  let main_v0 : FVec F S16384x64 .f32 := (extractStridedSlice S16384x64 ![0, 0] · slices_S16384x128_S16384x64_0_0) main_arg3
  let main_v1 : FVec F S16384x64 .f32 := (extractStridedSlice S16384x64 ![0, 64] · slices_S16384x128_S16384x64_0_64) main_arg3
  let main_v2 : IVec S16384x64 1 := cmpf .oeq main_v0 main_v1
  let main_v3 : FVec F S16384x64 .f32 := (extractStridedSlice S16384x64 ![0, 0] · slices_S16384x128_S16384x64_0_0) main_arg4
  let main_v4 : FVec F S16384x64 .f32 := (extractStridedSlice S16384x64 ![0, 64] · slices_S16384x128_S16384x64_0_64) main_arg4
  let main_v5 : IVec S16384x64 1 := cmpf .oeq main_v3 main_v4
  let main_v6 : IVec S16384x64 1 := andi main_v2 main_v5
  let main_c : IVec S_ 1 := constantI S_ 1 1#1
  let main_v7 : IVec S_ 1 := (fun x v => Host.reduce IntOp.andi x v reducesTo_S16384x64_S_d0_1 h_S_) main_v6 main_c
  let main_v8 : FVec F S16384x8 .f32 := (extractStridedSlice S16384x8 ![0, 0] · slices_S16384x128_S16384x8_0_0) main_arg3
  let main_v9 : FVec F S16384x8 .f32 := (extractStridedSlice S16384x8 ![0, 8] · slices_S16384x128_S16384x8_0_8) main_arg3
  let main_v10 : IVec S16384x8 1 := cmpf .oeq main_v8 main_v9
  let main_v11 : FVec F S16384x8 .f32 := (extractStridedSlice S16384x8 ![0, 0] · slices_S16384x128_S16384x8_0_0) main_arg4
  let main_v12 : FVec F S16384x8 .f32 := (extractStridedSlice S16384x8 ![0, 8] · slices_S16384x128_S16384x8_0_8) main_arg4
  let main_v13 : FVec F S16384x8 .f32 := Host.negf main_v12
  let main_v14 : IVec S16384x8 1 := cmpf .oeq main_v11 main_v13
  let main_v15 : IVec S16384x8 1 := andi main_v10 main_v14
  let main_c_0 : IVec S_ 1 := constantI S_ 1 1#1
  let main_v16 : IVec S_ 1 := (fun x v => Host.reduce IntOp.andi x v reducesTo_S16384x8_S_d0_1 h_S_) main_v15 main_c_0
  let main_v17 : FVec F S16384x48 .f32 := (extractStridedSlice S16384x48 ![0, 16] · slices_S16384x128_S16384x48_0_16) main_arg3
  let main_cst : FVec F S_ .f32 := constant S_ .f32 0x3F800000#32
  let main_v18 : FVec F S16384x48 .f32 := broadcastInDim S16384x48 ![] bcast_S_S16384x48 main_cst
  let main_v19 : IVec S16384x48 1 := cmpf .oeq main_v17 main_v18
  let main_v20 : FVec F S16384x48 .f32 := (extractStridedSlice S16384x48 ![0, 16] · slices_S16384x128_S16384x48_0_16) main_arg4
  fn_part1 (F := F) main_v7 main_v16 main_v19 main_v20
-- ==== Pre_logits_at_most_64.lean ====
abbrev S16384x5120 : Shape := ⟨2, ![16384, 5120]⟩
abbrev S16384x1024 : Shape := ⟨2, ![16384, 1024]⟩
abbrev S4x4096x8x128 : Shape := ⟨4, ![4, 4096, 8, 128]⟩
abbrev S4x8x4096x4096 : Shape := ⟨4, ![4, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩

class Facts : Prop where
  slices_S16384x5120_S16384x1024_0_0 : S16384x5120.Slices ![0, 0] S16384x1024
  bitsLt_bf16_f32 : FTy.bits .bf16 < FTy.bits .f32
  shapeCasts_S16384x1024_S4x4096x8x128 : S16384x1024.ShapeCasts S4x4096x8x128
  slices_S16384x5120_S16384x1024_0_1024 : S16384x5120.Slices ![0, 1024] S16384x1024
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S4096x4096_S4x8x4096x4096_2_3 : S4096x4096.BroadcastsInDim S4x8x4096x4096 (![2, 3] : Fin 2 → Fin S4x8x4096x4096.rank)
  bcast_S_S4x8x4096x4096 : S_.BroadcastsInDim S4x8x4096x4096 (![] : Fin 0 → Fin S4x8x4096x4096.rank)
  reducesTo_S4x8x4096x4096_S_d0_1_2_3 : S4x8x4096x4096.ReducesTo [0, 1, 2, 3] S_
  h_S_ : 0 < S_.numel
  dot_S4x4096x8x128_S4x4096x8x128_S4x8x4096x4096_3_3_1_1_02_02_wf : DotDims.WF S4x4096x8x128 S4x4096x8x128 S4x8x4096x4096 [3] [3] [1] [1] [0, 2] [0, 2]

variable [Facts]

def dot_S4x4096x8x128_S4x4096x8x128_S4x8x4096x4096_3_3_1_1_02_02 : DotDims S4x4096x8x128 S4x4096x8x128 S4x8x4096x4096 where
  lhsContracting := [3]
  rhsContracting := [3]
  lhsNonContracting := [1]
  rhsNonContracting := [1]
  lhsBatch := [0, 2]
  rhsBatch := [0, 2]
  wf := dot_S4x4096x8x128_S4x4096x8x128_S4x8x4096x4096_3_3_1_1_02_02_wf
def fn_where {F : FTy → Type} [FloatOps F] (arg0 : IVec S4096x4096 1) (arg1 : FVec F S4x8x4096x4096 .f32) (arg2 : FVec F S_ .f32) : FVec F S4x8x4096x4096 .f32 :=
  let v0 : FVec F S_ .f32 := id arg2
  let v1 : IVec S4x8x4096x4096 1 := broadcastInDim S4x8x4096x4096 ![2, 3] bcast_S4096x4096_S4x8x4096x4096_2_3 arg0
  let v2 : FVec F S4x8x4096x4096 .f32 := broadcastInDim S4x8x4096x4096 ![] bcast_S_S4x8x4096x4096 v0
  let v3 : FVec F S4x8x4096x4096 .f32 := select v1 arg1 v2
  v3

def fn {F : FTy → Type} [FloatOps F] (main_arg0 : FVec F S16384x5120 .bf16) : IVec S_ 1 :=
  let main_v0 : FVec F S16384x1024 .bf16 := (extractStridedSlice S16384x1024 ![0, 0] · slices_S16384x5120_S16384x1024_0_0) main_arg0
  let main_v1 : FVec F S16384x1024 .f32 := (extf .f32 · bitsLt_bf16_f32) main_v0
  let main_v2 : FVec F S4x4096x8x128 .f32 := shapeCast S4x4096x8x128 main_v1 shapeCasts_S16384x1024_S4x4096x8x128
  let main_v3 : FVec F S16384x1024 .bf16 := (extractStridedSlice S16384x1024 ![0, 1024] · slices_S16384x5120_S16384x1024_0_1024) main_arg0
  let main_v4 : FVec F S16384x1024 .f32 := (extf .f32 · bitsLt_bf16_f32) main_v3
  let main_v5 : FVec F S4x4096x8x128 .f32 := shapeCast S4x4096x8x128 main_v4 shapeCasts_S16384x1024_S4x4096x8x128
  let main_v6 : FVec F S4x8x4096x4096 .f32 := (fun l r => Host.dotGeneral dot_S4x4096x8x128_S4x4096x8x128_S4x8x4096x4096_3_3_1_1_02_02 none l r) main_v2 main_v5
  let main_v7 : IVec S4096 32 := iotaInDim S4096 32 0
  let main_v8 : IVec S1x4096 32 := broadcastInDim S1x4096 ![1] bcast_S4096_S1x4096_1 main_v7
  let main_v9 : IVec S4096x1 32 := broadcastInDim S4096x1 ![0] bcast_S4096_S4096x1_0 main_v7
  let main_v10 : IVec S4096x4096 32 := broadcastInDim S4096x4096 ![0, 1] bcast_S1x4096_S4096x4096_0_1 main_v8
  let main_v11 : IVec S4096x4096 32 := broadcastInDim S4096x4096 ![0, 1] bcast_S4096x1_S4096x4096_0_1 main_v9
  let main_v12 : IVec S4096x4096 1 := cmpi .slt main_v10 main_v11
  let main_cst : FVec F S_ .f32 := constant S_ .f32 0x00000000#32
  let main_v13 : FVec F S4x8x4096x4096 .f32 := fn_where (F := F) main_v12 main_v6 main_cst
  let main_cst_0 : FVec F S_ .f32 := constant S_ .f32 0x42800000#32
  let main_v14 : FVec F S4x8x4096x4096 .f32 := broadcastInDim S4x8x4096x4096 ![] bcast_S_S4x8x4096x4096 main_cst_0
  let main_v15 : IVec S4x8x4096x4096 1 := cmpf .ole main_v13 main_v14
  let main_c : IVec S_ 1 := constantI S_ 1 1#1
  let main_v16 : IVec S_ 1 := (fun x v => Host.reduce IntOp.andi x v reducesTo_S4x8x4096x4096_S_d0_1_2_3 h_S_) main_v15 main_c
  main_v16
-- ==== Pre_tables_of_angles.lean ====
abbrev S16384x4096 : Shape := ⟨2, ![16384, 4096]⟩
abbrev S2x4096x9216 : Shape := ⟨3, ![2, 4096, 9216]⟩
abbrev S1x2048 : Shape := ⟨2, ![1, 2048]⟩
abbrev S16384x128 : Shape := ⟨2, ![16384, 128]⟩
abbrev S16384x16 : Shape := ⟨2, ![16384, 16]⟩
abbrev S_ : Shape := ⟨0, ![]⟩
abbrev S16384x96 : Shape := ⟨2, ![16384, 96]⟩

class Facts : Prop where
  slices_S16384x128_S16384x16_0_0 : S16384x128.Slices ![0, 0] S16384x16
  slices_S16384x128_S16384x16_0_16 : S16384x128.Slices ![0, 16] S16384x16
  reducesTo_S16384x16_S_d0_1 : S16384x16.ReducesTo [0, 1] S_
  h_S_ : 0 < S_.numel
  slices_S16384x128_S16384x96_0_32 : S16384x128.Slices ![0, 32] S16384x96
  bcast_S_S16384x96 : S_.BroadcastsInDim S16384x96 (![] : Fin 0 → Fin S16384x96.rank)
  reducesTo_S16384x96_S_d0_1 : S16384x96.ReducesTo [0, 1] S_

variable [Facts]

def fn {F : FTy → Type} [FloatOps F] (main_arg0 : FVec F S16384x4096 .bf16) (main_arg1 : FVec F S2x4096x9216 .bf16) (main_arg2 : FVec F S1x2048 .f32) (main_arg3 : FVec F S16384x128 .f32) (main_arg4 : FVec F S16384x128 .f32) : IVec S_ 1 :=
  let main_v0 : FVec F S16384x16 .f32 := (extractStridedSlice S16384x16 ![0, 0] · slices_S16384x128_S16384x16_0_0) main_arg3
  let main_v1 : FVec F S16384x16 .f32 := (extractStridedSlice S16384x16 ![0, 16] · slices_S16384x128_S16384x16_0_16) main_arg3
  let main_v2 : IVec S16384x16 1 := cmpf .oeq main_v0 main_v1
  let main_v3 : FVec F S16384x16 .f32 := (extractStridedSlice S16384x16 ![0, 0] · slices_S16384x128_S16384x16_0_0) main_arg4
  let main_v4 : FVec F S16384x16 .f32 := (extractStridedSlice S16384x16 ![0, 16] · slices_S16384x128_S16384x16_0_16) main_arg4
  let main_v5 : FVec F S16384x16 .f32 := Host.negf main_v4
  let main_v6 : IVec S16384x16 1 := cmpf .oeq main_v3 main_v5
  let main_v7 : IVec S16384x16 1 := andi main_v2 main_v6
  let main_c : IVec S_ 1 := constantI S_ 1 1#1
  let main_v8 : IVec S_ 1 := (fun x v => Host.reduce IntOp.andi x v reducesTo_S16384x16_S_d0_1 h_S_) main_v7 main_c
  let main_v9 : FVec F S16384x96 .f32 := (extractStridedSlice S16384x96 ![0, 32] · slices_S16384x128_S16384x96_0_32) main_arg3
  let main_cst : FVec F S_ .f32 := constant S_ .f32 0x3F800000#32
  let main_v10 : FVec F S16384x96 .f32 := broadcastInDim S16384x96 ![] bcast_S_S16384x96 main_cst
  let main_v11 : IVec S16384x96 1 := cmpf .oeq main_v9 main_v10
  let main_v12 : FVec F S16384x96 .f32 := (extractStridedSlice S16384x96 ![0, 32] · slices_S16384x128_S16384x96_0_32) main_arg4
  let main_cst_0 : FVec F S_ .f32 := constant S_ .f32 0x00000000#32
  let main_v13 : FVec F S16384x96 .f32 := broadcastInDim S16384x96 ![] bcast_S_S16384x96 main_cst_0
  let main_v14 : IVec S16384x96 1 := cmpf .oeq main_v12 main_v13
  let main_v15 : IVec S16384x96 1 := andi main_v11 main_v14
  let main_c_1 : IVec S_ 1 := constantI S_ 1 1#1
  let main_v16 : IVec S_ 1 := (fun x v => Host.reduce IntOp.andi x v reducesTo_S16384x96_S_d0_1 h_S_) main_v15 main_c_1
  let main_v17 : IVec S_ 1 := andi main_v8 main_v16
  main_v17
-- ==== Kernel.lean ====
abbrev S16384x5120 : Shape := ⟨2, ![16384, 5120]⟩
abbrev S16384x1024 : Shape := ⟨2, ![16384, 1024]⟩
abbrev S256x1024 : Shape := ⟨2, ![256, 1024]⟩
abbrev S4096x1024 : Shape := ⟨2, ![4096, 1024]⟩
abbrev S8x256x128 : Shape := ⟨3, ![8, 256, 128]⟩
abbrev S256x256 : Shape := ⟨2, ![256, 256]⟩
abbrev S256x128 : Shape := ⟨2, ![256, 128]⟩
abbrev S1x256x128 : Shape := ⟨3, ![1, 256, 128]⟩
abbrev S256x1 : Shape := ⟨2, ![256, 1]⟩

abbrev nBuf : Space → Nat
  | .hbm => 2
  | .vmem => 10
  | .smem => 0
  | _ => 0

abbrev bufTy : (tb : Table) → Fin (tcTables nBuf tb) → BufTy
  | .hbm, ⟨0, _⟩ => ⟨S16384x5120, .bf16⟩
  | .hbm, ⟨1, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S256x1024, .bf16⟩
  | .local _ .vmem, ⟨7, _⟩ => ⟨S256x1024, .bf16⟩
  | .local _ .vmem, ⟨8, _⟩ => ⟨S8x256x128, .f32⟩
  | .local _ .vmem, ⟨9, _⟩ => ⟨S8x256x128, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 16], ![false, false, false]⟩

def k0_mult1 (i : grid0.Coords) : BitVec 32 :=
  let arg2 : BitVec 32 := BitVec.ofNat 32 (i 2).val
  let c256_i32 : BitVec 32 := 256#32
  let v16 : BitVec 32 := Scalar.muli arg2 c256_i32
  v16
def k0_off1 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v19 : Index := Scalar.indexCast v17
  let c0_10 : Index := 0#32
  ![v19.toNat, 0]
def k0_off2 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v34 : Index := Scalar.indexCast v17
  let c128_17 : Index := 128#32
  ![v34.toNat, 128]
def k0_off3 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v71 : Index := Scalar.indexCast v17
  let c256_35 : Index := 256#32
  ![v71.toNat, 256]
def k0_off4 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v117 : Index := Scalar.indexCast v17
  let c384_60 : Index := 384#32
  ![v117.toNat, 384]
def k0_off5 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v163 : Index := Scalar.indexCast v17
  let c512_85 : Index := 512#32
  ![v163.toNat, 512]
def k0_off6 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v209 : Index := Scalar.indexCast v17
  let c640_110 : Index := 640#32
  ![v209.toNat, 640]
def k0_off7 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v255 : Index := Scalar.indexCast v17
  let c768_135 : Index := 768#32
  ![v255.toNat, 768]
def k0_off8 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v301 : Index := Scalar.indexCast v17
  let c896_160 : Index := 896#32
  ![v301.toNat, 896]
@[reducible] def k0_t1_loop (i : grid0.Coords) : Scf.Loop 32 :=
  let c0_i32_210 : BitVec 32 := 0#32
  let arg2 : BitVec 32 := BitVec.ofNat 32 (i 2).val
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_211 : BitVec 32 := 1#32
  ⟨c0_i32_210, v390, c1_i32_211⟩
def k0_mult2 (i : grid0.Coords) (k0_t1 : Fin (k0_t1_loop i).trips) : BitVec 32 :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  v425
def k0_off9 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v428 : Index := Scalar.indexCast v426
  let c0_257 : Index := 0#32
  ![v428.toNat, 0]
def k0_off10 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v441 : Index := Scalar.indexCast v426
  let c128_264 : Index := 128#32
  ![v441.toNat, 128]
def k0_off11 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v474 : Index := Scalar.indexCast v426
  let c256_281 : Index := 256#32
  ![v474.toNat, 256]
def k0_off12 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v516 : Index := Scalar.indexCast v426
  let c384_306 : Index := 384#32
  ![v516.toNat, 384]
def k0_off13 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v558 : Index := Scalar.indexCast v426
  let c512_331 : Index := 512#32
  ![v558.toNat, 512]
def k0_off14 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v600 : Index := Scalar.indexCast v426
  let c640_356 : Index := 640#32
  ![v600.toNat, 640]
def k0_off15 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v642 : Index := Scalar.indexCast v426
  let c768_381 : Index := 768#32
  ![v642.toNat, 768]
def k0_off16 (i : grid0.Coords) (k0_t1 : Fin (k0_t1_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let c1_i32_211 : BitVec 32 := 1#32
  let arg9 : BitVec 32 := Scf.iv c0_i32_210 c1_i32_211 k0_t1
  let v424 : BitVec 32 := Scalar.subi v423 arg9
  let c256_i32_254 : BitVec 32 := 256#32
  let v425 : BitVec 32 := Scalar.muli v424 c256_i32_254
  let v426 : BitVec 32 := v425
  let v684 : Index := Scalar.indexCast v426
  let c896_406 : Index := 896#32
  ![v684.toNat, 896]
@[reducible] def k0_t2_loop (i : grid0.Coords) : Scf.Loop 32 :=
  let c0_i32_210 : BitVec 32 := 0#32
  let arg2 : BitVec 32 := BitVec.ofNat 32 (i 2).val
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let v387 : BitVec 32 := Scalar.addi c0_i32_210 v386
  let c1_i32_212 : BitVec 32 := 1#32
  ⟨v390, v387, c1_i32_212⟩
def k0_mult3 (i : grid0.Coords) (k0_t2 : Fin (k0_t2_loop i).trips) : BitVec 32 :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  v425
def k0_off17 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v428 : Index := Scalar.indexCast v426
  let c0_257 : Index := 0#32
  ![v428.toNat, 0]
def k0_off18 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v441 : Index := Scalar.indexCast v426
  let c128_264 : Index := 128#32
  ![v441.toNat, 128]
def k0_off19 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v474 : Index := Scalar.indexCast v426
  let c256_281 : Index := 256#32
  ![v474.toNat, 256]
def k0_off20 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v516 : Index := Scalar.indexCast v426
  let c384_306 : Index := 384#32
  ![v516.toNat, 384]
def k0_off21 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v558 : Index := Scalar.indexCast v426
  let c512_331 : Index := 512#32
  ![v558.toNat, 512]
def k0_off22 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v600 : Index := Scalar.indexCast v426
  let c640_356 : Index := 640#32
  ![v600.toNat, 640]
def k0_off23 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v642 : Index := Scalar.indexCast v426
  let c768_381 : Index := 768#32
  ![v642.toNat, 768]
def k0_off24 (i : grid0.Coords) (k0_t2 : Fin (k0_t2_loop i).trips) : Fin 2 → Nat :=
  let arg2 : BitVec 32 := BitVec.ofNat 32 (i 2).val
  let c1_i32_253 : BitVec 32 := 1#32
  let v423 : BitVec 32 := Scalar.subi arg2 c1_i32_253
  let c0_i32_210 : BitVec 32 := 0#32
  let v386 : BitVec 32 := Scalar.subi arg2 c0_i32_210
  let c1_i32 : BitVec 32 := 1#32
  let v388 : BitVec 32 := Scalar.divsi v386 c1_i32
  let v389 : BitVec 32 := Scalar.muli v388 c1_i32
  let v390 : BitVec 32 := Scalar.addi c0_i32_210 v389
  let c1_i32_212 : BitVec 32 := 1#32
  let arg9 : BitVec 32 := Scf.iv v390 c1_i32_212 k0_t2
  let v424 : BitVec 32 := Scalar.subi v423 arg9
  let c256_i32_254 : BitVec 32 := 256#32
  let v425 : BitVec 32 := Scalar.muli v424 c256_i32_254
  let v426 : BitVec 32 := v425
  let v684 : Index := Scalar.indexCast v426
  let c896_406 : Index := 896#32
  ![v684.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x5120 : Shape := ⟨2, ![16384, 5120]⟩
abbrev S16384x1024 : Shape := ⟨2, ![16384, 1024]⟩
abbrev S4x4096x8x128 : Shape := ⟨4, ![4, 4096, 8, 128]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x128x4096 : Shape := ⟨4, ![4, 8, 128, 4096]⟩

abbrev nBuf : Space → Nat
  | .hbm => 78
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S16384x1024, .bf16⟩
  | .hbm, ⟨2, _⟩ => ⟨S16384x1024, .f32⟩
  | .hbm, ⟨3, _⟩ => ⟨S4x4096x8x128, .f32⟩
  | .hbm, ⟨4, _⟩ => ⟨S16384x1024, .bf16⟩
  | .hbm, ⟨5, _⟩ => ⟨S16384x1024, .f32⟩
  | .hbm, ⟨6, _⟩ => ⟨S4x4096x8x128, .f32⟩
  | .hbm, ⟨7, _⟩ => ⟨S16384x1024, .bf16⟩
  | .hbm, ⟨8, _⟩ => ⟨S16384x1024, .f32⟩
  | .hbm, ⟨9, _⟩ => ⟨S4x4096x8x128, .f32⟩
  | .hbm, ⟨10, _⟩ => ⟨S4096, .i32⟩
  | .hbm, ⟨11, _⟩ => ⟨S4x8x4096x4096, .f32⟩
  | .hbm, ⟨12, _⟩ => ⟨S4x8x4096x4096, .bf16⟩
  | .hbm, ⟨13, _⟩ => ⟨S4x8x4096x4096, .f32⟩
  | .hbm, ⟨14, _⟩ => ⟨S_, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4x8x4096x4096, .f32⟩
  | .hbm, ⟨24, _⟩ => ⟨S4x8x4096x4096, .f32⟩
  | .hbm, ⟨25, _⟩ => ⟨S_, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .i1⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S_, .f32⟩
  | .hbm, ⟨42, _⟩ => ⟨S4x8x4096x4096, .i1⟩
  | .hbm, ⟨43, _⟩ => ⟨S4x8x4096x4096, .f32⟩
  | .hbm, ⟨44, _⟩ => ⟨S4x8x4096x4096, .f32⟩
  | .hbm, ⟨45, _⟩ => ⟨S_, .f32⟩
  | .hbm, ⟨46, _⟩ => ⟨S_, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S_, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .i1⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S_, .f32⟩
  | .hbm, ⟨68, _⟩ => ⟨S_, .f32⟩
  | .hbm, ⟨69, _⟩ => ⟨S4x8x4096x4096, .i1⟩
  | .hbm, ⟨70, _⟩ => ⟨S4x8x4096x4096, .f32⟩
  | .hbm, ⟨71, _⟩ => ⟨S4x8x4096x4096, .f32⟩
  | .hbm, ⟨72, _⟩ => ⟨S4x8x4096x4096, .bf16⟩
  | .hbm, ⟨73, _⟩ => ⟨S4x8x4096x4096, .f32⟩
  | .hbm, ⟨74, _⟩ => ⟨S4x8x128x4096, .f32⟩
  | .hbm, ⟨75, _⟩ => ⟨S4x4096x8x128, .f32⟩
  | .hbm, ⟨76, _⟩ => ⟨S16384x1024, .f32⟩
  | .hbm, ⟨77, _⟩ => ⟨S16384x1024, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩

abbrev nD : Nat := 1
abbrev τ : Topo := Topo.v7x

variable {F : FTy → Type} [FloatOps F]
-- ==== FfnUp.lean ====
abbrev S16384x4096 : Shape := ⟨2, ![16384, 4096]⟩
abbrev S2x4096x28672 : Shape := ⟨3, ![2, 4096, 28672]⟩
abbrev S3x28672 : Shape := ⟨2, ![3, 28672]⟩
abbrev S16384x14336 : Shape := ⟨2, ![16384, 14336]⟩
abbrev S1024x4096 : Shape := ⟨2, ![1024, 4096]⟩
abbrev S1x4096x512 : Shape := ⟨3, ![1, 4096, 512]⟩
abbrev S3x512 : Shape := ⟨2, ![3, 512]⟩
abbrev S1024x512 : Shape := ⟨2, ![1024, 512]⟩
abbrev S1032x512 : Shape := ⟨2, ![1032, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 4
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S2x4096x28672, .bf16⟩
  | .hbm, ⟨2, _⟩ => ⟨S3x28672, .f32⟩
  | .hbm, ⟨3, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S1032x512, .f32⟩
  | .local _ .vmem, ⟨13, _⟩ => ⟨S1032x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![28, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi arg0 c28_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S16384x4096 : Shape := ⟨2, ![16384, 4096]⟩
abbrev S2x4096x28672 : Shape := ⟨3, ![2, 4096, 28672]⟩
abbrev S3x28672 : Shape := ⟨2, ![3, 28672]⟩
abbrev S1x4096x28672 : Shape := ⟨3, ![1, 4096, 28672]⟩
abbrev S4096x28672 : Shape := ⟨2, ![4096, 28672]⟩
abbrev S16384x28672 : Shape := ⟨2, ![16384, 28672]⟩
abbrev S4x4096x28672 : Shape := ⟨3, ![4, 4096, 28672]⟩
abbrev S_ : Shape := ⟨0, ![]⟩
abbrev S4x4098x28672 : Shape := ⟨3, ![4, 4098, 28672]⟩
abbrev S1x28672 : Shape := ⟨2, ![1, 28672]⟩
abbrev S28672 : Shape := ⟨1, ![28672]⟩
abbrev S1x1x28672 : Shape := ⟨3, ![1, 1, 28672]⟩
abbrev S4x4096x14336 : Shape := ⟨3, ![4, 4096, 14336]⟩
abbrev S16384x14336 : Shape := ⟨2, ![16384, 14336]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x28672, .bf16⟩
  | .hbm, ⟨2, _⟩ => ⟨S3x28672, .f32⟩
  | .hbm, ⟨3, _⟩ => ⟨S16384x4096, .f32⟩
  | .hbm, ⟨4, _⟩ => ⟨S1x4096x28672, .bf16⟩
  | .hbm, ⟨5, _⟩ => ⟨S4096x28672, .bf16⟩
  | .hbm, ⟨6, _⟩ => ⟨S4096x28672, .f32⟩
  | .hbm, ⟨7, _⟩ => ⟨S16384x28672, .f32⟩
  | .hbm, ⟨8, _⟩ => ⟨S4x4096x28672, .f32⟩
  | .hbm, ⟨9, _⟩ => ⟨S_, .i32⟩
  | .hbm, ⟨10, _⟩ => ⟨S_, .f32⟩
  | .hbm, ⟨11, _⟩ => ⟨S4x4098x28672, .f32⟩
  | .hbm, ⟨12, _⟩ => ⟨S4x4096x28672, .f32⟩
  | .hbm, ⟨13, _⟩ => ⟨S1x28672, .f32⟩
  | .hbm, ⟨14, _⟩ => ⟨S28672, .f32⟩
  | .hbm, ⟨15, _⟩ => ⟨S1x1x28672, .f32⟩
  | .hbm, ⟨16, _⟩ => ⟨S4x4096x28672, .f32⟩
  | .hbm, ⟨17, _⟩ => ⟨S4x4096x28672, .f32⟩
  | .hbm, ⟨18, _⟩ => ⟨S4x4096x28672, .f32⟩
  | .hbm, ⟨19, _⟩ => ⟨S1x28672, .f32⟩
  | .hbm, ⟨20, _⟩ => ⟨S28672, .f32⟩
  | .hbm, ⟨21, _⟩ => ⟨S1x1x28672, .f32⟩
  | .hbm, ⟨22, _⟩ => ⟨S4x4096x28672, .f32⟩
  | .hbm, ⟨23, _⟩ => ⟨S4x4096x28672, .f32⟩
  | .hbm, ⟨24, _⟩ => ⟨S4x4096x28672, .f32⟩
  | .hbm, ⟨25, _⟩ => ⟨S4x4096x28672, .f32⟩
  | .hbm, ⟨26, _⟩ => ⟨S1x28672, .f32⟩
  | .hbm, ⟨27, _⟩ => ⟨S28672, .f32⟩
  | .hbm, ⟨28, _⟩ => ⟨S1x1x28672, .f32⟩
  | .hbm, ⟨29, _⟩ => ⟨S4x4096x28672, .f32⟩
  | .hbm, ⟨30, _⟩ => ⟨S4x4096x28672, .f32⟩
  | .hbm, ⟨31, _⟩ => ⟨S4x4096x28672, .f32⟩
  | .hbm, ⟨32, _⟩ => ⟨S4x4096x14336, .f32⟩
  | .hbm, ⟨33, _⟩ => ⟨S4x4096x14336, .f32⟩
  | .hbm, ⟨34, _⟩ => ⟨S4x4096x14336, .f32⟩
  | .hbm, ⟨35, _⟩ => ⟨S4x4096x14336, .f32⟩
  | .hbm, ⟨36, _⟩ => ⟨S_, .f32⟩
  | .hbm, ⟨37, _⟩ => ⟨S4x4096x14336, .f32⟩
  | .hbm, ⟨38, _⟩ => ⟨S4x4096x14336, .f32⟩
  | .hbm, ⟨39, _⟩ => ⟨S_, .f32⟩
  | .hbm, ⟨40, _⟩ => ⟨S4x4096x14336, .f32⟩
  | .hbm, ⟨41, _⟩ => ⟨S4x4096x14336, .f32⟩
  | .hbm, ⟨42, _⟩ => ⟨S4x4096x14336, .f32⟩
  | .hbm, ⟨43, _⟩ => ⟨S4x4096x14336, .f32⟩
  | .hbm, ⟨44, _⟩ => ⟨S16384x14336, .f32⟩
  | .hbm, ⟨45, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Down.lean ====
abbrev S16384x14336 : Shape := ⟨2, ![16384, 14336]⟩
abbrev S2x14336x4096 : Shape := ⟨3, ![2, 14336, 4096]⟩
abbrev S16384x4096 : Shape := ⟨2, ![16384, 4096]⟩
abbrev S1024x3584 : Shape := ⟨2, ![1024, 3584]⟩
abbrev S1x3584x1024 : Shape := ⟨3, ![1, 3584, 1024]⟩
abbrev S1024x1024 : Shape := ⟨2, ![1024, 1024]⟩
abbrev S3584x1024 : Shape := ⟨2, ![3584, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x14336, .bf16⟩
  | .hbm, ⟨1, _⟩ => ⟨S2x14336x4096, .bf16⟩
  | .hbm, ⟨2, _⟩ => ⟨S16384x4096, .bf16⟩
  | .local _ .vmem, ⟨0, _⟩ => ⟨S1024x3584, .bf16⟩
  | .local _ .vmem, ⟨1, _⟩ => ⟨S1024x3584, .bf16⟩
  | .local _ .vmem, ⟨2, _⟩ => ⟨S1x3584x1024, .bf16⟩
  | .local _ .vmem, ⟨3, _⟩ => ⟨S1x3584x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S16384x14336 : Shape := ⟨2, ![16384, 14336]⟩
abbrev S2x14336x4096 : Shape := ⟨3, ![2, 14336, 4096]⟩
abbrev S1x14336x4096 : Shape := ⟨3, ![1, 14336, 4096]⟩
abbrev S14336x4096 : Shape := ⟨2, ![14336, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x14336, .bf16⟩
  | .hbm, ⟨1, _⟩ => ⟨S2x14336x4096, .bf16⟩
  | .hbm, ⟨2, _⟩ => ⟨S16384x14336, .f32⟩
  | .hbm, ⟨3, _⟩ => ⟨S1x14336x4096, .bf16⟩
  | .hbm, ⟨4, _⟩ => ⟨S14336x4096, .bf16⟩
  | .hbm, ⟨5, _⟩ => ⟨S14336x4096, .f32⟩
  | .hbm, ⟨6, _⟩ => ⟨S16384x4096, .f32⟩
  | .hbm, ⟨7, _⟩ => ⟨S16384x4096, .bf16⟩
  | _, _ => ⟨S16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gates.lean ====
abbrev S16384x4096 : Shape := ⟨2, ![16384, 4096]⟩
abbrev S2x4096x12288 : Shape := ⟨3, ![2, 4096, 12288]⟩
abbrev S16384x12288 : Shape := ⟨2, ![16384, 12288]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x12288, .bf16⟩
  | .hbm, ⟨2, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S16384x4096 : Shape := ⟨2, ![16384, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S16384x12288 : Shape := ⟨2, ![16384, 12288]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x12288, .bf16⟩
  | .hbm, ⟨2, _⟩ => ⟨S16384x4096, .f32⟩
  | .hbm, ⟨3, _⟩ => ⟨S1x4096x12288, .bf16⟩
  | .hbm, ⟨4, _⟩ => ⟨S4096x12288, .bf16⟩
  | .hbm, ⟨5, _⟩ => ⟨S4096x12288, .f32⟩
  | .hbm, ⟨6, _⟩ => ⟨S16384x12288, .f32⟩
  | .hbm, ⟨7, _⟩ => ⟨S16384x12288, .f32⟩
  | .hbm, ⟨8, _⟩ => ⟨S16384x12288, .f32⟩
  | .hbm, ⟨9, _⟩ => ⟨S_, .f32⟩
  | .hbm, ⟨10, _⟩ => ⟨S16384x12288, .f32⟩
  | .hbm, ⟨11, _⟩ => ⟨S16384x12288, .f32⟩
  | .hbm, ⟨12, _⟩ => ⟨S_, .f32⟩
  | .hbm, ⟨13, _⟩ => ⟨S16384x12288, .f32⟩
  | .hbm, ⟨14, _⟩ => ⟨S16384x12288, .f32⟩
  | .hbm, ⟨15, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Plain.lean ====
abbrev S16384x4096 : Shape := ⟨2, ![16384, 4096]⟩
abbrev S2x4096x9216 : Shape := ⟨3, ![2, 4096, 9216]⟩
abbrev S1x5120 : Shape := ⟨2, ![1, 5120]⟩
abbrev S16384x5120 : Shape := ⟨2, ![16384, 5120]⟩
abbrev S1024x4096 : Shape := ⟨2, ![1024, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x5120, .f32⟩
  | .hbm, ⟨3, _⟩ => ⟨S16384x5120, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PlainReferenceIdeal.lean ====
abbrev S16384x4096 : Shape := ⟨2, ![16384, 4096]⟩
abbrev S2x4096x9216 : Shape := ⟨3, ![2, 4096, 9216]⟩
abbrev S1x5120 : Shape := ⟨2, ![1, 5120]⟩
abbrev S1x4096x5120 : Shape := ⟨3, ![1, 4096, 5120]⟩
abbrev S4096x5120 : Shape := ⟨2, ![4096, 5120]⟩
abbrev S16384x5120 : Shape := ⟨2, ![16384, 5120]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x5120, .f32⟩
  | .hbm, ⟨3, _⟩ => ⟨S16384x4096, .f32⟩
  | .hbm, ⟨4, _⟩ => ⟨S1x4096x5120, .bf16⟩
  | .hbm, ⟨5, _⟩ => ⟨S4096x5120, .bf16⟩
  | .hbm, ⟨6, _⟩ => ⟨S4096x5120, .f32⟩
  | .hbm, ⟨7, _⟩ => ⟨S16384x5120, .f32⟩
  | .hbm, ⟨8, _⟩ => ⟨S16384x5120, .f32⟩
  | .hbm, ⟨9, _⟩ => ⟨S16384x5120, .f32⟩
  | .hbm, ⟨10, _⟩ => ⟨S16384x5120, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutProj.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjReferenceIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S16384x4096, .f32⟩
  | .hbm, ⟨7, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge.lean ====
abbrev S16384x1024 : Shape := ⟨2, ![16384, 1024]⟩
abbrev S2x3x1024x4096 : Shape := ⟨4, ![2, 3, 1024, 4096]⟩
abbrev S16384x12288 : Shape := ⟨2, ![16384, 12288]⟩
abbrev S16384x4096 : Shape := ⟨2, ![16384, 4096]⟩
abbrev S1024x1024 : Shape := ⟨2, ![1024, 1024]⟩
abbrev S1x3x1024x1024 : Shape := ⟨4, ![1, 3, 1024, 1024]⟩
abbrev S1x1x1024x1024 : Shape := ⟨4, ![1, 1, 1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x3x1024x4096, .bf16⟩
  | .hbm, ⟨4, _⟩ => ⟨S16384x12288, .bf16⟩
  | .hbm, ⟨5, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x3x1024x1024, .bf16⟩
  | .local _ .vmem, ⟨7, _⟩ => ⟨S1x3x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S16384x1024 : Shape := ⟨2, ![16384, 1024]⟩
abbrev S2x3x1024x4096 : Shape := ⟨4, ![2, 3, 1024, 4096]⟩
abbrev S16384x12288 : Shape := ⟨2, ![16384, 12288]⟩
abbrev S1x3x1024x4096 : Shape := ⟨4, ![1, 3, 1024, 4096]⟩
abbrev S3x1024x4096 : Shape := ⟨3, ![3, 1024, 4096]⟩
abbrev S16384x3x4096 : Shape := ⟨3, ![16384, 3, 4096]⟩
abbrev S16384x1x4096 : Shape := ⟨3, ![16384, 1, 4096]⟩
abbrev S16384x4096 : Shape := ⟨2, ![16384, 4096]⟩
abbrev S1x1024x4096 : Shape := ⟨3, ![1, 1024, 4096]⟩
abbrev S1024x4096 : Shape := ⟨2, ![1024, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x3x1024x4096, .bf16⟩
  | .hbm, ⟨4, _⟩ => ⟨S16384x12288, .bf16⟩
  | .hbm, ⟨5, _⟩ => ⟨S1x3x1024x4096, .bf16⟩
  | .hbm, ⟨6, _⟩ => ⟨S3x1024x4096, .bf16⟩
  | .hbm, ⟨7, _⟩ => ⟨S3x1024x4096, .f32⟩
  | .hbm, ⟨8, _⟩ => ⟨S16384x12288, .f32⟩
  | .hbm, ⟨9, _⟩ => ⟨S16384x3x4096, .f32⟩
  | .hbm, ⟨10, _⟩ => ⟨S16384x1x4096, .f32⟩
  | .hbm, ⟨11, _⟩ => ⟨S16384x4096, .f32⟩
  | .hbm, ⟨12, _⟩ => ⟨S16384x1024, .f32⟩
  | .hbm, ⟨13, _⟩ => ⟨S1x1024x4096, .f32⟩
  | .hbm, ⟨14, _⟩ => ⟨S1024x4096, .f32⟩
  | .hbm, ⟨15, _⟩ => ⟨S16384x4096, .f32⟩
  | .hbm, ⟨16, _⟩ => ⟨S16384x4096, .f32⟩
  | .hbm, ⟨17, _⟩ => ⟨S16384x1x4096, .f32⟩
  | .hbm, ⟨18, _⟩ => ⟨S16384x4096, .f32⟩
  | .hbm, ⟨19, _⟩ => ⟨S16384x1024, .f32⟩
  | .hbm, ⟨20, _⟩ => ⟨S1x1024x4096, .f32⟩
  | .hbm, ⟨21, _⟩ => ⟨S1024x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1x4096, .f32⟩
  | .hbm, ⟨26, _⟩ => ⟨S16384x4096, .f32⟩
  | .hbm, ⟨27, _⟩ => ⟨S16384x1024, .f32⟩
  | .hbm, ⟨28, _⟩ => ⟨S1x1024x4096, .f32⟩
  | .hbm, ⟨29, _⟩ => ⟨S1024x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Vt.lean ====
abbrev S16384x4096 : Shape := ⟨2, ![16384, 4096]⟩
abbrev S1024x4096 : Shape := ⟨2, ![1024, 4096]⟩
abbrev S1024x16384 : Shape := ⟨2, ![1024, 16384]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S1024x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .bf16⟩
  | .local _ .vmem, ⟨4, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== VtReferenceIdeal.lean ====
abbrev S16384x4096 : Shape := ⟨2, ![16384, 4096]⟩
abbrev S1024x4096 : Shape := ⟨2, ![1024, 4096]⟩
abbrev S4096x1024 : Shape := ⟨2, ![4096, 1024]⟩
abbrev S16384x1024 : Shape := ⟨2, ![16384, 1024]⟩
abbrev S1024x16384 : Shape := ⟨2, ![1024, 16384]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x4096, .f32⟩
  | .hbm, ⟨3, _⟩ => ⟨S1024x4096, .f32⟩
  | .hbm, ⟨4, _⟩ => ⟨S4096x1024, .f32⟩
  | .hbm, ⟨5, _⟩ => ⟨S16384x1024, .f32⟩
  | .hbm, ⟨6, _⟩ => ⟨S1024x16384, .f32⟩
  | .hbm, ⟨7, _⟩ => ⟨S1024x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnUpSecond.lean ====
abbrev S16384x4096 : Shape := ⟨2, ![16384, 4096]⟩
abbrev S2x4096x28672 : Shape := ⟨3, ![2, 4096, 28672]⟩
abbrev S3x28672 : Shape := ⟨2, ![3, 28672]⟩
abbrev S16384x14336 : Shape := ⟨2, ![16384, 14336]⟩
abbrev S1024x4096 : Shape := ⟨2, ![1024, 4096]⟩
abbrev S1x4096x512 : Shape := ⟨3, ![1, 4096, 512]⟩
abbrev S3x512 : Shape := ⟨2, ![3, 512]⟩
abbrev S1024x512 : Shape := ⟨2, ![1024, 512]⟩
abbrev S1032x512 : Shape := ⟨2, ![1032, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 4
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S2x4096x28672, .bf16⟩
  | .hbm, ⟨2, _⟩ => ⟨S3x28672, .f32⟩
  | .hbm, ⟨3, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S1032x512, .f32⟩
  | .local _ .vmem, ⟨13, _⟩ => ⟨S1032x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![28, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi arg0 c28_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpSecondReferenceIdeal.lean ====
abbrev S16384x4096 : Shape := ⟨2, ![16384, 4096]⟩
abbrev S2x4096x28672 : Shape := ⟨3, ![2, 4096, 28672]⟩
abbrev S3x28672 : Shape := ⟨2, ![3, 28672]⟩
abbrev S1x4096x28672 : Shape := ⟨3, ![1, 4096, 28672]⟩
abbrev S4096x28672 : Shape := ⟨2, ![4096, 28672]⟩
abbrev S16384x28672 : Shape := ⟨2, ![16384, 28672]⟩
abbrev S4x4096x28672 : Shape := ⟨3, ![4, 4096, 28672]⟩
abbrev S_ : Shape := ⟨0, ![]⟩
abbrev S4x4098x28672 : Shape := ⟨3, ![4, 4098, 28672]⟩
abbrev S1x28672 : Shape := ⟨2, ![1, 28672]⟩
abbrev S28672 : Shape := ⟨1, ![28672]⟩
abbrev S1x1x28672 : Shape := ⟨3, ![1, 1, 28672]⟩
abbrev S4x4096x14336 : Shape := ⟨3, ![4, 4096, 14336]⟩
abbrev S16384x14336 : Shape := ⟨2, ![16384, 14336]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x28672, .bf16⟩
  | .hbm, ⟨2, _⟩ => ⟨S3x28672, .f32⟩
  | .hbm, ⟨3, _⟩ => ⟨S16384x4096, .f32⟩
  | .hbm, ⟨4, _⟩ => ⟨S1x4096x28672, .bf16⟩
  | .hbm, ⟨5, _⟩ => ⟨S4096x28672, .bf16⟩
  | .hbm, ⟨6, _⟩ => ⟨S4096x28672, .f32⟩
  | .hbm, ⟨7, _⟩ => ⟨S16384x28672, .f32⟩
  | .hbm, ⟨8, _⟩ => ⟨S4x4096x28672, .f32⟩
  | .hbm, ⟨9, _⟩ => ⟨S_, .i32⟩
  | .hbm, ⟨10, _⟩ => ⟨S_, .f32⟩
  | .hbm, ⟨11, _⟩ => ⟨S4x4098x28672, .f32⟩
  | .hbm, ⟨12, _⟩ => ⟨S4x4096x28672, .f32⟩
  | .hbm, ⟨13, _⟩ => ⟨S1x28672, .f32⟩
  | .hbm, ⟨14, _⟩ => ⟨S28672, .f32⟩
  | .hbm, ⟨15, _⟩ => ⟨S1x1x28672, .f32⟩
  | .hbm, ⟨16, _⟩ => ⟨S4x4096x28672, .f32⟩
  | .hbm, ⟨17, _⟩ => ⟨S4x4096x28672, .f32⟩
  | .hbm, ⟨18, _⟩ => ⟨S4x4096x28672, .f32⟩
  | .hbm, ⟨19, _⟩ => ⟨S1x28672, .f32⟩
  | .hbm, ⟨20, _⟩ => ⟨S28672, .f32⟩
  | .hbm, ⟨21, _⟩ => ⟨S1x1x28672, .f32⟩
  | .hbm, ⟨22, _⟩ => ⟨S4x4096x28672, .f32⟩
  | .hbm, ⟨23, _⟩ => ⟨S4x4096x28672, .f32⟩
  | .hbm, ⟨24, _⟩ => ⟨S4x4096x28672, .f32⟩
  | .hbm, ⟨25, _⟩ => ⟨S4x4096x28672, .f32⟩
  | .hbm, ⟨26, _⟩ => ⟨S1x28672, .f32⟩
  | .hbm, ⟨27, _⟩ => ⟨S28672, .f32⟩
  | .hbm, ⟨28, _⟩ => ⟨S1x1x28672, .f32⟩
  | .hbm, ⟨29, _⟩ => ⟨S4x4096x28672, .f32⟩
  | .hbm, ⟨30, _⟩ => ⟨S4x4096x28672, .f32⟩
  | .hbm, ⟨31, _⟩ => ⟨S4x4096x28672, .f32⟩
  | .hbm, ⟨32, _⟩ => ⟨S4x4096x14336, .f32⟩
  | .hbm, ⟨33, _⟩ => ⟨S4x4096x14336, .f32⟩
  | .hbm, ⟨34, _⟩ => ⟨S4x4096x14336, .f32⟩
  | .hbm, ⟨35, _⟩ => ⟨S4x4096x14336, .f32⟩
  | .hbm, ⟨36, _⟩ => ⟨S_, .f32⟩
  | .hbm, ⟨37, _⟩ => ⟨S4x4096x14336, .f32⟩
  | .hbm, ⟨38, _⟩ => ⟨S4x4096x14336, .f32⟩
  | .hbm, ⟨39, _⟩ => ⟨S_, .f32⟩
  | .hbm, ⟨40, _⟩ => ⟨S4x4096x14336, .f32⟩
  | .hbm, ⟨41, _⟩ => ⟨S4x4096x14336, .f32⟩
  | .hbm, ⟨42, _⟩ => ⟨S4x4096x14336, .f32⟩
  | .hbm, ⟨43, _⟩ => ⟨S4x4096x14336, .f32⟩
  | .hbm, ⟨44, _⟩ => ⟨S16384x14336, .f32⟩
  | .hbm, ⟨45, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== DownSecond.lean ====
abbrev S16384x14336 : Shape := ⟨2, ![16384, 14336]⟩
abbrev S2x14336x4096 : Shape := ⟨3, ![2, 14336, 4096]⟩
abbrev S16384x4096 : Shape := ⟨2, ![16384, 4096]⟩
abbrev S1024x3584 : Shape := ⟨2, ![1024, 3584]⟩
abbrev S1x3584x1024 : Shape := ⟨3, ![1, 3584, 1024]⟩
abbrev S1024x1024 : Shape := ⟨2, ![1024, 1024]⟩
abbrev S3584x1024 : Shape := ⟨2, ![3584, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x14336, .bf16⟩
  | .hbm, ⟨1, _⟩ => ⟨S2x14336x4096, .bf16⟩
  | .hbm, ⟨2, _⟩ => ⟨S16384x4096, .bf16⟩
  | .local _ .vmem, ⟨0, _⟩ => ⟨S1024x3584, .bf16⟩
  | .local _ .vmem, ⟨1, _⟩ => ⟨S1024x3584, .bf16⟩
  | .local _ .vmem, ⟨2, _⟩ => ⟨S1x3584x1024, .bf16⟩
  | .local _ .vmem, ⟨3, _⟩ => ⟨S1x3584x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownSecondReferenceIdeal.lean ====
abbrev S16384x14336 : Shape := ⟨2, ![16384, 14336]⟩
abbrev S2x14336x4096 : Shape := ⟨3, ![2, 14336, 4096]⟩
abbrev S1x14336x4096 : Shape := ⟨3, ![1, 14336, 4096]⟩
abbrev S14336x4096 : Shape := ⟨2, ![14336, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x14336, .bf16⟩
  | .hbm, ⟨1, _⟩ => ⟨S2x14336x4096, .bf16⟩
  | .hbm, ⟨2, _⟩ => ⟨S16384x14336, .f32⟩
  | .hbm, ⟨3, _⟩ => ⟨S1x14336x4096, .bf16⟩
  | .hbm, ⟨4, _⟩ => ⟨S14336x4096, .bf16⟩
  | .hbm, ⟨5, _⟩ => ⟨S14336x4096, .f32⟩
  | .hbm, ⟨6, _⟩ => ⟨S16384x4096, .f32⟩
  | .hbm, ⟨7, _⟩ => ⟨S16384x4096, .bf16⟩
  | _, _ => ⟨S16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GatesSecond.lean ====
abbrev S16384x4096 : Shape := ⟨2, ![16384, 4096]⟩
abbrev S2x4096x12288 : Shape := ⟨3, ![2, 4096, 12288]⟩
abbrev S16384x12288 : Shape := ⟨2, ![16384, 12288]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x12288, .bf16⟩
  | .hbm, ⟨2, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesSecondReferenceIdeal.lean ====
abbrev S16384x4096 : Shape := ⟨2, ![16384, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S16384x12288 : Shape := ⟨2, ![16384, 12288]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x12288, .bf16⟩
  | .hbm, ⟨2, _⟩ => ⟨S16384x4096, .f32⟩
  | .hbm, ⟨3, _⟩ => ⟨S1x4096x12288, .bf16⟩
  | .hbm, ⟨4, _⟩ => ⟨S4096x12288, .bf16⟩
  | .hbm, ⟨5, _⟩ => ⟨S4096x12288, .f32⟩
  | .hbm, ⟨6, _⟩ => ⟨S16384x12288, .f32⟩
  | .hbm, ⟨7, _⟩ => ⟨S16384x12288, .f32⟩
  | .hbm, ⟨8, _⟩ => ⟨S16384x12288, .f32⟩
  | .hbm, ⟨9, _⟩ => ⟨S_, .f32⟩
  | .hbm, ⟨10, _⟩ => ⟨S16384x12288, .f32⟩
  | .hbm, ⟨11, _⟩ => ⟨S16384x12288, .f32⟩
  | .hbm, ⟨12, _⟩ => ⟨S_, .f32⟩
  | .hbm, ⟨13, _⟩ => ⟨S16384x12288, .f32⟩
  | .hbm, ⟨14, _⟩ => ⟨S16384x12288, .f32⟩
  | .hbm, ⟨15, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== PlainSecond.lean ====
abbrev S16384x4096 : Shape := ⟨2, ![16384, 4096]⟩
abbrev S2x4096x9216 : Shape := ⟨3, ![2, 4096, 9216]⟩
abbrev S1x5120 : Shape := ⟨2, ![1, 5120]⟩
abbrev S16384x5120 : Shape := ⟨2, ![16384, 5120]⟩
abbrev S1024x4096 : Shape := ⟨2, ![1024, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x5120, .f32⟩
  | .hbm, ⟨3, _⟩ => ⟨S16384x5120, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PlainSecondReferenceIdeal.lean ====
abbrev S16384x4096 : Shape := ⟨2, ![16384, 4096]⟩
abbrev S2x4096x9216 : Shape := ⟨3, ![2, 4096, 9216]⟩
abbrev S1x5120 : Shape := ⟨2, ![1, 5120]⟩
abbrev S1x4096x5120 : Shape := ⟨3, ![1, 4096, 5120]⟩
abbrev S4096x5120 : Shape := ⟨2, ![4096, 5120]⟩
abbrev S16384x5120 : Shape := ⟨2, ![16384, 5120]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x5120, .f32⟩
  | .hbm, ⟨3, _⟩ => ⟨S16384x4096, .f32⟩
  | .hbm, ⟨4, _⟩ => ⟨S1x4096x5120, .bf16⟩
  | .hbm, ⟨5, _⟩ => ⟨S4096x5120, .bf16⟩
  | .hbm, ⟨6, _⟩ => ⟨S4096x5120, .f32⟩
  | .hbm, ⟨7, _⟩ => ⟨S16384x5120, .f32⟩
  | .hbm, ⟨8, _⟩ => ⟨S16384x5120, .f32⟩
  | .hbm, ⟨9, _⟩ => ⟨S16384x5120, .f32⟩
  | .hbm, ⟨10, _⟩ => ⟨S16384x5120, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutProjSecond.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjSecondReferenceIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S16384x4096, .f32⟩
  | .hbm, ⟨7, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MergeSecond.lean ====
abbrev S16384x1024 : Shape := ⟨2, ![16384, 1024]⟩
abbrev S2x3x1024x4096 : Shape := ⟨4, ![2, 3, 1024, 4096]⟩
abbrev S16384x12288 : Shape := ⟨2, ![16384, 12288]⟩
abbrev S16384x4096 : Shape := ⟨2, ![16384, 4096]⟩
abbrev S1024x1024 : Shape := ⟨2, ![1024, 1024]⟩
abbrev S1x3x1024x1024 : Shape := ⟨4, ![1, 3, 1024, 1024]⟩
abbrev S1x1x1024x1024 : Shape := ⟨4, ![1, 1, 1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x3x1024x4096, .bf16⟩
  | .hbm, ⟨4, _⟩ => ⟨S16384x12288, .bf16⟩
  | .hbm, ⟨5, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x3x1024x1024, .bf16⟩
  | .local _ .vmem, ⟨7, _⟩ => ⟨S1x3x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeSecondReferenceIdeal.lean ====
abbrev S16384x1024 : Shape := ⟨2, ![16384, 1024]⟩
abbrev S2x3x1024x4096 : Shape := ⟨4, ![2, 3, 1024, 4096]⟩
abbrev S16384x12288 : Shape := ⟨2, ![16384, 12288]⟩
abbrev S1x3x1024x4096 : Shape := ⟨4, ![1, 3, 1024, 4096]⟩
abbrev S3x1024x4096 : Shape := ⟨3, ![3, 1024, 4096]⟩
abbrev S16384x3x4096 : Shape := ⟨3, ![16384, 3, 4096]⟩
abbrev S16384x1x4096 : Shape := ⟨3, ![16384, 1, 4096]⟩
abbrev S16384x4096 : Shape := ⟨2, ![16384, 4096]⟩
abbrev S1x1024x4096 : Shape := ⟨3, ![1, 1024, 4096]⟩
abbrev S1024x4096 : Shape := ⟨2, ![1024, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S2x3x1024x4096, .bf16⟩
  | .hbm, ⟨4, _⟩ => ⟨S16384x12288, .bf16⟩
  | .hbm, ⟨5, _⟩ => ⟨S1x3x1024x4096, .bf16⟩
  | .hbm, ⟨6, _⟩ => ⟨S3x1024x4096, .bf16⟩
  | .hbm, ⟨7, _⟩ => ⟨S3x1024x4096, .f32⟩
  | .hbm, ⟨8, _⟩ => ⟨S16384x12288, .f32⟩
  | .hbm, ⟨9, _⟩ => ⟨S16384x3x4096, .f32⟩
  | .hbm, ⟨10, _⟩ => ⟨S16384x1x4096, .f32⟩
  | .hbm, ⟨11, _⟩ => ⟨S16384x4096, .f32⟩
  | .hbm, ⟨12, _⟩ => ⟨S16384x1024, .f32⟩
  | .hbm, ⟨13, _⟩ => ⟨S1x1024x4096, .f32⟩
  | .hbm, ⟨14, _⟩ => ⟨S1024x4096, .f32⟩
  | .hbm, ⟨15, _⟩ => ⟨S16384x4096, .f32⟩
  | .hbm, ⟨16, _⟩ => ⟨S16384x4096, .f32⟩
  | .hbm, ⟨17, _⟩ => ⟨S16384x1x4096, .f32⟩
  | .hbm, ⟨18, _⟩ => ⟨S16384x4096, .f32⟩
  | .hbm, ⟨19, _⟩ => ⟨S16384x1024, .f32⟩
  | .hbm, ⟨20, _⟩ => ⟨S1x1024x4096, .f32⟩
  | .hbm, ⟨21, _⟩ => ⟨S1024x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1x4096, .f32⟩
  | .hbm, ⟨26, _⟩ => ⟨S16384x4096, .f32⟩
  | .hbm, ⟨27, _⟩ => ⟨S16384x1024, .f32⟩
  | .hbm, ⟨28, _⟩ => ⟨S1x1024x4096, .f32⟩
  | .hbm, ⟨29, _⟩ => ⟨S1024x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Prenorm.lean ====
abbrev S16384x4096 : Shape := ⟨2, ![16384, 4096]⟩
abbrev S1x4096 : Shape := ⟨2, ![1, 4096]⟩
abbrev S4x6x4096 : Shape := ⟨3, ![4, 6, 4096]⟩
abbrev S256x4096 : Shape := ⟨2, ![256, 4096]⟩
abbrev S1x6x4096 : Shape := ⟨3, ![1, 6, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4x6x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S256x4096, .bf16⟩
  | .local _ .vmem, ⟨6, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrenormReferenceIdeal.lean ====
abbrev S16384x4096 : Shape := ⟨2, ![16384, 4096]⟩
abbrev S1x4096 : Shape := ⟨2, ![1, 4096]⟩
abbrev S4x6x4096 : Shape := ⟨3, ![4, 6, 4096]⟩
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x1x4096 : Shape := ⟨3, ![4, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4x6x4096, .f32⟩
  | .hbm, ⟨3, _⟩ => ⟨S4x4096x4096, .f32⟩
  | .hbm, ⟨4, _⟩ => ⟨S4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S4x1x4096, .f32⟩
  | .hbm, ⟨22, _⟩ => ⟨S4x4096, .f32⟩
  | .hbm, ⟨23, _⟩ => ⟨S4x1x4096, .f32⟩
  | .hbm, ⟨24, _⟩ => ⟨S_, .f32⟩
  | .hbm, ⟨25, _⟩ => ⟨S4x1x4096, .f32⟩
  | .hbm, ⟨26, _⟩ => ⟨S4x1x4096, .f32⟩
  | .hbm, ⟨27, _⟩ => ⟨S4x4096x4096, .f32⟩
  | .hbm, ⟨28, _⟩ => ⟨S4x4096x4096, .f32⟩
  | .hbm, ⟨29, _⟩ => ⟨S4x1x4096, .f32⟩
  | .hbm, ⟨30, _⟩ => ⟨S4x4096, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S16384x4096, .f32⟩
  | .hbm, ⟨35, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== PostnormMix.lean ====
abbrev S16384x4096 : Shape := ⟨2, ![16384, 4096]⟩
abbrev S1x4096 : Shape := ⟨2, ![1, 4096]⟩
abbrev S4x6x4096 : Shape := ⟨3, ![4, 6, 4096]⟩
abbrev S256x4096 : Shape := ⟨2, ![256, 4096]⟩
abbrev S1x6x4096 : Shape := ⟨3, ![1, 6, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S4x6x4096, .f32⟩
  | .hbm, ⟨4, _⟩ => ⟨S1x4096, .f32⟩
  | .hbm, ⟨5, _⟩ => ⟨S16384x4096, .f32⟩
  | .hbm, ⟨6, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x6x4096, .f32⟩
  | .local _ .vmem, ⟨6, _⟩ => ⟨S1x6x4096, .f32⟩
  | .local _ .vmem, ⟨7, _⟩ => ⟨S1x4096, .f32⟩
  | .local _ .vmem, ⟨8, _⟩ => ⟨S1x6x4096, .f32⟩
  | .local _ .vmem, ⟨9, _⟩ => ⟨S1x6x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostnormMixReferenceIdeal.lean ====
abbrev S16384x4096 : Shape := ⟨2, ![16384, 4096]⟩
abbrev S1x4096 : Shape := ⟨2, ![1, 4096]⟩
abbrev S4x6x4096 : Shape := ⟨3, ![4, 6, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S4x6x4096, .f32⟩
  | .hbm, ⟨4, _⟩ => ⟨S1x4096, .f32⟩
  | .hbm, ⟨5, _⟩ => ⟨S4x4096x4096, .f32⟩
  | .hbm, ⟨6, _⟩ => ⟨S4x1x4096, .f32⟩
  | .hbm, ⟨7, _⟩ => ⟨S4x4096, .f32⟩
  | .hbm, ⟨8, _⟩ => ⟨S4x1x4096, .f32⟩
  | .hbm, ⟨9, _⟩ => ⟨S16384x4096, .f32⟩
  | .hbm, ⟨10, _⟩ => ⟨S4x4096x4096, .f32⟩
  | .hbm, ⟨11, _⟩ => ⟨S4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S1x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S16384x4096, .f32⟩
  | .hbm, ⟨32, _⟩ => ⟨S4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x4096, .f32⟩
  | .hbm, ⟨45, _⟩ => ⟨S4x4096x4096, .f32⟩
  | .hbm, ⟨46, _⟩ => ⟨S1x1x4096, .f32⟩
  | .hbm, ⟨47, _⟩ => ⟨S4x4096x4096, .f32⟩
  | .hbm, ⟨48, _⟩ => ⟨S4x4096x4096, .f32⟩
  | .hbm, ⟨49, _⟩ => ⟨S4x1x4096, .f32⟩
  | .hbm, ⟨50, _⟩ => ⟨S4x4096, .f32⟩
  | .hbm, ⟨51, _⟩ => ⟨S4x1x4096, .f32⟩
  | .hbm, ⟨52, _⟩ => ⟨S_, .f32⟩
  | .hbm, ⟨53, _⟩ => ⟨S4x1x4096, .f32⟩
  | .hbm, ⟨54, _⟩ => ⟨S4x1x4096, .f32⟩
  | .hbm, ⟨55, _⟩ => ⟨S4x4096x4096, .f32⟩
  | .hbm, ⟨56, _⟩ => ⟨S4x4096x4096, .f32⟩
  | .hbm, ⟨57, _⟩ => ⟨S4x1x4096, .f32⟩
  | .hbm, ⟨58, _⟩ => ⟨S4x4096, .f32⟩
  | .hbm, ⟨59, _⟩ => ⟨S4x1x4096, .f32⟩
  | .hbm, ⟨60, _⟩ => ⟨S4x4096x4096, .f32⟩
  | .hbm, ⟨61, _⟩ => ⟨S4x4096x4096, .f32⟩
  | .hbm, ⟨62, _⟩ => ⟨S16384x4096, .f32⟩
  | .hbm, ⟨63, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== PostnormFfn.lean ====
abbrev S16384x4096 : Shape := ⟨2, ![16384, 4096]⟩
abbrev S1x4096 : Shape := ⟨2, ![1, 4096]⟩
abbrev S4x6x4096 : Shape := ⟨3, ![4, 6, 4096]⟩
abbrev S256x4096 : Shape := ⟨2, ![256, 4096]⟩
abbrev S1x6x4096 : Shape := ⟨3, ![1, 6, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S4x6x4096, .f32⟩
  | .hbm, ⟨4, _⟩ => ⟨S1x4096, .f32⟩
  | .hbm, ⟨5, _⟩ => ⟨S4x6x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x6x4096, .f32⟩
  | .local _ .vmem, ⟨6, _⟩ => ⟨S1x6x4096, .f32⟩
  | .local _ .vmem, ⟨7, _⟩ => ⟨S1x4096, .f32⟩
  | .local _ .vmem, ⟨8, _⟩ => ⟨S1x6x4096, .f32⟩
  | .local _ .vmem, ⟨9, _⟩ => ⟨S1x6x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostnormFfnReferenceIdeal.lean ====
abbrev S16384x4096 : Shape := ⟨2, ![16384, 4096]⟩
abbrev S1x4096 : Shape := ⟨2, ![1, 4096]⟩
abbrev S4x6x4096 : Shape := ⟨3, ![4, 6, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩

abbrev nBuf : Space → Nat
  | .hbm => 65
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S4x6x4096, .f32⟩
  | .hbm, ⟨4, _⟩ => ⟨S1x4096, .f32⟩
  | .hbm, ⟨5, _⟩ => ⟨S4x6x4096, .f32⟩
  | .hbm, ⟨6, _⟩ => ⟨S4x4096x4096, .f32⟩
  | .hbm, ⟨7, _⟩ => ⟨S4x1x4096, .f32⟩
  | .hbm, ⟨8, _⟩ => ⟨S4x4096, .f32⟩
  | .hbm, ⟨9, _⟩ => ⟨S4x1x4096, .f32⟩
  | .hbm, ⟨10, _⟩ => ⟨S16384x4096, .f32⟩
  | .hbm, ⟨11, _⟩ => ⟨S4x4096x4096, .f32⟩
  | .hbm, ⟨12, _⟩ => ⟨S4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S1x1x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S16384x4096, .f32⟩
  | .hbm, ⟨33, _⟩ => ⟨S4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S1x1x4096, .f32⟩
  | .hbm, ⟨48, _⟩ => ⟨S4x4096x4096, .f32⟩
  | .hbm, ⟨49, _⟩ => ⟨S4x4096x4096, .f32⟩
  | .hbm, ⟨50, _⟩ => ⟨S4x1x4096, .f32⟩
  | .hbm, ⟨51, _⟩ => ⟨S4x4096, .f32⟩
  | .hbm, ⟨52, _⟩ => ⟨S4x1x4096, .f32⟩
  | .hbm, ⟨53, _⟩ => ⟨S_, .f32⟩
  | .hbm, ⟨54, _⟩ => ⟨S4x1x4096, .f32⟩
  | .hbm, ⟨55, _⟩ => ⟨S4x1x4096, .f32⟩
  | .hbm, ⟨56, _⟩ => ⟨S4x4096x4096, .f32⟩
  | .hbm, ⟨57, _⟩ => ⟨S4x4096x4096, .f32⟩
  | .hbm, ⟨58, _⟩ => ⟨S4x1x4096, .f32⟩
  | .hbm, ⟨59, _⟩ => ⟨S4x4096, .f32⟩
  | .hbm, ⟨60, _⟩ => ⟨S4x1x4096, .f32⟩
  | .hbm, ⟨61, _⟩ => ⟨S4x4096x4096, .f32⟩
  | .hbm, ⟨62, _⟩ => ⟨S4x4096x4096, .f32⟩
  | .hbm, ⟨63, _⟩ => ⟨S16384x4096, .f32⟩
  | .hbm, ⟨64, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== PostnormLast.lean ====
abbrev S16384x4096 : Shape := ⟨2, ![16384, 4096]⟩
abbrev S1x4096 : Shape := ⟨2, ![1, 4096]⟩
abbrev S4x6x4096 : Shape := ⟨3, ![4, 6, 4096]⟩
abbrev S256x4096 : Shape := ⟨2, ![256, 4096]⟩
abbrev S1x6x4096 : Shape := ⟨3, ![1, 6, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S4x6x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x6x4096, .f32⟩
  | .local _ .vmem, ⟨6, _⟩ => ⟨S1x6x4096, .f32⟩
  | .local _ .vmem, ⟨7, _⟩ => ⟨S256x4096, .f32⟩
  | .local _ .vmem, ⟨8, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostnormLastReferenceIdeal.lean ====
abbrev S16384x4096 : Shape := ⟨2, ![16384, 4096]⟩
abbrev S1x4096 : Shape := ⟨2, ![1, 4096]⟩
abbrev S4x6x4096 : Shape := ⟨3, ![4, 6, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S1x4096, .f32⟩
  | .hbm, ⟨3, _⟩ => ⟨S4x6x4096, .f32⟩
  | .hbm, ⟨4, _⟩ => ⟨S4x4096x4096, .f32⟩
  | .hbm, ⟨5, _⟩ => ⟨S4x1x4096, .f32⟩
  | .hbm, ⟨6, _⟩ => ⟨S4x4096, .f32⟩
  | .hbm, ⟨7, _⟩ => ⟨S4x1x4096, .f32⟩
  | .hbm, ⟨8, _⟩ => ⟨S16384x4096, .f32⟩
  | .hbm, ⟨9, _⟩ => ⟨S4x4096x4096, .f32⟩
  | .hbm, ⟨10, _⟩ => ⟨S4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Rope.lean ====
abbrev S16384x4096 : Shape := ⟨2, ![16384, 4096]⟩
abbrev S2x4096x9216 : Shape := ⟨3, ![2, 4096, 9216]⟩
abbrev S1x2048 : Shape := ⟨2, ![1, 2048]⟩
abbrev S16384x128 : Shape := ⟨2, ![16384, 128]⟩
abbrev S16384x2048 : Shape := ⟨2, ![16384, 2048]⟩
abbrev S1024x4096 : Shape := ⟨2, ![1024, 4096]⟩
abbrev S1x4096x1024 : Shape := ⟨3, ![1, 4096, 1024]⟩
abbrev S1x1024 : Shape := ⟨2, ![1, 1024]⟩
abbrev S1024x128 : Shape := ⟨2, ![1024, 128]⟩
abbrev S1024x1024 : Shape := ⟨2, ![1024, 1024]⟩
abbrev S1x4096x256 : Shape := ⟨3, ![1, 4096, 256]⟩
abbrev S4096x256 : Shape := ⟨2, ![4096, 256]⟩
abbrev S1024x256 : Shape := ⟨2, ![1024, 256]⟩
abbrev S1x128 : Shape := ⟨2, ![1, 128]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x2048, .f32⟩
  | .hbm, ⟨3, _⟩ => ⟨S16384x128, .f32⟩
  | .hbm, ⟨4, _⟩ => ⟨S16384x128, .f32⟩
  | .hbm, ⟨5, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeReferenceIdeal.lean ====
abbrev S16384x4096 : Shape := ⟨2, ![16384, 4096]⟩
abbrev S2x4096x9216 : Shape := ⟨3, ![2, 4096, 9216]⟩
abbrev S1x2048 : Shape := ⟨2, ![1, 2048]⟩
abbrev S16384x128 : Shape := ⟨2, ![16384, 128]⟩
abbrev S1x4096x2048 : Shape := ⟨3, ![1, 4096, 2048]⟩
abbrev S4096x2048 : Shape := ⟨2, ![4096, 2048]⟩
abbrev S16384x2048 : Shape := ⟨2, ![16384, 2048]⟩
abbrev S16384x16x128 : Shape := ⟨3, ![16384, 16, 128]⟩
abbrev S16384x16 : Shape := ⟨2, ![16384, 16]⟩
abbrev S16384x1x16 : Shape := ⟨3, ![16384, 1, 16]⟩
abbrev S16384x16x16 : Shape := ⟨3, ![16384, 16, 16]⟩
abbrev S16384x16x96 : Shape := ⟨3, ![16384, 16, 96]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x2048, .f32⟩
  | .hbm, ⟨3, _⟩ => ⟨S16384x128, .f32⟩
  | .hbm, ⟨4, _⟩ => ⟨S16384x128, .f32⟩
  | .hbm, ⟨5, _⟩ => ⟨S16384x4096, .f32⟩
  | .hbm, ⟨6, _⟩ => ⟨S1x4096x2048, .bf16⟩
  | .hbm, ⟨7, _⟩ => ⟨S4096x2048, .bf16⟩
  | .hbm, ⟨8, _⟩ => ⟨S4096x2048, .f32⟩
  | .hbm, ⟨9, _⟩ => ⟨S16384x2048, .f32⟩
  | .hbm, ⟨10, _⟩ => ⟨S16384x16x128, .f32⟩
  | .hbm, ⟨11, _⟩ => ⟨S16384x16, .f32⟩
  | .hbm, ⟨12, _⟩ => ⟨S16384x1x16, .f32⟩
  | .hbm, ⟨13, _⟩ => ⟨S16384x16, .f32⟩
  | .hbm, ⟨14, _⟩ => ⟨S16384x1x16, .f32⟩
  | .hbm, ⟨15, _⟩ => ⟨S16384x16x16, .f32⟩
  | .hbm, ⟨16, _⟩ => ⟨S16384x16x16, .f32⟩
  | .hbm, ⟨17, _⟩ => ⟨S16384x16x16, .f32⟩
  | .hbm, ⟨18, _⟩ => ⟨S16384x16x16, .f32⟩
  | .hbm, ⟨19, _⟩ => ⟨S16384x16x16, .f32⟩
  | .hbm, ⟨20, _⟩ => ⟨S16384x16x16, .f32⟩
  | .hbm, ⟨21, _⟩ => ⟨S16384x16x16, .f32⟩
  | .hbm, ⟨22, _⟩ => ⟨S16384x16x16, .f32⟩
  | .hbm, ⟨23, _⟩ => ⟨S16384x16x16, .f32⟩
  | .hbm, ⟨24, _⟩ => ⟨S16384x16x16, .f32⟩
  | .hbm, ⟨25, _⟩ => ⟨S16384x16x16, .f32⟩
  | .hbm, ⟨26, _⟩ => ⟨S16384x16x16, .f32⟩
  | .hbm, ⟨27, _⟩ => ⟨S16384x16x96, .f32⟩
  | .hbm, ⟨28, _⟩ => ⟨S16384x16x128, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== RopeSecond.lean ====
abbrev S16384x4096 : Shape := ⟨2, ![16384, 4096]⟩
abbrev S2x4096x9216 : Shape := ⟨3, ![2, 4096, 9216]⟩
abbrev S1x2048 : Shape := ⟨2, ![1, 2048]⟩
abbrev S16384x128 : Shape := ⟨2, ![16384, 128]⟩
abbrev S16384x2048 : Shape := ⟨2, ![16384, 2048]⟩
abbrev S1024x4096 : Shape := ⟨2, ![1024, 4096]⟩
abbrev S1x4096x1024 : Shape := ⟨3, ![1, 4096, 1024]⟩
abbrev S1x1024 : Shape := ⟨2, ![1, 1024]⟩
abbrev S1024x128 : Shape := ⟨2, ![1024, 128]⟩
abbrev S1024x1024 : Shape := ⟨2, ![1024, 1024]⟩
abbrev S1x4096x256 : Shape := ⟨3, ![1, 4096, 256]⟩
abbrev S4096x256 : Shape := ⟨2, ![4096, 256]⟩
abbrev S1024x256 : Shape := ⟨2, ![1024, 256]⟩
abbrev S1x128 : Shape := ⟨2, ![1, 128]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x2048, .f32⟩
  | .hbm, ⟨3, _⟩ => ⟨S16384x128, .f32⟩
  | .hbm, ⟨4, _⟩ => ⟨S16384x128, .f32⟩
  | .hbm, ⟨5, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeSecondReferenceIdeal.lean ====
abbrev S16384x4096 : Shape := ⟨2, ![16384, 4096]⟩
abbrev S2x4096x9216 : Shape := ⟨3, ![2, 4096, 9216]⟩
abbrev S1x2048 : Shape := ⟨2, ![1, 2048]⟩
abbrev S16384x128 : Shape := ⟨2, ![16384, 128]⟩
abbrev S1x4096x2048 : Shape := ⟨3, ![1, 4096, 2048]⟩
abbrev S4096x2048 : Shape := ⟨2, ![4096, 2048]⟩
abbrev S16384x2048 : Shape := ⟨2, ![16384, 2048]⟩
abbrev S16384x16x128 : Shape := ⟨3, ![16384, 16, 128]⟩
abbrev S16384x16 : Shape := ⟨2, ![16384, 16]⟩
abbrev S16384x1x16 : Shape := ⟨3, ![16384, 1, 16]⟩
abbrev S16384x16x16 : Shape := ⟨3, ![16384, 16, 16]⟩
abbrev S16384x16x96 : Shape := ⟨3, ![16384, 16, 96]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x9216, .bf16⟩
  | .hbm, ⟨2, _⟩ => ⟨S1x2048, .f32⟩
  | .hbm, ⟨3, _⟩ => ⟨S16384x128, .f32⟩
  | .hbm, ⟨4, _⟩ => ⟨S16384x128, .f32⟩
  | .hbm, ⟨5, _⟩ => ⟨S16384x4096, .f32⟩
  | .hbm, ⟨6, _⟩ => ⟨S1x4096x2048, .bf16⟩
  | .hbm, ⟨7, _⟩ => ⟨S4096x2048, .bf16⟩
  | .hbm, ⟨8, _⟩ => ⟨S4096x2048, .f32⟩
  | .hbm, ⟨9, _⟩ => ⟨S16384x2048, .f32⟩
  | .hbm, ⟨10, _⟩ => ⟨S16384x16x128, .f32⟩
  | .hbm, ⟨11, _⟩ => ⟨S16384x16, .f32⟩
  | .hbm, ⟨12, _⟩ => ⟨S16384x1x16, .f32⟩
  | .hbm, ⟨13, _⟩ => ⟨S16384x16, .f32⟩
  | .hbm, ⟨14, _⟩ => ⟨S16384x1x16, .f32⟩
  | .hbm, ⟨15, _⟩ => ⟨S16384x16x16, .f32⟩
  | .hbm, ⟨16, _⟩ => ⟨S16384x16x16, .f32⟩
  | .hbm, ⟨17, _⟩ => ⟨S16384x16x16, .f32⟩
  | .hbm, ⟨18, _⟩ => ⟨S16384x16x16, .f32⟩
  | .hbm, ⟨19, _⟩ => ⟨S16384x16x16, .f32⟩
  | .hbm, ⟨20, _⟩ => ⟨S16384x16x16, .f32⟩
  | .hbm, ⟨21, _⟩ => ⟨S16384x16x16, .f32⟩
  | .hbm, ⟨22, _⟩ => ⟨S16384x16x16, .f32⟩
  | .hbm, ⟨23, _⟩ => ⟨S16384x16x16, .f32⟩
  | .hbm, ⟨24, _⟩ => ⟨S16384x16x16, .f32⟩
  | .hbm, ⟨25, _⟩ => ⟨S16384x16x16, .f32⟩
  | .hbm, ⟨26, _⟩ => ⟨S16384x16x16, .f32⟩
  | .hbm, ⟨27, _⟩ => ⟨S16384x16x96, .f32⟩
  | .hbm, ⟨28, _⟩ => ⟨S16384x16x128, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Index.lean ====
abbrev S16384x4096 : Shape := ⟨2, ![16384, 4096]⟩
abbrev S1x4096x1152 : Shape := ⟨3, ![1, 4096, 1152]⟩
abbrev S128x4096 : Shape := ⟨2, ![128, 4096]⟩
abbrev S16384x128 : Shape := ⟨2, ![16384, 128]⟩
abbrev S16384x1024 : Shape := ⟨2, ![16384, 1024]⟩
abbrev S128x16384 : Shape := ⟨2, ![128, 16384]⟩
abbrev S1024x4096 : Shape := ⟨2, ![1024, 4096]⟩
abbrev S1024x128 : Shape := ⟨2, ![1024, 128]⟩
abbrev S1024x1024 : Shape := ⟨2, ![1024, 1024]⟩
abbrev S128x1024 : Shape := ⟨2, ![128, 1024]⟩
abbrev S1x4096x256 : Shape := ⟨3, ![1, 4096, 256]⟩
abbrev S4096x256 : Shape := ⟨2, ![4096, 256]⟩
abbrev S1024x256 : Shape := ⟨2, ![1024, 256]⟩
abbrev S1x4096x128 : Shape := ⟨3, ![1, 4096, 128]⟩
abbrev S4096x128 : Shape := ⟨2, ![4096, 128]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S1x4096x1152, .bf16⟩
  | .hbm, ⟨2, _⟩ => ⟨S128x4096, .bf16⟩
  | .hbm, ⟨3, _⟩ => ⟨S16384x128, .f32⟩
  | .hbm, ⟨4, _⟩ => ⟨S16384x128, .f32⟩
  | .hbm, ⟨5, _⟩ => ⟨S16384x1024, .bf16⟩
  | .hbm, ⟨6, _⟩ => ⟨S16384x128, .bf16⟩
  | .hbm, ⟨7, _⟩ => ⟨S128x16384, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1152, .bf16⟩
  | .local _ .vmem, ⟨3, _⟩ => ⟨S128x4096, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S128x1024, .f32⟩
  | .local _ .vmem, ⟨13, _⟩ => ⟨S128x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== IndexReferenceIdeal.lean ====
abbrev S16384x4096 : Shape := ⟨2, ![16384, 4096]⟩
abbrev S1x4096x1152 : Shape := ⟨3, ![1, 4096, 1152]⟩
abbrev S128x4096 : Shape := ⟨2, ![128, 4096]⟩
abbrev S16384x128 : Shape := ⟨2, ![16384, 128]⟩
abbrev S4096x1152 : Shape := ⟨2, ![4096, 1152]⟩
abbrev S4096x1024 : Shape := ⟨2, ![4096, 1024]⟩
abbrev S16384x1024 : Shape := ⟨2, ![16384, 1024]⟩
abbrev S16384x16x64 : Shape := ⟨3, ![16384, 16, 64]⟩
abbrev S16384x8 : Shape := ⟨2, ![16384, 8]⟩
abbrev S16384x1x8 : Shape := ⟨3, ![16384, 1, 8]⟩
abbrev S16384x16x8 : Shape := ⟨3, ![16384, 16, 8]⟩
abbrev S16384x16x48 : Shape := ⟨3, ![16384, 16, 48]⟩
abbrev S_ : Shape := ⟨0, ![]⟩
abbrev S4096x128 : Shape := ⟨2, ![4096, 128]⟩
abbrev S16384x2x64 : Shape := ⟨3, ![16384, 2, 64]⟩
abbrev S16384x2x8 : Shape := ⟨3, ![16384, 2, 8]⟩
abbrev S16384x2x48 : Shape := ⟨3, ![16384, 2, 48]⟩
abbrev S128x16384 : Shape := ⟨2, ![128, 16384]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x1152, .bf16⟩
  | .hbm, ⟨2, _⟩ => ⟨S128x4096, .bf16⟩
  | .hbm, ⟨3, _⟩ => ⟨S16384x128, .f32⟩
  | .hbm, ⟨4, _⟩ => ⟨S16384x128, .f32⟩
  | .hbm, ⟨5, _⟩ => ⟨S16384x4096, .f32⟩
  | .hbm, ⟨6, _⟩ => ⟨S4096x1152, .bf16⟩
  | .hbm, ⟨7, _⟩ => ⟨S4096x1152, .f32⟩
  | .hbm, ⟨8, _⟩ => ⟨S4096x1024, .f32⟩
  | .hbm, ⟨9, _⟩ => ⟨S16384x1024, .f32⟩
  | .hbm, ⟨10, _⟩ => ⟨S16384x16x64, .f32⟩
  | .hbm, ⟨11, _⟩ => ⟨S16384x8, .f32⟩
  | .hbm, ⟨12, _⟩ => ⟨S16384x1x8, .f32⟩
  | .hbm, ⟨13, _⟩ => ⟨S16384x8, .f32⟩
  | .hbm, ⟨14, _⟩ => ⟨S16384x1x8, .f32⟩
  | .hbm, ⟨15, _⟩ => ⟨S16384x16x8, .f32⟩
  | .hbm, ⟨16, _⟩ => ⟨S16384x16x8, .f32⟩
  | .hbm, ⟨17, _⟩ => ⟨S16384x16x8, .f32⟩
  | .hbm, ⟨18, _⟩ => ⟨S16384x16x8, .f32⟩
  | .hbm, ⟨19, _⟩ => ⟨S16384x16x8, .f32⟩
  | .hbm, ⟨20, _⟩ => ⟨S16384x16x8, .f32⟩
  | .hbm, ⟨21, _⟩ => ⟨S16384x16x8, .f32⟩
  | .hbm, ⟨22, _⟩ => ⟨S16384x16x8, .f32⟩
  | .hbm, ⟨23, _⟩ => ⟨S16384x16x8, .f32⟩
  | .hbm, ⟨24, _⟩ => ⟨S16384x16x8, .f32⟩
  | .hbm, ⟨25, _⟩ => ⟨S16384x16x8, .f32⟩
  | .hbm, ⟨26, _⟩ => ⟨S16384x16x8, .f32⟩
  | .hbm, ⟨27, _⟩ => ⟨S16384x16x48, .f32⟩
  | .hbm, ⟨28, _⟩ => ⟨S16384x16x64, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S4096x128, .f32⟩
  | .hbm, ⟨34, _⟩ => ⟨S16384x128, .f32⟩
  | .hbm, ⟨35, _⟩ => ⟨S16384x2x64, .f32⟩
  | .hbm, ⟨36, _⟩ => ⟨S16384x8, .f32⟩
  | .hbm, ⟨37, _⟩ => ⟨S16384x1x8, .f32⟩
  | .hbm, ⟨38, _⟩ => ⟨S16384x8, .f32⟩
  | .hbm, ⟨39, _⟩ => ⟨S16384x1x8, .f32⟩
  | .hbm, ⟨40, _⟩ => ⟨S16384x2x8, .f32⟩
  | .hbm, ⟨41, _⟩ => ⟨S16384x2x8, .f32⟩
  | .hbm, ⟨42, _⟩ => ⟨S16384x2x8, .f32⟩
  | .hbm, ⟨43, _⟩ => ⟨S16384x2x8, .f32⟩
  | .hbm, ⟨44, _⟩ => ⟨S16384x2x8, .f32⟩
  | .hbm, ⟨45, _⟩ => ⟨S16384x2x8, .f32⟩
  | .hbm, ⟨46, _⟩ => ⟨S16384x2x8, .f32⟩
  | .hbm, ⟨47, _⟩ => ⟨S16384x2x8, .f32⟩
  | .hbm, ⟨48, _⟩ => ⟨S16384x2x8, .f32⟩
  | .hbm, ⟨49, _⟩ => ⟨S16384x2x8, .f32⟩
  | .hbm, ⟨50, _⟩ => ⟨S16384x2x8, .f32⟩
  | .hbm, ⟨51, _⟩ => ⟨S16384x2x8, .f32⟩
  | .hbm, ⟨52, _⟩ => ⟨S16384x2x48, .f32⟩
  | .hbm, ⟨53, _⟩ => ⟨S16384x2x64, .f32⟩
  | .hbm, ⟨54, _⟩ => ⟨S16384x128, .f32⟩
  | .hbm, ⟨55, _⟩ => ⟨S128x4096, .f32⟩
  | .hbm, ⟨56, _⟩ => ⟨S4096x128, .f32⟩
  | .hbm, ⟨57, _⟩ => ⟨S16384x128, .f32⟩
  | .hbm, ⟨58, _⟩ => ⟨S_, .f32⟩
  | .hbm, ⟨59, _⟩ => ⟨S16384x128, .f32⟩
  | .hbm, ⟨60, _⟩ => ⟨S16384x128, .f32⟩
  | .hbm, ⟨61, _⟩ => ⟨S16384x1024, .bf16⟩
  | .hbm, ⟨62, _⟩ => ⟨S16384x128, .bf16⟩
  | .hbm, ⟨63, _⟩ => ⟨S128x16384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_0 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩

abbrev nD : Nat := 1
abbrev τ : Topo := Topo.v7x

variable {F : FTy → Type} [FloatOps F]
-- ==== Proof.SB.Pieces.lean ====
/- The stick-breaking attention's grid point as a computation on eight planes (one per head): the pieces that one loop trip
   and the diagonal block store, each stated by one formula for all heads. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SB

open Cert.KernelIdeal Cert.KernelIdeal.Gen

variable {F : FTy → Type} [FloatOps F] [Named F]

/-- Head `g`'s plane of a scratch buffer. -/
theorem plane_inb (g : Fin 8) : ∀ a, (![g.val, 0, 0] : Fin 3 → ℕ) a + S1x256x128.size a ≤ S8x256x128.size a := by
  revert g; decide

/-- Head `g`'s plane of a scratch buffer, as a rectangle. -/
abbrev plane (g : Fin 8) : Rect S8x256x128 := Rect.unit (s := S8x256x128) ![g.val, 0, 0] S1x256x128.size (plane_inb g)

theorem qcols_inb (g : Fin 8) : ∀ a, (![0, 128 * g.val] : Fin 2 → ℕ) a + S256x128.size a ≤ S256x1024.size a := by
  revert g; decide

/-- Head `g`'s columns of the query block. -/
abbrev qcols (g : Fin 8) : Rect S256x1024 := Rect.unit (s := S256x1024) ![0, 128 * g.val] S256x128.size (qcols_inb g)

theorem kcols_inb (o : ℕ) (ho : o + 256 ≤ 4096) (g : Fin 8) :
    ∀ a, (![o, 128 * g.val] : Fin 2 → ℕ) a + S256x128.size a ≤ S4096x1024.size a := by
  have := g.isLt
  intro a
  match a with
  | ⟨0, _⟩ => exact ho
  | ⟨1, _⟩ => show 128 * g.val + 128 ≤ 1024; omega

/-- Head `g`'s columns of the 256 keys (or values) from `o` on. -/
abbrev kcols (o : ℕ) (ho : o + 256 ≤ 4096) (g : Fin 8) : Rect S4096x1024 :=
  Rect.unit (s := S4096x1024) ![o, 128 * g.val] S256x128.size (kcols_inb o ho g)

/-- One store per plane, the last head's first. -/
def planes (pay : Fin 8 → Vec F S1x256x128 .f32) : List (View.Piece (Elt F) S8x256x128 .f32) :=
  [⟨plane 7, pay 7⟩, ⟨plane 6, pay 6⟩, ⟨plane 5, pay 5⟩, ⟨plane 4, pay 4⟩, ⟨plane 3, pay 3⟩, ⟨plane 2, pay 2⟩, ⟨plane 1, pay 1⟩, ⟨plane 0, pay 0⟩]

/-- A head's accumulator after a block below the diagonal. -/
def tacc (v6 : FVec F S256x256 .bf16) (q k v : Vec F S256x128 .bf16) (carry acc : Vec F S1x256x128 .f32) : Vec F S1x256x128 .f32 :=
  k0_pay18 (k0_pay9 (k0_pay7 v6 q k carry)) acc v

/-- A head's carry after a block below the diagonal. -/
def tcar (v6 : FVec F S256x256 .bf16) (q k : Vec F S256x128 .bf16) (carry : Vec F S1x256x128 .f32) : Vec F S1x256x128 .f32 :=
  k0_pay8 (k0_pay3 q k) (k0_pay6 v6 q k) carry

/-- A head's accumulator after the diagonal block. -/
def dacc (q k v : Vec F S256x128 .bf16) (carry acc : Vec F S1x256x128 .f32) : Vec F S1x256x128 .f32 :=
  k0_pay131 (k0_pay124 k0_pay114 k0_pay115 (k0_pay118 q k) (k0_pay119 q k) carry) (k0_pay130 acc) v (constant S256x128 .f32 0x00000000#32)

/-- A head's carry after the diagonal block. -/
def dcar (q k : Vec F S256x128 .bf16) (carry : Vec F S1x256x128 .f32) : Vec F S1x256x128 .f32 :=
  k0_pay123 k0_pay114 (k0_pay119 q k) carry

/-- The first key row of trip `k`'s block, as the body computes it. -/
def krow (i : grid0.Coords) (k : Fin (k0_t1_loop i).trips) : ℕ := k0_off9 i k 0

theorem krow_le (i : grid0.Coords) (k : Fin (k0_t1_loop i).trips) : krow i k + 256 ≤ 4096 := k0_off9_inb i k 0

/-- The first key row of the diagonal block, as the body computes it. -/
def drow (i : grid0.Coords) : ℕ := k0_off1 i 0

theorem drow_le (i : grid0.Coords) : drow i + 256 ≤ 4096 := k0_off1_inb i 0

section Trip

variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg2 : BitVec 32) (v6 : FVec F S256x256 .bf16) (v17 : BitVec 32) (v336 : FVec F S256x256 .bf16) (v367 : FVec F S256x256 .bf16) (X3 : BufTy.Contents (Elt F) arg3.view.ty) (X4 : BufTy.Contents (Elt F) arg4.view.ty) (X5 : BufTy.Contents (Elt F) arg5.view.ty)

/-- What one trip stores in the accumulators: each head's plane by the one formula. -/
theorem trip_acc (k : Fin (k0_t1_loop i).trips) (f7 : BufTy.Contents (Elt F) arg7.view.ty) (f8 : BufTy.Contents (Elt F) arg8.view.ty) :
    (trip_k0_t1 𝒱 c bd i arg3 harg3 arg4 harg4 arg5 harg5 arg6 harg6 arg7 harg7 arg8 harg8 arg2 v6 v17 v336 v367 X3 X4 X5 k).1 f7 f8
    = planes fun g => tacc v6 (View.readAt (Elt F) arg3.view (qcols g).toLoadRect X3)
        (View.readAt (Elt F) arg4.view (kcols (krow i k) (krow_le i k) g).toLoadRect X4)
        (View.readAt (Elt F) arg5.view (kcols (krow i k) (krow_le i k) g).toLoadRect X5)
        (View.readAt (Elt F) arg8.view (plane g).toLoadRect f8) (View.readAt (Elt F) arg7.view (plane g).toLoadRect f7) := by
  unfold trip_k0_t1
  rfl

/-- What one trip stores in the carries. -/
theorem trip_car (k : Fin (k0_t1_loop i).trips) (f7 : BufTy.Contents (Elt F) arg7.view.ty) (f8 : BufTy.Contents (Elt F) arg8.view.ty) :
    (trip_k0_t1 𝒱 c bd i arg3 harg3 arg4 harg4 arg5 harg5 arg6 harg6 arg7 harg7 arg8 harg8 arg2 v6 v17 v336 v367 X3 X4 X5 k).2.1 f7 f8
    = planes fun g => tcar v6 (View.readAt (Elt F) arg3.view (qcols g).toLoadRect X3)
        (View.readAt (Elt F) arg4.view (kcols (krow i k) (krow_le i k) g).toLoadRect X4)
        (View.readAt (Elt F) arg8.view (plane g).toLoadRect f8) := by
  unfold trip_k0_t1
  rfl

end Trip

end Cert.SB

end
-- ==== Proof.SB.Body.lean ====
/- What a grid point of the stick-breaking attention stores: the diagonal block's pieces, then the loop's trips, as a
   recursion `st` on the eight heads' accumulators and carries. -/
module

public import proofs.«01_k».proof.Proof.SB.Pieces

@[expose] public section

set_option maxRecDepth 16384

noncomputable section

open Idealize.ShloMosaic Idealize.ShloMosaic.TcCoe Idealize.SL.Sem

namespace Cert.SB

open Cert.KernelIdeal Cert.KernelIdeal.Gen

variable {F : FTy → Type} [FloatOps F] [Named F]

theorem mem_plane (g : Fin 8) (y : S8x256x128.Idx) : y ∈ (plane g).set → (y 0).val = g.val := by
  intro h
  have := (Rect.mem_set_unit.mp h) 0
  have h1 : g.val ≤ (y 0).val := this.1
  have h2 : (y 0).val < g.val + 1 := this.2
  omega

theorem planes_eq (pay : Fin 8 → Vec F S1x256x128 .f32) :
    planes pay = (List.finRange 8).reverse.map fun g => (⟨plane g, pay g⟩ : View.Piece (Elt F) S8x256x128 .f32) := rfl

theorem read_map_planes {κ : Kind} {sp : Space} (v : View sig κ sp S8x256x128 .f32) (f : v.ty.Contents (Elt F))
    (pay : Fin 8 → Vec F S1x256x128 .f32) (L : List (View.Piece (Elt F) S8x256x128 .f32)) (g : Fin 8) (x : S1x256x128.Idx) :
    ∀ l : List (Fin 8), g ∈ l →
      v.read (Elt F) (v.writes (Elt F) f (l.map (fun g => (⟨plane g, pay g⟩ : View.Piece (Elt F) S8x256x128 .f32)) ++ L)) ((plane g).emb x)
        = pay g x
  | [], h => absurd h List.not_mem_nil
  | a :: l, h => by
    by_cases e : a = g
    · subst e
      exact View.read_writes_cons_emb v f (plane a) (pay a) _ x
    · have hl : g ∈ l := (List.mem_cons.mp h).resolve_left fun e' => e e'.symm
      have hn : (plane g).emb x ∉ Finset.univ.map (plane a).emb := by
        rw [Rect.map_emb_univ]
        intro hm
        have h1 := mem_plane a _ hm
        have h2 : ((plane g).emb x 0).val = g.val := by
          have hx : (x 0).val < 1 := (x 0).isLt
          show g.val + 1 * (x 0).val = g.val
          omega
        exact e (Fin.ext (h1.symm.trans h2))
      rw [List.map_cons, List.cons_append, View.writes_cons, View.read_slice_write_of_not_mem _ _ _ _ hn]
      exact read_map_planes v f pay L g x l hl

/-- A load of one plane after a store of every plane reads that plane's store. -/
theorem readAt_planes {κ : Kind} {sp : Space} (v : View sig κ sp S8x256x128 .f32) (f : v.ty.Contents (Elt F))
    (pay : Fin 8 → Vec F S1x256x128 .f32) (L : List (View.Piece (Elt F) S8x256x128 .f32)) (g : Fin 8) :
    View.readAt (Elt F) v (plane g).toLoadRect (v.writes (Elt F) f (planes pay ++ L)) = pay g := by
  rw [planes_eq]
  funext x
  exact read_map_planes v f pay L g x _ (List.mem_reverse.mpr (List.mem_finRange g))

/-- A load of contents put in place whole reads them. -/
theorem readAt_unread {s : Shape} {e : EltTy} (a : Memref sig .tc .vmem s e) (h : a.IsWhole) (X : s.Idx → Elt F e) (r : Rect s) :
    View.readAt (Elt F) a.view r.toLoadRect (h.unread X) = View.ld X r := by
  show View.ld (View.read (Elt F) a.view (h.unread X)) r = _
  rw [h.read_unread]

/-- The heads' accumulators and carries after the diagonal block and `n` trips. -/
def st (i : grid0.Coords) (Q : Vec F S256x1024 .bf16) (K V : Vec F S4096x1024 .bf16) :
    ℕ → (Fin 8 → Vec F S1x256x128 .f32) × (Fin 8 → Vec F S1x256x128 .f32)
  | 0 => (fun g => dacc (View.ld (Val := Elt F) (e' := .bf16) Q (qcols g)) (View.ld (Val := Elt F) (e' := .bf16) K (kcols (drow i) (drow_le i) g)) (View.ld (Val := Elt F) (e' := .bf16) V (kcols (drow i) (drow_le i) g))
            (View.ld (Val := Elt F) (e' := .f32) k0_pay117 (plane g)) (View.ld (Val := Elt F) (e' := .f32) k0_pay116 (plane g)),
          fun g => dcar (View.ld (Val := Elt F) (e' := .bf16) Q (qcols g)) (View.ld (Val := Elt F) (e' := .bf16) K (kcols (drow i) (drow_le i) g)) (View.ld (Val := Elt F) (e' := .f32) k0_pay117 (plane g)))
  | n + 1 => if h : n < (k0_t1_loop i).trips then
      (fun g => tacc k0_pay114 (View.ld (Val := Elt F) (e' := .bf16) Q (qcols g)) (View.ld (Val := Elt F) (e' := .bf16) K (kcols (krow i ⟨n, h⟩) (krow_le i ⟨n, h⟩) g)) (View.ld (Val := Elt F) (e' := .bf16) V (kcols (krow i ⟨n, h⟩) (krow_le i ⟨n, h⟩) g))
            ((st i Q K V n).2 g) ((st i Q K V n).1 g),
       fun g => tcar k0_pay114 (View.ld (Val := Elt F) (e' := .bf16) Q (qcols g)) (View.ld (Val := Elt F) (e' := .bf16) K (kcols (krow i ⟨n, h⟩) (krow_le i ⟨n, h⟩) g)) ((st i Q K V n).2 g))
      else st i Q K V n

section Loop

variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (arg2 : BitVec 32) (v17 : BitVec 32) (v336 : FVec F S256x256 .bf16) (v367 : FVec F S256x256 .bf16) (v390 : BitVec 32)
  (Q : Vec F S256x1024 .bf16) (K V : Vec F S4096x1024 .bf16) (f7 : BufTy.Contents (Elt F) arg7.view.ty) (f8 : BufTy.Contents (Elt F) arg8.view.ty)
  (L7 L8 : List (View.Piece (Elt F) S8x256x128 .f32))

/-- The diagonal block's stores over earlier ones. -/
abbrev diag7 (i : grid0.Coords) (Q : Vec F S256x1024 .bf16) (K V : Vec F S4096x1024 .bf16) (L7 : List (View.Piece (Elt F) S8x256x128 .f32)) :=
  planes (F := F) ((st i Q K V 0).1) ++ L7

abbrev diag8 (i : grid0.Coords) (Q : Vec F S256x1024 .bf16) (K V : Vec F S4096x1024 .bf16) (L8 : List (View.Piece (Elt F) S8x256x128 .f32)) :=
  planes (F := F) ((st i Q K V 0).2) ++ L8

/-- After `n` trips every plane of the two scratch buffers reads the recursion. -/
theorem loop_reads (n : ℕ) (hn : n ≤ (k0_t1_loop i).trips) :
    (∀ g, View.readAt (Elt F) arg7.view (plane g).toLoadRect (arg7.view.writes (Elt F) f7
        ((pb_k0_t1 𝒱 c bd i arg3 harg3 arg4 harg4 arg5 harg5 arg6 harg6 arg7 harg7 arg8 harg8 arg2 k0_pay114 v17 v336 v367 (harg3.unread Q) (harg4.unread K) (harg5.unread V)
          (arg7.view.writes (Elt F) f7 (diag7 i Q K V L7)) (arg8.view.writes (Elt F) f8 (diag8 i Q K V L8)) n).1 ++ diag7 i Q K V L7))
        = (st i Q K V n).1 g)
    ∧ (∀ g, View.readAt (Elt F) arg8.view (plane g).toLoadRect (arg8.view.writes (Elt F) f8
        ((pb_k0_t1 𝒱 c bd i arg3 harg3 arg4 harg4 arg5 harg5 arg6 harg6 arg7 harg7 arg8 harg8 arg2 k0_pay114 v17 v336 v367 (harg3.unread Q) (harg4.unread K) (harg5.unread V)
          (arg7.view.writes (Elt F) f7 (diag7 i Q K V L7)) (arg8.view.writes (Elt F) f8 (diag8 i Q K V L8)) n).2 ++ diag8 i Q K V L8))
        = (st i Q K V n).2 g) := by
  induction n with
  | zero => exact ⟨fun g => readAt_planes arg7.view f7 _ L7 g, fun g => readAt_planes arg8.view f8 _ L8 g⟩
  | succ n ih =>
    obtain ⟨h7, h8⟩ := ih (by omega)
    have hs := pb_k0_t1_succ 𝒱 c bd i arg3 harg3 arg4 harg4 arg5 harg5 arg6 harg6 arg7 harg7 arg8 harg8 arg2 k0_pay114 v17 v336 v367 (harg3.unread Q) (harg4.unread K) (harg5.unread V)
          (arg7.view.writes (Elt F) f7 (diag7 i Q K V L7)) (arg8.view.writes (Elt F) f8 (diag8 i Q K V L8)) ⟨n, hn⟩
    dsimp only at hs
    rw [← View.writes_append, ← View.writes_append] at hs
    have e : st i Q K V (n + 1) = _ := dif_pos (show n < (k0_t1_loop i).trips from hn)
    rw [hs, e]
    dsimp only
    rw [trip_acc, trip_car]
    constructor
    · intro g
      rw [List.append_assoc, readAt_planes, h7 g, h8 g]
      simp only [readAt_unread]
    · intro g
      rw [List.append_assoc, readAt_planes, h8 g]
      simp only [readAt_unread]

/-- The second loop makes no trip. -/
theorem trips2 (i : grid0.Coords) : (k0_t2_loop i).trips = 0 := Nat.le_zero.mp (k0_t2_abs i).2.1

end Loop

/-- The output block's stores: head `g`'s columns. -/
def outs (pay : Fin 8 → Vec F S256x128 .bf16) : List (View.Piece (Elt F) S256x1024 .bf16) :=
  [⟨qcols 7, pay 7⟩, ⟨qcols 6, pay 6⟩, ⟨qcols 5, pay 5⟩, ⟨qcols 4, pay 4⟩, ⟨qcols 3, pay 3⟩, ⟨qcols 2, pay 2⟩, ⟨qcols 1, pay 1⟩, ⟨qcols 0, pay 0⟩]

section Final

variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole)
  (harg7 : scM0_0.IsWhole) (harg8 : scM0_1.IsWhole) (arg2 : BitVec 32) (v17 : BitVec 32) (v336 : FVec F S256x256 .bf16) (v367 : FVec F S256x256 .bf16) (v390 : BitVec 32)
  (Q : Vec F S256x1024 .bf16) (K V : Vec F S4096x1024 .bf16)

/-- The fills the body begins with. -/
abbrev fill7 : List (View.Piece (Elt F) S8x256x128 .f32) := [⟨Rect.unit ![0, 0, 0] S8x256x128.size inb_S8x256x128_S8x256x128_0_0_0, k0_pay116⟩]
abbrev fill8 : List (View.Piece (Elt F) S8x256x128 .f32) := [⟨Rect.unit ![0, 0, 0] S8x256x128.size inb_S8x256x128_S8x256x128_0_0_0, k0_pay117⟩]

/-- The diagonal block's stores as the body states them, from what it loads. -/
theorem diag7_eq : planes (F := F) (fun g => dacc (View.readAt (Elt F) arg3.view (qcols g).toLoadRect (harg3.unread Q))
      (View.readAt (Elt F) arg4.view (kcols (drow i) (drow_le i) g).toLoadRect (harg4.unread K)) (View.readAt (Elt F) arg5.view (kcols (drow i) (drow_le i) g).toLoadRect (harg5.unread V))
      (View.ld (Val := Elt F) (e' := .f32) k0_pay117 (plane g)) (View.ld (Val := Elt F) (e' := .f32) k0_pay116 (plane g))) ++ fill7 = diag7 i Q K V fill7 := by
  simp only [readAt_unread]
  rfl

theorem diag8_eq : planes (F := F) (fun g => dcar (View.readAt (Elt F) arg3.view (qcols g).toLoadRect (harg3.unread Q))
      (View.readAt (Elt F) arg4.view (kcols (drow i) (drow_le i) g).toLoadRect (harg4.unread K))
      (View.ld (Val := Elt F) (e' := .f32) k0_pay117 (plane g))) ++ fill8 = diag8 i Q K V fill8 := by
  simp only [readAt_unread]
  rfl

/-- The output block read after the body: per head the accumulator the loops leave. -/
theorem final_out (D7 D8 : List (View.Piece (Elt F) S8x256x128 .f32)) (h7 : D7 = diag7 i Q K V fill7) (h8 : D8 = diag8 i Q K V fill8) (y : S256x1024.Idx) :
    View.read (Elt F) VO0_3 (VO0_3.writes (Elt F) VO0_3.junk (outs fun g => k0_pay1 ((View.whole cc0_scratch0).readCov
      ((pb_k0_t2 𝒱 c bd i arg3 harg3 arg4 harg4 arg5 harg5 arg6 harg6 scM0_0 harg7 scM0_1 harg8 arg2 k0_pay114 v17 v336 v367 v390 (harg3.unread Q) (harg4.unread K) (harg5.unread V)
          ((View.whole cc0_scratch0).writes (Elt F) (View.whole cc0_scratch0).junk ((pb_k0_t1 𝒱 c bd i arg3 harg3 arg4 harg4 arg5 harg5 arg6 harg6 scM0_0 harg7 scM0_1 harg8 arg2 k0_pay114 v17 v336 v367 (harg3.unread Q) (harg4.unread K) (harg5.unread V)
          ((View.whole cc0_scratch0).writes (Elt F) (View.whole cc0_scratch0).junk (D7)) ((View.whole cc0_scratch1).writes (Elt F) (View.whole cc0_scratch1).junk (D8)) (k0_t1_loop i).trips).1 ++ D7))
          ((View.whole cc0_scratch1).writes (Elt F) (View.whole cc0_scratch1).junk ((pb_k0_t1 𝒱 c bd i arg3 harg3 arg4 harg4 arg5 harg5 arg6 harg6 scM0_0 harg7 scM0_1 harg8 arg2 k0_pay114 v17 v336 v367 (harg3.unread Q) (harg4.unread K) (harg5.unread V)
          ((View.whole cc0_scratch0).writes (Elt F) (View.whole cc0_scratch0).junk (D7)) ((View.whole cc0_scratch1).writes (Elt F) (View.whole cc0_scratch1).junk (D8)) (k0_t1_loop i).trips).2 ++ D8)) (k0_t2_loop i).trips).1 ++
       ((pb_k0_t1 𝒱 c bd i arg3 harg3 arg4 harg4 arg5 harg5 arg6 harg6 scM0_0 harg7 scM0_1 harg8 arg2 k0_pay114 v17 v336 v367 (harg3.unread Q) (harg4.unread K) (harg5.unread V)
          ((View.whole cc0_scratch0).writes (Elt F) (View.whole cc0_scratch0).junk (D7)) ((View.whole cc0_scratch1).writes (Elt F) (View.whole cc0_scratch1).junk (D8)) (k0_t1_loop i).trips).1 ++ D7)) (plane g).toLoadRect))) y
    = View.canon (outs fun g => k0_pay1 ((st i Q K V (k0_t1_loop i).trips).1 g)) y := by
  subst h7 h8
  rw [View.read_writes_junk_apply_eq_canon]
  refine congrFun (congrArg (fun p => View.canon (outs p)) (funext fun g => congrArg k0_pay1 ?_)) y
  rw [trips2]
  exact (loop_reads 𝒱 c bd i arg3 harg3 arg4 harg4 arg5 harg5 arg6 harg6 scM0_0 harg7 scM0_1 harg8 arg2 v17 v336 v367 Q K V _ _ fill7 fill8 _ le_rfl).1 g

end Final

end Cert.SB

end
-- ==== Proof.SB.Out.lean ====
/- The output block of a grid point of the stick-breaking attention: per head the accumulator the loops leave. -/
module

public import proofs.«01_k».proof.Proof.SB.Body

@[expose] public section

set_option maxRecDepth 16384

noncomputable section

open Idealize.ShloMosaic Idealize.ShloMosaic.TcCoe Idealize.SL.Sem

namespace Cert.SB

open Cert.KernelIdeal Cert.KernelIdeal.Gen

variable {F : FTy → Type} [FloatOps F] [Named F]

variable (m : (ℓ : Loc nD τ sig) → Buf (Elt F) ℓ)

set_option maxHeartbeats 1000000 in
/-- What the kernel stores in the output block at point `t`. -/
theorem outsAt_eq (c : Dev nD) (t : Fin cfg0.N) (y : S256x1024.Idx) :
    outsAt0 m c t y
      = View.canon (outs fun g => k0_pay1 ((st (grid0.coords t) (iblk m c 0 t) (iblk m c 1 t) (iblk m c 2 t) (k0_t1_loop (grid0.coords t)).trips).1 g)) y := by
  unfold outsAt0 out0_A_3
  frame_open
  simp (disch := decide) only [↓ View.readCov_skip, ↓ View.readCov_cons_toLoadRect, ↓ View.readCov_fill]
  refine final_out Variants.none c none (grid0.coords t) (ms0_0 t) (hs0_0 t) (ms0_1 t) (hs0_1 t) (ms0_2 t) (hs0_2 t) (ms0_3 t) (hs0_3 t) _ _ _ _ _ _ _ (iblk m c 0 t) (iblk m c 1 t) (iblk m c 2 t) _ _ ?_ ?_ y
  · rw [← diag7_eq (grid0.coords t) (ms0_0 t) (hs0_0 t) (ms0_1 t) (hs0_1 t) (ms0_2 t) (hs0_2 t)]
    rfl
  · rw [← diag8_eq (grid0.coords t) (ms0_0 t) (hs0_0 t) (ms0_1 t) (hs0_1 t)]
    rfl

end Cert.SB

end
-- ==== Proof.SB.Math.lean ====
/- The mathematics of a stick-breaking row: softplus in base-two units, the running sums of it from the right, and the
   weights both programs compute. Nothing of either program. -/
module

public import Idealize.ShloMosaic.Lib.Pointwise
public import Idealize.ShloMosaic.Lib.IdealHost
public import Idealize.ShloMosaic.Lib.WordCmp

@[expose] public section

noncomputable section

open Idealize.ShloMosaic

namespace Cert.SB

/-- Softplus in base-two units of an extended logit below `⊤`: `log₂ (1 + 2^z)`, zero at `⊥`. -/
def spR (z : EReal) : ℝ := if z = ⊥ then 0 else Real.log (1 + (2 : ℝ) ^ z.toReal) / Real.log 2

theorem spR_bot : spR ⊥ = 0 := if_pos rfl
theorem spR_coe (x : ℝ) : spR (x : EReal) = Real.log (1 + (2 : ℝ) ^ x) / Real.log 2 := by
  rw [spR, if_neg (EReal.coe_ne_bot x), EReal.toReal_coe]

theorem ofBits_64 : Ideal.ofBits .f32 0x42800000#32 = ((64 : ℝ) : EReal) := by
  simp [Ideal.ofBits, Ideal.ieee, -EReal.coe_mul, -EReal.coe_neg]
  norm_num
theorem ofBits_neg_one : Ideal.ofBits .f32 0xBF800000#32 = ((-1 : ℝ) : EReal) := by
  simp [Ideal.ofBits, Ideal.ieee, -EReal.coe_mul, -EReal.coe_neg]
  norm_num
theorem ofBits_two : Ideal.ofBits .f32 0x40000000#32 = ((2 : ℝ) : EReal) := by
  simp [Ideal.ofBits, Ideal.ieee, -EReal.coe_mul, -EReal.coe_neg]
  norm_num

/-- The clamped softplus is softplus where the clamp is slack. -/
theorem sp_eq (z : EReal) (h : z ≤ ((64 : ℝ) : EReal)) :
    max z (Ideal.log (1 + Ideal.exp2 (min z ((64 : ℝ) : EReal))) * (((Real.log 2)⁻¹ : ℝ) : EReal)) = (spR z : EReal) := by
  rw [min_eq_left h]
  induction z with
  | bot =>
    rw [spR_bot, Ideal.exp2_bot, add_zero, show (1 : EReal) = ((1 : ℝ) : EReal) from rfl, Ideal.log_coe, if_neg (by norm_num)]
    simp
  | top => exact absurd h (by simp)
  | coe x =>
    have hp : (0 : ℝ) < (2 : ℝ) ^ x := Real.rpow_pos_of_pos (by norm_num) x
    have hl : 0 < Real.log 2 := Real.log_pos (by norm_num)
    rw [spR_coe, Ideal.exp2_coe, show (1 : EReal) = ((1 : ℝ) : EReal) from rfl, ← EReal.coe_add, Ideal.log_coe,
      if_neg (by show ¬ (1 + (2 : ℝ) ^ x ≤ 0); linarith), ← EReal.coe_mul]
    have hx : x ≤ Real.log (1 + (2 : ℝ) ^ x) / Real.log 2 := by
      rw [le_div_iff₀ hl, ← Real.log_rpow (by norm_num)]
      exact Real.log_le_log hp (by linarith)
    rw [div_eq_mul_inv] at hx ⊢
    exact max_eq_right (EReal.coe_le_coe_iff.mpr hx)

/-- The masked softplus of key `s` for query position `t`. -/
def M (t : ℕ) (z : ℕ → EReal) (s : ℕ) : ℝ := if s < t then spR (z s) else 0

/-- Its sum from key `s` on. -/
def suf (t : ℕ) (z : ℕ → EReal) (s : ℕ) : ℝ := ∑ j ∈ Finset.Ico s 4096, M t z j

/-- The stick-breaking weight of key `s`. -/
def Wt (t : ℕ) (z : ℕ → EReal) (s : ℕ) : EReal := if s < t then Ideal.exp2 (z s - (suf t z s : EReal)) else 0

/-- The weighted values of the keys from `lo` on. -/
def acc (t : ℕ) (z v : ℕ → EReal) (lo : ℕ) : EReal := ∑ s ∈ Finset.Ico lo 4096, Wt t z s * v s

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the block's keys after `s`, as a masked sum over the block. -/
theorem sum_after {A : Type} [AddCommMonoid A] (f : ℕ → A) (lo : ℕ) (s : Fin 256) :
    ∑ x : Fin 256, (if s < x then f (lo + x.val) else 0) = ∑ j ∈ Finset.Ico (lo + s.val + 1) (lo + 256), f j := by
  have h := Finset.sum_range (n := 256) (fun x => if s.val < x then f (lo + x) else 0)
  have e : ∀ x : Fin 256, (if s < x then f (lo + x.val) else 0) = (if s.val < x.val then f (lo + x.val) else 0) := fun x => rfl
  rw [Finset.sum_congr rfl fun x _ => e x, ← h, ← Finset.sum_filter]
  have hf : (Finset.range 256).filter (fun x => s.val < x) = Finset.Ico (s.val + 1) 256 := by
    ext x; simp only [Finset.mem_filter, Finset.mem_range, Finset.mem_Ico]; omega
  rw [hf, Finset.sum_Ico_add, Nat.add_comm (s.val + 1) lo, Nat.add_comm 256 lo, ← Nat.add_assoc]

theorem sum_block {A : Type} [AddCommMonoid A] (f : ℕ → A) (lo : ℕ) :
    ∑ x : Fin 256, f (lo + x.val) = ∑ j ∈ Finset.Ico lo (lo + 256), f j := by
  rw [← Finset.sum_range (n := 256) (fun x => f (lo + x)), Finset.range_eq_Ico, Finset.sum_Ico_add, Nat.zero_add, Nat.add_comm 256 lo]

/-- The matrix product with the strictly lower `-1`s is minus the block's softplus after `s`. -/
theorem excl_eq (t : ℕ) (z : ℕ → EReal) (lo : ℕ) (s : Fin 256) :
    ∑ x : Fin 256, (if s < x then (M t z (lo + x.val) : EReal) * ((-1 : ℝ) : EReal) else 0)
      = ((-∑ j ∈ Finset.Ico (lo + s.val + 1) (lo + 256), M t z j : ℝ) : EReal) := by
  rw [← sum_after (fun j => M t z j) lo s, ← Finset.sum_neg_distrib, coe_sum]
  refine Finset.sum_congr rfl fun x _ => ?_
  by_cases h : s < x
  · rw [if_pos h, if_pos h, ← EReal.coe_mul, mul_neg_one]
  · rw [if_neg h, if_neg h, neg_zero]; rfl

theorem suf_split (t : ℕ) (z : ℕ → EReal) {a b : ℕ} (hab : a ≤ b) (hb : b ≤ 4096) :
    suf t z a = (∑ j ∈ Finset.Ico a b, M t z j) + suf t z b := (Finset.sum_Ico_consecutive _ hab hb).symm

theorem acc_split (t : ℕ) (z v : ℕ → EReal) {a b : ℕ} (hab : a ≤ b) (hb : b ≤ 4096) :
    acc t z v a = (∑ s ∈ Finset.Ico a b, Wt t z s * v s) + acc t z v b := (Finset.sum_Ico_consecutive _ hab hb).symm

/-- The carry's step over the block from `lo` on. -/
theorem carry_step (t : ℕ) (z : ℕ → EReal) {lo : ℕ} (hlo : lo + 256 ≤ 4096) :
    ((-suf t z (lo + 256) : ℝ) : EReal)
        + ((∑ x : Fin 256, (if (0 : Fin 256) < x then (M t z (lo + x.val) : EReal) * ((-1 : ℝ) : EReal) else 0)) - (M t z lo : EReal))
      = ((-suf t z lo : ℝ) : EReal) := by
  rw [excl_eq, ← EReal.coe_sub, ← EReal.coe_add]
  congr 1
  rw [suf_split t z (show lo ≤ lo + 256 by omega) hlo, Finset.sum_eq_sum_Ico_succ_bot (show lo < lo + 256 by omega)]
  show _ + (-∑ j ∈ Finset.Ico (lo + 0 + 1) (lo + 256), M t z j - _) = _
  rw [Nat.add_zero]
  ring

/-- The block's exponent: the logit minus the softplus from its key on. -/
theorem exponent_step (t : ℕ) (z : ℕ → EReal) {lo : ℕ} (hlo : lo + 256 ≤ 4096) (s : Fin 256) (Z : EReal) :
    Z - (M t z (lo + s.val) : EReal) + (∑ x : Fin 256, (if s < x then (M t z (lo + x.val) : EReal) * ((-1 : ℝ) : EReal) else 0))
        + ((-suf t z (lo + 256) : ℝ) : EReal)
      = Z - (suf t z (lo + s.val) : EReal) := by
  have hs := s.isLt
  rw [excl_eq, sub_eq_add_neg, sub_eq_add_neg, add_assoc, add_assoc, ← EReal.coe_neg, ← EReal.coe_neg, ← EReal.coe_add, ← EReal.coe_add]
  congr 2
  rw [suf_split t z (show lo + s.val ≤ lo + 256 by omega) hlo, Finset.sum_eq_sum_Ico_succ_bot (show lo + s.val < lo + 256 by omega)]
  ring

/-- The accumulator's step. -/
theorem acc_step (t : ℕ) (z v : ℕ → EReal) {lo : ℕ} (hlo : lo + 256 ≤ 4096) :
    acc t z v (lo + 256) + ∑ x : Fin 256, Wt t z (lo + x.val) * v (lo + x.val) = acc t z v lo := by
  rw [acc_split t z v (show lo ≤ lo + 256 by omega) hlo, sum_block (fun s => Wt t z s * v s) lo, add_comm]

/-- Beyond the diagonal block nothing is summed. -/
theorem suf_beyond (t : ℕ) (z : ℕ → EReal) {lo : ℕ} (h : t ≤ lo) : suf t z lo = 0 :=
  Finset.sum_eq_zero fun j hj => if_neg (by have := (Finset.mem_Ico.mp hj).1; omega)

theorem acc_beyond (t : ℕ) (z v : ℕ → EReal) {lo : ℕ} (h : t ≤ lo) : acc t z v lo = 0 :=
  Finset.sum_eq_zero fun j hj => by
    rw [Wt, if_neg (by have := (Finset.mem_Ico.mp hj).1; omega), zero_mul]

/-- A select on a signed comparison of two small counts. -/
theorem select_slt {A : Type} {a b : ℕ} (ha : a < 2 ^ 31) (hb : b < 2 ^ 31) (x y : A) :
    Scalar.select (IntOp.cmpi .slt (BitVec.ofNat 32 a) (BitVec.ofNat 32 b)) x y = if a < b then x else y := by
  rw [WordCmp.cmpi_slt_ofNat (w := 32) ha hb]
  by_cases h : a < b <;> simp [h, Scalar.select]

theorem select_sgt {A : Type} {a b : ℕ} (ha : a < 2 ^ 31) (hb : b < 2 ^ 31) (x y : A) :
    Scalar.select (IntOp.cmpi .sgt (BitVec.ofNat 32 a) (BitVec.ofNat 32 b)) x y = if b < a then x else y := by
  rw [WordCmp.cmpi_sgt_ofNat (w := 32) ha hb]
  by_cases h : b < a <;> simp [h, Scalar.select]

/-- Softplus as the host computes it. -/
def spH (y : EReal) : EReal := max y 0 + Ideal.log1p (Ideal.exp (-(max y (-y))))

theorem spH_bot : spH ⊥ = 0 := by
  rw [spH, EReal.neg_bot, max_eq_right (bot_le : (⊥ : EReal) ≤ ⊤), EReal.neg_top, Ideal.exp_bot, max_eq_right (bot_le : (⊥ : EReal) ≤ 0), Ideal.log1p,
    add_zero, show (1 : EReal) = ((1 : ℝ) : EReal) from rfl, Ideal.log_coe, if_neg (by norm_num), Real.log_one]
  simp

theorem spH_top : spH ⊤ = ⊤ := by
  rw [spH, EReal.neg_top, max_eq_left (bot_le : (⊥ : EReal) ≤ ⊤), EReal.neg_top, Ideal.exp_bot, max_eq_left (le_top : (0 : EReal) ≤ ⊤), Ideal.log1p,
    add_zero, show (1 : EReal) = ((1 : ℝ) : EReal) from rfl, Ideal.log_coe, if_neg (by norm_num), Real.log_one]
  simp

theorem coe_max (a b : ℝ) : max (a : EReal) (b : EReal) = ((max a b : ℝ) : EReal) := (EReal.coe_strictMono.monotone.map_max).symm

theorem spH_coe (y : ℝ) : spH (y : EReal) = ((Real.log (1 + Real.exp y) : ℝ) : EReal) := by
  have hp := Real.exp_pos (-(max y (-y)))
  rw [spH, ← EReal.coe_neg, coe_max, ← EReal.coe_neg, Ideal.exp_coe, Ideal.log1p, show (1 : EReal) = ((1 : ℝ) : EReal) from rfl,
    ← EReal.coe_add, Ideal.log_coe, if_neg (by linarith), show (0 : EReal) = ((0 : ℝ) : EReal) from rfl, coe_max, ← EReal.coe_add]
  congr 1
  rcases le_total 0 y with h | h
  · rw [max_eq_left h, max_eq_left (by linarith)]
    have e : 1 + Real.exp y = Real.exp y * (1 + Real.exp (-y)) := by
      rw [mul_add, mul_one, ← Real.exp_add, add_neg_cancel, Real.exp_zero]; ring
    have hp' := Real.exp_pos (-y)
    rw [e, Real.log_mul (Real.exp_pos y).ne' (by linarith), Real.log_exp]
  · rw [max_eq_right h, max_eq_right (by linarith), neg_neg, zero_add]

theorem log_two_pos : (0 : ℝ) < Real.log 2 := Real.log_pos (by norm_num)

theorem exp_mul_log_two (x : ℝ) : Real.exp (x * Real.log 2) = (2 : ℝ) ^ x := by
  rw [Real.rpow_def_of_pos (by norm_num), mul_comm]

/-- The host's softplus of the natural logit is `ln 2` times softplus in base-two units. -/
theorem spH_eq (z : EReal) (hz : z ≠ ⊤) : spH (z * ((Real.log 2 : ℝ) : EReal)) = ((Real.log 2 * spR z : ℝ) : EReal) := by
  induction z with
  | bot => rw [EReal.bot_mul_coe_of_pos log_two_pos, spH_bot, spR_bot, mul_zero]; rfl
  | top => exact absurd rfl hz
  | coe x =>
    rw [← EReal.coe_mul, spH_coe, spR_coe, exp_mul_log_two, mul_div_cancel₀ _ log_two_pos.ne']

/-- `exp (log σ(z ln 2) − ln 2 · S) = 2^(z − (sp z + S))`: the reference's weight of a key, and the kernel's. -/
theorem weight_eq (z : EReal) (hz : z ≠ ⊤) (S : ℝ) :
    Ideal.exp (-(spH (-(z * ((Real.log 2 : ℝ) : EReal)))) + ((-(Real.log 2 * S) : ℝ) : EReal))
      = Ideal.exp2 (z - ((spR z + S : ℝ) : EReal)) := by
  induction z with
  | bot =>
    rw [EReal.bot_mul_coe_of_pos log_two_pos, EReal.neg_bot, spH_top, EReal.neg_top, EReal.bot_add, Ideal.exp_bot, sub_eq_add_neg, EReal.bot_add, Ideal.exp2_bot]
  | top => exact absurd rfl hz
  | coe x =>
    have hp : (0 : ℝ) < (2 : ℝ) ^ x := Real.rpow_pos_of_pos (by norm_num) x
    rw [← EReal.coe_mul, ← EReal.coe_neg, spH_coe, ← EReal.coe_neg, ← EReal.coe_add, Ideal.exp_coe, ← EReal.coe_sub, Ideal.exp2_coe]
    congr 1
    show _ = (2 : ℝ) ^ (x - (spR x + S))
    rw [← exp_mul_log_two, spR_coe, Real.exp_neg, exp_mul_log_two]
    congr 1
    have e : 1 + ((2 : ℝ) ^ x)⁻¹ = (1 + (2 : ℝ) ^ x) / (2 : ℝ) ^ x := by
      rw [add_div, div_self hp.ne', one_div, add_comm]
    rw [e, Real.log_div (by linarith) hp.ne', Real.log_rpow (by norm_num)]
    have := log_two_pos.ne'
    field_simp
    ring

end Cert.SB

end
-- ==== Proof.SB.Steps.lean ====
/- The recursion `st` of a grid point read over the extended reals: after `n` trips a head's carry is minus the softplus of the keys
   already met, its accumulator their weighted values. -/
module

public import proofs.«01_k».proof.Proof.SB.Body
public import proofs.«01_k».proof.Proof.SB.Math

@[expose] public section

set_option maxRecDepth 16384

noncomputable section

open Idealize.ShloMosaic Idealize.ShloMosaic.TcCoe Idealize.SL.Sem

namespace Cert.SB

open Cert.KernelIdeal Cert.KernelIdeal.Gen

/-- The logit of query row `r` and key row `s` of two blocks. -/
abbrev dotq (q k : Vec Ideal S256x128 .bf16) (r s : Fin 256) : EReal := ∑ x : Fin 128, q (ix2 r x) * k (ix2 s x)

theorem exp2_eq (x : EReal) : (FloatOps.exp2 (F := Ideal) (φ := .f32) x) = Ideal.exp2 x := rfl

theorem log2e_eq : (Named.named (F := Ideal) κ "log2e" (φ := .f32) 0x3FB8AA3B#32) = (((Real.log 2)⁻¹ : ℝ) : EReal) := rfl

theorem pay2_at (q k : Vec Ideal S256x128 .bf16) (r s : Fin 256) : k0_pay2 q k (ix2 r s) = dotq q k r s := by
  pointwise [k0_pay2]

theorem pay3_at (q k : Vec Ideal S256x128 .bf16) (r s : Fin 256) (h : dotq q k r s ≤ ((64 : ℝ) : EReal)) :
    k0_pay3 q k (ix2 r s) = (spR (dotq q k r s) : EReal) := by
  rw [← sp_eq _ h, ← ofBits_64]
  pointwise [k0_pay3, k0_pay2]
  rfl

theorem pay118_at (q k : Vec Ideal S256x128 .bf16) (r s : Fin 256) : k0_pay118 q k (ix2 r s) = dotq q k r s := by
  pointwise [k0_pay118]

theorem pay119_at (q k : Vec Ideal S256x128 .bf16) (r s : Fin 256) (h : s < r → dotq q k r s ≤ ((64 : ℝ) : EReal)) :
    k0_pay119 q k (ix2 r s) = ((if s < r then spR (dotq q k r s) else 0 : ℝ) : EReal) := by
  have hr := r.isLt
  have hs := s.isLt
  have e : k0_pay119 q k (ix2 r s) = Scalar.select (IntOp.cmpi .slt (BitVec.ofNat 32 s.val) (BitVec.ofNat 32 r.val))
      (max (dotq q k r s) (Ideal.log (1 + Ideal.exp2 (min (dotq q k r s) (Ideal.ofBits .f32 0x42800000#32))) * (((Real.log 2)⁻¹ : ℝ) : EReal))) 0 := by
    pointwise [k0_pay119, k0_pay118, k0_pay115]
    rfl
  rw [e, select_slt (by omega) (by omega), ofBits_64]
  by_cases hsr : s < r
  · rw [if_pos hsr, if_pos (show s.val < r.val from hsr), sp_eq _ (h hsr)]
  · rw [if_neg hsr, if_neg (show ¬ s.val < r.val from hsr)]
    rfl

/-- The product with the strictly lower `-1`s, at an index. -/
theorem pay6_at (q k : Vec Ideal S256x128 .bf16) (r s : Fin 256) :
    k0_pay6 k0_pay114 q k (ix2 r s) = ∑ x : Fin 256, (if s < x then k0_pay3 q k (ix2 r x) * ((-1 : ℝ) : EReal) else 0) := by
  pointwise [k0_pay6, k0_pay114]
  refine Finset.sum_congr rfl fun x _ => ?_
  have := x.isLt
  have := s.isLt
  rw [select_sgt (by omega) (by omega), ofBits_neg_one]
  rfl

theorem pay122_at (v : FVec Ideal S256x256 .f32) (r s : Fin 256) :
    k0_pay122 k0_pay114 v (ix2 r s) = ∑ x : Fin 256, (if s < x then v (ix2 r x) * ((-1 : ℝ) : EReal) else 0) := by
  pointwise [k0_pay122, k0_pay114]
  refine Finset.sum_congr rfl fun x _ => ?_
  have := x.isLt
  have := s.isLt
  rw [select_sgt (by omega) (by omega), ofBits_neg_one]
  rfl

/-- A block's weights before its mask. -/
theorem pay7_at (q k : Vec Ideal S256x128 .bf16) (c : Vec Ideal S1x256x128 .f32) (r s : Fin 256) (C : EReal) (hC : ∀ l, c (ix3 0 r l) = C) :
    k0_pay7 k0_pay114 q k c (ix2 r s) = Ideal.exp2 (dotq q k r s - k0_pay3 q k (ix2 r s)
      + (∑ x : Fin 256, (if s < x then k0_pay3 q k (ix2 r x) * ((-1 : ℝ) : EReal) else 0)) + C) := by
  rw [← pay6_at, ← pay2_at]
  pointwise [k0_pay7]
  split <;> rw [hC] <;> rfl

theorem pay124_at (z sp : FVec Ideal S256x256 .f32) (c : Vec Ideal S1x256x128 .f32) (r s : Fin 256) (C : EReal) (hC : ∀ l, c (ix3 0 r l) = C) :
    k0_pay124 k0_pay114 k0_pay115 z sp c (ix2 r s) = if s < r then Ideal.exp2 (z (ix2 r s) - sp (ix2 r s)
      + (∑ x : Fin 256, (if s < x then sp (ix2 r x) * ((-1 : ℝ) : EReal) else 0)) + C) else 0 := by
  have hr := r.isLt
  have hs := s.isLt
  rw [← pay122_at]
  have e : k0_pay124 k0_pay114 k0_pay115 z sp c (ix2 r s) = Scalar.select (IntOp.cmpi .slt (BitVec.ofNat 32 s.val) (BitVec.ofNat 32 r.val))
      (Ideal.exp2 (z (ix2 r s) - sp (ix2 r s) + k0_pay122 k0_pay114 sp (ix2 r s) + C)) 0 := by
    pointwise [k0_pay124, k0_pay115]
    split <;> rw [hC] <;> rfl
  rw [e, select_slt (by omega) (by omega)]
  rfl

theorem tacc_at (q k v : Vec Ideal S256x128 .bf16) (c a : Vec Ideal S1x256x128 .f32) (r : Fin 256) (l : Fin 128) :
    tacc k0_pay114 q k v c a (ix3 0 r l) = a (ix3 0 r l) + ∑ x : Fin 256, k0_pay7 k0_pay114 q k c (ix2 r x) * v (ix2 x l) := by
  pointwise [tacc, k0_pay18, k0_pay9]

theorem tcar_at (q k : Vec Ideal S256x128 .bf16) (c : Vec Ideal S1x256x128 .f32) (r : Fin 256) (l : Fin 128) :
    tcar k0_pay114 q k c (ix3 0 r l) = c (ix3 0 r l) + (k0_pay6 k0_pay114 q k (ix2 r 0) - k0_pay3 q k (ix2 r 0)) := by
  pointwise [tcar, k0_pay8]

theorem dacc_at (q k v : Vec Ideal S256x128 .bf16) (c a : Vec Ideal S1x256x128 .f32) (r : Fin 256) (l : Fin 128) :
    dacc q k v c a (ix3 0 r l) = a (ix3 0 r l) + ∑ x : Fin 256, k0_pay124 k0_pay114 k0_pay115 (k0_pay118 q k) (k0_pay119 q k) c (ix2 r x) * v (ix2 x l) := by
  pointwise [dacc, k0_pay131, k0_pay130]

theorem dcar_at (q k : Vec Ideal S256x128 .bf16) (c : Vec Ideal S1x256x128 .f32) (r : Fin 256) (l : Fin 128) :
    dcar q k c (ix3 0 r l) = c (ix3 0 r l) + (k0_pay122 k0_pay114 (k0_pay119 q k) (ix2 r 0) - k0_pay119 q k (ix2 r 0)) := by
  pointwise [dcar, k0_pay123]

/-! ## One block, in terms of the row's logits and values -/

section Block

variable (q k v : Vec Ideal S256x128 .bf16) (c a : Vec Ideal S1x256x128 .f32) (r : Fin 256) (l : Fin 128)
  (t lo : ℕ) (hlo : lo + 256 ≤ 4096) (z vs : ℕ → EReal) (hz : ∀ s : Fin 256, dotq q k r s = z (lo + s.val)) (hv : ∀ s : Fin 256, v (ix2 s l) = vs (lo + s.val))
  (hb : ∀ s, s < t → z s ≤ ((64 : ℝ) : EReal)) (hc : ∀ l, c (ix3 0 r l) = ((-suf t z (lo + 256) : ℝ) : EReal)) (ha : a (ix3 0 r l) = acc t z vs (lo + 256))

include hlo hz hb hc

theorem below_carry (ht : lo + 256 ≤ t) : tcar k0_pay114 q k c (ix3 0 r l) = ((-suf t z lo : ℝ) : EReal) := by
  have hsp : ∀ s : Fin 256, k0_pay3 q k (ix2 r s) = (M t z (lo + s.val) : EReal) := fun s => by
    have hs := s.isLt
    rw [pay3_at q k r s (by rw [hz]; exact hb _ (by omega)), M, if_pos (by omega), hz]
  rw [tcar_at, hc, pay6_at, Finset.sum_congr rfl fun x _ => by rw [hsp x], hsp 0]
  exact carry_step t z hlo

include hv ha

theorem below_acc (ht : lo + 256 ≤ t) : tacc k0_pay114 q k v c a (ix3 0 r l) = acc t z vs lo := by
  have hsp : ∀ s : Fin 256, k0_pay3 q k (ix2 r s) = (M t z (lo + s.val) : EReal) := fun s => by
    have hs := s.isLt
    rw [pay3_at q k r s (by rw [hz]; exact hb _ (by omega)), M, if_pos (by omega), hz]
  rw [tacc_at, ha, ← acc_step t z vs hlo]
  congr 1
  refine Finset.sum_congr rfl fun s _ => ?_
  have hs := s.isLt
  rw [hv, pay7_at q k c r s _ hc, hsp s, Finset.sum_congr rfl fun x _ => by rw [hsp x], hz, exponent_step t z hlo s, Wt, if_pos (by omega)]

omit hv ha

theorem diag_carry (ht : t = lo + r.val) : dcar q k c (ix3 0 r l) = ((-suf t z lo : ℝ) : EReal) := by
  have hsp : ∀ s : Fin 256, k0_pay119 q k (ix2 r s) = (M t z (lo + s.val) : EReal) := fun s => by
    rw [pay119_at q k r s (fun h => by have h : s.val < r.val := h; rw [hz]; exact hb _ (by omega)), M, hz]
    by_cases h : s < r
    · rw [if_pos h, if_pos (by have h : s.val < r.val := h; omega)]
    · rw [if_neg h, if_neg (by have h : ¬ s.val < r.val := h; omega)]
  rw [dcar_at, hc, pay122_at, Finset.sum_congr rfl fun x _ => by rw [hsp x], hsp 0]
  exact carry_step t z hlo

include hv ha

theorem diag_acc (ht : t = lo + r.val) : dacc q k v c a (ix3 0 r l) = acc t z vs lo := by
  have hsp : ∀ s : Fin 256, k0_pay119 q k (ix2 r s) = (M t z (lo + s.val) : EReal) := fun s => by
    rw [pay119_at q k r s (fun h => by have h : s.val < r.val := h; rw [hz]; exact hb _ (by omega)), M, hz]
    by_cases h : s < r
    · rw [if_pos h, if_pos (by have h : s.val < r.val := h; omega)]
    · rw [if_neg h, if_neg (by have h : ¬ s.val < r.val := h; omega)]
  rw [dacc_at, ha, ← acc_step t z vs hlo]
  congr 1
  refine Finset.sum_congr rfl fun s _ => ?_
  rw [hv, pay124_at _ _ c r s _ hc, pay118_at, hsp s, Finset.sum_congr rfl fun x _ => by rw [hsp x], hz, exponent_step t z hlo s, Wt]
  by_cases h : s < r
  · rw [if_pos h, if_pos (by have h : s.val < r.val := h; omega)]
  · rw [if_neg h, if_neg (by have h : ¬ s.val < r.val := h; omega)]

end Block

end Cert.SB

end
-- ==== Proof.SB.Row.lean ====
/- A grid point of the stick-breaking attention over the extended reals: after all its trips a query row's accumulator is the
   sum of its weighted values. -/
module

public import proofs.«01_k».proof.Proof.SB.Steps

@[expose] public section

set_option maxRecDepth 16384

noncomputable section

open Idealize.ShloMosaic Idealize.ShloMosaic.TcCoe Idealize.SL.Sem

namespace Cert.SB

open Cert.KernelIdeal Cert.KernelIdeal.Gen

/-- Head `g`'s lane `x` among the 1024 columns. -/
abbrev col (g : Fin 8) (x : Fin 128) : Fin 1024 := ⟨128 * g.val + x.val, by omega⟩

theorem trips_eq : ∀ i : grid0.Coords, (k0_t1_loop i).trips = (i 2).val := by decide +kernel

theorem drow_eq : ∀ i : grid0.Coords, drow i = 256 * (i 2).val := by decide +kernel

theorem krow_eq : ∀ (i : grid0.Coords) (k : Fin (k0_t1_loop i).trips), krow i k = 256 * ((i 2).val - (k.val + 1)) := by decide +kernel

variable (Q : Vec Ideal S256x1024 .bf16) (K V : Vec Ideal S4096x1024 .bf16)

/-- The logits of a query row, key by key. -/
def zrow (g : Fin 8) (r : Fin 256) (s : ℕ) : EReal :=
  if h : s < 4096 then ∑ x : Fin 128, Q (ix2 r (col g x)) * K (ix2 ⟨s, h⟩ (col g x)) else 0

/-- The values of a lane, key by key. -/
def vrow (g : Fin 8) (l : Fin 128) (s : ℕ) : EReal :=
  if h : s < 4096 then V (ix2 ⟨s, h⟩ (col g l)) else 0

theorem ld_q (g : Fin 8) (r : Fin 256) (x : Fin 128) :
    View.ld (Val := Elt Ideal) (e' := .bf16) Q (qcols g) (ix2 r x) = Q (ix2 r (col g x)) :=
  View.ld_unit_apply_of (Val := Elt Ideal) (e := .bf16) Q _ _ (qcols_inb g) (ix2 r x) (ix2 r (col g x)) fun a => by
    match a with
    | ⟨0, _⟩ => exact (Nat.zero_add _).symm
    | ⟨1, _⟩ => rfl

theorem ld_k (o : ℕ) (ho : o + 256 ≤ 4096) (g : Fin 8) (s : Fin 256) (x : Fin 128) :
    View.ld (Val := Elt Ideal) (e' := .bf16) K (kcols o ho g) (ix2 s x) = K (ix2 ⟨o + s.val, by omega⟩ (col g x)) :=
  View.ld_unit_apply_of (Val := Elt Ideal) (e := .bf16) K _ _ (kcols_inb o ho g) (ix2 s x) (ix2 ⟨o + s.val, by omega⟩ (col g x)) fun a => by
    match a with
    | ⟨0, _⟩ => rfl
    | ⟨1, _⟩ => rfl

theorem dot_block (o o' : ℕ) (he : o = o') (ho : o + 256 ≤ 4096) (g : Fin 8) (r s : Fin 256) :
    dotq (View.ld (Val := Elt Ideal) (e' := .bf16) Q (qcols g)) (View.ld (Val := Elt Ideal) (e' := .bf16) K (kcols o ho g)) r s = zrow Q K g r (o' + s.val) := by
  subst he
  rw [zrow, dif_pos (by omega)]
  exact Finset.sum_congr rfl fun x _ => by rw [ld_q, ld_k]

theorem val_block (o o' : ℕ) (he : o = o') (ho : o + 256 ≤ 4096) (g : Fin 8) (s : Fin 256) (l : Fin 128) :
    View.ld (Val := Elt Ideal) (e' := .bf16) V (kcols o ho g) (ix2 s l) = vrow V g l (o' + s.val) := by
  subst he
  rw [vrow, dif_pos (by omega), ld_k]

theorem pay117_ld (g : Fin 8) (r : Fin 256) (l : Fin 128) :
    View.ld (Val := Elt Ideal) (e' := .f32) (k0_pay117 (F := Ideal)) (plane g) (ix3 0 r l) = 0 := by
  show k0_pay117 (F := Ideal) _ = 0
  pointwise [k0_pay117]

theorem pay116_ld (g : Fin 8) (r : Fin 256) (l : Fin 128) :
    View.ld (Val := Elt Ideal) (e' := .f32) (k0_pay116 (F := Ideal)) (plane g) (ix3 0 r l) = 0 := by
  show k0_pay116 (F := Ideal) _ = 0
  pointwise [k0_pay116]

/-- After `n` trips: the carry and the accumulator of query row `256 q + r`, over the keys from `256 (q - n)` on. -/
theorem st_at (i : grid0.Coords) (g : Fin 8) (r : Fin 256)
    (hb : ∀ s, s < 256 * (i 2).val + r.val → zrow Q K g r s ≤ ((64 : ℝ) : EReal)) : ∀ n, n ≤ (i 2).val →
      (∀ l, (st i Q K V n).2 g (ix3 0 r l) = ((-suf (256 * (i 2).val + r.val) (zrow Q K g r) (256 * ((i 2).val - n)) : ℝ) : EReal))
      ∧ ∀ l, (st i Q K V n).1 g (ix3 0 r l) = acc (256 * (i 2).val + r.val) (zrow Q K g r) (vrow V g l) (256 * ((i 2).val - n))
  | 0, _ => by
    have hi : (i 2).val < 16 := (i 2).isLt
    have hr := r.isLt
    have hc : ∀ l, View.ld (Val := Elt Ideal) (e' := .f32) (k0_pay117 (F := Ideal)) (plane g) (ix3 0 r l)
        = ((-suf (256 * (i 2).val + r.val) (zrow Q K g r) (256 * (i 2).val + 256) : ℝ) : EReal) := fun l => by
      rw [pay117_ld, suf_beyond _ _ (by omega), neg_zero]; rfl
    refine ⟨fun l => ?_, fun l => ?_⟩
    · exact diag_carry _ _ _ r l _ _ (by omega) _ (fun s => dot_block Q K _ _ (drow_eq i) _ g r s) hb hc rfl
    · exact diag_acc _ _ _ _ _ r l _ _ (by omega) _ _ (fun s => dot_block Q K _ _ (drow_eq i) _ g r s)
        (fun s => val_block V _ _ (drow_eq i) _ g s l) hb hc (by rw [pay116_ld, acc_beyond _ _ _ (by omega)]) rfl
  | n + 1, hn => by
    have hi : (i 2).val < 16 := (i 2).isLt
    have hr := r.isLt
    have h : n < (k0_t1_loop i).trips := by rw [trips_eq]; omega
    obtain ⟨ihc, iha⟩ := st_at i g r hb n (by omega)
    have e : 256 * ((i 2).val - n) = 256 * ((i 2).val - (n + 1)) + 256 := by omega
    rw [e] at ihc iha
    rw [st, dif_pos h]
    refine ⟨fun l => ?_, fun l => ?_⟩
    · exact below_carry _ _ _ r l _ _ (by omega) _ (fun s => dot_block Q K _ _ (krow_eq i ⟨n, h⟩) _ g r s) hb ihc (by omega)
    · exact below_acc _ _ _ _ _ r l _ _ (by omega) _ _ (fun s => dot_block Q K _ _ (krow_eq i ⟨n, h⟩) _ g r s)
        (fun s => val_block V _ _ (krow_eq i ⟨n, h⟩) _ g s l) hb ihc (iha l) (by omega)

/-- The output block of a grid point. -/
theorem out_at (i : grid0.Coords) (g : Fin 8) (r : Fin 256) (l : Fin 128)
    (hb : ∀ s, s < 256 * (i 2).val + r.val → zrow Q K g r s ≤ ((64 : ℝ) : EReal)) :
    View.canon (outs fun g => k0_pay1 ((st i Q K V (k0_t1_loop i).trips).1 g)) (ix2 r (col g l))
      = acc (256 * (i 2).val + r.val) (zrow Q K g r) (vrow V g l) 0 := by
  have key : ∀ g' : Fin 8, ∀ x : (qcols g').shape.Idx, (qcols g').idx x = ix2 r (col g l) →
      k0_pay1 ((st i Q K V (k0_t1_loop i).trips).1 g') x = acc (256 * (i 2).val + r.val) (zrow Q K g r) (vrow V g l) 0 := by
    intro g' x hx
    have h0 : ((qcols g').idx x 0).val = r.val := congrArg (fun j : S256x1024.Idx => (j 0).val) hx
    have h1 : ((qcols g').idx x 1).val = 128 * g.val + l.val := congrArg (fun j : S256x1024.Idx => (j 1).val) hx
    rw [Rect.idx_unit_val] at h0 h1
    have h0 : 0 + (x 0).val = r.val := h0
    have h1 : 128 * g'.val + (x 1).val = 128 * g.val + l.val := h1
    have x1 : (x 1).val < 128 := (x 1).isLt
    have hl := l.isLt
    obtain rfl : g' = g := Fin.ext (by omega)
    obtain rfl : x = ix2 r l := by
      rw [eq_ix2 x]
      congr 1 <;> apply Fin.ext <;> omega
    have h := (st_at Q K V i g' r hb (i 2).val le_rfl).2 l
    rw [Nat.sub_self, mul_zero] at h
    rw [trips_eq, ← h]
    pointwise [k0_pay1]
  refine View.canon_eq_of_allAt _ _ _ ?_ ?_
  · refine ⟨⟨qcols g, k0_pay1 ((st i Q K V (k0_t1_loop i).trips).1 g)⟩, ?_, (Rect.mem_set_unit (inb := qcols_inb g)).mpr fun a => ?_⟩
    · fin_cases g <;> simp [outs]
    · have hg := g.isLt
      have hl := l.isLt
      have hr := r.isLt
      match a with
      | ⟨0, _⟩ => exact ⟨Nat.zero_le _, show r.val < 0 + 256 by omega⟩
      | ⟨1, _⟩ => exact ⟨show 128 * g.val ≤ 128 * g.val + l.val by omega, show 128 * g.val + l.val < 128 * g.val + 128 by omega⟩
  · intro p hp x hx
    simp only [outs, List.mem_cons, List.not_mem_nil, or_false] at hp
    rcases hp with rfl | rfl | rfl | rfl | rfl | rfl | rfl | rfl <;> exact key _ x hx

end Cert.SB

end
-- ==== Proof.SB.Ref.lean ====
/- The reference of the stick-breaking attention read at an index: the sum of the weighted values. -/
module

public import proofs.«01_k».proof.Proof.Gen.ReferenceIdeal.Read
public import proofs.«01_k».proof.Proof.SB.Math

@[expose] public section

set_option maxRecDepth 16384

noncomputable section

open Idealize.ShloMosaic Idealize.ShloMosaic.TcCoe Idealize.SL.Sem

namespace Cert.SB

open Cert.ReferenceIdeal Cert.ReferenceIdeal.Gen Cert.ReferenceIdeal.Read

theorem foldl_add {A : Type} [AddCommMonoid A] {ι : Type} (g : ι → A) : ∀ (l : List ι) (v : A),
    l.foldl (fun r n => r + g n) v = v + (l.map g).sum
  | [], v => by simp
  | a :: l, v => by rw [List.foldl_cons, foldl_add g l, List.map_cons, List.sum_cons, add_assoc]

/-- One term of a windowed sum. -/
def windowAt {s t : Shape} (window strides lo hi : Fin s.rank → Nat) (h : s.ReduceWindows window strides lo hi t) (x : s.Idx → EReal) (v : EReal) (j : t.Idx)
    (w : (⟨s.rank, window⟩ : Shape).Idx) : EReal :=
  if hin : ∀ a, lo a ≤ (j (a.cast h.1.symm)).val * strides a + (w a).val ∧ (j (a.cast h.1.symm)).val * strides a + (w a).val - lo a < s.size a
  then x (fun a => ⟨(j (a.cast h.1.symm)).val * strides a + (w a).val - lo a, (hin a).2⟩) else v

/-- A windowed sum started at zero, as a sum over the window's positions. -/
theorem window_sum {s t : Shape} (window strides lo hi : Fin s.rank → Nat) (x : s.Idx → EReal)
    (h : s.ReduceWindows window strides lo hi t) (j : t.Idx) :
    Ideal.hostReduceWindowAdd window strides lo hi h x 0 j = ∑ w : (⟨s.rank, window⟩ : Shape).Idx, windowAt window strides lo hi h x 0 j w := by
  have e : Ideal.hostReduceWindowAdd window strides lo hi h x 0 j
      = (List.finRange (⟨s.rank, window⟩ : Shape).numel).foldl (fun r n => r + windowAt window strides lo hi h x 0 j ((⟨s.rank, window⟩ : Shape).rowMajor.symm n)) 0 := by
    unfold Ideal.hostReduceWindowAdd Host.reduceWindow windowAt
    refine congrArg (fun f => List.foldl f 0 _) (funext fun r => funext fun n => congrArg (r + ·) ?_)
    exact dite_congr rfl (fun _ => rfl) (fun _ => rfl)
  rw [e, foldl_add, zero_add, ← Fin.sum_univ_def]
  exact Equiv.sum_comp (⟨s.rank, window⟩ : Shape).rowMajor.symm (windowAt window strides lo hi h x 0 j)

theorem window_host {s t u : Shape} {φ : FTy} (window strides lo hi : Fin s.rank → Nat) (x : FVec Ideal s φ) (init : FVec Ideal u φ)
    (h : s.ReduceWindows window strides lo hi t) (hu : 0 < u.numel) (j : t.Idx) :
    Host.reduceWindowAdd window strides lo hi x init h hu j = Ideal.hostReduceWindowAdd window strides lo hi h x (init (Shape.Idx.first hu)) j := rfl

/-- The running sum from key `s` on. -/
theorem cumsum_at (x : FVec Ideal S4x8x4096x4096 .f32) (init : FVec Ideal S_ .f32) (h0 : init (Shape.Idx.first h_S_) = 0)
    (b : Fin 4) (g : Fin 8) (q s : Fin 4096) :
    Host.reduceWindowAdd ![1, 1, 1, 4096] ![1, 1, 1, 1] ![0, 0, 0, 0] ![0, 0, 0, 4095] x init reduceWindows_S4x8x4096x4096_S4x8x4096x4096_w1s1p0_0_w1s1p0_0_w1s1p0_0_w4096s1p0_4095 h_S_ (ix4 b g q s)
      = ∑ k : Fin 4096, if h : s.val + k.val < 4096 then x (ix4 b g q ⟨s.val + k.val, h⟩) else 0 := by
  rw [window_host, h0, window_sum]
  refine (sum_idx4 (n0 := 1) (n1 := 1) (n2 := 1) (n3 := 4096) _).trans ?_
  simp only [Fin.sum_univ_one]
  refine Finset.sum_congr rfl fun k _ => ?_
  unfold windowAt
  by_cases h : s.val + k.val < 4096
  · rw [dif_pos h, dif_pos (fun a => by
      match a with
      | ⟨0, _⟩ => exact ⟨Nat.zero_le _, show b.val * 1 + 0 - 0 < 4 by omega⟩
      | ⟨1, _⟩ => exact ⟨Nat.zero_le _, show g.val * 1 + 0 - 0 < 8 by omega⟩
      | ⟨2, _⟩ => exact ⟨Nat.zero_le _, show q.val * 1 + 0 - 0 < 4096 by omega⟩
      | ⟨3, _⟩ => exact ⟨Nat.zero_le _, show s.val * 1 + k.val - 0 < 4096 by omega⟩)]
    refine congrArg x (funext fun a => Fin.ext ?_)
    match a with
    | ⟨0, _⟩ => show b.val * 1 + 0 - 0 = b.val; omega
    | ⟨1, _⟩ => show g.val * 1 + 0 - 0 = g.val; omega
    | ⟨2, _⟩ => show q.val * 1 + 0 - 0 = q.val; omega
    | ⟨3, _⟩ => show s.val * 1 + k.val - 0 = s.val + k.val; omega
  · rw [dif_neg h, dif_neg fun hin => h (by
      have := (hin 3).2
      have : s.val * 1 + k.val - 0 < 4096 := this
      omega)]

/-- A sum over the keys from `s` on, counted from `s` or by key. -/
theorem sum_from (f : ℕ → EReal) (s : ℕ) (hs : s < 4096) :
    (∑ k : Fin 4096, if s + k.val < 4096 then f (s + k.val) else 0) = ∑ j ∈ Finset.Ico s 4096, f j := by
  rw [Fin.sum_univ_eq_sum_range (fun k => if s + k < 4096 then f (s + k) else 0) 4096, Finset.sum_Ico_eq_sum_range, ← Finset.sum_filter]
  refine Finset.sum_congr (Finset.ext fun k => ?_) fun _ _ => rfl
  rw [Finset.mem_filter, Finset.mem_range, Finset.mem_range]
  omega

variable (p : FVec Ideal S16384x5120 .bf16)

/-- The logits of query `q` of batch `b` at head `g`, key by key. -/
def pz (b : Fin 4) (g : Fin 8) (q : Fin 4096) (s : ℕ) : EReal :=
  if h : s < 4096 then ∑ x : Fin 128, p (ix2 ⟨4096 * b.val + q.val, by omega⟩ ⟨128 * g.val + x.val, by omega⟩)
    * p (ix2 ⟨4096 * b.val + s, by omega⟩ ⟨1024 + (128 * g.val + x.val), by omega⟩) else 0

/-- The values at lane `l` of head `g`, key by key. -/
def pv (b : Fin 4) (g : Fin 8) (l : Fin 128) (s : ℕ) : EReal :=
  if h : s < 4096 then p (ix2 ⟨4096 * b.val + s, by omega⟩ ⟨2048 + (128 * g.val + l.val), by omega⟩) else 0

theorem v2_at (b : Fin 4) (q : Fin 4096) (g : Fin 8) (x : Fin 128) :
    val_main_v2 (F := Ideal) p (ix4 b q g x) = p (ix2 ⟨4096 * b.val + q.val, by omega⟩ ⟨128 * g.val + x.val, by omega⟩) := by
  rw [val_main_v2_apply, val_main_v1_apply, val_main_v0_apply]
  refine congrArg p ((eq_ix2 _).trans ?_)
  congr 1 <;> apply Fin.ext
  · show (((b.val * 4096 + q.val) * 8 + g.val) * 128 + x.val) / 1024 = 4096 * b.val + q.val
    omega
  · show (((b.val * 4096 + q.val) * 8 + g.val) * 128 + x.val) % 1024 = 128 * g.val + x.val
    omega

theorem v5_at (b : Fin 4) (q : Fin 4096) (g : Fin 8) (x : Fin 128) :
    val_main_v5 (F := Ideal) p (ix4 b q g x) = p (ix2 ⟨4096 * b.val + q.val, by omega⟩ ⟨1024 + (128 * g.val + x.val), by omega⟩) := by
  rw [val_main_v5_apply, val_main_v4_apply, val_main_v3_apply]
  refine congrArg p ((eq_ix2 _).trans ?_)
  congr 1 <;> apply Fin.ext
  · show (((b.val * 4096 + q.val) * 8 + g.val) * 128 + x.val) / 1024 = 4096 * b.val + q.val
    omega
  · show 1024 + (((b.val * 4096 + q.val) * 8 + g.val) * 128 + x.val) % 1024 = 1024 + (128 * g.val + x.val)
    omega

theorem v8_at (b : Fin 4) (q : Fin 4096) (g : Fin 8) (x : Fin 128) :
    val_main_v8 (F := Ideal) p (ix4 b q g x) = pv p b g x q.val := by
  rw [val_main_v8_apply, val_main_v7_apply, val_main_v6_apply, pv, dif_pos q.isLt]
  refine congrArg p ((eq_ix2 _).trans ?_)
  congr 1 <;> apply Fin.ext
  · show (((b.val * 4096 + q.val) * 8 + g.val) * 128 + x.val) / 1024 = 4096 * b.val + q.val
    omega
  · show 2048 + (((b.val * 4096 + q.val) * 8 + g.val) * 128 + x.val) % 1024 = 2048 + (128 * g.val + x.val)
    omega

theorem v10_at (b : Fin 4) (g : Fin 8) (q s : Fin 4096) : val_main_v10 (F := Ideal) p (ix4 b g q s) = pz p b g q s.val := by
  rw [val_main_v10_apply, pz, dif_pos s.isLt]
  refine Finset.sum_congr rfl fun k _ => ?_
  rw [← v2_at p b q g k, ← v5_at p b s g k]
  congr 1 <;> congr 1 <;> exact eq_ix4 _

theorem log2_at (i : S4x8x4096x4096.Idx) : val_main_v14 (F := Ideal) i = ((Real.log 2 : ℝ) : EReal) := by
  rw [val_main_v14_apply, val_main_v13_apply, val_main_cst_apply]
  show Ideal.log (Ideal.ofBits .f32 0x40000000#32) = _
  rw [ofBits_two, Ideal.log_coe, if_neg (by norm_num)]

/-- The host's softplus, with its test for not-a-number. -/
theorem sp_host (x : EReal) : Scalar.select (FloatOps.cmpf (F := Ideal) (φ := .f32) .une (x - 0) (x - 0)) (x + 0) (max x 0 + Ideal.log1p (Ideal.exp (-(max (x - 0) (-(x - 0)))))) = spH x := by
  rw [sub_zero]
  have e : FloatOps.cmpf (F := Ideal) (φ := .f32) .une x x = 0#1 := by
    show Ideal.cmp .une x x = 0#1
    simp [Ideal.cmp]
  rw [e]
  rfl

theorem ofBits_nil : Ideal.ofBits .f32 0x00000000#32 = 0 := by
  simp [Ideal.ofBits, Ideal.ieee]

theorem v15_at (b : Fin 4) (g : Fin 8) (q s : Fin 4096) :
    val_main_v15 (F := Ideal) p (ix4 b g q s) = pz p b g q s.val * ((Real.log 2 : ℝ) : EReal) := by
  rw [val_main_v15_apply, val_main_v12_apply, val_main_v11_apply, v10_at, log2_at]
  rfl

/-- Minus the softplus of the natural logit. -/
theorem v22_at (b : Fin 4) (g : Fin 8) (q s : Fin 4096) :
    val_main_v22 (F := Ideal) p (ix4 b g q s) = -(spH (pz p b g q s.val * ((Real.log 2 : ℝ) : EReal))) := by
  rw [val_main_v22_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply,
    val_main_call0_call0_v1_apply, val_main_call0_call0_v3_apply, val_main_call0_call0_v0_apply, val_main_call0_call0_v2_apply, val_main_call0_call0_v5_apply,
    val_main_call0_call0_cst_apply, val_main_call0_v0_apply, val_main_v21_apply, v15_at]
  show -(Scalar.select (FloatOps.cmpf (F := Ideal) (φ := .f32) .une (-(-(pz p b g q s.val * ((Real.log 2 : ℝ) : EReal))) - Ideal.ofBits .f32 0x00000000#32) (-(-(pz p b g q s.val * ((Real.log 2 : ℝ) : EReal))) - Ideal.ofBits .f32 0x00000000#32)) (-(-(pz p b g q s.val * ((Real.log 2 : ℝ) : EReal))) + Ideal.ofBits .f32 0x00000000#32) (max (-(-(pz p b g q s.val * ((Real.log 2 : ℝ) : EReal)))) (Ideal.ofBits .f32 0x00000000#32) + Ideal.log1p (Ideal.exp (-(max (-(-(pz p b g q s.val * ((Real.log 2 : ℝ) : EReal))) - Ideal.ofBits .f32 0x00000000#32) (-(-(-(pz p b g q s.val * ((Real.log 2 : ℝ) : EReal))) - Ideal.ofBits .f32 0x00000000#32))))))) = _
  rw [ofBits_nil, neg_neg, sp_host]

/-- Minus the softplus of its opposite. -/
theorem v26_at (b : Fin 4) (g : Fin 8) (q s : Fin 4096) :
    val_main_v26 (F := Ideal) p (ix4 b g q s) = -(spH (-(pz p b g q s.val * ((Real.log 2 : ℝ) : EReal)))) := by
  rw [val_main_v26_apply, val_main_call3_v1_apply, val_main_call3_call0_v4_apply, val_main_call3_call0_v6_apply, val_main_call3_call0_v11_apply,
    val_main_call3_call0_v10_apply, val_main_call3_call0_v9_apply, val_main_call3_call0_v8_apply, val_main_call3_call0_v7_apply,
    val_main_call3_call0_v1_apply, val_main_call3_call0_v3_apply, val_main_call3_call0_v0_apply, val_main_call3_call0_v2_apply, val_main_call3_call0_v5_apply,
    val_main_call3_call0_cst_apply, val_main_call3_v0_apply, v15_at]
  show -(Scalar.select (FloatOps.cmpf (F := Ideal) (φ := .f32) .une (-(pz p b g q s.val * ((Real.log 2 : ℝ) : EReal)) - Ideal.ofBits .f32 0x00000000#32) (-(pz p b g q s.val * ((Real.log 2 : ℝ) : EReal)) - Ideal.ofBits .f32 0x00000000#32)) (-(pz p b g q s.val * ((Real.log 2 : ℝ) : EReal)) + Ideal.ofBits .f32 0x00000000#32) (max (-(pz p b g q s.val * ((Real.log 2 : ℝ) : EReal))) (Ideal.ofBits .f32 0x00000000#32) + Ideal.log1p (Ideal.exp (-(max (-(pz p b g q s.val * ((Real.log 2 : ℝ) : EReal)) - Ideal.ofBits .f32 0x00000000#32) (-(-(pz p b g q s.val * ((Real.log 2 : ℝ) : EReal)) - Ideal.ofBits .f32 0x00000000#32))))))) = _
  rw [ofBits_nil, sp_host]

theorem mask_at {A : Type} (q s : Fin 4096) (x y : A) : Scalar.select (val_main_v20 (F := Ideal) (ix2 q s)) x y = if s.val < q.val then x else y := by
  rw [val_main_v20_apply, val_main_v18_apply, val_main_v19_apply, val_main_v16_apply, val_main_v17_apply, val_main_v9_apply, val_main_v9_apply]
  exact select_slt (a := s.val) (b := q.val) (by omega) (by omega) x y

section Masked

variable (b : Fin 4) (g : Fin 8) (q : Fin 4096) (hb : ∀ s, s < q.val → pz p b g q s ≤ ((64 : ℝ) : EReal))
include hb

theorem ne_top (s : ℕ) (hs : s < q.val) : pz p b g q s ≠ ⊤ := fun h => by
  have := hb s hs
  rw [h] at this
  exact absurd (top_le_iff.mp this) (EReal.coe_ne_top _)

theorem v23_at (s : Fin 4096) :
    val_main_v23 (F := Ideal) p (ix4 b g q s) = ((-(Real.log 2 * M q.val (pz p b g q) s.val) : ℝ) : EReal) := by
  rw [val_main_v23_apply, val_main_call1_v1_apply, val_main_call1_v2_apply, val_main_call1_v0_apply, val_main_cst_0_apply, v22_at]
  rw [show idx_main_call1_v1 (ix4 b g q s) = ix2 q s from eq_ix2 _, mask_at, M]
  by_cases h : s.val < q.val
  · rw [if_pos h, if_pos h, spH_eq _ (ne_top p b g q hb _ h), EReal.coe_neg]
  · rw [if_neg h, if_neg h, mul_zero, neg_zero]
    exact ofBits_nil

theorem v24_at (s : Fin 4096) :
    val_main_v24 (F := Ideal) p (ix4 b g q s) = ((-(Real.log 2 * suf q.val (pz p b g q) s.val) : ℝ) : EReal) := by
  unfold val_main_v24
  rw [cumsum_at _ _ (by rw [val_main_call2_v0_apply, val_main_call2_cst_apply]; exact ofBits_nil)]
  have e : ∀ k : Fin 4096, (if h : s.val + k.val < 4096 then val_main_v23 (F := Ideal) p (ix4 b g q ⟨s.val + k.val, h⟩) else 0)
      = if s.val + k.val < 4096 then (fun j => ((-(Real.log 2 * M q.val (pz p b g q) j) : ℝ) : EReal)) (s.val + k.val) else 0 := fun k => by
    by_cases h : s.val + k.val < 4096
    · rw [dif_pos h, if_pos h, v23_at p b g q hb]
    · rw [dif_neg h, if_neg h]
  rw [Finset.sum_congr rfl fun k _ => e k, sum_from (fun j => ((-(Real.log 2 * M q.val (pz p b g q) j) : ℝ) : EReal)) _ s.isLt, ← coe_sum, suf, Finset.mul_sum, ← Finset.sum_neg_distrib]

/-- The reference's weight of a key. -/
theorem v29_at (s : Fin 4096) : val_main_v29 (F := Ideal) p (ix4 b g q s) = Wt q.val (pz p b g q) s.val := by
  rw [val_main_v29_apply, val_main_call4_v1_apply, val_main_call4_v2_apply, val_main_call4_v0_apply, val_main_cst_1_apply,
    val_main_v28_apply, val_main_v27_apply, val_main_v25_apply, v26_at, v24_at p b g q hb, v23_at p b g q hb]
  rw [show idx_main_call4_v1 (ix4 b g q s) = ix2 q s from eq_ix2 _, mask_at, Wt]
  by_cases h : s.val < q.val
  · rw [if_pos h, if_pos h]
    have e : spR (pz p b g q s.val) = M q.val (pz p b g q) s.val := (if_pos h).symm
    have := weight_eq _ (ne_top p b g q hb _ h) (suf q.val (pz p b g q) s.val - M q.val (pz p b g q) s.val)
    rw [e, add_sub_cancel] at this
    rw [← this]
    show Ideal.exp (_ + (((-(Real.log 2 * suf q.val (pz p b g q) s.val) : ℝ) : EReal) - ((-(Real.log 2 * M q.val (pz p b g q) s.val) : ℝ) : EReal))) = _
    rw [← EReal.coe_sub]
    congr 3
    ring
  · rw [if_neg h, if_neg h]
    exact ofBits_nil

/-- The reference's result at a query, head and lane. -/
theorem ref_at (l : Fin 128) :
    val_main_v35 (F := Ideal) p (ix2 ⟨4096 * b.val + q.val, by omega⟩ ⟨128 * g.val + l.val, by omega⟩) = acc q.val (pz p b g q) (pv p b g l) 0 := by
  rw [val_main_v35_apply, val_main_v34_apply, val_main_v33_apply, val_main_v32_apply, acc, ← Finset.range_eq_Ico,
    ← Fin.sum_univ_eq_sum_range (fun s => Wt q.val (pz p b g q) s * pv p b g l s)]
  refine Finset.sum_congr rfl fun s _ => ?_
  rw [val_main_v31_apply, val_main_v30_apply, ← v29_at p b g q hb, ← v8_at, mul_comm]
  have hl := l.isLt
  have hg := g.isLt
  have hq := q.isLt
  refine congrArg₂ (· * ·) (congrArg (val_main_v29 (F := Ideal) p) ((eq_ix4 _).trans ?_)) (congrArg (val_main_v8 (F := Ideal) p) ((eq_ix4 _).trans ?_))
  · congr 1 <;> apply Fin.ext
    · show ((4096 * b.val + q.val) * 1024 + (128 * g.val + l.val)) / 4194304 = b.val
      omega
    · show ((4096 * b.val + q.val) * 1024 + (128 * g.val + l.val)) / 128 % 8 = g.val
      omega
    · show ((4096 * b.val + q.val) * 1024 + (128 * g.val + l.val)) / 1024 % 4096 = q.val
      omega
  · congr 1 <;> apply Fin.ext
    · show ((4096 * b.val + q.val) * 1024 + (128 * g.val + l.val)) / 4194304 = b.val
      omega
    · show ((4096 * b.val + q.val) * 1024 + (128 * g.val + l.val)) / 128 % 8 = g.val
      omega
    · show ((4096 * b.val + q.val) * 1024 + (128 * g.val + l.val)) % 128 = l.val
      omega

end Masked

end Cert.SB

end
-- ==== Proof.SB.Final.lean ====
/- The stick-breaking attention's result array is the reference's, where every causal logit is at most 64. -/
module

public import proofs.«01_k».proof.Proof.SB.Out
public import proofs.«01_k».proof.Proof.SB.Row
public import proofs.«01_k».proof.Proof.SB.Ref
public import proofs.«01_k».proof.Proof.Gen.Pre_logits_at_most_64
public import Idealize.ShloMosaic.Lib.ReduceAll

@[expose] public section

set_option maxRecDepth 16384

noncomputable section

open Idealize.ShloMosaic Idealize.ShloMosaic.TcCoe Idealize.SL.Sem

namespace Cert.SB

open Cert.KernelIdeal Cert.KernelIdeal.Gen Cert.ReferenceIdeal.Read

/-- The precondition at one pair of a query and an earlier key. -/
theorem pre_at (p : FVec Ideal S16384x5120 .bf16) (h : Cert.Pre_logits_at_most_64.fn (F := Ideal) p = fun _ => 1#1)
    (b : Fin 4) (g : Fin 8) (q : Fin 4096) (s : ℕ) (hs : s < q.val) : pz p b g q s ≤ ((64 : ℝ) : EReal) := by
  have hq := q.isLt
  dsimp only [Cert.Pre_logits_at_most_64.fn, Cert.Pre_logits_at_most_64.fn_where] at h
  have h := Host.reduce_andi_all _ _ _ _ _ (congrFun h (fun a => a.elim0)) (ix4 b g q ⟨s, by omega⟩)
  have h : FloatOps.cmpf (F := Ideal) (φ := .f32) .ole (Scalar.select (val_main_call1_v1 (F := Ideal) (ix4 b g q ⟨s, by omega⟩)) (val_main_v10 (F := Ideal) p (ix4 b g q ⟨s, by omega⟩)) (val_main_call1_v2 (F := Ideal) (ix4 b g q ⟨s, by omega⟩)))
      (Ideal.ofBits .f32 0x42800000#32) = 1#1 := h
  rw [val_main_call1_v1_apply, v10_at, ofBits_64, show idx_main_call1_v1 (ix4 b g q ⟨s, by omega⟩) = ix2 q ⟨s, by omega⟩ from eq_ix2 _, mask_at, if_pos hs] at h
  have h : Ideal.cmp .ole (pz p b g q s) ((64 : ℝ) : EReal) = 1#1 := h
  by_contra hne
  exact absurd h (by simp [Ideal.cmp, hne])

variable (m : (ℓ : Loc nD τ sig) → Buf (Elt Ideal) ℓ)

theorem idx : ∀ t : Fin cfg0.N, win0_0.index t = ![16 * (grid0.coords t 0).val + (grid0.coords t 2).val, 0] ∧ win0_1.index t = ![(grid0.coords t 0).val, 1]
    ∧ win0_2.index t = ![(grid0.coords t 0).val, 2] ∧ win0_3.index t = ![16 * (grid0.coords t 0).val + (grid0.coords t 2).val, 0] :=
  (by decide +kernel : ∀ t : Fin grid0.N, _)

/-- The argument array. -/
abbrev argP (c : Dev nD) : FVec Ideal S16384x5120 .bf16 := m ((c : Thread nD τ).loc main_arg0)

theorem q_at (c : Dev nD) (t : Fin cfg0.N) (r : Fin 256) (j : Fin 1024) (b : Fin 4) (qi : Fin 16) (hb : b.val = (grid0.coords t 0).val) (hq : qi.val = (grid0.coords t 2).val) :
    iblk m c 0 t (ix2 r j) = argP m c (ix2 ⟨4096 * b.val + (256 * qi.val + r.val), by omega⟩ ⟨j.val, by omega⟩) := by
  blk_ext [iblk, V, idx t]

theorem k_at (c : Dev nD) (t : Fin cfg0.N) (s : Fin 4096) (j : Fin 1024) (b : Fin 4) (hb : b.val = (grid0.coords t 0).val) :
    iblk m c 1 t (ix2 s j) = argP m c (ix2 ⟨4096 * b.val + s.val, by omega⟩ ⟨1024 + j.val, by omega⟩) := by
  blk_ext [iblk, V, idx t]

theorem v_at (c : Dev nD) (t : Fin cfg0.N) (s : Fin 4096) (j : Fin 1024) (b : Fin 4) (hb : b.val = (grid0.coords t 0).val) :
    iblk m c 2 t (ix2 s j) = argP m c (ix2 ⟨4096 * b.val + s.val, by omega⟩ ⟨2048 + j.val, by omega⟩) := by
  blk_ext [iblk, V, idx t]

theorem point (c : Dev nD) (h : Cert.Pre_logits_at_most_64.fn (F := Ideal) (argP m c) = fun _ => 1#1) (t : Fin cfg0.N) (y : S256x1024.Idx) :
    outsAt0 m c t y = val_main_v35 (F := Ideal) (argP m c) (((cfg0.win 3).blk t).view.emb y) := by
  obtain ⟨r, hr⟩ : ∃ r : Fin 256, r = y 0 := ⟨_, rfl⟩
  have y1 : (y 1).val < 1024 := (y 1).isLt
  obtain ⟨g, hg⟩ : ∃ g : Fin 8, g.val = (y 1).val / 128 := ⟨⟨(y 1).val / 128, by omega⟩, rfl⟩
  obtain ⟨l, hl⟩ : ∃ l : Fin 128, l.val = (y 1).val % 128 := ⟨⟨(y 1).val % 128, by omega⟩, rfl⟩
  obtain rfl : y = ix2 r (col g l) := by
    rw [eq_ix2 y, ← hr]
    congr 1
    apply Fin.ext
    show (y 1).val = 128 * g.val + l.val
    omega
  clear hr hg hl y1
  obtain ⟨b, hb⟩ : ∃ b : Fin 4, b.val = (grid0.coords t 0).val := ⟨⟨(grid0.coords t 0).val, (grid0.coords t 0).isLt⟩, rfl⟩
  obtain ⟨qi, hqi⟩ : ∃ qi : Fin 16, qi.val = (grid0.coords t 2).val := ⟨⟨(grid0.coords t 2).val, (grid0.coords t 2).isLt⟩, rfl⟩
  have hz : zrow (iblk m c 0 t) (iblk m c 1 t) g r = pz (argP m c) b g ⟨256 * qi.val + r.val, by omega⟩ := by
    funext s
    unfold zrow pz
    by_cases hs : s < 4096
    · rw [dif_pos hs, dif_pos hs]
      exact Finset.sum_congr rfl fun x _ => by rw [q_at m c t r _ b qi hb hqi, k_at m c t _ _ b hb]
    · rw [dif_neg hs, dif_neg hs]
  have hv : vrow (iblk m c 2 t) g l = pv (argP m c) b g l := by
    funext s
    unfold vrow pv
    by_cases hs : s < 4096
    · rw [dif_pos hs, dif_pos hs, v_at m c t _ _ b hb]
    · rw [dif_neg hs, dif_neg hs]
  have hle := pre_at (argP m c) h b g ⟨256 * qi.val + r.val, by omega⟩
  rw [outsAt_eq, out_at _ _ _ _ g r l (by rw [hz, ← hqi]; exact hle), hz, hv, ← hqi]
  refine (ref_at (argP m c) b g ⟨256 * qi.val + r.val, by omega⟩ hle l).symm.trans (congrArg (val_main_v35 (F := Ideal) (argP m c)) ?_)
  blk_ext [idx t]

/-- The kernel's result array. -/
theorem final (c : Dev nD) (h : Cert.Pre_logits_at_most_64.fn (F := Ideal) (argP m c) = fun _ => 1#1) :
    (dats m 0 c).arrAt 3 (cfgs 0).N = val_main_v35 (F := Ideal) (argP m c) := by
  refine (dats m 0 c).arrAt_eq_of_covers 3 _ (by decide +kernel) fun t _ y => ?_
  blk_simp
  rw [after0_3]
  exact point m c h t y

end Cert.SB

end
-- ==== Proof.Calls.FfnUp.lean ====
/- The up projection: a tile of the product, the convolution over three rows of it, the gate times the value. -/
module

public import proofs.«01_k».proof.Proof.Gen.FfnUpIdeal.Frame
public import proofs.«01_k».proof.Proof.Gen.FfnUpReferenceIdeal.Read
public import Idealize.ShloMosaic.Lib.Pipeline.ValueKit
public import Idealize.ShloMosaic.Lib.Pipeline.ReadBack
public import Idealize.ShloMosaic.Lib.WritesUnit
public import Idealize.ShloMosaic.Lib.KernelVsHost

@[expose] public section

set_option maxRecDepth 16384

noncomputable section

open Idealize.ShloMosaic Idealize.ShloMosaic.TcCoe Idealize.SL.Sem

namespace Cert.FfnUpIdeal.Value

open Cert.FfnUpIdeal Cert.FfnUpIdeal.Gen Cert.FfnUpReferenceIdeal.Read

variable (m : (ℓ : Loc nD τ sig) → Buf (Elt Ideal) ℓ)

theorem idx : ∀ t : Fin cfg0.N, win0_0.index t = ![t.val % 16, 0] ∧ win0_1.index t = ![0, 0, t.val / 16] ∧ win0_2.index t = ![0, 0, 28 + t.val / 16] ∧ win0_3.index t = ![0, t.val / 16] ∧ win0_4.index t = ![0, 28 + t.val / 16] ∧ win0_5.index t = ![t.val % 16, t.val / 16] :=
  (by decide +kernel : ∀ t : Fin grid0.N, _)

/-! ### The scratch: eight rows of the tile before, then the tile -/

/-- The scratch's contents, from its eight first rows and the tile below them. -/
def scr (P : S1024x512.Idx → EReal) (H : S8x512.Idx → EReal) : S1032x512.Idx → EReal := fun y =>
  if h : (y 0).val < 8 then H (ix2 ⟨(y 0).val, h⟩ (y 1))
  else P (ix2 ⟨(y 0).val - 8, by have : (y 0).val < 1032 := (y 0).isLt; omega⟩ (y 1))

/-- The last eight rows of a tile. -/
def tail8 (P : S1024x512.Idx → EReal) : S8x512.Idx → EReal := fun x => P (ix2 ⟨1016 + (x 0).val, by have : (x 0).val < 8 := (x 0).isLt; omega⟩ (x 1))

abbrev top : Rect S1032x512 := Rect.unit (s := S1032x512) ![0, 0] S8x512.size inb_S1032x512_S8x512_0_0
abbrev body : Rect S1032x512 := Rect.unit (s := S1032x512) ![8, 0] S1024x512.size inb_S1032x512_S1024x512_8_0

section Scratch

variable {sig' : RefSig} {κ : Kind} {sp : Space} (v : View sig' κ sp S1032x512 .f32) (f : v.ty.Contents (Elt Ideal))

theorem read_body (P : S1024x512.Idx → EReal) (L : List (View.Piece (Elt Ideal) S1032x512 .f32)) (y : S1032x512.Idx) (h : 8 ≤ (y 0).val) :
    v.read (Elt Ideal) (v.writes (Elt Ideal) f (⟨body, P⟩ :: L)) y
      = P (ix2 ⟨(y 0).val - 8, by have : (y 0).val < 1032 := (y 0).isLt; omega⟩ (y 1)) :=
  View.read_writes_cons_unit_of_mem v f inb_S1032x512_S1024x512_8_0 P L y _ rfl fun a => match a with
    | ⟨0, _⟩ => by simp [ix2]; omega
    | ⟨1, _⟩ => by simp [ix2]

theorem skip_body (P : S1024x512.Idx → EReal) (L : List (View.Piece (Elt Ideal) S1032x512 .f32)) (y : S1032x512.Idx) (h : (y 0).val < 8) :
    v.read (Elt Ideal) (v.writes (Elt Ideal) f (⟨body, P⟩ :: L)) y = v.read (Elt Ideal) (v.writes (Elt Ideal) f L) y :=
  View.read_writes_cons_unit_of_not_mem v f inb_S1032x512_S1024x512_8_0 P L y rfl (0 : Fin 2) (.inl h)

theorem read_top (H : S8x512.Idx → EReal) (L : List (View.Piece (Elt Ideal) S1032x512 .f32)) (y : S1032x512.Idx) (h : (y 0).val < 8) :
    v.read (Elt Ideal) (v.writes (Elt Ideal) f (⟨top, H⟩ :: L)) y = H (ix2 ⟨(y 0).val, h⟩ (y 1)) :=
  View.read_writes_cons_unit_of_mem v f inb_S1032x512_S8x512_0_0 H L y _ rfl fun a => match a with
    | ⟨0, _⟩ => by simp [ix2]
    | ⟨1, _⟩ => by simp [ix2]

theorem skip_top (H : S8x512.Idx → EReal) (L : List (View.Piece (Elt Ideal) S1032x512 .f32)) (y : S1032x512.Idx) (h : 8 ≤ (y 0).val) :
    v.read (Elt Ideal) (v.writes (Elt Ideal) f (⟨top, H⟩ :: L)) y = v.read (Elt Ideal) (v.writes (Elt Ideal) f L) y :=
  View.read_writes_cons_unit_of_not_mem v f inb_S1032x512_S8x512_0_0 H L y rfl (0 : Fin 2) (.inr (by simpa using h))

/-- The tile stored over old contents. -/
theorem writes_body (P : S1024x512.Idx → EReal) :
    v.read (Elt Ideal) (v.writes (Elt Ideal) f [⟨body, P⟩])
      = scr P (fun x => v.read (Elt Ideal) f (ix2 ⟨(x 0).val, by have : (x 0).val < 8 := (x 0).isLt; omega⟩ (x 1))) := by
  funext y
  unfold scr
  split
  · rename_i h
    rw [skip_body v f P [] y h, View.writes_nil]
    exact congrArg (v.read (Elt Ideal) f) (eq_ix2 y)
  · rename_i h
    exact read_body v f P [] y (by omega)

/-- The tile stored after the first rows. -/
theorem canon_body_top (P : S1024x512.Idx → EReal) (H : S8x512.Idx → EReal) :
    View.canon (Val := Elt Ideal) (e := .f32) [⟨body, P⟩, ⟨top, H⟩] = scr P H := by
  funext y
  rw [← View.read_writes_junk_apply_eq_canon (View.whole cc0_scratch0)]
  unfold scr
  split
  · rename_i h
    rw [skip_body _ _ P _ y h, read_top _ _ H [] y h]
  · rename_i h
    exact read_body _ _ P _ y (by omega)

/-- The first rows stored last. -/
theorem canon_top (H : S8x512.Idx → EReal) (L : List (View.Piece (Elt Ideal) S1032x512 .f32)) (y : S1032x512.Idx)
    (h : (y 0).val < 8) : View.canon (Val := Elt Ideal) (e := .f32) (⟨top, H⟩ :: L) y = H (ix2 ⟨(y 0).val, h⟩ (y 1)) := by
  rw [← View.read_writes_junk_apply_eq_canon (View.whole cc0_scratch0)]
  exact read_top _ _ H L y h

end Scratch

theorem load_tail {sig' : RefSig} {κ : Kind} {sp : Space} (v : View sig' κ sp S1032x512 .f32) (P : S1024x512.Idx → EReal) (L : List (View.Piece (Elt Ideal) S1032x512 .f32)) (x : S8x512.Idx) :
    v.readCov (Val := Elt Ideal) (⟨body, P⟩ :: L) (Rect.unit (s := S1032x512) ![1024, 0] S8x512.size inb_S1032x512_S8x512_1024_0).toLoadRect x = tail8 P x := by
  have h0 : (x 0).val < 8 := (x 0).isLt
  rw [View.readCov_eq_canon']
  dsimp only
  rw [← View.read_writes_junk_apply_eq_canon v]
  refine (read_body v _ P L _ ?_).trans ?_
  · simp [LoadRect.idx]; omega
  · unfold tail8
    refine congrArg P (congrArg₂ ix2 (Fin.ext ?_) (Fin.ext ?_))
    · simp [LoadRect.idx]; omega
    · simp [LoadRect.idx]

/-- Three rows of a column, weighted. -/
def conv (w : S3x512.Idx → EReal) (S : S1032x512.Idx → EReal) (r : Fin 1024) (j : Fin 512) : EReal :=
  w (ix2 0 j) * S (ix2 ⟨6 + r.val, by omega⟩ j) + w (ix2 1 j) * S (ix2 ⟨7 + r.val, by omega⟩ j) + w (ix2 2 j) * S (ix2 ⟨8 + r.val, by omega⟩ j)

/-- The gated value. -/
def glu (g v : EReal) : EReal := g * Ideal.div 1 (1 + Ideal.exp (0 - g)) * v

/-- The output's payload over the contents of the two scratches. -/
theorem pay8_at (Sg Sv : S1032x512.Idx → EReal) (wg wv : S3x512.Idx → EReal) (r : Fin 1024) (j : Fin 512) (g6 g7 g8 v6 v7 v8 : FVec Ideal S1024x512 .f32)
    (hg6 : g6 = View.ld (Val := Elt Ideal) (e' := .f32) Sg (Rect.unit (s := S1032x512) ![6, 0] S1024x512.size inb_S1032x512_S1024x512_6_0))
    (hg7 : g7 = View.ld (Val := Elt Ideal) (e' := .f32) Sg (Rect.unit (s := S1032x512) ![7, 0] S1024x512.size inb_S1032x512_S1024x512_7_0))
    (hg8 : g8 = View.ld (Val := Elt Ideal) (e' := .f32) Sg (Rect.unit (s := S1032x512) ![8, 0] S1024x512.size inb_S1032x512_S1024x512_8_0))
    (hv6 : v6 = View.ld (Val := Elt Ideal) (e' := .f32) Sv (Rect.unit (s := S1032x512) ![6, 0] S1024x512.size inb_S1032x512_S1024x512_6_0))
    (hv7 : v7 = View.ld (Val := Elt Ideal) (e' := .f32) Sv (Rect.unit (s := S1032x512) ![7, 0] S1024x512.size inb_S1032x512_S1024x512_7_0))
    (hv8 : v8 = View.ld (Val := Elt Ideal) (e' := .f32) Sv (Rect.unit (s := S1032x512) ![8, 0] S1024x512.size inb_S1032x512_S1024x512_8_0)) :
    k0_pay8 (F := Ideal) g6 (k0_pay7 (View.ld (Val := Elt Ideal) (e' := .f32) wg (Rect.unit (s := S3x512) ![0, 0] S1x512.size inb_S3x512_S1x512_0_0))) (View.ld (Val := Elt Ideal) (e' := .f32) wg (Rect.unit (s := S3x512) ![1, 0] S1x512.size inb_S3x512_S1x512_1_0)) g7 (View.ld (Val := Elt Ideal) (e' := .f32) wg (Rect.unit (s := S3x512) ![2, 0] S1x512.size inb_S3x512_S1x512_2_0)) g8
      (View.ld (Val := Elt Ideal) (e' := .f32) wv (Rect.unit (s := S3x512) ![0, 0] S1x512.size inb_S3x512_S1x512_0_0)) v6 (View.ld (Val := Elt Ideal) (e' := .f32) wv (Rect.unit (s := S3x512) ![1, 0] S1x512.size inb_S3x512_S1x512_1_0)) v7 (View.ld (Val := Elt Ideal) (e' := .f32) wv (Rect.unit (s := S3x512) ![2, 0] S1x512.size inb_S3x512_S1x512_2_0)) v8 (ix2 r j)
    = glu (conv wg Sg r j) (conv wv Sv r j) := by
  subst hg6 hg7 hg8 hv6 hv7 hv8
  unfold glu conv
  pointwise [k0_pay8, k0_pay7]

/-- The first rows of a scratch: zeros at the start of a sequence, else the last rows of the tile before. -/
def head8 {N : ℕ} (T : Fin N → S1024x512.Idx → EReal) (t : Fin N) : S8x512.Idx → EReal :=
  if t.val % 4 = 0 then fun _ => 0 else tail8 (T ⟨t.val - 1, Nat.lt_of_le_of_lt (Nat.sub_le _ _) t.isLt⟩)

theorem load_scr {sig' : RefSig} {κ : Kind} {sp : Space} (v : View sig' κ sp S1032x512 .f32) (P : S1024x512.Idx → EReal) (H : S8x512.Idx → EReal) (R : Rect S1032x512) :
    v.readCov (Val := Elt Ideal) [⟨body, P⟩, ⟨top, H⟩] R.toLoadRect = View.ld (Val := Elt Ideal) (e' := .f32) (scr P H) R := by
  rw [View.readCov_eq_canon', canon_body_top]

theorem load_body {sig' : RefSig} {κ : Kind} {sp : Space} (v : View sig' κ sp S1032x512 .f32) (P : S1024x512.Idx → EReal) (H : S8x512.Idx → EReal) :
    v.readCov (Val := Elt Ideal) [⟨body, P⟩] body.toLoadRect = View.ld (Val := Elt Ideal) (e' := .f32) (scr P H) body := by
  rw [View.readCov_cons_toLoadRect, ← load_scr v P H body, View.readCov_cons_toLoadRect]

theorem pay3_zero : k0_pay3 (F := Ideal) = fun _ => (0 : EReal) := by funext y; pointwise [k0_pay3]
theorem pay4_zero : k0_pay4 (F := Ideal) = fun _ => (0 : EReal) := by funext y; pointwise [k0_pay4]

/-! ### Tiles of a padded product -/

section Tiles

variable (x0 : S16384x4096.Idx → EReal) (x1 : S2x4096x28672.Idx → EReal) (x2 : S3x28672.Idx → EReal)

/-- The product with a layer's matrix at a row and a column. -/
def up (l : Fin 2) (R : Fin 16384) (C : Fin 28672) : EReal := ∑ k : Fin 4096, x0 (ix2 R k) * x1 (ix3 l k C)

/-- `Z` is the product `U`, each sequence with two rows of zeros before it. -/
structure Padded (U : Fin 16384 → Fin 28672 → EReal) (Z : Fin 4 → Fin 4098 → Fin 28672 → EReal) : Prop where
  low : ∀ b s C, s.val < 2 → Z b s C = 0
  high : ∀ (b : Fin 4) (s : Fin 4096) (C : Fin 28672) (i : Fin 4098), i.val = 2 + s.val → Z b i C = U ⟨b.val * 4096 + s.val, by omega⟩ C

variable (Z : Fin 4 → Fin 4098 → Fin 28672 → EReal)

/-- Three rows of a column of the padded product, weighted. -/
def rconv (b : Fin 4) (s : Fin 4096) (C : Fin 28672) : EReal :=
  Z b ⟨s.val, by omega⟩ C * x2 (ix2 0 C) + Z b ⟨1 + s.val, by omega⟩ C * x2 (ix2 1 C) + Z b ⟨2 + s.val, by omega⟩ C * x2 (ix2 2 C)

variable {U : Fin 16384 → Fin 28672 → EReal} {Z} (hZ : Padded U Z) {N : ℕ} (hN : N = 448)

include hZ hN in
theorem tile_scr (T : Fin N → S1024x512.Idx → EReal) (t : Fin N) (j : Fin 512) (C : Fin 28672)
    (hT : ∀ (t' : Fin N) (r : Fin 1024), t'.val / 16 = t.val / 16 → T t' (ix2 r j) = U ⟨t'.val % 16 * 1024 + r.val, by omega⟩ C)
    (d : ℕ) (hd : d ≤ 2) (r : Fin 1024) :
    scr (T t) (head8 T t) (ix2 ⟨6 + d + r.val, by omega⟩ j)
      = Z ⟨t.val % 16 / 4, by omega⟩ ⟨d + (t.val % 16 % 4 * 1024 + r.val), by omega⟩ C := by
  have ht : t.val < 448 := t.isLt.trans_eq hN
  unfold scr
  split
  · rename_i h
    have h' : 6 + d + r.val < 8 := h
    unfold head8
    split
    · exact (hZ.low _ _ _ (by simp only; omega)).symm
    · refine (hT ⟨t.val - 1, _⟩ ⟨1016 + (6 + d + r.val), by omega⟩ (by simp only; omega)).trans ?_
      refine Eq.trans ?_ (hZ.high _ ⟨t.val % 16 % 4 * 1024 + d + r.val - 2, by omega⟩ C _ (by simp only; omega)).symm
      exact congrArg (U · C) (Fin.ext (by simp only; omega))
  · rename_i h
    have h' : ¬ 6 + d + r.val < 8 := h
    refine (hT t ⟨6 + d + r.val - 8, by omega⟩ rfl).trans ?_
    refine Eq.trans ?_ (hZ.high _ ⟨t.val % 16 % 4 * 1024 + d + r.val - 2, by omega⟩ C _ (by simp only; omega)).symm
    exact congrArg (U · C) (Fin.ext (by simp only; omega))

include hZ hN in
/-- The kernel's weighted rows are the reference's. -/
theorem conv_eq (T : Fin N → S1024x512.Idx → EReal) (w : S3x512.Idx → EReal) (t : Fin N) (j : Fin 512) (C : Fin 28672)
    (hT : ∀ (t' : Fin N) (r : Fin 1024), t'.val / 16 = t.val / 16 → T t' (ix2 r j) = U ⟨t'.val % 16 * 1024 + r.val, by omega⟩ C)
    (hw : ∀ a : Fin 3, w (ix2 a j) = x2 (ix2 a C)) (r : Fin 1024) :
    conv w (scr (T t) (head8 T t)) r j
      = rconv x2 Z ⟨t.val % 16 / 4, by omega⟩ ⟨t.val % 16 % 4 * 1024 + r.val, by omega⟩ C := by
  have e (d : ℕ) (hd : d ≤ 2) := tile_scr hZ hN T t j C hT d hd r
  unfold conv rconv
  rw [hw 0, hw 1, hw 2]
  refine congrArg₂ (· + ·) (congrArg₂ (· + ·) ?_ ?_) ?_
  · refine (mul_comm (G := EReal) _ _).trans (congrArg (· * x2 (ix2 0 C)) ((e 0 (by omega)).trans ?_))
    exact congrArg (fun i => Z _ i C) (Fin.ext (by simp only; omega))
  · exact (mul_comm (G := EReal) _ _).trans (congrArg (· * x2 (ix2 1 C)) (e 1 (by omega)))
  · exact (mul_comm (G := EReal) _ _).trans (congrArg (· * x2 (ix2 2 C)) (e 2 (by omega)))

end Tiles

/-! ### What a point leaves in the scratch, and its output -/

/-- The tile of gates of a point. -/
def gateTile (c : Dev nD) (t : Fin cfg0.N) : S1024x512.Idx → EReal := k0_pay5 (F := Ideal) (iblk m c 0 t) (iblk m c 1 t)
/-- The tile of values of a point. -/
def valTile (c : Dev nD) (t : Fin cfg0.N) : S1024x512.Idx → EReal := k0_pay6 (F := Ideal) (iblk m c 0 t) (iblk m c 2 t)

theorem gate_tail (c : Dev nD) (t : Fin cfg0.N) (y : S1032x512.Idx) (hy : (y 0).val < 8) :
    (outsAt0 m c t.val t.isLt).2.1 y = tail8 (gateTile m c t) (ix2 ⟨(y 0).val, hy⟩ (y 1)) := by
  by_cases h : t.val % 4 = 0
  · rw [outsAt0_A m c t h]; frame_out
    refine (canon_top _ _ y hy).trans ?_
    unfold k0_pay1
    rw [shapeCast_self]
    exact load_tail _ _ _ _
  · rw [outsAt0_B m c t h]; frame_out
    refine (canon_top _ _ y hy).trans ?_
    unfold k0_pay1
    rw [shapeCast_self]
    exact load_tail _ _ _ _

theorem val_tail (c : Dev nD) (t : Fin cfg0.N) (y : S1032x512.Idx) (hy : (y 0).val < 8) :
    (outsAt0 m c t.val t.isLt).2.2 y = tail8 (valTile m c t) (ix2 ⟨(y 0).val, hy⟩ (y 1)) := by
  by_cases h : t.val % 4 = 0
  · rw [outsAt0_A m c t h]; frame_out
    refine (canon_top _ _ y hy).trans ?_
    unfold k0_pay2
    rw [shapeCast_self]
    exact load_tail _ _ _ _
  · rw [outsAt0_B m c t h]; frame_out
    refine (canon_top _ _ y hy).trans ?_
    unfold k0_pay2
    rw [shapeCast_self]
    exact load_tail _ _ _ _

theorem gate_scr (c : Dev nD) (t : Fin cfg0.N) (h : ¬ t.val % 4 = 0) :
    (View.whole cc0_scratch0).read (Elt Ideal) ((View.whole cc0_scratch0).writes (Elt Ideal)
      ((Memref.isWhole_whole cc0_scratch0).unread (outsAt0 m c (t.val - 1) (Nat.lt_of_le_of_lt (Nat.sub_le _ _) t.isLt)).2.1)
      [⟨body, k0_pay5 (iblk m c 0 t) (iblk m c 1 t)⟩]) = scr (gateTile m c t) (head8 (gateTile m c) t) := by
  refine (writes_body _ _ _).trans (congrArg (scr _) ?_)
  unfold head8
  rw [if_neg h, read_unread_whole]
  funext x
  exact gate_tail m c ⟨t.val - 1, Nat.lt_of_le_of_lt (Nat.sub_le _ _) t.isLt⟩ _ (x 0).isLt

theorem val_scr (c : Dev nD) (t : Fin cfg0.N) (h : ¬ t.val % 4 = 0) :
    (View.whole cc0_scratch1).read (Elt Ideal) ((View.whole cc0_scratch1).writes (Elt Ideal)
      ((Memref.isWhole_whole cc0_scratch1).unread (outsAt0 m c (t.val - 1) (Nat.lt_of_le_of_lt (Nat.sub_le _ _) t.isLt)).2.2)
      [⟨body, k0_pay6 (iblk m c 0 t) (iblk m c 2 t)⟩]) = scr (valTile m c t) (head8 (valTile m c) t) := by
  refine (writes_body _ _ _).trans (congrArg (scr _) ?_)
  unfold head8
  rw [if_neg h, read_unread_whole]
  funext x
  exact val_tail m c ⟨t.val - 1, Nat.lt_of_le_of_lt (Nat.sub_le _ _) t.isLt⟩ _ (x 0).isLt

/-- The output's block after a point. -/
theorem out_at (c : Dev nD) (t : Fin cfg0.N) (r : Fin 1024) (j : Fin 512) :
    (outsAt0 m c t.val t.isLt).1 (ix2 r j)
      = glu (conv (iblk m c 3 t) (scr (gateTile m c t) (head8 (gateTile m c) t)) r j)
          (conv (iblk m c 4 t) (scr (valTile m c t) (head8 (valTile m c) t)) r j) := by
  by_cases h : t.val % 4 = 0
  · rw [outsAt0_A m c t h]; frame_out
    have eg : head8 (gateTile m c) t = k0_pay3 (F := Ideal) := by unfold head8; rw [if_pos h, pay3_zero]
    have ev : head8 (valTile m c) t = k0_pay4 (F := Ideal) := by unfold head8; rw [if_pos h, pay4_zero]
    rw [eg, ev]
    exact pay8_at _ _ _ _ r j _ _ _ _ _ _ (load_scr _ _ _ _) (load_scr _ _ _ _) (load_scr _ _ _ _) (load_scr _ _ _ _) (load_scr _ _ _ _) (load_scr _ _ _ _)
  · rw [outsAt0_B m c t h]; frame_out
    refine pay8_at _ _ _ _ r j _ _ _ _ _ _ (congrArg (View.ld · _) (gate_scr m c t h)) (congrArg (View.ld · _) (gate_scr m c t h)) (load_body _ _ _)
      (congrArg (View.ld · _) (val_scr m c t h)) (congrArg (View.ld · _) (val_scr m c t h)) (load_body _ _ _)

/-! ### The reference -/

section Ref

variable (x0 : (⟨S16384x4096, .bf16⟩ : BufTy).Contents (Elt Ideal)) (x1 : (⟨S2x4096x28672, .bf16⟩ : BufTy).Contents (Elt Ideal)) (x2 : (⟨S3x28672, .f32⟩ : BufTy).Contents (Elt Ideal))

theorem v5_at (b : Fin 4) (s : Fin 4096) (C : Fin 28672) :
    val_main_v5 (F := Ideal) x0 x1 (ix3 b s C) = up x0 x1 0 ⟨b.val * 4096 + s.val, by omega⟩ C := by
  unfold up
  pointwise [val_main_v0, val_main_v1, val_main_v2, val_main_v3, val_main_v4, val_main_v5]

theorem pad_low (b : Fin 4) (s : Fin 4098) (C : Fin 28672) (h : s.val < 2) : val_main_v6 (F := Ideal) x0 x1 (ix3 b s C) = 0 := by
  unfold val_main_v6
  refine (pad_apply_of_not_inside _ _ _ _ _ _ _ (ix3 b s C) (1 : Fin 3) fun hin => ?_).trans ?_
  · have : 2 ≤ s.val := hin.1
    omega
  · pointwise [val_main_call0_v0, val_main_c]
    simp [FloatOps.sitofp]

theorem pad_high (b : Fin 4) (s : Fin 4096) (C : Fin 28672) (i : Fin 4098) (h : i.val = 2 + s.val) :
    val_main_v6 (F := Ideal) x0 x1 (ix3 b i C) = up x0 x1 0 ⟨b.val * 4096 + s.val, by omega⟩ C := by
  unfold val_main_v6
  refine (pad_apply_of_inside _ _ _ _ _ _ _ (ix3 b i C) (ix3 b s C) fun a => match a with
    | ⟨0, _⟩ => ?_
    | ⟨1, _⟩ => ?_
    | ⟨2, _⟩ => ?_).trans (v5_at x0 x1 b s C)
  · simp [ix3]
  · simp [ix3, h]
  · simp [ix3]

/-- The reference's padded product. -/
def padded (b : Fin 4) (s : Fin 4098) (C : Fin 28672) : EReal := val_main_v6 (F := Ideal) x0 x1 (ix3 b s C)

theorem isPadded : Padded (up x0 x1 0) (padded x0 x1) := ⟨pad_low x0 x1, pad_high x0 x1⟩

theorem ref_at (R : Fin 16384) (C : Fin 14336) :
    val_main_v32 (F := Ideal) x0 x1 x2 (ix2 R C)
      = glu (rconv x2 (padded x0 x1) ⟨R.val / 4096, by omega⟩ ⟨R.val % 4096, by omega⟩ ⟨C.val, by omega⟩)
          (rconv x2 (padded x0 x1) ⟨R.val / 4096, by omega⟩ ⟨R.val % 4096, by omega⟩ ⟨14336 + C.val, by omega⟩) := by
  unfold glu rconv padded
  rw [zero_sub]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_call1_v0, val_main_call1_v1, val_main_call1_cst, val_main_call1_v2, val_main_call1_v3, val_main_call1_cst_0, val_main_call1_v4, val_main_call1_v5]

end Ref

/-! ### The result -/

theorem gate_at (c : Dev nD) (t : Fin cfg0.N) (r : Fin 1024) (j : Fin 512) (C : Fin 28672) (hC : C.val = t.val / 16 * 512 + j.val) :
    gateTile m c t (ix2 r j) = up (m ((c : Thread nD τ).loc main_arg0)) (m ((c : Thread nD τ).loc main_arg1)) 0 ⟨t.val % 16 * 1024 + r.val, by omega⟩ C := by
  unfold gateTile up
  pointwise [k0_pay5]
  blk_point [iblk, V, idx t]

theorem val_at (c : Dev nD) (t : Fin cfg0.N) (r : Fin 1024) (j : Fin 512) (C : Fin 28672) (hC : C.val = (28 + t.val / 16) * 512 + j.val) :
    valTile m c t (ix2 r j) = up (m ((c : Thread nD τ).loc main_arg0)) (m ((c : Thread nD τ).loc main_arg1)) 0 ⟨t.val % 16 * 1024 + r.val, by omega⟩ C := by
  unfold valTile up
  pointwise [k0_pay6]
  blk_point [iblk, V, idx t]

theorem wg_at (c : Dev nD) (t : Fin cfg0.N) (a : Fin 3) (j : Fin 512) (C : Fin 28672) (hC : C.val = t.val / 16 * 512 + j.val) :
    iblk m c 3 t (ix2 a j) = m ((c : Thread nD τ).loc main_arg2) (ix2 a C) := by
  blk_point [iblk, V, idx t]

theorem wv_at (c : Dev nD) (t : Fin cfg0.N) (a : Fin 3) (j : Fin 512) (C : Fin 28672) (hC : C.val = (28 + t.val / 16) * 512 + j.val) :
    iblk m c 4 t (ix2 a j) = m ((c : Thread nD τ).loc main_arg2) (ix2 a C) := by
  blk_point [iblk, V, idx t]

theorem point (c : Dev nD) (t : Fin cfg0.N) (r : Fin 1024) (j : Fin 512) : (outsAt0 m c t.val t.isLt).1 (ix2 r j)
    = val_main_v32 (F := Ideal) (m ((c : Thread nD τ).loc main_arg0)) (m ((c : Thread nD τ).loc main_arg1)) (m ((c : Thread nD τ).loc main_arg2))
      (((cfg0.win 5).blk t).view.emb (ix2 r j)) := by
  have ht : t.val < 448 := t.isLt.trans_eq N_0
  have hi : ((cfg0.win 5).blk t).view.emb (ix2 r j) = (ix2 (⟨t.val % 16 * 1024 + r.val, by omega⟩ : Fin 16384) (⟨t.val / 16 * 512 + j.val, by omega⟩ : Fin 14336) : S16384x14336.Idx) := by
    blk_point [iblk, V, idx t]
  rw [hi, ref_at, out_at]
  refine congrArg₂ glu ?_ ?_
  · refine (conv_eq (m ((c : Thread nD τ).loc main_arg2)) (isPadded (m ((c : Thread nD τ).loc main_arg0)) (m ((c : Thread nD τ).loc main_arg1))) N_0 (gateTile m c) (iblk m c 3 t) t j ⟨t.val / 16 * 512 + j.val, by omega⟩
      (fun t' r' h => gate_at m c t' r' j _ (by simp only; omega)) (fun a => wg_at m c t a j _ rfl) r).trans ?_
    congr 1 <;> exact Fin.ext (by simp only; omega)
  · refine (conv_eq (m ((c : Thread nD τ).loc main_arg2)) (isPadded (m ((c : Thread nD τ).loc main_arg0)) (m ((c : Thread nD τ).loc main_arg1))) N_0 (valTile m c) (iblk m c 4 t) t j ⟨14336 + (t.val / 16 * 512 + j.val), by omega⟩
      (fun t' r' h => val_at m c t' r' j _ (by simp only; omega)) (fun a => wv_at m c t a j _ (by simp only; omega)) r).trans ?_
    congr 1 <;> exact Fin.ext (by simp only; omega)

/-- The result array. -/
theorem final (c : Dev nD) : (dats m 0 c).arrAt 5 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨r, j, rfl⟩ : ∃ (r : Fin 1024) (j : Fin 512), y = ix2 r j := ⟨y 0, y 1, eq_ix2 y⟩
  exact point m c t r j

end Cert.FfnUpIdeal.Value

end
-- ==== Proof.Calls.Accumulate.lean ====
/- An accumulator over runs of four grid points. -/
module

public import Mathlib.Data.EReal.Operations
public import Mathlib.Algebra.BigOperators.Fin

@[expose] public section

namespace Cert.Calls

variable {N : ℕ} {X : Type}

theorem run_lt (hN : N % 4 = 0) (t : Fin N) {s : ℕ} (h : s < 4) : t.val / 4 * 4 + s < N := by
  have := t.isLt
  omega

/-- What the accumulator `S` starts, keeps and hands to the output `O` over a run of four points is the sum of the four points' parts. -/
theorem run_of_four (hN : N % 4 = 0) (S O p : Fin N → X → EReal) (j : X)
    (first : ∀ t, t.val % 4 = 0 → S t j = p t j)
    (middle : ∀ t s, s.val + 1 = t.val → 1 ≤ t.val % 4 ∧ t.val % 4 ≤ 2 → S t j = S s j + p t j)
    (last : ∀ t s, s.val + 1 = t.val → t.val % 4 = 3 → O t j = S s j + p t j)
    (t : Fin N) (h : t.val % 4 = 3) : O t j = ∑ s : Fin 4, p ⟨t.val / 4 * 4 + s.val, run_lt hN t s.isLt⟩ j := by
  have e : (⟨t.val / 4 * 4 + 3, run_lt hN t (by decide)⟩ : Fin N) = t := Fin.ext (by simp only; omega)
  rw [Fin.sum_univ_four, last t ⟨t.val / 4 * 4 + 2, run_lt hN t (by decide)⟩ (by simp only; omega) h,
    middle ⟨t.val / 4 * 4 + 2, run_lt hN t (by decide)⟩ ⟨t.val / 4 * 4 + 1, run_lt hN t (by decide)⟩ rfl (by simp only; omega),
    middle ⟨t.val / 4 * 4 + 1, run_lt hN t (by decide)⟩ ⟨t.val / 4 * 4 + 0, run_lt hN t (by decide)⟩ rfl (by simp only; omega),
    first ⟨t.val / 4 * 4 + 0, run_lt hN t (by decide)⟩ (by simp only; omega)]
  exact congrArg (fun q : Fin N => _ + p q j) e.symm

end Cert.Calls

end
-- ==== Proof.Calls.Down.lean ====
/- The down projection: the tiles of one run of four points add up to the tile of the whole product. -/
module

public import proofs.«01_k».proof.Proof.Gen.DownIdeal.Frame
public import proofs.«01_k».proof.Proof.Gen.DownReferenceIdeal.Read
public import proofs.«01_k».proof.Proof.Calls.Accumulate
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DownIdeal.Value

open Cert.Calls Cert.DownIdeal Cert.DownIdeal.Gen Cert.DownReferenceIdeal.Read

variable (m : (ℓ : Loc nD τ sig) → Buf (Elt Ideal) ℓ)

theorem idx : ∀ t : Fin cfg0.N, win0_0.index t = ![t.val / 16, t.val % 4] ∧ win0_1.index t = ![0, t.val % 4, t.val / 4 % 4] ∧ win0_2.index t = ![t.val / 16, t.val / 4 % 4] :=
  (by decide +kernel : ∀ t : Fin grid0.N, _)

theorem hN : cfg0.N % 4 = 0 := by rw [show cfg0.N = 256 from N_0]

/-- The product of the two blocks of a point. -/
def part (a : FVec Ideal S1024x3584 .bf16) (w : FVec Ideal S1x3584x1024 .bf16) (j : S1024x1024.Idx) : EReal :=
  ∑ k : Fin 3584, a (ix2 (j 0) k) * w (ix3 (0 : Fin 1) k (j 1))

theorem hpay1 (a w j) : k0_pay1 (F := Ideal) a w j = part a w j := by
  unfold part; pointwise [k0_pay1]

theorem hpay2 (acc a w j) : k0_pay2 (F := Ideal) acc a w j = acc j + part a w j := by
  unfold part; pointwise [k0_pay2]

theorem hpay3 (acc a w j) : k0_pay3 (F := Ideal) acc a w j = acc j + part a w j := by
  unfold part; pointwise [k0_pay3]

theorem first (c : Dev nD) (t : Fin cfg0.N) (h : t.val % 4 = 0) (j) :
    (outsAt0 m c t.val t.isLt).2 j = part (iblk m c 0 t) (iblk m c 1 t) j := by
  rw [outsAt0_A m c t h (by omega) (by omega)]; frame_out; exact hpay1 _ _ j

theorem middle (c : Dev nD) (t s : Fin cfg0.N) (hs : s.val + 1 = t.val) (h : 1 ≤ t.val % 4 ∧ t.val % 4 ≤ 2) (j) :
    (outsAt0 m c t.val t.isLt).2 j = (outsAt0 m c s.val s.isLt).2 j + part (iblk m c 0 t) (iblk m c 1 t) j := by
  obtain ⟨n, hn⟩ := t
  subst hs
  rw [outsAt0_B m c ⟨s.val + 1, hn⟩ (by omega) h (by omega)]; frame_out; rw [hpay2, read_unread_whole]; rfl

theorem last (c : Dev nD) (t s : Fin cfg0.N) (hs : s.val + 1 = t.val) (h : t.val % 4 = 3) (j) :
    (outsAt0 m c t.val t.isLt).1 j = (outsAt0 m c s.val s.isLt).2 j + part (iblk m c 0 t) (iblk m c 1 t) j := by
  obtain ⟨n, hn⟩ := t
  subst hs
  rw [outsAt0_C m c ⟨s.val + 1, hn⟩ (by omega) (by omega) h]; frame_out; rw [hpay3, read_unread_whole]; rfl

/-- What a run of four points leaves in the output's block. -/
theorem run (c : Dev nD) (t : Fin cfg0.N) (h : t.val % 4 = 3) (j) :
    (outsAt0 m c t.val t.isLt).1 j
      = ∑ s : Fin 4, part (iblk m c 0 ⟨t.val / 4 * 4 + s.val, run_lt hN t s.isLt⟩) (iblk m c 1 ⟨t.val / 4 * 4 + s.val, run_lt hN t s.isLt⟩) j :=
  run_of_four hN (fun t j => (outsAt0 m c t.val t.isLt).2 j) (fun t j => (outsAt0 m c t.val t.isLt).1 j) (fun t j => part (iblk m c 0 t) (iblk m c 1 t) j) j
    (fun t h => first m c t h j) (fun t s hs h => middle m c t s hs h j) (fun t s hs h => last m c t s hs h j) t h

theorem point (c : Dev nD) (t : Fin cfg0.N) (h : t.val % 4 = 3) (y : S1024x1024.Idx) : (outsAt0 m c t.val t.isLt).1 y
    = val_main_v5 (F := Ideal) (m ((c : Thread nD τ).loc main_arg0)) (m ((c : Thread nD τ).loc main_arg1)) (((cfg0.win 2).blk t).view.emb y) := by
  refine (run m c t h y).trans ?_
  unfold part
  pointwise [val_main_v0, val_main_v1, val_main_v2, val_main_v3, val_main_v4, val_main_v5]
  refine Fin.sum_mul_add_congr fun s k hl => ?_
  blk_point [iblk, V, idx t, idx ⟨t.val / 4 * 4 + s.val, run_lt hN t s.isLt⟩]

/-- The result array. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.DownIdeal.Value

end
-- ==== Proof.Calls.Gates.lean ====
/- The branch gates: every tile of the result is the sigmoid of its tile of the product. -/
module

public import proofs.«01_k».proof.Proof.Gen.GatesIdeal.Frame
public import proofs.«01_k».proof.Proof.Gen.GatesReferenceIdeal.Read
public import Idealize.ShloMosaic.Lib.Pipeline.ValueKit

@[expose] public section

set_option maxRecDepth 16384

noncomputable section

open Idealize.ShloMosaic Idealize.ShloMosaic.TcCoe Idealize.SL.Sem

namespace Cert.GatesIdeal.Value

open Cert.GatesIdeal Cert.GatesIdeal.Gen Cert.GatesReferenceIdeal.Read

variable (m : (ℓ : Loc nD τ sig) → Buf (Elt Ideal) ℓ)

theorem idx : ∀ t : Fin cfg0.N, win0_0.index t = ![(grid0.coords t 0).val, 0] ∧ win0_1.index t = ![0, 0, (grid0.coords t 1).val] ∧ win0_2.index t = ![(grid0.coords t 0).val, (grid0.coords t 1).val] :=
  (by decide +kernel : ∀ t : Fin grid0.N, _)

theorem point (c : Dev nD) (t : Fin cfg0.N) (y) : k0_pay1 (iblk m c 0 t) (iblk m c 1 t) y
    = val_main_v11 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5, val_main_v6, val_main_cst, val_main_v7, val_main_v8, val_main_cst_0, val_main_v9, val_main_v10, val_main_v11]
  rw [zero_sub]
  blk_point [iblk, V, idx t]

/-- The result array. -/
theorem final (c : Dev nD) : (dats m 0 c).arrAt 2 (cfgs 0).N = val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GatesIdeal.Value

end
-- ==== Proof.Calls.Plain.lean ====
/- The projections without a rotation: every tile is its tile of the product times its columns' scales. -/
module

public import proofs.«01_k».proof.Proof.Gen.PlainIdeal.Frame
public import proofs.«01_k».proof.Proof.Gen.PlainReferenceIdeal.Read
public import Idealize.ShloMosaic.Lib.Pipeline.ValueKit

@[expose] public section

set_option maxRecDepth 16384

noncomputable section

open Idealize.ShloMosaic Idealize.ShloMosaic.TcCoe Idealize.SL.Sem

namespace Cert.PlainIdeal.Value

open Cert.PlainIdeal Cert.PlainIdeal.Gen Cert.PlainReferenceIdeal.Read

variable (m : (ℓ : Loc nD τ sig) → Buf (Elt Ideal) ℓ)

theorem idx : ∀ t : Fin cfg0.N, win0_0.index t = ![(grid0.coords t 0).val, 0] ∧ win0_1.index t = ![0, 0, (grid0.coords t 1).val] ∧ win0_2.index t = ![0, (grid0.coords t 1).val] ∧ win0_3.index t = ![(grid0.coords t 0).val, (grid0.coords t 1).val] :=
  (by decide +kernel : ∀ t : Fin grid0.N, _)

theorem point (c : Dev nD) (t : Fin cfg0.N) (y) : k0_pay1 (iblk m c 0 t) (iblk m c 1 t) (iblk m c 2 t) y
    = val_main_v7 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3, val_main_v4, val_main_v5, val_main_v6, val_main_v7]
  blk_point [iblk, V, idx t]

/-- The result array. -/
theorem final (c : Dev nD) : (dats m 0 c).arrAt 3 (cfgs 0).N = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.PlainIdeal.Value

end
-- ==== Proof.Calls.OutProj.lean ====
/- The output projection: every tile of the result is its tile of the product. -/
module

public import proofs.«01_k».proof.Proof.Gen.OutProjIdeal.Frame
public import proofs.«01_k».proof.Proof.Gen.OutProjReferenceIdeal.Read
public import Idealize.ShloMosaic.Lib.Pipeline.ValueKit

@[expose] public section

set_option maxRecDepth 16384

noncomputable section

open Idealize.ShloMosaic Idealize.ShloMosaic.TcCoe Idealize.SL.Sem

namespace Cert.OutProjIdeal.Value

open Cert.OutProjIdeal Cert.OutProjIdeal.Gen Cert.OutProjReferenceIdeal.Read

variable (m : (ℓ : Loc nD τ sig) → Buf (Elt Ideal) ℓ)

theorem idx : ∀ t : Fin cfg0.N, win0_0.index t = ![(grid0.coords t 0).val, 0] ∧ win0_1.index t = ![0, 0, (grid0.coords t 1).val] ∧ win0_2.index t = ![(grid0.coords t 0).val, (grid0.coords t 1).val] :=
  (by decide +kernel : ∀ t : Fin grid0.N, _)

theorem point (c : Dev nD) (t : Fin cfg0.N) (y) : k0_pay1 (iblk m c 0 t) (iblk m c 1 t) y
    = val_main_v5 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5]
  blk_point [iblk, V, idx t]

/-- The result array. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutProjIdeal.Value

end
-- ==== Proof.Calls.Merge.lean ====
/- The merged branches: every tile is the gated sum of its tiles of the three products. -/
module

public import proofs.«01_k».proof.Proof.Gen.MergeIdeal.Frame
public import proofs.«01_k».proof.Proof.Gen.MergeReferenceIdeal.Read
public import Idealize.ShloMosaic.Lib.Pipeline.ValueKit

@[expose] public section

set_option maxRecDepth 16384

noncomputable section

open Idealize.ShloMosaic Idealize.ShloMosaic.TcCoe Idealize.SL.Sem

namespace Cert.MergeIdeal.Value

open Cert.MergeIdeal Cert.MergeIdeal.Gen Cert.MergeReferenceIdeal.Read

variable (m : (ℓ : Loc nD τ sig) → Buf (Elt Ideal) ℓ)

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, 0, 0, (grid0.coords t 1).val] ∧ win0_4.index t = ![(grid0.coords t 0).val, (grid0.coords t 1).val] ∧ win0_5.index t = ![(grid0.coords t 0).val, 4 + (grid0.coords t 1).val] ∧ win0_6.index t = ![(grid0.coords t 0).val, 8 + (grid0.coords t 1).val] ∧ win0_7.index t = ![(grid0.coords t 0).val, (grid0.coords t 1).val] :=
  (by decide +kernel : ∀ t : Fin grid0.N, _)

theorem point (c : Dev nD) (t : Fin cfg0.N) (y) : k0_pay1 (iblk m c 4 t) (iblk m c 0 t) (View.ld (iblk m c 3 t) r0_1) (iblk m c 5 t) (iblk m c 1 t) (View.ld (iblk m c 3 t) r0_2) (iblk m c 6 t) (iblk m c 2 t) (View.ld (iblk m c 3 t) r0_3) y
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28]
  blk_point [iblk, V, idx t]

/-- The result array. -/
theorem final (c : Dev nD) : (dats m 0 c).arrAt 7 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point m c t y

end Cert.MergeIdeal.Value

end
-- ==== Proof.Calls.Vt.lean ====
/- The transposed values: every tile is its tile of the transposed product. -/
module

public import proofs.«01_k».proof.Proof.Gen.VtIdeal.Frame
public import proofs.«01_k».proof.Proof.Gen.VtReferenceIdeal.Read
public import Idealize.ShloMosaic.Lib.Pipeline.ValueKit

@[expose] public section

set_option maxRecDepth 16384

noncomputable section

open Idealize.ShloMosaic Idealize.ShloMosaic.TcCoe Idealize.SL.Sem

namespace Cert.VtIdeal.Value

open Cert.VtIdeal Cert.VtIdeal.Gen Cert.VtReferenceIdeal.Read

variable (m : (ℓ : Loc nD τ sig) → Buf (Elt Ideal) ℓ)

theorem idx : ∀ t : Fin cfg0.N, win0_0.index t = ![(grid0.coords t 0).val, 0] ∧ win0_1.index t = ![0, 0] ∧ win0_2.index t = ![0, (grid0.coords t 0).val] :=
  (by decide +kernel : ∀ t : Fin grid0.N, _)

theorem point (c : Dev nD) (t : Fin cfg0.N) (y) : k0_pay1 (iblk m c 1 t) (iblk m c 0 t) y
    = val_main_v5 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5]
  refine Finset.sum_congr rfl fun k _ => (mul_comm (G := EReal) _ _).trans ?_
  blk_point [iblk, V, idx t]

/-- The result array. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.VtIdeal.Value

end
-- ==== Proof.Calls.FfnUpSecond.lean ====
/- The second layer's up projection: the lemmas over the scratch and the padded product are the first layer's. -/
module

public import proofs.«01_k».proof.Proof.Gen.FfnUpSecondIdeal.Frame
public import proofs.«01_k».proof.Proof.Gen.FfnUpSecondReferenceIdeal.Read
public import proofs.«01_k».proof.Proof.Calls.FfnUp
public import Idealize.ShloMosaic.Lib.Pipeline.ValueKit
public import Idealize.ShloMosaic.Lib.Pipeline.ReadBack
public import Idealize.ShloMosaic.Lib.WritesUnit
public import Idealize.ShloMosaic.Lib.KernelVsHost

@[expose] public section

set_option maxRecDepth 16384

noncomputable section

open Idealize.ShloMosaic Idealize.ShloMosaic.TcCoe Idealize.SL.Sem

namespace Cert.FfnUpSecondIdeal.Value

open Cert.FfnUpIdeal.Value (scr tail8 body top writes_body canon_top load_tail conv glu pay8_at head8 load_scr load_body pay3_zero pay4_zero up Padded rconv conv_eq)
open Cert.FfnUpSecondIdeal Cert.FfnUpSecondIdeal.Gen Cert.FfnUpSecondReferenceIdeal.Read

variable (m : (ℓ : Loc nD τ sig) → Buf (Elt Ideal) ℓ)

theorem idx : ∀ t : Fin cfg0.N, win0_0.index t = ![t.val % 16, 0] ∧ win0_1.index t = ![1, 0, t.val / 16] ∧ win0_2.index t = ![1, 0, 28 + t.val / 16] ∧ win0_3.index t = ![0, t.val / 16] ∧ win0_4.index t = ![0, 28 + t.val / 16] ∧ win0_5.index t = ![t.val % 16, t.val / 16] :=
  (by decide +kernel : ∀ t : Fin grid0.N, _)

/-! ### What a point leaves in the scratch, and its output -/

/-- The tile of gates of a point. -/
def gateTile (c : Dev nD) (t : Fin cfg0.N) : S1024x512.Idx → EReal := k0_pay5 (F := Ideal) (iblk m c 0 t) (iblk m c 1 t)
/-- The tile of values of a point. -/
def valTile (c : Dev nD) (t : Fin cfg0.N) : S1024x512.Idx → EReal := k0_pay6 (F := Ideal) (iblk m c 0 t) (iblk m c 2 t)

theorem gate_tail (c : Dev nD) (t : Fin cfg0.N) (y : S1032x512.Idx) (hy : (y 0).val < 8) :
    (outsAt0 m c t.val t.isLt).2.1 y = tail8 (gateTile m c t) (ix2 ⟨(y 0).val, hy⟩ (y 1)) := by
  by_cases h : t.val % 4 = 0
  · rw [outsAt0_A m c t h]; frame_out
    refine (canon_top _ _ y hy).trans ?_
    unfold k0_pay1
    rw [shapeCast_self]
    exact load_tail _ _ _ _
  · rw [outsAt0_B m c t h]; frame_out
    refine (canon_top _ _ y hy).trans ?_
    unfold k0_pay1
    rw [shapeCast_self]
    exact load_tail _ _ _ _

theorem val_tail (c : Dev nD) (t : Fin cfg0.N) (y : S1032x512.Idx) (hy : (y 0).val < 8) :
    (outsAt0 m c t.val t.isLt).2.2 y = tail8 (valTile m c t) (ix2 ⟨(y 0).val, hy⟩ (y 1)) := by
  by_cases h : t.val % 4 = 0
  · rw [outsAt0_A m c t h]; frame_out
    refine (canon_top _ _ y hy).trans ?_
    unfold k0_pay2
    rw [shapeCast_self]
    exact load_tail _ _ _ _
  · rw [outsAt0_B m c t h]; frame_out
    refine (canon_top _ _ y hy).trans ?_
    unfold k0_pay2
    rw [shapeCast_self]
    exact load_tail _ _ _ _

theorem gate_scr (c : Dev nD) (t : Fin cfg0.N) (h : ¬ t.val % 4 = 0) :
    (View.whole cc0_scratch0).read (Elt Ideal) ((View.whole cc0_scratch0).writes (Elt Ideal)
      ((Memref.isWhole_whole cc0_scratch0).unread (outsAt0 m c (t.val - 1) (Nat.lt_of_le_of_lt (Nat.sub_le _ _) t.isLt)).2.1)
      [⟨body, k0_pay5 (iblk m c 0 t) (iblk m c 1 t)⟩]) = scr (gateTile m c t) (head8 (gateTile m c) t) := by
  refine (writes_body _ _ _).trans (congrArg (scr _) ?_)
  unfold head8
  rw [if_neg h, read_unread_whole]
  funext x
  exact gate_tail m c ⟨t.val - 1, Nat.lt_of_le_of_lt (Nat.sub_le _ _) t.isLt⟩ _ (x 0).isLt

theorem val_scr (c : Dev nD) (t : Fin cfg0.N) (h : ¬ t.val % 4 = 0) :
    (View.whole cc0_scratch1).read (Elt Ideal) ((View.whole cc0_scratch1).writes (Elt Ideal)
      ((Memref.isWhole_whole cc0_scratch1).unread (outsAt0 m c (t.val - 1) (Nat.lt_of_le_of_lt (Nat.sub_le _ _) t.isLt)).2.2)
      [⟨body, k0_pay6 (iblk m c 0 t) (iblk m c 2 t)⟩]) = scr (valTile m c t) (head8 (valTile m c) t) := by
  refine (writes_body _ _ _).trans (congrArg (scr _) ?_)
  unfold head8
  rw [if_neg h, read_unread_whole]
  funext x
  exact val_tail m c ⟨t.val - 1, Nat.lt_of_le_of_lt (Nat.sub_le _ _) t.isLt⟩ _ (x 0).isLt

/-- The output's block after a point. -/
theorem out_at (c : Dev nD) (t : Fin cfg0.N) (r : Fin 1024) (j : Fin 512) :
    (outsAt0 m c t.val t.isLt).1 (ix2 r j)
      = glu (conv (iblk m c 3 t) (scr (gateTile m c t) (head8 (gateTile m c) t)) r j)
          (conv (iblk m c 4 t) (scr (valTile m c t) (head8 (valTile m c) t)) r j) := by
  by_cases h : t.val % 4 = 0
  · rw [outsAt0_A m c t h]; frame_out
    have eg : head8 (gateTile m c) t = k0_pay3 (F := Ideal) := by unfold head8; rw [if_pos h]; exact pay3_zero.symm
    have ev : head8 (valTile m c) t = k0_pay4 (F := Ideal) := by unfold head8; rw [if_pos h]; exact pay4_zero.symm
    rw [eg, ev]
    exact pay8_at _ _ _ _ r j _ _ _ _ _ _ (load_scr _ _ _ _) (load_scr _ _ _ _) (load_scr _ _ _ _) (load_scr _ _ _ _) (load_scr _ _ _ _) (load_scr _ _ _ _)
  · rw [outsAt0_B m c t h]; frame_out
    refine pay8_at _ _ _ _ r j _ _ _ _ _ _ (congrArg (View.ld · _) (gate_scr m c t h)) (congrArg (View.ld · _) (gate_scr m c t h)) (load_body _ _ _)
      (congrArg (View.ld · _) (val_scr m c t h)) (congrArg (View.ld · _) (val_scr m c t h)) (load_body _ _ _)

/-! ### The reference -/

section Ref

variable (x0 : (⟨S16384x4096, .bf16⟩ : BufTy).Contents (Elt Ideal)) (x1 : (⟨S2x4096x28672, .bf16⟩ : BufTy).Contents (Elt Ideal)) (x2 : (⟨S3x28672, .f32⟩ : BufTy).Contents (Elt Ideal))

theorem v5_at (b : Fin 4) (s : Fin 4096) (C : Fin 28672) :
    val_main_v5 (F := Ideal) x0 x1 (ix3 b s C) = up x0 x1 1 ⟨b.val * 4096 + s.val, by omega⟩ C := by
  unfold up
  pointwise [val_main_v0, val_main_v1, val_main_v2, val_main_v3, val_main_v4, val_main_v5]

theorem pad_low (b : Fin 4) (s : Fin 4098) (C : Fin 28672) (h : s.val < 2) : val_main_v6 (F := Ideal) x0 x1 (ix3 b s C) = 0 := by
  unfold val_main_v6
  refine (pad_apply_of_not_inside _ _ _ _ _ _ _ (ix3 b s C) (1 : Fin 3) fun hin => ?_).trans ?_
  · have : 2 ≤ s.val := hin.1
    omega
  · pointwise [val_main_call0_v0, val_main_c]
    simp [FloatOps.sitofp]

theorem pad_high (b : Fin 4) (s : Fin 4096) (C : Fin 28672) (i : Fin 4098) (h : i.val = 2 + s.val) :
    val_main_v6 (F := Ideal) x0 x1 (ix3 b i C) = up x0 x1 1 ⟨b.val * 4096 + s.val, by omega⟩ C := by
  unfold val_main_v6
  refine (pad_apply_of_inside _ _ _ _ _ _ _ (ix3 b i C) (ix3 b s C) fun a => match a with
    | ⟨0, _⟩ => ?_
    | ⟨1, _⟩ => ?_
    | ⟨2, _⟩ => ?_).trans (v5_at x0 x1 b s C)
  · simp [ix3]
  · simp [ix3, h]
  · simp [ix3]

/-- The reference's padded product. -/
def padded (b : Fin 4) (s : Fin 4098) (C : Fin 28672) : EReal := val_main_v6 (F := Ideal) x0 x1 (ix3 b s C)

theorem isPadded : Padded (up x0 x1 1) (padded x0 x1) := ⟨pad_low x0 x1, pad_high x0 x1⟩

theorem ref_at (R : Fin 16384) (C : Fin 14336) :
    val_main_v32 (F := Ideal) x0 x1 x2 (ix2 R C)
      = glu (rconv x2 (padded x0 x1) ⟨R.val / 4096, by omega⟩ ⟨R.val % 4096, by omega⟩ ⟨C.val, by omega⟩)
          (rconv x2 (padded x0 x1) ⟨R.val / 4096, by omega⟩ ⟨R.val % 4096, by omega⟩ ⟨14336 + C.val, by omega⟩) := by
  unfold glu rconv padded
  rw [zero_sub]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_call1_v0, val_main_call1_v1, val_main_call1_cst, val_main_call1_v2, val_main_call1_v3, val_main_call1_cst_0, val_main_call1_v4, val_main_call1_v5]

end Ref

/-! ### The result -/

theorem gate_at (c : Dev nD) (t : Fin cfg0.N) (r : Fin 1024) (j : Fin 512) (C : Fin 28672) (hC : C.val = t.val / 16 * 512 + j.val) :
    gateTile m c t (ix2 r j) = up (m ((c : Thread nD τ).loc main_arg0)) (m ((c : Thread nD τ).loc main_arg1)) 1 ⟨t.val % 16 * 1024 + r.val, by omega⟩ C := by
  unfold gateTile up
  pointwise [k0_pay5]
  blk_point [iblk, V, idx t]

theorem val_at (c : Dev nD) (t : Fin cfg0.N) (r : Fin 1024) (j : Fin 512) (C : Fin 28672) (hC : C.val = (28 + t.val / 16) * 512 + j.val) :
    valTile m c t (ix2 r j) = up (m ((c : Thread nD τ).loc main_arg0)) (m ((c : Thread nD τ).loc main_arg1)) 1 ⟨t.val % 16 * 1024 + r.val, by omega⟩ C := by
  unfold valTile up
  pointwise [k0_pay6]
  blk_point [iblk, V, idx t]

theorem wg_at (c : Dev nD) (t : Fin cfg0.N) (a : Fin 3) (j : Fin 512) (C : Fin 28672) (hC : C.val = t.val / 16 * 512 + j.val) :
    iblk m c 3 t (ix2 a j) = m ((c : Thread nD τ).loc main_arg2) (ix2 a C) := by
  blk_point [iblk, V, idx t]

theorem wv_at (c : Dev nD) (t : Fin cfg0.N) (a : Fin 3) (j : Fin 512) (C : Fin 28672) (hC : C.val = (28 + t.val / 16) * 512 + j.val) :
    iblk m c 4 t (ix2 a j) = m ((c : Thread nD τ).loc main_arg2) (ix2 a C) := by
  blk_point [iblk, V, idx t]

theorem point (c : Dev nD) (t : Fin cfg0.N) (r : Fin 1024) (j : Fin 512) : (outsAt0 m c t.val t.isLt).1 (ix2 r j)
    = val_main_v32 (F := Ideal) (m ((c : Thread nD τ).loc main_arg0)) (m ((c : Thread nD τ).loc main_arg1)) (m ((c : Thread nD τ).loc main_arg2))
      (((cfg0.win 5).blk t).view.emb (ix2 r j)) := by
  have ht : t.val < 448 := t.isLt.trans_eq N_0
  have hi : ((cfg0.win 5).blk t).view.emb (ix2 r j) = (ix2 (⟨t.val % 16 * 1024 + r.val, by omega⟩ : Fin 16384) (⟨t.val / 16 * 512 + j.val, by omega⟩ : Fin 14336) : S16384x14336.Idx) := by
    blk_point [iblk, V, idx t]
  rw [hi, ref_at, out_at]
  refine congrArg₂ glu ?_ ?_
  · refine (conv_eq (m ((c : Thread nD τ).loc main_arg2)) (isPadded (m ((c : Thread nD τ).loc main_arg0)) (m ((c : Thread nD τ).loc main_arg1))) N_0 (gateTile m c) (iblk m c 3 t) t j ⟨t.val / 16 * 512 + j.val, by omega⟩
      (fun t' r' h => gate_at m c t' r' j _ (by simp only; omega)) (fun a => wg_at m c t a j _ rfl) r).trans ?_
    congr 1 <;> exact Fin.ext (by simp only; omega)
  · refine (conv_eq (m ((c : Thread nD τ).loc main_arg2)) (isPadded (m ((c : Thread nD τ).loc main_arg0)) (m ((c : Thread nD τ).loc main_arg1))) N_0 (valTile m c) (iblk m c 4 t) t j ⟨14336 + (t.val / 16 * 512 + j.val), by omega⟩
      (fun t' r' h => val_at m c t' r' j _ (by simp only; omega)) (fun a => wv_at m c t a j _ (by simp only; omega)) r).trans ?_
    congr 1 <;> exact Fin.ext (by simp only; omega)

/-- The result array. -/
theorem final (c : Dev nD) : (dats m 0 c).arrAt 5 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨r, j, rfl⟩ : ∃ (r : Fin 1024) (j : Fin 512), y = ix2 r j := ⟨y 0, y 1, eq_ix2 y⟩
  exact point m c t r j

end Cert.FfnUpSecondIdeal.Value

end
-- ==== Proof.Calls.DownSecond.lean ====
/- The second layer's down projection: the tiles of one run of four points add up to the tile of the whole product. -/
module

public import proofs.«01_k».proof.Proof.Gen.DownSecondIdeal.Frame
public import proofs.«01_k».proof.Proof.Gen.DownSecondReferenceIdeal.Read
public import proofs.«01_k».proof.Proof.Calls.Down
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DownSecondIdeal.Value

open Cert.DownIdeal.Value (part hpay1 hpay2 hpay3)
open Cert.Calls Cert.DownSecondIdeal Cert.DownSecondIdeal.Gen Cert.DownSecondReferenceIdeal.Read

variable (m : (ℓ : Loc nD τ sig) → Buf (Elt Ideal) ℓ)

theorem idx : ∀ t : Fin cfg0.N, win0_0.index t = ![t.val / 16, t.val % 4] ∧ win0_1.index t = ![1, t.val % 4, t.val / 4 % 4] ∧ win0_2.index t = ![t.val / 16, t.val / 4 % 4] :=
  (by decide +kernel : ∀ t : Fin grid0.N, _)

theorem hN : cfg0.N % 4 = 0 := by rw [show cfg0.N = 256 from N_0]

theorem first (c : Dev nD) (t : Fin cfg0.N) (h : t.val % 4 = 0) (j) :
    (outsAt0 m c t.val t.isLt).2 j = part (iblk m c 0 t) (iblk m c 1 t) j := by
  rw [outsAt0_A m c t h (by omega) (by omega)]; frame_out; exact hpay1 _ _ j

theorem middle (c : Dev nD) (t s : Fin cfg0.N) (hs : s.val + 1 = t.val) (h : 1 ≤ t.val % 4 ∧ t.val % 4 ≤ 2) (j) :
    (outsAt0 m c t.val t.isLt).2 j = (outsAt0 m c s.val s.isLt).2 j + part (iblk m c 0 t) (iblk m c 1 t) j := by
  obtain ⟨n, hn⟩ := t
  subst hs
  rw [outsAt0_B m c ⟨s.val + 1, hn⟩ (by omega) h (by omega)]; frame_out; refine (hpay2 _ _ _ j).trans ?_; rw [read_unread_whole]; rfl

theorem last (c : Dev nD) (t s : Fin cfg0.N) (hs : s.val + 1 = t.val) (h : t.val % 4 = 3) (j) :
    (outsAt0 m c t.val t.isLt).1 j = (outsAt0 m c s.val s.isLt).2 j + part (iblk m c 0 t) (iblk m c 1 t) j := by
  obtain ⟨n, hn⟩ := t
  subst hs
  rw [outsAt0_C m c ⟨s.val + 1, hn⟩ (by omega) (by omega) h]; frame_out; refine (hpay3 _ _ _ j).trans ?_; rw [read_unread_whole]; rfl

/-- What a run of four points leaves in the output's block. -/
theorem run (c : Dev nD) (t : Fin cfg0.N) (h : t.val % 4 = 3) (j) :
    (outsAt0 m c t.val t.isLt).1 j
      = ∑ s : Fin 4, part (iblk m c 0 ⟨t.val / 4 * 4 + s.val, run_lt hN t s.isLt⟩) (iblk m c 1 ⟨t.val / 4 * 4 + s.val, run_lt hN t s.isLt⟩) j :=
  run_of_four hN (fun t j => (outsAt0 m c t.val t.isLt).2 j) (fun t j => (outsAt0 m c t.val t.isLt).1 j) (fun t j => part (iblk m c 0 t) (iblk m c 1 t) j) j
    (fun t h => first m c t h j) (fun t s hs h => middle m c t s hs h j) (fun t s hs h => last m c t s hs h j) t h

theorem point (c : Dev nD) (t : Fin cfg0.N) (h : t.val % 4 = 3) (y : S1024x1024.Idx) : (outsAt0 m c t.val t.isLt).1 y
    = val_main_v5 (F := Ideal) (m ((c : Thread nD τ).loc main_arg0)) (m ((c : Thread nD τ).loc main_arg1)) (((cfg0.win 2).blk t).view.emb y) := by
  refine (run m c t h y).trans ?_
  unfold part
  pointwise [val_main_v0, val_main_v1, val_main_v2, val_main_v3, val_main_v4, val_main_v5]
  refine Fin.sum_mul_add_congr fun s k hl => ?_
  blk_point [iblk, V, idx t, idx ⟨t.val / 4 * 4 + s.val, run_lt hN t s.isLt⟩]

/-- The result array. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.DownSecondIdeal.Value

end
-- ==== Proof.Calls.GatesSecond.lean ====
/- The second layer's branch gates: every tile of the result is the sigmoid of its tile of the product. -/
module

public import proofs.«01_k».proof.Proof.Gen.GatesSecondIdeal.Frame
public import proofs.«01_k».proof.Proof.Gen.GatesSecondReferenceIdeal.Read
public import Idealize.ShloMosaic.Lib.Pipeline.ValueKit

@[expose] public section

set_option maxRecDepth 16384

noncomputable section

open Idealize.ShloMosaic Idealize.ShloMosaic.TcCoe Idealize.SL.Sem

namespace Cert.GatesSecondIdeal.Value

open Cert.GatesSecondIdeal Cert.GatesSecondIdeal.Gen Cert.GatesSecondReferenceIdeal.Read

variable (m : (ℓ : Loc nD τ sig) → Buf (Elt Ideal) ℓ)

theorem idx : ∀ t : Fin cfg0.N, win0_0.index t = ![(grid0.coords t 0).val, 0] ∧ win0_1.index t = ![1, 0, (grid0.coords t 1).val] ∧ win0_2.index t = ![(grid0.coords t 0).val, (grid0.coords t 1).val] :=
  (by decide +kernel : ∀ t : Fin grid0.N, _)

theorem point (c : Dev nD) (t : Fin cfg0.N) (y) : k0_pay1 (iblk m c 0 t) (iblk m c 1 t) y
    = val_main_v11 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5, val_main_v6, val_main_cst, val_main_v7, val_main_v8, val_main_cst_0, val_main_v9, val_main_v10, val_main_v11]
  rw [zero_sub]
  blk_point [iblk, V, idx t]

/-- The result array. -/
theorem final (c : Dev nD) : (dats m 0 c).arrAt 2 (cfgs 0).N = val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GatesSecondIdeal.Value

end
-- ==== Proof.Calls.PlainSecond.lean ====
/- The second layer's projections without a rotation: every tile is its tile of the product times its columns' scales. -/
module

public import proofs.«01_k».proof.Proof.Gen.PlainSecondIdeal.Frame
public import proofs.«01_k».proof.Proof.Gen.PlainSecondReferenceIdeal.Read
public import Idealize.ShloMosaic.Lib.Pipeline.ValueKit

@[expose] public section

set_option maxRecDepth 16384

noncomputable section

open Idealize.ShloMosaic Idealize.ShloMosaic.TcCoe Idealize.SL.Sem

namespace Cert.PlainSecondIdeal.Value

open Cert.PlainSecondIdeal Cert.PlainSecondIdeal.Gen Cert.PlainSecondReferenceIdeal.Read

variable (m : (ℓ : Loc nD τ sig) → Buf (Elt Ideal) ℓ)

theorem idx : ∀ t : Fin cfg0.N, win0_0.index t = ![(grid0.coords t 0).val, 0] ∧ win0_1.index t = ![1, 0, (grid0.coords t 1).val] ∧ win0_2.index t = ![0, (grid0.coords t 1).val] ∧ win0_3.index t = ![(grid0.coords t 0).val, (grid0.coords t 1).val] :=
  (by decide +kernel : ∀ t : Fin grid0.N, _)

theorem point (c : Dev nD) (t : Fin cfg0.N) (y) : k0_pay1 (iblk m c 0 t) (iblk m c 1 t) (iblk m c 2 t) y
    = val_main_v7 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3, val_main_v4, val_main_v5, val_main_v6, val_main_v7]
  blk_point [iblk, V, idx t]

/-- The result array. -/
theorem final (c : Dev nD) : (dats m 0 c).arrAt 3 (cfgs 0).N = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.PlainSecondIdeal.Value

end
-- ==== Proof.Calls.OutProjSecond.lean ====
/- The second layer's output projection: every tile of the result is its tile of the product. -/
module

public import proofs.«01_k».proof.Proof.Gen.OutProjSecondIdeal.Frame
public import proofs.«01_k».proof.Proof.Gen.OutProjSecondReferenceIdeal.Read
public import Idealize.ShloMosaic.Lib.Pipeline.ValueKit

@[expose] public section

set_option maxRecDepth 16384

noncomputable section

open Idealize.ShloMosaic Idealize.ShloMosaic.TcCoe Idealize.SL.Sem

namespace Cert.OutProjSecondIdeal.Value

open Cert.OutProjSecondIdeal Cert.OutProjSecondIdeal.Gen Cert.OutProjSecondReferenceIdeal.Read

variable (m : (ℓ : Loc nD τ sig) → Buf (Elt Ideal) ℓ)

theorem idx : ∀ t : Fin cfg0.N, win0_0.index t = ![(grid0.coords t 0).val, 0] ∧ win0_1.index t = ![1, 0, (grid0.coords t 1).val] ∧ win0_2.index t = ![(grid0.coords t 0).val, (grid0.coords t 1).val] :=
  (by decide +kernel : ∀ t : Fin grid0.N, _)

theorem point (c : Dev nD) (t : Fin cfg0.N) (y) : k0_pay1 (iblk m c 0 t) (iblk m c 1 t) y
    = val_main_v5 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5]
  blk_point [iblk, V, idx t]

/-- The result array. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutProjSecondIdeal.Value

end
-- ==== Proof.Calls.MergeSecond.lean ====
/- The second layer's merged branches: every tile is the gated sum of its tiles of the three products. -/
module

public import proofs.«01_k».proof.Proof.Gen.MergeSecondIdeal.Frame
public import proofs.«01_k».proof.Proof.Gen.MergeSecondReferenceIdeal.Read
public import Idealize.ShloMosaic.Lib.Pipeline.ValueKit

@[expose] public section

set_option maxRecDepth 16384

noncomputable section

open Idealize.ShloMosaic Idealize.ShloMosaic.TcCoe Idealize.SL.Sem

namespace Cert.MergeSecondIdeal.Value

open Cert.MergeSecondIdeal Cert.MergeSecondIdeal.Gen Cert.MergeSecondReferenceIdeal.Read

variable (m : (ℓ : Loc nD τ sig) → Buf (Elt Ideal) ℓ)

theorem idx : ∀ t : Fin cfg0.N, win0_0.index t = ![(grid0.coords t 0).val, 0] ∧ win0_1.index t = ![(grid0.coords t 0).val, 0] ∧ win0_2.index t = ![(grid0.coords t 0).val, 0] ∧ win0_3.index t = ![1, 0, 0, (grid0.coords t 1).val] ∧ win0_4.index t = ![(grid0.coords t 0).val, (grid0.coords t 1).val] ∧ win0_5.index t = ![(grid0.coords t 0).val, 4 + (grid0.coords t 1).val] ∧ win0_6.index t = ![(grid0.coords t 0).val, 8 + (grid0.coords t 1).val] ∧ win0_7.index t = ![(grid0.coords t 0).val, (grid0.coords t 1).val] :=
  (by decide +kernel : ∀ t : Fin grid0.N, _)

theorem point (c : Dev nD) (t : Fin cfg0.N) (y) : k0_pay1 (iblk m c 4 t) (iblk m c 0 t) (View.ld (iblk m c 3 t) r0_1) (iblk m c 5 t) (iblk m c 1 t) (View.ld (iblk m c 3 t) r0_2) (iblk m c 6 t) (iblk m c 2 t) (View.ld (iblk m c 3 t) r0_3) y
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28]
  blk_point [iblk, V, idx t]

/-- The result array. -/
theorem final (c : Dev nD) : (dats m 0 c).arrAt 7 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point m c t y

end Cert.MergeSecondIdeal.Value

end
-- ==== Proof.Calls.PostnormLast.lean ====
/- The residual after the last channel sub-layer: every tile of rows is the stream plus the gated norm of the sub-layer's rows. -/
module

public import proofs.«01_k».proof.Proof.Gen.PostnormLastIdeal.Frame
public import proofs.«01_k».proof.Proof.Gen.PostnormLastReferenceIdeal.Read
public import Idealize.ShloMosaic.Lib.Pipeline.ValueKit

@[expose] public section

set_option maxRecDepth 16384

noncomputable section

open Idealize.ShloMosaic Idealize.ShloMosaic.TcCoe Idealize.SL.Sem

namespace Cert.PostnormLastIdeal.Value

open Cert.PostnormLastIdeal Cert.PostnormLastIdeal.Gen Cert.PostnormLastReferenceIdeal.Read

variable (m : (ℓ : Loc nD τ sig) → Buf (Elt Ideal) ℓ)

theorem idx : ∀ t : Fin cfg0.N, win0_0.index t = ![(grid0.coords t 0).val, 0] ∧ win0_1.index t = ![(grid0.coords t 0).val, 0] ∧ win0_2.index t = ![0, 0] ∧ win0_3.index t = ![(grid0.coords t 0).val / 16, 0, 0] ∧ win0_4.index t = ![(grid0.coords t 0).val, 0] :=
  (by decide +kernel : ∀ t : Fin grid0.N, _)

theorem point (c : Dev nD) (t : Fin cfg0.N) (y) : k0_pay1 (iblk m c 0 t) (iblk m c 1 t) (iblk m c 2 t) (View.ld (iblk m c 3 t) r0_2) y
    = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23]
  blk_point [iblk, V, idx t]

/-- The result array. -/
theorem final (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.PostnormLastIdeal.Value

end
-- ==== Proof.Calls.Prenorm.lean ====
/- The first norm: every tile of rows is the modulated norm of its rows. -/
module

public import proofs.«01_k».proof.Proof.Gen.PrenormIdeal.Frame
public import proofs.«01_k».proof.Proof.Gen.PrenormReferenceIdeal.Read
public import Idealize.ShloMosaic.Lib.Pipeline.ValueKit

@[expose] public section

set_option maxRecDepth 16384

noncomputable section

open Idealize.ShloMosaic Idealize.ShloMosaic.TcCoe Idealize.SL.Sem

namespace Cert.PrenormIdeal.Value

open Cert.PrenormIdeal Cert.PrenormIdeal.Gen Cert.PrenormReferenceIdeal.Read

variable (m : (ℓ : Loc nD τ sig) → Buf (Elt Ideal) ℓ)

theorem idx : ∀ t : Fin cfg0.N, win0_0.index t = ![(grid0.coords t 0).val, 0] ∧ win0_1.index t = ![0, 0] ∧ win0_2.index t = ![(grid0.coords t 0).val / 16, 0, 0] ∧ win0_3.index t = ![(grid0.coords t 0).val, 0] :=
  (by decide +kernel : ∀ t : Fin grid0.N, _)

theorem point (c : Dev nD) (t : Fin cfg0.N) (y) : k0_pay1 (iblk m c 0 t) (iblk m c 1 t) (View.ld (iblk m c 2 t) r0_2) (View.ld (iblk m c 2 t) r0_3) y
    = val_main_v28 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_cst_2, val_main_v18, val_main_v19, val_main_v20, val_main_v21, val_main_v22, val_main_v23, val_main_v24, val_main_v25, val_main_v26, val_main_v27, val_main_v28]
  blk_point [iblk, V, idx t]

/-- The result array. -/
theorem final (c : Dev nD) : (dats m 0 c).arrAt 3 (cfgs 0).N = val_main_v28 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.PrenormIdeal.Value

end
-- ==== Proof.Calls.PostnormMix.lean ====
/- A residual with the norm that follows: every tile of rows is the stream plus the gated norm of the sub-layer's rows, and the modulated norm of that. -/
module

public import proofs.«01_k».proof.Proof.Gen.PostnormMixIdeal.Frame
public import proofs.«01_k».proof.Proof.Gen.PostnormMixReferenceIdeal.Read
public import Idealize.ShloMosaic.Lib.Pipeline.ValueKit

@[expose] public section

set_option maxRecDepth 16384

noncomputable section

open Idealize.ShloMosaic Idealize.ShloMosaic.TcCoe Idealize.SL.Sem

namespace Cert.PostnormMixIdeal.Value

open Cert.PostnormMixIdeal Cert.PostnormMixIdeal.Gen Cert.PostnormMixReferenceIdeal.Read

variable (m : (ℓ : Loc nD τ sig) → Buf (Elt Ideal) ℓ)

theorem idx : ∀ t : Fin cfg0.N, win0_0.index t = ![(grid0.coords t 0).val, 0] ∧ win0_1.index t = ![(grid0.coords t 0).val, 0] ∧ win0_2.index t = ![0, 0] ∧ win0_3.index t = ![(grid0.coords t 0).val / 16, 0, 0] ∧ win0_4.index t = ![0, 0] ∧ win0_5.index t = ![(grid0.coords t 0).val / 16, 0, 0] ∧ win0_6.index t = ![(grid0.coords t 0).val, 0] ∧ win0_7.index t = ![(grid0.coords t 0).val, 0] :=
  (by decide +kernel : ∀ t : Fin grid0.N, _)

theorem pointResidual (c : Dev nD) (t : Fin cfg0.N) (y) : k0_pay2 (iblk m c 0 t) (iblk m c 1 t) (iblk m c 2 t) (View.ld (iblk m c 3 t) r0_2) y
    = val_main_v23 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay2, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23]
  blk_point [iblk, V, idx t]

/-- The residual. -/
theorem finalResidual (c : Dev nD) : (dats m 0 c).arrAt 6 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact pointResidual m c t y

theorem pointNorm (c : Dev nD) (t : Fin cfg0.N) (y) : k0_pay1 (k0_pay2 (iblk m c 0 t) (iblk m c 1 t) (iblk m c 2 t) (View.ld (iblk m c 3 t) r0_2)) (iblk m c 4 t) (k0_pay3 (View.ld (iblk m c 5 t) r0_3)) (k0_pay4 (View.ld (iblk m c 5 t) r0_4)) (k0_pay5 (iblk m c 0 t) (iblk m c 1 t) (iblk m c 2 t) (View.ld (iblk m c 3 t) r0_2)) (k0_pay6 (F := Ideal)) y
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, k0_pay2, k0_pay3, k0_pay4, k0_pay5, k0_pay6, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_cst_2, val_main_v26, val_main_v27, val_main_cst_3, val_main_v28, val_main_v29, val_main_cst_4, val_main_v30, val_main_v31, val_main_v32, val_main_v33, val_main_v34, val_main_v35, val_main_v36, val_main_v37, val_main_v38, val_main_v39, val_main_v40, val_main_cst_5, val_main_v41, val_main_v42, val_main_v43, val_main_v44, val_main_v45, val_main_v46, val_main_v47, val_main_v48, val_main_v49, val_main_v50, val_main_v51]
  blk_point [iblk, V, idx t]

/-- The norm. -/
theorem finalNorm (c : Dev nD) : (dats m 0 c).arrAt 7 (cfgs 0).N = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact pointNorm m c t y

end Cert.PostnormMixIdeal.Value

end
-- ==== Proof.Calls.PostnormFfn.lean ====
/- A residual with the norm that follows: every tile of rows is the stream plus the gated norm of the sub-layer's rows, and the modulated norm of that. -/
module

public import proofs.«01_k».proof.Proof.Gen.PostnormFfnIdeal.Frame
public import proofs.«01_k».proof.Proof.Gen.PostnormFfnReferenceIdeal.Read
public import Idealize.ShloMosaic.Lib.Pipeline.ValueKit

@[expose] public section

set_option maxRecDepth 16384

noncomputable section

open Idealize.ShloMosaic Idealize.ShloMosaic.TcCoe Idealize.SL.Sem

namespace Cert.PostnormFfnIdeal.Value

open Cert.PostnormFfnIdeal Cert.PostnormFfnIdeal.Gen Cert.PostnormFfnReferenceIdeal.Read

variable (m : (ℓ : Loc nD τ sig) → Buf (Elt Ideal) ℓ)

theorem idx : ∀ t : Fin cfg0.N, win0_0.index t = ![(grid0.coords t 0).val, 0] ∧ win0_1.index t = ![(grid0.coords t 0).val, 0] ∧ win0_2.index t = ![0, 0] ∧ win0_3.index t = ![(grid0.coords t 0).val / 16, 0, 0] ∧ win0_4.index t = ![0, 0] ∧ win0_5.index t = ![(grid0.coords t 0).val / 16, 0, 0] ∧ win0_6.index t = ![(grid0.coords t 0).val, 0] ∧ win0_7.index t = ![(grid0.coords t 0).val, 0] :=
  (by decide +kernel : ∀ t : Fin grid0.N, _)

theorem pointResidual (c : Dev nD) (t : Fin cfg0.N) (y) : k0_pay2 (iblk m c 0 t) (iblk m c 1 t) (iblk m c 2 t) (View.ld (iblk m c 3 t) r0_2) y
    = val_main_v23 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay2, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23]
  blk_point [iblk, V, idx t]

/-- The residual. -/
theorem finalResidual (c : Dev nD) : (dats m 0 c).arrAt 6 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact pointResidual m c t y

theorem pointNorm (c : Dev nD) (t : Fin cfg0.N) (y) : k0_pay1 (k0_pay2 (iblk m c 0 t) (iblk m c 1 t) (iblk m c 2 t) (View.ld (iblk m c 3 t) r0_2)) (iblk m c 4 t) (k0_pay3 (View.ld (iblk m c 5 t) r0_3)) (k0_pay4 (View.ld (iblk m c 5 t) r0_4)) (k0_pay5 (iblk m c 0 t) (iblk m c 1 t) (iblk m c 2 t) (View.ld (iblk m c 3 t) r0_2)) (k0_pay6 (F := Ideal)) y
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, k0_pay2, k0_pay3, k0_pay4, k0_pay5, k0_pay6, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_cst_2, val_main_v26, val_main_v27, val_main_cst_3, val_main_v28, val_main_v29, val_main_cst_4, val_main_v30, val_main_v31, val_main_v32, val_main_v33, val_main_v34, val_main_v35, val_main_v36, val_main_v37, val_main_v38, val_main_v39, val_main_v40, val_main_cst_5, val_main_v41, val_main_v42, val_main_v43, val_main_v44, val_main_v45, val_main_v46, val_main_v47, val_main_v48, val_main_v49, val_main_v50, val_main_v51]
  blk_point [iblk, V, idx t]

/-- The norm. -/
theorem finalNorm (c : Dev nD) : (dats m 0 c).arrAt 7 (cfgs 0).N = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact pointNorm m c t y

end Cert.PostnormFfnIdeal.Value

end
-- ==== Proof.Calls.RopeLemmas.lean ====
/- The projections with a rotation: what a tile of 128 columns stores, and the reference, read at an index. -/
module

public import proofs.«01_k».proof.Proof.Gen.RopeIdeal.Frame
public import proofs.«01_k».proof.Proof.Gen.RopeReferenceIdeal.Read
public import Idealize.ShloMosaic.Lib.Pipeline.ValueKit

@[expose] public section

set_option maxRecDepth 16384

noncomputable section

open Idealize.ShloMosaic Idealize.ShloMosaic.TcCoe Idealize.SL.Sem

namespace Cert.RopeIdeal.Value

open Cert.RopeIdeal Cert.RopeIdeal.Gen Cert.RopeReferenceIdeal.Read

/-- One tile of 128 columns: its columns `x`, the tables and the columns' scales. -/
abbrev tile (c s x : FVec Ideal S1024x128 .f32) (mu : FVec Ideal S1x128 .f32) : FVec Ideal S1024x128 .bf16 :=
  k0_pay1 (F := Ideal) c s x (iota .tc S1024x128 32 [1] iota_S1024x128_d1_w32) 128#32 (Scalar.cmpi .eq 128#32 0#32) 1#32 mu

/-- The word that chooses a lane's partner says whether the lane is one of the first sixteen. -/
theorem first_half : ∀ l : Fin 128, (IntOp.cmpi CmpIPredicate.slt
              (Scalar.select
                (IntOp.andi
                  (IntOp.xori
                    (IntOp.cmpi CmpIPredicate.slt
                      (IntOp.remsi ArithUnit.vector (BitVec.ofNat 32 ↑l)
                        (Scalar.select (Scalar.cmpi CmpIPredicate.eq 128#32 0#32) 1#32 128#32))
                      0#32)
                    (Scalar.cmpi CmpIPredicate.slt
                      (Scalar.select (Scalar.cmpi CmpIPredicate.eq 128#32 0#32) 1#32 128#32) 0#32))
                  (IntOp.cmpi CmpIPredicate.ne
                    (IntOp.remsi ArithUnit.vector (BitVec.ofNat 32 ↑l)
                      (Scalar.select (Scalar.cmpi CmpIPredicate.eq 128#32 0#32) 1#32 128#32))
                    0#32))
                (IntOp.addi
                  (IntOp.remsi ArithUnit.vector (BitVec.ofNat 32 ↑l)
                    (Scalar.select (Scalar.cmpi CmpIPredicate.eq 128#32 0#32) 1#32 128#32))
                  (Scalar.select (Scalar.cmpi CmpIPredicate.eq 128#32 0#32) 1#32 128#32))
                (IntOp.remsi ArithUnit.vector (BitVec.ofNat 32 ↑l)
                  (Scalar.select (Scalar.cmpi CmpIPredicate.eq 128#32 0#32) 1#32 128#32)))
              16#32) = if l.val < 16 then 1#1 else 0#1 := by
  decide +kernel

theorem tile_at (c s x : FVec Ideal S1024x128 .f32) (mu : FVec Ideal S1x128 .f32) (r : Fin 1024) (l : Fin 128) :
    tile c s x mu (ix2 r l) = (x (ix2 r l) * c (ix2 r l)
      + (if l.val < 16 then x (ix2 r ⟨(l.val + 128 - 112) % 128, Nat.mod_lt _ (by decide)⟩) else x (ix2 r ⟨(l.val + 128 - 16) % 128, Nat.mod_lt _ (by decide)⟩)) * s (ix2 r l)) * mu (ix2 0 l) := by
  pointwise [tile, k0_pay1]
  rw [first_half l]
  by_cases hl : l.val < 16
  · rw [if_pos hl, if_pos hl]; rfl
  · rw [if_neg hl, if_neg hl]; rfl

/-- What the tables satisfy: the two halves of a rotation share a row's angles, and the other lanes stay. -/
structure Angles (c s : FVec Ideal S16384x128 .f32) : Prop where
  cos_halves : ∀ (a : Fin 16384) (l : Fin 16), c (ix2 a ⟨l.val, by omega⟩) = c (ix2 a ⟨16 + l.val, by omega⟩)
  sin_halves : ∀ (a : Fin 16384) (l : Fin 16), s (ix2 a ⟨l.val, by omega⟩) = -s (ix2 a ⟨16 + l.val, by omega⟩)
  cos_rest : ∀ (a : Fin 16384) (l : Fin 96), c (ix2 a ⟨32 + l.val, by omega⟩) = 1
  sin_rest : ∀ (a : Fin 16384) (l : Fin 96), s (ix2 a ⟨32 + l.val, by omega⟩) = 0

/-- A rotation by the tables is the rotation of the first two groups of sixteen lanes. -/
theorem rotated (c s : FVec Ideal S16384x128 .f32) (H : Angles c s) (a : Fin 16384) (D : Fin 128 → EReal) (l : Fin 128) :
    D l * c (ix2 a l) + (if l.val < 16 then D ⟨(l.val + 128 - 112) % 128, Nat.mod_lt _ (by decide)⟩ else D ⟨(l.val + 128 - 16) % 128, Nat.mod_lt _ (by decide)⟩) * s (ix2 a l)
      = if h₁ : l.val < 16 then D l * c (ix2 a ⟨16 + l.val, by omega⟩) - D ⟨16 + l.val, by omega⟩ * s (ix2 a ⟨16 + l.val, by omega⟩)
        else if h₂ : l.val - 16 < 16 then D l * c (ix2 a l) + D ⟨l.val - 16, by omega⟩ * s (ix2 a l)
        else D l := by
  have hlt := l.isLt
  by_cases h₁ : l.val < 16
  · have hc := H.cos_halves a ⟨l.val, h₁⟩
    have hs := H.sin_halves a ⟨l.val, h₁⟩
    rw [if_pos h₁, dif_pos h₁, show (⟨(l.val + 128 - 112) % 128, Nat.mod_lt _ (by decide)⟩ : Fin 128) = ⟨16 + l.val, by omega⟩ from Fin.ext (by dsimp only; omega)]
    rw [show c (ix2 a l) = _ from hc, show s (ix2 a l) = _ from hs, mul_neg, ← sub_eq_add_neg]
  · rw [if_neg h₁, dif_neg h₁]
    by_cases h₂ : l.val - 16 < 16
    · rw [dif_pos h₂, show (⟨(l.val + 128 - 16) % 128, Nat.mod_lt _ (by decide)⟩ : Fin 128) = ⟨l.val - 16, by omega⟩ from Fin.ext (by dsimp only; omega)]
    · have e : l = ⟨32 + (⟨l.val - 32, by omega⟩ : Fin 96).val, by dsimp only; omega⟩ := Fin.ext (by dsimp only; omega)
      have hc : c (ix2 a l) = 1 := by rw [e]; exact H.cos_rest a _
      have hs : s (ix2 a l) = 0 := by rw [e]; exact H.sin_rest a _
      rw [dif_neg h₂, hc, hs, mul_one, mul_zero, add_zero]

theorem product_at (h : FVec Ideal S16384x4096 .bf16) (w : FVec Ideal S2x4096x9216 .bf16) (a : Fin 16384) (g : Fin 16) (l : Fin 128) :
    val_main_v5 (F := Ideal) h w (ix3 a g l) = ∑ x : Fin 4096, h (ix2 a x) * w (ix3 0 x ⟨5120 + (g.val * 128 + l.val), by omega⟩) := by
  pointwise [val_main_v0, val_main_v1, val_main_v2, val_main_v3, val_main_v4, val_main_v5]

theorem ref_at (h : FVec Ideal S16384x4096 .bf16) (w : FVec Ideal S2x4096x9216 .bf16) (mu : FVec Ideal S1x2048 .f32) (c s : FVec Ideal S16384x128 .f32) (a : Fin 16384) (b : Fin 2048) (l : Fin 128) (hl : b.val % 128 = l.val)
    (D : Fin 128 → EReal) (hD : ∀ l' : Fin 128, D l' = val_main_v5 (F := Ideal) h w (ix3 a ⟨b.val / 128, by omega⟩ l')) :
    val_main_v27 (F := Ideal) h w mu c s (ix2 a b) = (if h₁ : l.val < 16 then D l * c (ix2 a ⟨16 + l.val, by omega⟩) - D ⟨16 + l.val, by omega⟩ * s (ix2 a ⟨16 + l.val, by omega⟩)
        else if h₂ : l.val - 16 < 16 then D l * c (ix2 a l) + D ⟨l.val - 16, by omega⟩ * s (ix2 a l)
        else D l) * mu (ix2 0 b) := by
  have hlt := l.isLt
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
  simp only [hl, hD]
  by_cases h₁ : l.val < 16
  · simp only [h₁, ↓reduceDIte]
  · by_cases h₂ : l.val - 16 < 16
    · have e : (⟨16 + (l.val - 16), by omega⟩ : Fin 128) = l := Fin.ext (by dsimp only; omega)
      simp only [h₁, h₂, ↓reduceDIte, e]
    · have e : (⟨32 + (l.val - 16 - 16), by omega⟩ : Fin 128) = l := Fin.ext (by dsimp only; omega)
      simp only [h₁, h₂, ↓reduceDIte, e]

/-- A tile whose columns are the product's columns of one head stores the reference's columns of that head. -/
theorem core (h : FVec Ideal S16384x4096 .bf16) (w : FVec Ideal S2x4096x9216 .bf16) (mu : FVec Ideal S1x2048 .f32) (c s : FVec Ideal S16384x128 .f32) (H : Angles c s)
    (cb sb xb : FVec Ideal S1024x128 .f32) (mb : FVec Ideal S1x128 .f32) (r : Fin 1024) (l : Fin 128) (a : Fin 16384) (b : Fin 2048) (hl : b.val % 128 = l.val)
    (hc : cb (ix2 r l) = c (ix2 a l)) (hs : sb (ix2 r l) = s (ix2 a l)) (hm : mb (ix2 0 l) = mu (ix2 0 b))
    (hx : ∀ l' : Fin 128, xb (ix2 r l') = ∑ k : Fin 4096, h (ix2 a k) * w (ix3 0 k ⟨5120 + (b.val / 128 * 128 + l'.val), by omega⟩)) :
    tile cb sb xb mb (ix2 r l) = val_main_v27 (F := Ideal) h w mu c s (ix2 a b) := by
  rw [tile_at, hc, hs, hm, ref_at h w mu c s a b l hl (fun l' => xb (ix2 r l')) (fun l' => (hx l').trans (product_at h w a ⟨b.val / 128, by omega⟩ l').symm)]
  exact congrArg (· * _) (rotated c s H a (fun l' => xb (ix2 r l')) l)

section Payloads

variable (c s : FVec Ideal S1024x128 .f32) (A : FVec Ideal S1024x4096 .bf16) (W : FVec Ideal S1x4096x256 .bf16) (mu : FVec Ideal S1x128 .f32)

theorem pay3_eq : k0_pay3 (F := Ideal) c s A W mu = tile c s (extractStridedSlice S1024x128 ![0, 0] (k0_pay2 A W) slices_S1024x256_o0_0_S1024x128) mu := rfl

theorem pay4_eq : k0_pay4 (F := Ideal) c s (k0_pay2 A W) mu = tile c s (extractStridedSlice S1024x128 ![0, 128] (k0_pay2 A W) slices_S1024x256_o0_128_S1024x128) mu := rfl

theorem pay7_eq : k0_pay7 (F := Ideal) c s (k0_pay6 A W) (iota .tc S1024x128 32 [1] iota_S1024x128_d1_w32) 128#32 (Scalar.cmpi .eq 128#32 0#32) mu = tile c s (extractStridedSlice S1024x128 ![0, 0] (k0_pay2 A W) slices_S1024x256_o0_0_S1024x128) mu := rfl

theorem pay12_eq : k0_pay12 (F := Ideal) c s (k0_pay8 (k0_pay5 A W)) (Scalar.select (Scalar.cmpi .eq 128#32 0#32) 1#32 128#32) k0_pay9 k0_pay10 k0_pay11 mu = tile c s (extractStridedSlice S1024x128 ![0, 128] (k0_pay2 A W) slices_S1024x256_o0_128_S1024x128) mu := rfl

theorem pay16_eq : k0_pay16 (F := Ideal) c s (k0_pay14 A W) k0_pay15 112#32 mu = tile c s (extractStridedSlice S1024x128 ![0, 0] (k0_pay2 A W) slices_S1024x256_o0_0_S1024x128) mu := rfl

theorem pay17_eq : k0_pay17 (F := Ideal) c s (k0_pay13 A W) mu = tile c s (extractStridedSlice S1024x128 ![0, 128] (k0_pay2 A W) slices_S1024x256_o0_128_S1024x128) mu := rfl

theorem pay19_eq : k0_pay19 (F := Ideal) c s A W mu = tile c s (extractStridedSlice S1024x128 ![0, 0] (k0_pay2 A W) slices_S1024x256_o0_0_S1024x128) mu := rfl

theorem pay1_eq : k0_pay1 (F := Ideal) c s (k0_pay20 A W) (iota .tc S1024x128 32 [1] iota_S1024x128_d1_w32) 128#32 (Scalar.cmpi .eq 128#32 0#32) 1#32 mu = tile c s (extractStridedSlice S1024x128 ![0, 128] (k0_pay2 A W) slices_S1024x256_o0_128_S1024x128) mu := rfl

theorem columns_lo (r : Fin 1024) (l : Fin 128) : extractStridedSlice S1024x128 ![0, 0] (k0_pay2 (F := Ideal) A W) slices_S1024x256_o0_0_S1024x128 (ix2 r l) = ∑ x : Fin 4096, A (ix2 r x) * W (ix3 0 x ⟨l.val, by omega⟩) := by
  pointwise [k0_pay2]

theorem columns_hi (r : Fin 1024) (l : Fin 128) : extractStridedSlice S1024x128 ![0, 128] (k0_pay2 (F := Ideal) A W) slices_S1024x256_o0_128_S1024x128 (ix2 r l) = ∑ x : Fin 4096, A (ix2 r x) * W (ix3 0 x ⟨128 + l.val, by omega⟩) := by
  pointwise [k0_pay2]

end Payloads

end Cert.RopeIdeal.Value

end
-- ==== Proof.Calls.Rope.lean ====
/- The projections with a rotation: every tile of 128 columns is a head's columns of the product, rotated and scaled. -/
module

public import proofs.«01_k».proof.Proof.Calls.RopeLemmas
public import proofs.«01_k».proof.Proof.Gen.Pre_tables_of_angles
public import Idealize.ShloMosaic.Lib.ReduceAll

@[expose] public section

set_option maxRecDepth 16384

noncomputable section

open Idealize.ShloMosaic Idealize.ShloMosaic.TcCoe Idealize.SL.Sem

namespace Cert.RopeIdeal.Value

open Cert.RopeIdeal Cert.RopeIdeal.Gen Cert.RopeReferenceIdeal.Read

/-- The precondition, row by row and lane by lane. -/
theorem angles (h : FVec Ideal S16384x4096 .bf16) (w : FVec Ideal S2x4096x9216 .bf16) (mu : FVec Ideal S1x2048 .f32) (c s : FVec Ideal S16384x128 .f32)
    (hp : Cert.Pre_tables_of_angles.fn (F := Ideal) h w mu c s = fun _ => 1#1) : Angles c s := by
  dsimp only [Cert.Pre_tables_of_angles.fn] at hp
  have hq := congrFun hp (fun a => a.elim0)
  have both : ∀ u v : BitVec 1, u &&& v = 1#1 → u = 1#1 ∧ v = 1#1 := by decide
  obtain ⟨h₁, h₂⟩ := both _ _ hq
  have g₁ := fun i => both _ _ (Host.reduce_andi_all _ _ _ _ _ h₁ i)
  have g₂ := fun i => both _ _ (Host.reduce_andi_all _ _ _ _ _ h₂ i)
  have dec : ∀ (p : Prop) [Decidable p], BitVec.ofBool (decide p) = 1#1 → p := fun p _ e => by
    by_contra hne
    rw [decide_eq_false hne] at e
    exact absurd e (by decide)
  refine ⟨fun a l => ?_, fun a l => ?_, fun a l => ?_, fun a l => ?_⟩
  · have e := (g₁ (ix2 a l)).1
    pointwise at e
    exact dec _ e
  · have e := (g₁ (ix2 a l)).2
    pointwise at e
    exact dec _ e
  · have e := (g₂ (ix2 a l)).1
    pointwise at e
    exact dec _ e
  · have e := (g₂ (ix2 a l)).2
    pointwise at e
    exact dec _ e

set_option maxHeartbeats 1600000 in
/-- The stored block, when the blocks it is computed from are the layer's: one entry. -/
theorem stored (h : FVec Ideal S16384x4096 .bf16) (w : FVec Ideal S2x4096x9216 .bf16) (mu : FVec Ideal S1x2048 .f32) (c s : FVec Ideal S16384x128 .f32) (H : Angles c s)
    (hB : FVec Ideal S1024x4096 .bf16) (wB : FVec Ideal S1x4096x1024 .bf16) (muB : FVec Ideal S1x1024 .f32) (cB sB : FVec Ideal S1024x128 .f32)
    (y : S1024x1024.Idx) (a : Fin 16384) (b : Fin 2048) (g : ℕ) (hb : b.val = g * 1024 + (y 1 : ℕ))
    (eh : ∀ (r : Fin 1024) (k : Fin 4096), (y 0 : ℕ) = r.val → hB (ix2 r k) = h (ix2 a k))
    (ew : ∀ (k : Fin 4096) (j : Fin 1024) (j' : Fin 9216), j'.val = 5120 + (g * 1024 + j.val) → wB (ix3 0 k j) = w (ix3 0 k j'))
    (emu : ∀ j : Fin 1024, (y 1 : ℕ) = j.val → muB (ix2 0 j) = mu (ix2 0 b))
    (ec : ∀ (r : Fin 1024) (l : Fin 128), (y 0 : ℕ) = r.val → cB (ix2 r l) = c (ix2 a l))
    (es : ∀ (r : Fin 1024) (l : Fin 128), (y 0 : ℕ) = r.val → sB (ix2 r l) = s (ix2 a l)) :
    out0_5 hB wB muB cB sB y = val_main_v27 (F := Ideal) h w mu c s (ix2 a b) := by
  unfold out0_5
  canon_tiles x e
  all_goals
    first | rw [pay1_eq] | rw [pay3_eq] | rw [pay4_eq] | rw [pay7_eq] | rw [pay12_eq] | rw [pay16_eq] | rw [pay17_eq] | rw [pay19_eq]
    obtain ⟨r, l, e, hr, hl⟩ : ∃ (r : Fin 1024) (l : Fin 128), x = ix2 r l ∧ r.val = (x 0 : ℕ) ∧ l.val = (x 1 : ℕ) := ⟨x 0, x 1, eq_ix2 x, rfl, rfl⟩
    rw [e]
    refine core h w mu c s H _ _ _ _ r l a b ?_ ?_ ?_ ?_ ?_
    · omega
    · pointwise; refine ec _ _ ?_; omega
    · pointwise; refine es _ _ ?_; omega
    · pointwise; refine emu _ ?_; dsimp only; omega
    · intro l'
      pointwise [k0_pay2]
      refine Finset.sum_congr rfl fun k _ => ?_
      rw [eh r k (by omega), ew k _ ⟨5120 + (b.val / 128 * 128 + l'.val), by omega⟩ (by dsimp only; omega)]

variable (m : (ℓ : Loc nD τ sig) → Buf (Elt Ideal) ℓ)

theorem idx : ∀ t : Fin cfg0.N, win0_0.index t = ![(grid0.coords t 0).val, 0] ∧ win0_1.index t = ![0, 0, 5 + (grid0.coords t 1).val] ∧ win0_2.index t = ![0, (grid0.coords t 1).val] ∧ win0_3.index t = ![(grid0.coords t 0).val, 0] ∧ win0_4.index t = ![(grid0.coords t 0).val, 0] ∧ win0_5.index t = ![(grid0.coords t 0).val, (grid0.coords t 1).val] :=
  (by decide +kernel : ∀ t : Fin grid0.N, _)

theorem point (c : Dev nD) (t : Fin cfg0.N) (H : Angles (m ((c : Thread nD τ).loc main_arg3)) (m ((c : Thread nD τ).loc main_arg4))) (y) :
    out0_5 (iblk m c 0 t) (iblk m c 1 t) (iblk m c 2 t) (iblk m c 3 t) (iblk m c 4 t) y
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  refine (stored _ _ _ _ _ H _ _ _ _ _ y _ _ (grid0.coords t 1).val ?_ ?_ ?_ ?_ ?_ ?_).trans (congrArg (val_main_v27 (F := Ideal) _ _ _ _ _) (eq_ix2 _).symm)
  · blk_simp [idx t]
  · intro r k e; blk_ext [iblk, V, idx t]
  · intro k j j' e; blk_ext [iblk, V, idx t]
  · intro j e; blk_ext [iblk, V, idx t]
  · intro r l e; blk_ext [iblk, V, idx t]
  · intro r l e; blk_ext [iblk, V, idx t]

/-- The result array. -/
theorem final (c : Dev nD) (hp : Cert.Pre_tables_of_angles.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) :
    (dats m 0 c).arrAt 5 (cfgs 0).N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t (angles _ _ _ _ _ hp) y

end Cert.RopeIdeal.Value

end
-- ==== Proof.Calls.RopeSecond.lean ====
/- The second layer's projections with a rotation: the first layer's, of the other layer's weights. -/
module

public import proofs.«01_k».proof.Proof.Calls.Rope
public import proofs.«01_k».proof.Proof.Gen.RopeSecondIdeal.Frame
public import proofs.«01_k».proof.Proof.Gen.RopeSecondReferenceIdeal.Read

@[expose] public section

set_option maxRecDepth 16384

noncomputable section

open Idealize.ShloMosaic Idealize.ShloMosaic.TcCoe Idealize.SL.Sem

namespace Cert.RopeSecondIdeal.Value

open Cert.RopeIdeal.Value (Angles angles stored)
open Cert.RopeSecondIdeal Cert.RopeSecondIdeal.Gen Cert.RopeSecondReferenceIdeal.Read

/-- The weights whose first layer is the second one. -/
abbrev second (w : FVec Ideal S2x4096x9216 .bf16) : FVec Ideal S2x4096x9216 .bf16 := fun i => w (ix3 1 (i 1) (i 2))

theorem columns_eq (w : FVec Ideal S2x4096x9216 .bf16) : val_main_v1 (F := Ideal) w = Cert.RopeReferenceIdeal.Read.val_main_v1 (F := Ideal) (second w) := by
  funext i
  rw [eq_ix3 i]
  pointwise [val_main_v1, Cert.RopeReferenceIdeal.Read.val_main_v1]
  rfl

theorem product_eq (h : FVec Ideal S16384x4096 .bf16) (w : FVec Ideal S2x4096x9216 .bf16) : val_main_v5 (F := Ideal) h w = Cert.RopeReferenceIdeal.Read.val_main_v5 (F := Ideal) h (second w) := by
  unfold val_main_v5 val_main_v4 val_main_v3 val_main_v2
  rw [columns_eq]
  rfl

/-- The reference is the first layer's reference of these weights. -/
theorem ref_eq (h : FVec Ideal S16384x4096 .bf16) (w : FVec Ideal S2x4096x9216 .bf16) (mu : FVec Ideal S1x2048 .f32) (c s : FVec Ideal S16384x128 .f32) :
    val_main_v27 (F := Ideal) h w mu c s = Cert.RopeReferenceIdeal.Read.val_main_v27 (F := Ideal) h (second w) mu c s := by
  unfold val_main_v27 val_main_v26 val_main_v24 val_main_v23 val_main_v22 val_main_v21 val_main_v16 val_main_v20 val_main_v13 val_main_v15 val_main_v18 val_main_v19 val_main_v10 val_main_v11
  rw [product_eq]
  rfl

/-- The stored block is the first layer's function of the blocks. -/
theorem out_eq : out0_5 (F := Ideal) = Cert.RopeIdeal.Gen.out0_5 (F := Ideal) := rfl

variable (m : (ℓ : Loc nD τ sig) → Buf (Elt Ideal) ℓ)

theorem idx : ∀ t : Fin cfg0.N, win0_0.index t = ![(grid0.coords t 0).val, 0] ∧ win0_1.index t = ![1, 0, 5 + (grid0.coords t 1).val] ∧ win0_2.index t = ![0, (grid0.coords t 1).val] ∧ win0_3.index t = ![(grid0.coords t 0).val, 0] ∧ win0_4.index t = ![(grid0.coords t 0).val, 0] ∧ win0_5.index t = ![(grid0.coords t 0).val, (grid0.coords t 1).val] :=
  (by decide +kernel : ∀ t : Fin grid0.N, _)

theorem point (c : Dev nD) (t : Fin cfg0.N) (H : Angles (m ((c : Thread nD τ).loc main_arg3)) (m ((c : Thread nD τ).loc main_arg4))) (y) :
    out0_5 (iblk m c 0 t) (iblk m c 1 t) (iblk m c 2 t) (iblk m c 3 t) (iblk m c 4 t) y
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [ref_eq, out_eq]
  refine (stored _ _ _ _ _ H _ _ _ _ _ y _ _ (grid0.coords t 1).val ?_ ?_ ?_ ?_ ?_ ?_).trans (congrArg (Cert.RopeReferenceIdeal.Read.val_main_v27 (F := Ideal) _ _ _ _ _) (eq_ix2 _).symm)
  · blk_simp [idx t]
  · intro r k e; blk_ext [iblk, V, idx t]
  · intro k j j' e; dsimp only [second]; blk_ext [iblk, V, idx t]
  · intro j e; blk_ext [iblk, V, idx t]
  · intro r l e; blk_ext [iblk, V, idx t]
  · intro r l e; blk_ext [iblk, V, idx t]

/-- The result array. -/
theorem final (c : Dev nD) (hp : Cert.Pre_tables_of_angles.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) :
    (dats m 0 c).arrAt 5 (cfgs 0).N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t (angles _ _ _ _ _ hp) y

end Cert.RopeSecondIdeal.Value

end
-- ==== Proof.Calls.IndexLemmas.lean ====
/- The index projections: what a tile of 128 columns stores, and the reference, read at an index. -/
module

public import proofs.«01_k».proof.Proof.Gen.IndexIdeal.Frame
public import proofs.«01_k».proof.Proof.Gen.IndexReferenceIdeal.Read
public import Idealize.ShloMosaic.Lib.Pipeline.ValueKit

@[expose] public section

set_option maxRecDepth 16384

noncomputable section

open Idealize.ShloMosaic Idealize.ShloMosaic.TcCoe Idealize.SL.Sem

namespace Cert.IndexIdeal.Value

open Cert.IndexIdeal Cert.IndexIdeal.Gen Cert.IndexReferenceIdeal.Read

/-- The columns `x` of two heads of 64, each lane with its partner, by the tables. -/
abbrev turn (c s x : FVec Ideal S1024x128 .f32) : FVec Ideal S1024x128 .f32 :=
  addf (mulf x c) (mulf (select (cmpi .slt (select k0_pay28 (addi k0_pay27 k0_pay29) k0_pay27) (broadcast S1024x128 8#32))
    (dynamicRotate 1 120#32 none x rotates_S1024x128_d1) (dynamicRotate 1 8#32 none x rotates_S1024x128_d1)) s)

/-- One tile of the queries. -/
abbrev tile (c s x : FVec Ideal S1024x128 .f32) : FVec Ideal S1024x128 .bf16 :=
  k0_pay16 (F := Ideal) (turn c s x) (Scalar.ofBits .f32 0x3E000000#32)

/-- The word that chooses a lane's partner says whether the lane is one of the first eight of a head. -/
theorem first_half : ∀ l : Fin 128, (IntOp.cmpi CmpIPredicate.slt
            (Scalar.select
              (IntOp.andi
                (IntOp.xori
                  (IntOp.cmpi CmpIPredicate.slt
                    (IntOp.remsi ArithUnit.vector (BitVec.ofNat 32 ↑l)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 ↑l)
                    (Scalar.select (Scalar.cmpi CmpIPredicate.eq 64#32 0#32) 1#32 64#32))
                  0#32))
              (IntOp.addi
                (IntOp.remsi ArithUnit.vector (BitVec.ofNat 32 ↑l)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 ↑l)
                (Scalar.select (Scalar.cmpi CmpIPredicate.eq 64#32 0#32) 1#32 64#32)))
            8#32) = if l.val % 64 < 8 then 1#1 else 0#1 := by
  decide +kernel

theorem turn_at (c s x : FVec Ideal S1024x128 .f32) (r : Fin 1024) (l : Fin 128) :
    turn c s x (ix2 r l) = x (ix2 r l) * c (ix2 r l)
      + (if l.val % 64 < 8 then x (ix2 r ⟨(l.val + 128 - 120) % 128, Nat.mod_lt _ (by decide)⟩) else x (ix2 r ⟨(l.val + 128 - 8) % 128, Nat.mod_lt _ (by decide)⟩)) * s (ix2 r l) := by
  pointwise [turn, k0_pay27, k0_pay28, k0_pay29]
  rw [first_half l]
  by_cases hl : l.val % 64 < 8
  · rw [if_pos hl, if_pos hl]; rfl
  · rw [if_neg hl, if_neg hl]; rfl

/-- What the tables satisfy: two heads side by side have the same angles, so have the two halves of a rotation, and the other lanes stay. -/
structure Angles (c s : FVec Ideal S16384x128 .f32) : Prop where
  cos_same : ∀ (a : Fin 16384) (l : Fin 64), c (ix2 a ⟨l.val, by omega⟩) = c (ix2 a ⟨64 + l.val, by omega⟩)
  sin_same : ∀ (a : Fin 16384) (l : Fin 64), s (ix2 a ⟨l.val, by omega⟩) = s (ix2 a ⟨64 + l.val, by omega⟩)
  cos_halves : ∀ (a : Fin 16384) (l : Fin 8), c (ix2 a ⟨l.val, by omega⟩) = c (ix2 a ⟨8 + l.val, by omega⟩)
  sin_halves : ∀ (a : Fin 16384) (l : Fin 8), s (ix2 a ⟨l.val, by omega⟩) = -s (ix2 a ⟨8 + l.val, by omega⟩)
  cos_rest : ∀ (a : Fin 16384) (l : Fin 48), c (ix2 a ⟨16 + l.val, by omega⟩) = 1
  sin_rest : ∀ (a : Fin 16384) (l : Fin 48), s (ix2 a ⟨16 + l.val, by omega⟩) = 0

/-- One channel of a head of 64 with the values `E`, rotated by row `a`'s angles. -/
def turned (c s : FVec Ideal S16384x128 .f32) (a : Fin 16384) (E : Fin 64 → EReal) (q : Fin 64) : EReal :=
  if h₁ : q.val < 8 then E q * c (ix2 a ⟨8 + q.val, by omega⟩) - E ⟨8 + q.val, by omega⟩ * s (ix2 a ⟨8 + q.val, by omega⟩)
  else if h₂ : q.val - 8 < 8 then E q * c (ix2 a ⟨q.val, by omega⟩) + E ⟨q.val - 8, by omega⟩ * s (ix2 a ⟨q.val, by omega⟩)
  else E q

theorem turned_eq (c s : FVec Ideal S16384x128 .f32) (a : Fin 16384) (E : Fin 64 → EReal) (n : ℕ) (hn : n < 64) :
    (if h₁ : n < 8 then E ⟨n, hn⟩ * c (ix2 a ⟨8 + n, by omega⟩) - E ⟨8 + n, by omega⟩ * s (ix2 a ⟨8 + n, by omega⟩)
      else if h₂ : n - 8 < 8 then E ⟨8 + (n - 8), by omega⟩ * c (ix2 a ⟨8 + (n - 8), by omega⟩) + E ⟨n - 8, by omega⟩ * s (ix2 a ⟨8 + (n - 8), by omega⟩)
      else E ⟨16 + (n - 8 - 8), by omega⟩) = turned c s a E ⟨n, hn⟩ := by
  unfold turned
  by_cases h₁ : n < 8
  · simp only [h₁, ↓reduceDIte]
  · by_cases h₂ : n - 8 < 8
    · have e : 8 + (n - 8) = n := by omega
      simp only [h₁, h₂, ↓reduceDIte, e]
    · have e : 16 + (n - 8 - 8) = n := by omega
      simp only [h₁, h₂, ↓reduceDIte, e]

/-- A rotation by the tables is the rotation of each head. -/
theorem rotated (c s : FVec Ideal S16384x128 .f32) (H : Angles c s) (a : Fin 16384) (D : Fin 128 → EReal) (E : Fin 64 → EReal) (l : Fin 128)
    (hE : ∀ q : Fin 64, E q = D ⟨l.val / 64 * 64 + q.val, by omega⟩) :
    D l * c (ix2 a l) + (if l.val % 64 < 8 then D ⟨(l.val + 128 - 120) % 128, Nat.mod_lt _ (by decide)⟩ else D ⟨(l.val + 128 - 8) % 128, Nat.mod_lt _ (by decide)⟩) * s (ix2 a l)
      = turned c s a E ⟨l.val % 64, Nat.mod_lt _ (by decide)⟩ := by
  have hlt := l.isLt
  have hc : c (ix2 a l) = c (ix2 a ⟨l.val % 64, by omega⟩) := by
    by_cases h : l.val < 64
    · exact congrArg (fun k => c (ix2 a k)) (Fin.ext (by dsimp only; omega))
    · rw [show l = ⟨64 + (⟨l.val - 64, by omega⟩ : Fin 64).val, by dsimp only; omega⟩ from Fin.ext (by dsimp only; omega), ← H.cos_same]
      exact congrArg (fun k => c (ix2 a k)) (Fin.ext (by dsimp only; omega))
  have hs : s (ix2 a l) = s (ix2 a ⟨l.val % 64, by omega⟩) := by
    by_cases h : l.val < 64
    · exact congrArg (fun k => s (ix2 a k)) (Fin.ext (by dsimp only; omega))
    · rw [show l = ⟨64 + (⟨l.val - 64, by omega⟩ : Fin 64).val, by dsimp only; omega⟩ from Fin.ext (by dsimp only; omega), ← H.sin_same]
      exact congrArg (fun k => s (ix2 a k)) (Fin.ext (by dsimp only; omega))
  have hD : D l = E ⟨l.val % 64, by omega⟩ := (congrArg D (Fin.ext (by dsimp only; omega))).trans (hE _).symm
  rw [hc, hs, hD]
  unfold turned
  by_cases h₁ : l.val % 64 < 8
  · rw [if_pos h₁, dif_pos h₁, hE ⟨8 + l.val % 64, by omega⟩, show (⟨(l.val + 128 - 120) % 128, Nat.mod_lt _ (by decide)⟩ : Fin 128) = ⟨l.val / 64 * 64 + (8 + l.val % 64), by omega⟩ from Fin.ext (by dsimp only; omega),
      H.cos_halves a ⟨l.val % 64, h₁⟩, H.sin_halves a ⟨l.val % 64, h₁⟩, mul_neg, ← sub_eq_add_neg]
  · rw [if_neg h₁, dif_neg h₁]
    by_cases h₂ : l.val % 64 - 8 < 8
    · rw [dif_pos h₂, hE ⟨l.val % 64 - 8, by omega⟩, show (⟨(l.val + 128 - 8) % 128, Nat.mod_lt _ (by decide)⟩ : Fin 128) = ⟨l.val / 64 * 64 + (l.val % 64 - 8), by omega⟩ from Fin.ext (by dsimp only; omega)]
    · have e : (⟨l.val % 64, by omega⟩ : Fin 128) = ⟨16 + (⟨l.val % 64 - 16, by omega⟩ : Fin 48).val, by dsimp only; omega⟩ := Fin.ext (by dsimp only; omega)
      rw [dif_neg h₂, e, H.cos_rest, H.sin_rest, mul_one, mul_zero, add_zero]

/-- A tile's entry, when its row and its columns are the layer's. -/
theorem turn_eq (c s : FVec Ideal S16384x128 .f32) (H : Angles c s) (cb sb xb : FVec Ideal S1024x128 .f32) (r : Fin 1024) (l : Fin 128) (a : Fin 16384) (E : Fin 64 → EReal)
    (hc : cb (ix2 r l) = c (ix2 a l)) (hs : sb (ix2 r l) = s (ix2 a l)) (hE : ∀ q : Fin 64, E q = xb (ix2 r ⟨l.val / 64 * 64 + q.val, by omega⟩)) :
    turn cb sb xb (ix2 r l) = turned c s a E ⟨l.val % 64, Nat.mod_lt _ (by decide)⟩ := by
  rw [turn_at, hc, hs]
  exact rotated c s H a (fun l' => xb (ix2 r l')) E l hE

theorem queries_at (h : FVec Ideal S16384x4096 .bf16) (w : FVec Ideal S1x4096x1152 .bf16) (a : Fin 16384) (g : Fin 16) (q : Fin 64) :
    val_main_v5 (F := Ideal) h w (ix3 a g q) = ∑ x : Fin 4096, h (ix2 a x) * w (ix3 0 x ⟨g.val * 64 + q.val, by omega⟩) := by
  pointwise [val_main_v0, val_main_v1, val_main_v2, val_main_v3, val_main_v4, val_main_v5]

theorem keys_at (h : FVec Ideal S16384x4096 .bf16) (w : FVec Ideal S1x4096x1152 .bf16) (a : Fin 16384) (g : Fin 2) (q : Fin 64) :
    val_main_v29 (F := Ideal) h w (ix3 a g q) = ∑ x : Fin 4096, h (ix2 a x) * w (ix3 0 x ⟨1024 + (g.val * 64 + q.val), by omega⟩) := by
  pointwise [val_main_v0, val_main_v1, val_main_v2, val_main_v27, val_main_v28, val_main_v29]

theorem ref_queries (h : FVec Ideal S16384x4096 .bf16) (w : FVec Ideal S1x4096x1152 .bf16) (c s : FVec Ideal S16384x128 .f32) (a : Fin 16384) (b : Fin 1024) :
    val_main_v54 (F := Ideal) h w c s (ix2 a b) = turned c s a (fun q => val_main_v5 (F := Ideal) h w (ix3 a ⟨b.val / 64, by omega⟩ q)) ⟨b.val % 64, by omega⟩ * Scalar.ofBits (F := Ideal) .f32 0x3E000000#32 := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_v25, val_main_v26, val_main_v54]
  exact congrArg (· * _) (turned_eq c s a (fun q => val_main_v5 (F := Ideal) h w (ix3 a ⟨b.val / 64, by omega⟩ q)) (b.val % 64) (by omega))

theorem ref_keys (h : FVec Ideal S16384x4096 .bf16) (w : FVec Ideal S1x4096x1152 .bf16) (c s : FVec Ideal S16384x128 .f32) (a : Fin 16384) (b : Fin 128) :
    val_main_v55 (F := Ideal) h w c s (ix2 a b) = turned c s a (fun q => val_main_v29 (F := Ideal) h w (ix3 a ⟨b.val / 64, by omega⟩ q)) ⟨b.val % 64, by omega⟩ := by
  pointwise [val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v55]
  exact turned_eq c s a (fun q => val_main_v29 (F := Ideal) h w (ix3 a ⟨b.val / 64, by omega⟩ q)) (b.val % 64) (by omega)

section Payloads

variable (c s : FVec Ideal S1024x128 .f32) (A : FVec Ideal S1024x4096 .bf16) (W : FVec Ideal S1x4096x256 .bf16)

theorem pay4_eq : k0_pay4 (F := Ideal) c s A W = tile c s (extractStridedSlice S1024x128 ![0, 0] (k0_pay3 A W) slices_S1024x256_o0_0_S1024x128) := rfl

theorem pay5_eq : k0_pay5 (F := Ideal) c s (k0_pay3 A W) = tile c s (extractStridedSlice S1024x128 ![0, 128] (k0_pay3 A W) slices_S1024x256_o0_128_S1024x128) := rfl

theorem pay9_eq : k0_pay9 (F := Ideal) c s (k0_pay7 A W) (Scalar.select (Scalar.cmpi .eq 64#32 0#32) 1#32 64#32) k0_pay8 = tile c s (extractStridedSlice S1024x128 ![0, 0] (k0_pay3 A W) slices_S1024x256_o0_0_S1024x128) := rfl

theorem pay13_eq : k0_pay13 (F := Ideal) c s (k0_pay10 (k0_pay6 A W)) k0_pay11 k0_pay12 = tile c s (extractStridedSlice S1024x128 ![0, 128] (k0_pay3 A W) slices_S1024x256_o0_128_S1024x128) := rfl

theorem pay16_eq : k0_pay16 (F := Ideal) (k0_pay15 c s A W) (Scalar.ofBits .f32 0x3E000000#32) = tile c s (extractStridedSlice S1024x128 ![0, 0] (k0_pay3 A W) slices_S1024x256_o0_0_S1024x128) := rfl

theorem pay17_eq : k0_pay17 (F := Ideal) c s (k0_pay14 A W) = tile c s (extractStridedSlice S1024x128 ![0, 128] (k0_pay3 A W) slices_S1024x256_o0_128_S1024x128) := rfl

theorem pay20_eq : k0_pay20 (F := Ideal) c s (k0_pay19 A W) (iota .tc S1024x128 32 [1] iota_S1024x128_d1_w32) 64#32 = tile c s (extractStridedSlice S1024x128 ![0, 0] (k0_pay3 A W) slices_S1024x256_o0_0_S1024x128) := rfl

theorem pay25_eq : k0_pay25 (F := Ideal) c s (k0_pay21 (k0_pay18 A W)) (Scalar.select (Scalar.cmpi .eq 64#32 0#32) 1#32 64#32) k0_pay22 k0_pay23 k0_pay24 = tile c s (extractStridedSlice S1024x128 ![0, 128] (k0_pay3 A W) slices_S1024x256_o0_128_S1024x128) := rfl

theorem pay1_eq (x : FVec Ideal S1024x128 .f32) : k0_pay1 (F := Ideal) x c s k0_pay27 k0_pay28 k0_pay29 = truncf .bf16 (turn c s x) bitsLt_bf16_f32 := rfl

end Payloads

end Cert.IndexIdeal.Value

end
-- ==== Proof.Calls.Index.lean ====
/- The index projections: the queries and the keys are rotated columns of the product, and the head weights a transposed product. -/
module

public import proofs.«01_k».proof.Proof.Calls.IndexLemmas
public import proofs.«01_k».proof.Proof.Gen.Pre_index_tables_of_angles
public import Idealize.ShloMosaic.Lib.ReduceAll

@[expose] public section

set_option maxRecDepth 16384

noncomputable section

open Idealize.ShloMosaic Idealize.ShloMosaic.TcCoe Idealize.SL.Sem

namespace Cert.IndexIdeal.Value

open Cert.IndexIdeal Cert.IndexIdeal.Gen Cert.IndexReferenceIdeal.Read

/-- The precondition, row by row and lane by lane. -/
theorem angles (h : FVec Ideal S16384x4096 .bf16) (w : FVec Ideal S1x4096x1152 .bf16) (v : FVec Ideal S128x4096 .bf16) (c s : FVec Ideal S16384x128 .f32)
    (hp : Cert.Pre_index_tables_of_angles.fn (F := Ideal) h w v c s = fun _ => 1#1) : Angles c s := by
  dsimp only [Cert.Pre_index_tables_of_angles.fn, Cert.Pre_index_tables_of_angles.fn_part1] at hp
  have hq := congrFun hp (fun a => a.elim0)
  have both : ∀ u v : BitVec 1, u &&& v = 1#1 → u = 1#1 ∧ v = 1#1 := by decide
  obtain ⟨h₁₂, h₃⟩ := both _ _ hq
  obtain ⟨h₁, h₂⟩ := both _ _ h₁₂
  have g₁ := fun i => both _ _ (Host.reduce_andi_all _ _ _ _ _ h₁ i)
  have g₂ := fun i => both _ _ (Host.reduce_andi_all _ _ _ _ _ h₂ i)
  have g₃ := fun i => both _ _ (Host.reduce_andi_all _ _ _ _ _ h₃ i)
  have dec : ∀ (p : Prop) [Decidable p], BitVec.ofBool (decide p) = 1#1 → p := fun p _ e => by
    by_contra hne
    rw [decide_eq_false hne] at e
    exact absurd e (by decide)
  refine ⟨fun a l => ?_, fun a l => ?_, fun a l => ?_, fun a l => ?_, fun a l => ?_, fun a l => ?_⟩
  · have e := (g₁ (ix2 a l)).1
    pointwise at e
    exact dec _ e
  · have e := (g₁ (ix2 a l)).2
    pointwise at e
    exact dec _ e
  · have e := (g₂ (ix2 a l)).1
    pointwise at e
    exact dec _ e
  · have e := (g₂ (ix2 a l)).2
    pointwise at e
    exact dec _ e
  · have e := (g₃ (ix2 a l)).1
    pointwise at e
    exact dec _ e
  · have e := (g₃ (ix2 a l)).2
    pointwise at e
    exact dec _ e

set_option maxHeartbeats 1600000 in
/-- The stored block of queries, when the blocks it is computed from are the layer's: one entry. -/
theorem stored (h : FVec Ideal S16384x4096 .bf16) (w : FVec Ideal S1x4096x1152 .bf16) (c s : FVec Ideal S16384x128 .f32) (H : Angles c s)
    (hB : FVec Ideal S1024x4096 .bf16) (wB : FVec Ideal S1x4096x1152 .bf16) (vB : FVec Ideal S128x4096 .bf16) (cB sB : FVec Ideal S1024x128 .f32)
    (y : S1024x1024.Idx) (a : Fin 16384) (b : Fin 1024) (hb : b.val = (y 1 : ℕ))
    (eh : ∀ (r : Fin 1024) (k : Fin 4096), (y 0 : ℕ) = r.val → hB (ix2 r k) = h (ix2 a k))
    (ew : ∀ (k : Fin 4096) (j j' : Fin 1152), j.val = j'.val → wB (ix3 0 k j) = w (ix3 0 k j'))
    (ec : ∀ (r : Fin 1024) (l : Fin 128), (y 0 : ℕ) = r.val → cB (ix2 r l) = c (ix2 a l))
    (es : ∀ (r : Fin 1024) (l : Fin 128), (y 0 : ℕ) = r.val → sB (ix2 r l) = s (ix2 a l)) :
    out0_5 hB wB vB cB sB y = val_main_v54 (F := Ideal) h w c s (ix2 a b) := by
  unfold out0_5
  canon_tiles x e
  all_goals
    first | rw [pay4_eq] | rw [pay5_eq] | rw [pay9_eq] | rw [pay13_eq] | rw [pay16_eq] | rw [pay17_eq] | rw [pay20_eq] | rw [pay25_eq]
    obtain ⟨r, l, e, hr, hl⟩ : ∃ (r : Fin 1024) (l : Fin 128), x = ix2 r l ∧ r.val = (x 0 : ℕ) ∧ l.val = (x 1 : ℕ) := ⟨x 0, x 1, eq_ix2 x, rfl, rfl⟩
    rw [e, ref_queries]
    refine congrArg (fun u : EReal => u * Scalar.ofBits (F := Ideal) .f32 0x3E000000#32) ((turn_eq c s H _ _ _ r l a (fun q => val_main_v5 (F := Ideal) h w (ix3 a ⟨b.val / 64, by omega⟩ q)) ?_ ?_ ?_).trans (congrArg (turned c s a _) (Fin.ext (by dsimp only; omega))))
    · pointwise; refine ec _ _ ?_; omega
    · pointwise; refine es _ _ ?_; omega
    · intro q
      rw [queries_at]
      pointwise [k0_pay3]
      refine Finset.sum_congr rfl fun k _ => ?_
      rw [eh r k (by omega)]
      refine congrArg (_ * ·) (ew k _ _ ?_).symm
      dsimp only; omega

variable (m : (ℓ : Loc nD τ sig) → Buf (Elt Ideal) ℓ)

theorem idx : ∀ t : Fin cfg0.N, win0_0.index t = ![(grid0.coords t 0).val, 0] ∧ win0_1.index t = ![0, 0, 0] ∧ win0_2.index t = ![0, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![0, (grid0.coords t 0).val] :=
  (by decide +kernel : ∀ t : Fin grid0.N, _)

theorem pointQueries (c : Dev nD) (t : Fin cfg0.N) (H : Angles (m ((c : Thread nD τ).loc main_arg3)) (m ((c : Thread nD τ).loc main_arg4))) (y) :
    out0_5 (iblk m c 0 t) (iblk m c 1 t) (iblk m c 2 t) (iblk m c 3 t) (iblk m c 4 t) y
    = val_main_v54 (F := Ideal) (m ((c : Thread nD τ).loc main_arg0)) (m ((c : Thread nD τ).loc main_arg1)) (m ((c : Thread nD τ).loc main_arg3)) (m ((c : Thread nD τ).loc main_arg4)) (((cfg0.win 5).blk t).view.emb y) := by
  refine (stored _ _ _ _ H _ _ _ _ _ y _ _ ?_ ?_ ?_ ?_ ?_).trans (congrArg (val_main_v54 (F := Ideal) _ _ _ _) (eq_ix2 _).symm)
  · blk_simp [idx t]
  · intro r k e; blk_ext [iblk, V, idx t]
  · intro k j j' e; blk_ext [iblk, V, idx t]
  · intro r l e; blk_ext [iblk, V, idx t]
  · intro r l e; blk_ext [iblk, V, idx t]

theorem pointKeys (c : Dev nD) (t : Fin cfg0.N) (H : Angles (m ((c : Thread nD τ).loc main_arg3)) (m ((c : Thread nD τ).loc main_arg4))) (y : S1024x128.Idx) :
    k0_pay1 (F := Ideal) (k0_pay26 (iblk m c 0 t) (View.ld (iblk m c 1 t) r0_14)) (iblk m c 3 t) (iblk m c 4 t) k0_pay27 k0_pay28 k0_pay29 y
    = val_main_v55 (F := Ideal) (m ((c : Thread nD τ).loc main_arg0)) (m ((c : Thread nD τ).loc main_arg1)) (m ((c : Thread nD τ).loc main_arg3)) (m ((c : Thread nD τ).loc main_arg4)) (((cfg0.win 6).blk t).view.emb y) := by
  rw [pay1_eq, eq_ix2 (((cfg0.win 6).blk t).view.emb y)]
  obtain ⟨r, l, e, hr, hl⟩ : ∃ (r : Fin 1024) (l : Fin 128), y = ix2 r l ∧ r.val = (y 0 : ℕ) ∧ l.val = (y 1 : ℕ) := ⟨y 0, y 1, eq_ix2 y, rfl, rfl⟩
  rw [e]
  refine Eq.trans ((turn_eq _ _ H _ _ _ r l _ (fun q => val_main_v29 (F := Ideal) (m ((c : Thread nD τ).loc main_arg0)) (m ((c : Thread nD τ).loc main_arg1)) (ix3 (((cfg0.win 6).blk t).view.emb (ix2 r l) 0) ⟨l.val / 64, by omega⟩ q)) ?_ ?_ ?_)) (ref_keys _ _ _ _ _ l).symm |>.trans ?_
  · blk_ext [iblk, V, idx t]
  · blk_ext [iblk, V, idx t]
  · intro q
    refine (keys_at _ _ _ _ q).trans ?_
    pointwise [k0_pay26]
    refine Finset.sum_congr rfl fun k _ => Eq.symm ?_
    blk_point [iblk, V, idx t]
  · refine congrArg (fun k => val_main_v55 (F := Ideal) _ _ _ _ (ix2 _ k)) (Fin.ext ?_)
    blk_simp [idx t]

theorem pointWeights (c : Dev nD) (t : Fin cfg0.N) (y) : k0_pay2 (F := Ideal) (iblk m c 2 t) (iblk m c 0 t) y
    = val_main_v56 (F := Ideal) (m ((c : Thread nD τ).loc main_arg0)) (m ((c : Thread nD τ).loc main_arg2)) (((cfg0.win 7).blk t).view.emb y) := by
  pointwise [k0_pay2, val_main_v0, val_main_v49, val_main_v50, val_main_v51, val_main_cst_0, val_main_v52, val_main_v53, val_main_v56]
  refine congrArg (· * _) (Finset.sum_congr rfl fun k _ => (mul_comm (G := EReal) _ _).trans ?_)
  blk_point [iblk, V, idx t]

variable (c : Dev nD)

/-- The queries. -/
theorem finalQueries (hp : Cert.Pre_index_tables_of_angles.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) :
    (dats m 0 c).arrAt 5 (cfgs 0).N = val_main_v54 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 5 _ (by decide +kernel) fun t _ y => ?_
  blk_simp
  rw [after0_5]
  exact pointQueries m c t (angles _ _ _ _ _ hp) y

/-- The keys. -/
theorem finalKeys (hp : Cert.Pre_index_tables_of_angles.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) :
    (dats m 0 c).arrAt 6 (cfgs 0).N = val_main_v55 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact pointKeys m c t (angles _ _ _ _ _ hp) y

/-- The head weights. -/
theorem finalWeights : (dats m 0 c).arrAt 7 (cfgs 0).N = val_main_v56 (F := Ideal) (m ((c : Thread nD τ).loc main_arg0)) (m ((c : Thread nD τ).loc main_arg2)) := by
  refine (dats m 0 c).arrAt_eq_of_covers 7 _ (by decide +kernel) fun t _ y => ?_
  blk_simp
  rw [after0_7]; frame_out
  exact pointWeights m c t y

end Cert.IndexIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpReferenceIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesReferenceIdeal
public import proofs.«01_k».proof.Proof.Gen.Plain
public import proofs.«01_k».proof.Proof.Gen.Plain.Skeleton
public import proofs.«01_k».proof.Proof.Gen.Plain.Launch
public import proofs.«01_k».proof.Proof.Gen.Plain.Points
public import proofs.«01_k».proof.Proof.Gen.Plain.Frame
public import proofs.«01_k».proof.Proof.Gen.PlainIdeal
public import proofs.«01_k».proof.Proof.Gen.PlainIdeal.Skeleton
public import proofs.«01_k».proof.Proof.Gen.PlainIdeal.Launch
public import proofs.«01_k».proof.Proof.Gen.PlainIdeal.Points
public import proofs.«01_k».proof.Proof.Gen.PlainIdeal.Frame
public import proofs.«01_k».proof.Proof.Gen.PlainReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.Vt
public import proofs.«01_k».proof.Proof.Gen.Vt.Skeleton
public import proofs.«01_k».proof.Proof.Gen.Vt.Launch
public import proofs.«01_k».proof.Proof.Gen.Vt.Points
public import proofs.«01_k».proof.Proof.Gen.Vt.Frame
public import proofs.«01_k».proof.Proof.Gen.VtIdeal
public import proofs.«01_k».proof.Proof.Gen.VtIdeal.Skeleton
public import proofs.«01_k».proof.Proof.Gen.VtIdeal.Launch
public import proofs.«01_k».proof.Proof.Gen.VtIdeal.Points
public import proofs.«01_k».proof.Proof.Gen.VtIdeal.Frame
public import proofs.«01_k».proof.Proof.Gen.VtReferenceIdeal
public import proofs.«01_k».proof.Proof.Gen.Pre_logits_at_most_64
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnUpReferenceIdeal.Run
public import proofs.«01_k».proof.Proof.Gen.FfnUpReferenceIdeal.Read
public import proofs.«01_k».proof.Proof.Gen.DownReferenceIdeal.Run
public import proofs.«01_k».proof.Proof.Gen.DownReferenceIdeal.Read
public import proofs.«01_k».proof.Proof.Gen.GatesReferenceIdeal.Run
public import proofs.«01_k».proof.Proof.Gen.GatesReferenceIdeal.Read
public import proofs.«01_k».proof.Proof.Gen.PlainReferenceIdeal.Run
public import proofs.«01_k».proof.Proof.Gen.PlainReferenceIdeal.Read
public import proofs.«01_k».proof.Proof.Gen.OutProjReferenceIdeal.Run
public import proofs.«01_k».proof.Proof.Gen.OutProjReferenceIdeal.Read
public import proofs.«01_k».proof.Proof.Gen.MergeReferenceIdeal.Run
public import proofs.«01_k».proof.Proof.Gen.MergeReferenceIdeal.Read
public import proofs.«01_k».proof.Proof.Gen.VtReferenceIdeal.Run
public import proofs.«01_k».proof.Proof.Gen.VtReferenceIdeal.Read
public import Idealize.ShloMosaic.Adequacy
public import Idealize.ShloMosaic.Init
public import proofs.«01_k».proof.Proof.Gen.FfnUpSecond
public import proofs.«01_k».proof.Proof.Gen.FfnUpSecond.Skeleton
public import proofs.«01_k».proof.Proof.Gen.FfnUpSecond.Launch
public import proofs.«01_k».proof.Proof.Gen.FfnUpSecond.Points
public import proofs.«01_k».proof.Proof.Gen.FfnUpSecond.Frame
public import proofs.«01_k».proof.Proof.Gen.FfnUpSecondIdeal
public import proofs.«01_k».proof.Proof.Gen.FfnUpSecondIdeal.Skeleton
public import proofs.«01_k».proof.Proof.Gen.FfnUpSecondIdeal.Launch
public import proofs.«01_k».proof.Proof.Gen.FfnUpSecondIdeal.Points
public import proofs.«01_k».proof.Proof.Gen.FfnUpSecondIdeal.Frame
public import proofs.«01_k».proof.Proof.Gen.FfnUpSecondReferenceIdeal
public import proofs.«01_k».proof.Proof.Gen.DownSecond
public import proofs.«01_k».proof.Proof.Gen.DownSecond.Skeleton
public import proofs.«01_k».proof.Proof.Gen.DownSecond.Launch
public import proofs.«01_k».proof.Proof.Gen.DownSecond.Points
public import proofs.«01_k».proof.Proof.Gen.DownSecond.Frame
public import proofs.«01_k».proof.Proof.Gen.DownSecondIdeal
public import proofs.«01_k».proof.Proof.Gen.DownSecondIdeal.Skeleton
public import proofs.«01_k».proof.Proof.Gen.DownSecondIdeal.Launch
public import proofs.«01_k».proof.Proof.Gen.DownSecondIdeal.Points
public import proofs.«01_k».proof.Proof.Gen.DownSecondIdeal.Frame
public import proofs.«01_k».proof.Proof.Gen.DownSecondReferenceIdeal
public import proofs.«01_k».proof.Proof.Gen.GatesSecond
public import proofs.«01_k».proof.Proof.Gen.GatesSecond.Skeleton
public import proofs.«01_k».proof.Proof.Gen.GatesSecond.Launch
public import proofs.«01_k».proof.Proof.Gen.GatesSecond.Points
public import proofs.«01_k».proof.Proof.Gen.GatesSecond.Frame
public import proofs.«01_k».proof.Proof.Gen.GatesSecondIdeal
public import proofs.«01_k».proof.Proof.Gen.GatesSecondIdeal.Skeleton
public import proofs.«01_k».proof.Proof.Gen.GatesSecondIdeal.Launch
public import proofs.«01_k».proof.Proof.Gen.GatesSecondIdeal.Points
public import proofs.«01_k».proof.Proof.Gen.GatesSecondIdeal.Frame
public import proofs.«01_k».proof.Proof.Gen.GatesSecondReferenceIdeal
public import proofs.«01_k».proof.Proof.Gen.PlainSecond
public import proofs.«01_k».proof.Proof.Gen.PlainSecond.Skeleton
public import proofs.«01_k».proof.Proof.Gen.PlainSecond.Launch
public import proofs.«01_k».proof.Proof.Gen.PlainSecond.Points
public import proofs.«01_k».proof.Proof.Gen.PlainSecond.Frame
public import proofs.«01_k».proof.Proof.Gen.PlainSecondIdeal
public import proofs.«01_k».proof.Proof.Gen.PlainSecondIdeal.Skeleton
public import proofs.«01_k».proof.Proof.Gen.PlainSecondIdeal.Launch
public import proofs.«01_k».proof.Proof.Gen.PlainSecondIdeal.Points
public import proofs.«01_k».proof.Proof.Gen.PlainSecondIdeal.Frame
public import proofs.«01_k».proof.Proof.Gen.PlainSecondReferenceIdeal
public import proofs.«01_k».proof.Proof.Gen.OutProjSecond
public import proofs.«01_k».proof.Proof.Gen.OutProjSecond.Skeleton
public import proofs.«01_k».proof.Proof.Gen.OutProjSecond.Launch
public import proofs.«01_k».proof.Proof.Gen.OutProjSecond.Points
public import proofs.«01_k».proof.Proof.Gen.OutProjSecond.Frame
public import proofs.«01_k».proof.Proof.Gen.OutProjSecondIdeal
public import proofs.«01_k».proof.Proof.Gen.OutProjSecondIdeal.Skeleton
public import proofs.«01_k».proof.Proof.Gen.OutProjSecondIdeal.Launch
public import proofs.«01_k».proof.Proof.Gen.OutProjSecondIdeal.Points
public import proofs.«01_k».proof.Proof.Gen.OutProjSecondIdeal.Frame
public import proofs.«01_k».proof.Proof.Gen.OutProjSecondReferenceIdeal
public import proofs.«01_k».proof.Proof.Gen.MergeSecond
public import proofs.«01_k».proof.Proof.Gen.MergeSecond.Skeleton
public import proofs.«01_k».proof.Proof.Gen.MergeSecond.Launch
public import proofs.«01_k».proof.Proof.Gen.MergeSecond.Points
public import proofs.«01_k».proof.Proof.Gen.MergeSecond.Frame
public import proofs.«01_k».proof.Proof.Gen.MergeSecondIdeal
public import proofs.«01_k».proof.Proof.Gen.MergeSecondIdeal.Skeleton
public import proofs.«01_k».proof.Proof.Gen.MergeSecondIdeal.Launch
public import proofs.«01_k».proof.Proof.Gen.MergeSecondIdeal.Points
public import proofs.«01_k».proof.Proof.Gen.MergeSecondIdeal.Frame
public import proofs.«01_k».proof.Proof.Gen.MergeSecondReferenceIdeal
public import proofs.«01_k».proof.Proof.Gen.FfnUpSecondReferenceIdeal.Run
public import proofs.«01_k».proof.Proof.Gen.FfnUpSecondReferenceIdeal.Read
public import proofs.«01_k».proof.Proof.Gen.DownSecondReferenceIdeal.Run
public import proofs.«01_k».proof.Proof.Gen.DownSecondReferenceIdeal.Read
public import proofs.«01_k».proof.Proof.Gen.GatesSecondReferenceIdeal.Run
public import proofs.«01_k».proof.Proof.Gen.GatesSecondReferenceIdeal.Read
public import proofs.«01_k».proof.Proof.Gen.PlainSecondReferenceIdeal.Run
public import proofs.«01_k».proof.Proof.Gen.PlainSecondReferenceIdeal.Read
public import proofs.«01_k».proof.Proof.Gen.OutProjSecondReferenceIdeal.Run
public import proofs.«01_k».proof.Proof.Gen.OutProjSecondReferenceIdeal.Read
public import proofs.«01_k».proof.Proof.Gen.MergeSecondReferenceIdeal.Run
public import proofs.«01_k».proof.Proof.Gen.MergeSecondReferenceIdeal.Read
public import proofs.«01_k».proof.Proof.SB.Final
public import proofs.«01_k».proof.Proof.Calls.FfnUp
public import proofs.«01_k».proof.Proof.Calls.Down
public import proofs.«01_k».proof.Proof.Calls.Gates
public import proofs.«01_k».proof.Proof.Calls.Plain
public import proofs.«01_k».proof.Proof.Calls.OutProj
public import proofs.«01_k».proof.Proof.Calls.Merge
public import proofs.«01_k».proof.Proof.Calls.Vt
public import proofs.«01_k».proof.Proof.Calls.FfnUpSecond
public import proofs.«01_k».proof.Proof.Calls.DownSecond
public import proofs.«01_k».proof.Proof.Calls.GatesSecond
public import proofs.«01_k».proof.Proof.Calls.PlainSecond
public import proofs.«01_k».proof.Proof.Calls.OutProjSecond
public import proofs.«01_k».proof.Proof.Calls.MergeSecond
public import proofs.«01_k».proof.Proof.Gen.Pre_tables_of_angles
public import proofs.«01_k».proof.Proof.Gen.Index
public import proofs.«01_k».proof.Proof.Gen.Index.Skeleton
public import proofs.«01_k».proof.Proof.Gen.Index.Launch
public import proofs.«01_k».proof.Proof.Gen.Index.Points
public import proofs.«01_k».proof.Proof.Gen.Index.Frame
public import proofs.«01_k».proof.Proof.Gen.IndexIdeal
public import proofs.«01_k».proof.Proof.Gen.IndexIdeal.Skeleton
public import proofs.«01_k».proof.Proof.Gen.IndexIdeal.Launch
public import proofs.«01_k».proof.Proof.Gen.IndexIdeal.Points
public import proofs.«01_k».proof.Proof.Gen.IndexIdeal.Frame
public import proofs.«01_k».proof.Proof.Gen.IndexReferenceIdeal
public import proofs.«01_k».proof.Proof.Gen.IndexReferenceIdeal.Run
public import proofs.«01_k».proof.Proof.Gen.IndexReferenceIdeal.Read
public import proofs.«01_k».proof.Proof.Gen.Pre_index_tables_of_angles
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormReferenceIdeal
public import proofs.«01_k».proof.Proof.Gen.PrenormReferenceIdeal.Run
public import proofs.«01_k».proof.Proof.Gen.PrenormReferenceIdeal.Read
public import proofs.«01_k».proof.Proof.Gen.PostnormMix
public import proofs.«01_k».proof.Proof.Gen.PostnormMix.Skeleton
public import proofs.«01_k».proof.Proof.Gen.PostnormMix.Launch
public import proofs.«01_k».proof.Proof.Gen.PostnormMix.Points
public import proofs.«01_k».proof.Proof.Gen.PostnormMix.Frame
public import proofs.«01_k».proof.Proof.Gen.PostnormMixIdeal
public import proofs.«01_k».proof.Proof.Gen.PostnormMixIdeal.Skeleton
public import proofs.«01_k».proof.Proof.Gen.PostnormMixIdeal.Launch
public import proofs.«01_k».proof.Proof.Gen.PostnormMixIdeal.Points
public import proofs.«01_k».proof.Proof.Gen.PostnormMixIdeal.Frame
public import proofs.«01_k».proof.Proof.Gen.PostnormMixReferenceIdeal
public import proofs.«01_k».proof.Proof.Gen.PostnormMixReferenceIdeal.Run
public import proofs.«01_k».proof.Proof.Gen.PostnormMixReferenceIdeal.Read
public import proofs.«01_k».proof.Proof.Gen.PostnormFfn
public import proofs.«01_k».proof.Proof.Gen.PostnormFfn.Skeleton
public import proofs.«01_k».proof.Proof.Gen.PostnormFfn.Launch
public import proofs.«01_k».proof.Proof.Gen.PostnormFfn.Points
public import proofs.«01_k».proof.Proof.Gen.PostnormFfn.Frame
public import proofs.«01_k».proof.Proof.Gen.PostnormFfnIdeal
public import proofs.«01_k».proof.Proof.Gen.PostnormFfnIdeal.Skeleton
public import proofs.«01_k».proof.Proof.Gen.PostnormFfnIdeal.Launch
public import proofs.«01_k».proof.Proof.Gen.PostnormFfnIdeal.Points
public import proofs.«01_k».proof.Proof.Gen.PostnormFfnIdeal.Frame
public import proofs.«01_k».proof.Proof.Gen.PostnormFfnReferenceIdeal
public import proofs.«01_k».proof.Proof.Gen.PostnormFfnReferenceIdeal.Run
public import proofs.«01_k».proof.Proof.Gen.PostnormFfnReferenceIdeal.Read
public import proofs.«01_k».proof.Proof.Gen.PostnormLast
public import proofs.«01_k».proof.Proof.Gen.PostnormLast.Skeleton
public import proofs.«01_k».proof.Proof.Gen.PostnormLast.Launch
public import proofs.«01_k».proof.Proof.Gen.PostnormLast.Points
public import proofs.«01_k».proof.Proof.Gen.PostnormLast.Frame
public import proofs.«01_k».proof.Proof.Gen.PostnormLastIdeal
public import proofs.«01_k».proof.Proof.Gen.PostnormLastIdeal.Skeleton
public import proofs.«01_k».proof.Proof.Gen.PostnormLastIdeal.Launch
public import proofs.«01_k».proof.Proof.Gen.PostnormLastIdeal.Points
public import proofs.«01_k».proof.Proof.Gen.PostnormLastIdeal.Frame
public import proofs.«01_k».proof.Proof.Gen.PostnormLastReferenceIdeal
public import proofs.«01_k».proof.Proof.Gen.PostnormLastReferenceIdeal.Run
public import proofs.«01_k».proof.Proof.Gen.PostnormLastReferenceIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeReferenceIdeal
public import proofs.«01_k».proof.Proof.Gen.RopeReferenceIdeal.Run
public import proofs.«01_k».proof.Proof.Gen.RopeReferenceIdeal.Read
public import proofs.«01_k».proof.Proof.Gen.RopeSecond
public import proofs.«01_k».proof.Proof.Gen.RopeSecond.Skeleton
public import proofs.«01_k».proof.Proof.Gen.RopeSecond.Launch
public import proofs.«01_k».proof.Proof.Gen.RopeSecond.Points
public import proofs.«01_k».proof.Proof.Gen.RopeSecond.Frame
public import proofs.«01_k».proof.Proof.Gen.RopeSecondIdeal
public import proofs.«01_k».proof.Proof.Gen.RopeSecondIdeal.Skeleton
public import proofs.«01_k».proof.Proof.Gen.RopeSecondIdeal.Launch
public import proofs.«01_k».proof.Proof.Gen.RopeSecondIdeal.Points
public import proofs.«01_k».proof.Proof.Gen.RopeSecondIdeal.Frame
public import proofs.«01_k».proof.Proof.Gen.RopeSecondReferenceIdeal
public import proofs.«01_k».proof.Proof.Gen.RopeSecondReferenceIdeal.Run
public import proofs.«01_k».proof.Proof.Gen.RopeSecondReferenceIdeal.Read
public import proofs.«01_k».proof.Proof.Calls.PostnormLast
public import proofs.«01_k».proof.Proof.Calls.Prenorm
public import proofs.«01_k».proof.Proof.Calls.PostnormMix
public import proofs.«01_k».proof.Proof.Calls.PostnormFfn
public import proofs.«01_k».proof.Proof.Calls.Rope
public import proofs.«01_k».proof.Proof.Calls.RopeSecond
public import proofs.«01_k».proof.Proof.Calls.Index

@[expose] public section

set_option maxRecDepth 16384

noncomputable section

namespace Cert.Proof

open Idealize.ShloMosaic Idealize.SL.Sem

/-- The reference ends with its argument unchanged and every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

theorem FfnUp_pair : algebraic_FfnUpIdeal_FfnUpReferenceIdeal (hFfnUpIdeal := Cert.FfnUpIdeal.Gen.facts) (hFfnUpReferenceIdeal := Cert.FfnUpReferenceIdeal.Gen.facts) := by
  pair_intro
  · run_from Cert.FfnUpIdeal.Gen.run_main m g
  · run_from Cert.FfnUpReferenceIdeal.Value.run m' g'
    obtain ⟨h0, h1, h2⟩ := hagree c
    rw [Cert.FfnUpReferenceIdeal.Read.val_main_v32_eq, h0, h1, h2]
    exact (Cert.FfnUpIdeal.Value.final m c).symm

theorem Down_pair : algebraic_DownIdeal_DownReferenceIdeal (hDownIdeal := Cert.DownIdeal.Gen.facts) (hDownReferenceIdeal := Cert.DownReferenceIdeal.Gen.facts) := by
  pair_intro
  · run_from Cert.DownIdeal.Gen.run_main m g
  · run_from Cert.DownReferenceIdeal.Value.run m' g'
    rw [Cert.DownReferenceIdeal.Read.val_main_v5_eq]
    exact (Cert.DownIdeal.Value.final m c).symm

theorem Gates_pair : algebraic_GatesIdeal_GatesReferenceIdeal (hGatesIdeal := Cert.GatesIdeal.Gen.facts) (hGatesReferenceIdeal := Cert.GatesReferenceIdeal.Gen.facts) := by
  pair_intro
  · run_from Cert.GatesIdeal.Gen.run_main m g
  · run_from Cert.GatesReferenceIdeal.Value.run m' g'
    rw [Cert.GatesReferenceIdeal.Read.val_main_v11_eq]
    exact (Cert.GatesIdeal.Value.final m c).symm

theorem Plain_pair : algebraic_PlainIdeal_PlainReferenceIdeal (hPlainIdeal := Cert.PlainIdeal.Gen.facts) (hPlainReferenceIdeal := Cert.PlainReferenceIdeal.Gen.facts) := by
  pair_intro
  · run_from Cert.PlainIdeal.Gen.run_main m g
  · run_from Cert.PlainReferenceIdeal.Value.run m' g'
    rw [Cert.PlainReferenceIdeal.Read.val_main_v7_eq]
    exact (Cert.PlainIdeal.Value.final m c).symm

theorem OutProj_pair : algebraic_OutProjIdeal_OutProjReferenceIdeal (hOutProjIdeal := Cert.OutProjIdeal.Gen.facts) (hOutProjReferenceIdeal := Cert.OutProjReferenceIdeal.Gen.facts) := by
  pair_intro
  · run_from Cert.OutProjIdeal.Gen.run_main m g
  · run_from Cert.OutProjReferenceIdeal.Value.run m' g'
    rw [Cert.OutProjReferenceIdeal.Read.val_main_v5_eq]
    exact (Cert.OutProjIdeal.Value.final m c).symm

theorem Merge_pair : algebraic_MergeIdeal_MergeReferenceIdeal (hMergeIdeal := Cert.MergeIdeal.Gen.facts) (hMergeReferenceIdeal := Cert.MergeReferenceIdeal.Gen.facts) := by
  pair_intro
  · run_from Cert.MergeIdeal.Gen.run_main m g
  · run_from Cert.MergeReferenceIdeal.Value.run m' g'
    rw [Cert.MergeReferenceIdeal.Read.val_main_v28_eq]
    exact (Cert.MergeIdeal.Value.final m c).symm

theorem Vt_pair : algebraic_VtIdeal_VtReferenceIdeal (hVtIdeal := Cert.VtIdeal.Gen.facts) (hVtReferenceIdeal := Cert.VtReferenceIdeal.Gen.facts) := by
  pair_intro
  · run_from Cert.VtIdeal.Gen.run_main m g
  · run_from Cert.VtReferenceIdeal.Value.run m' g'
    rw [Cert.VtReferenceIdeal.Read.val_main_v5_eq]
    exact (Cert.VtIdeal.Value.final m c).symm

theorem FfnUpSecond_pair : algebraic_FfnUpSecondIdeal_FfnUpSecondReferenceIdeal (hFfnUpSecondIdeal := Cert.FfnUpSecondIdeal.Gen.facts) (hFfnUpSecondReferenceIdeal := Cert.FfnUpSecondReferenceIdeal.Gen.facts) := by
  pair_intro
  · run_from Cert.FfnUpSecondIdeal.Gen.run_main m g
  · run_from Cert.FfnUpSecondReferenceIdeal.Value.run m' g'
    obtain ⟨h0, h1, h2⟩ := hagree c
    rw [Cert.FfnUpSecondReferenceIdeal.Read.val_main_v32_eq, h0, h1, h2]
    exact (Cert.FfnUpSecondIdeal.Value.final m c).symm

theorem DownSecond_pair : algebraic_DownSecondIdeal_DownSecondReferenceIdeal (hDownSecondIdeal := Cert.DownSecondIdeal.Gen.facts) (hDownSecondReferenceIdeal := Cert.DownSecondReferenceIdeal.Gen.facts) := by
  pair_intro
  · run_from Cert.DownSecondIdeal.Gen.run_main m g
  · run_from Cert.DownSecondReferenceIdeal.Value.run m' g'
    rw [Cert.DownSecondReferenceIdeal.Read.val_main_v5_eq]
    exact (Cert.DownSecondIdeal.Value.final m c).symm

theorem GatesSecond_pair : algebraic_GatesSecondIdeal_GatesSecondReferenceIdeal (hGatesSecondIdeal := Cert.GatesSecondIdeal.Gen.facts) (hGatesSecondReferenceIdeal := Cert.GatesSecondReferenceIdeal.Gen.facts) := by
  pair_intro
  · run_from Cert.GatesSecondIdeal.Gen.run_main m g
  · run_from Cert.GatesSecondReferenceIdeal.Value.run m' g'
    rw [Cert.GatesSecondReferenceIdeal.Read.val_main_v11_eq]
    exact (Cert.GatesSecondIdeal.Value.final m c).symm

theorem PlainSecond_pair : algebraic_PlainSecondIdeal_PlainSecondReferenceIdeal (hPlainSecondIdeal := Cert.PlainSecondIdeal.Gen.facts) (hPlainSecondReferenceIdeal := Cert.PlainSecondReferenceIdeal.Gen.facts) := by
  pair_intro
  · run_from Cert.PlainSecondIdeal.Gen.run_main m g
  · run_from Cert.PlainSecondReferenceIdeal.Value.run m' g'
    rw [Cert.PlainSecondReferenceIdeal.Read.val_main_v7_eq]
    exact (Cert.PlainSecondIdeal.Value.final m c).symm

theorem OutProjSecond_pair : algebraic_OutProjSecondIdeal_OutProjSecondReferenceIdeal (hOutProjSecondIdeal := Cert.OutProjSecondIdeal.Gen.facts) (hOutProjSecondReferenceIdeal := Cert.OutProjSecondReferenceIdeal.Gen.facts) := by
  pair_intro
  · run_from Cert.OutProjSecondIdeal.Gen.run_main m g
  · run_from Cert.OutProjSecondReferenceIdeal.Value.run m' g'
    rw [Cert.OutProjSecondReferenceIdeal.Read.val_main_v5_eq]
    exact (Cert.OutProjSecondIdeal.Value.final m c).symm

theorem MergeSecond_pair : algebraic_MergeSecondIdeal_MergeSecondReferenceIdeal (hMergeSecondIdeal := Cert.MergeSecondIdeal.Gen.facts) (hMergeSecondReferenceIdeal := Cert.MergeSecondReferenceIdeal.Gen.facts) := by
  pair_intro
  · run_from Cert.MergeSecondIdeal.Gen.run_main m g
  · run_from Cert.MergeSecondReferenceIdeal.Value.run m' g'
    rw [Cert.MergeSecondReferenceIdeal.Read.val_main_v28_eq]
    exact (Cert.MergeSecondIdeal.Value.final m c).symm

theorem Prenorm_pair : algebraic_PrenormIdeal_PrenormReferenceIdeal (hPrenormIdeal := Cert.PrenormIdeal.Gen.facts) (hPrenormReferenceIdeal := Cert.PrenormReferenceIdeal.Gen.facts) := by
  pair_intro
  · run_from Cert.PrenormIdeal.Gen.run_main m g
  · run_from Cert.PrenormReferenceIdeal.Value.run m' g'
    rw [Cert.PrenormReferenceIdeal.Read.val_main_v28_eq]
    exact (Cert.PrenormIdeal.Value.final m c).symm

theorem PostnormMix_pair : algebraic_PostnormMixIdeal_PostnormMixReferenceIdeal (hPostnormMixIdeal := Cert.PostnormMixIdeal.Gen.facts) (hPostnormMixReferenceIdeal := Cert.PostnormMixReferenceIdeal.Gen.facts) := by
  pair_intro
  · run_from Cert.PostnormMixIdeal.Gen.run_main m g
  · run_from Cert.PostnormMixReferenceIdeal.Value.run m' g'
    · rw [Cert.PostnormMixReferenceIdeal.Read.val_main_v23_eq]
      exact (Cert.PostnormMixIdeal.Value.finalResidual m c).symm
    · obtain ⟨h0, h1, h2, h3, h4⟩ := hagree c
      rw [Cert.PostnormMixReferenceIdeal.Read.val_main_v51_eq, h0, h1, h2, h3, h4]
      exact (Cert.PostnormMixIdeal.Value.finalNorm m c).symm

theorem PostnormFfn_pair : algebraic_PostnormFfnIdeal_PostnormFfnReferenceIdeal (hPostnormFfnIdeal := Cert.PostnormFfnIdeal.Gen.facts) (hPostnormFfnReferenceIdeal := Cert.PostnormFfnReferenceIdeal.Gen.facts) := by
  pair_intro
  · run_from Cert.PostnormFfnIdeal.Gen.run_main m g
  · run_from Cert.PostnormFfnReferenceIdeal.Value.run m' g'
    · rw [Cert.PostnormFfnReferenceIdeal.Read.val_main_v23_eq]
      exact (Cert.PostnormFfnIdeal.Value.finalResidual m c).symm
    · obtain ⟨h0, h1, h2, h3, h4, h5⟩ := hagree c
      rw [Cert.PostnormFfnReferenceIdeal.Read.val_main_v51_eq, h0, h1, h2, h3, h4, h5]
      exact (Cert.PostnormFfnIdeal.Value.finalNorm m c).symm

theorem PostnormLast_pair : algebraic_PostnormLastIdeal_PostnormLastReferenceIdeal (hPostnormLastIdeal := Cert.PostnormLastIdeal.Gen.facts) (hPostnormLastReferenceIdeal := Cert.PostnormLastReferenceIdeal.Gen.facts) := by
  pair_intro
  · run_from Cert.PostnormLastIdeal.Gen.run_main m g
  · run_from Cert.PostnormLastReferenceIdeal.Value.run m' g'
    rw [Cert.PostnormLastReferenceIdeal.Read.val_main_v23_eq]
    exact (Cert.PostnormLastIdeal.Value.final m c).symm

theorem Rope_pair : algebraic_RopeIdeal_RopeReferenceIdeal_pre_tables_of_angles (hRopeIdeal := Cert.RopeIdeal.Gen.facts) (hRopeReferenceIdeal := Cert.RopeReferenceIdeal.Gen.facts) (hPre_tables_of_angles := Cert.Pre_tables_of_angles.Gen.facts) := by
  pair_intro
  · run_from Cert.RopeIdeal.Gen.run_main m g
  · run_from Cert.RopeReferenceIdeal.Value.run m' g'
    obtain ⟨h0, h1, h2, h3, h4⟩ := hagree c
    rw [Cert.RopeReferenceIdeal.Read.val_main_v27_eq, h0, h1, h2, h3, h4]
    exact (Cert.RopeIdeal.Value.final m c (hpre c)).symm

theorem RopeSecond_pair : algebraic_RopeSecondIdeal_RopeSecondReferenceIdeal_pre_tables_of_angles (hRopeSecondIdeal := Cert.RopeSecondIdeal.Gen.facts) (hRopeSecondReferenceIdeal := Cert.RopeSecondReferenceIdeal.Gen.facts) (hPre_tables_of_angles := Cert.Pre_tables_of_angles.Gen.facts) := by
  pair_intro
  · run_from Cert.RopeSecondIdeal.Gen.run_main m g
  · run_from Cert.RopeSecondReferenceIdeal.Value.run m' g'
    obtain ⟨h0, h1, h2, h3, h4⟩ := hagree c
    rw [Cert.RopeSecondReferenceIdeal.Read.val_main_v27_eq, h0, h1, h2, h3, h4]
    exact (Cert.RopeSecondIdeal.Value.final m c (hpre c)).symm

theorem Index_pair : algebraic_IndexIdeal_IndexReferenceIdeal_pre_index_tables_of_angles (hIndexIdeal := Cert.IndexIdeal.Gen.facts) (hIndexReferenceIdeal := Cert.IndexReferenceIdeal.Gen.facts) (hPre_index_tables_of_angles := Cert.Pre_index_tables_of_angles.Gen.facts) := by
  pair_intro
  · run_from Cert.IndexIdeal.Gen.run_main m g
  · run_from Cert.IndexReferenceIdeal.Value.run m' g'
    · obtain ⟨_, _, _, h3, h4⟩ := hagree c
      rw [Cert.IndexReferenceIdeal.Read.val_main_v54_eq, h3, h4]
      exact (Cert.IndexIdeal.Value.finalQueries m c (hpre c)).symm
    · obtain ⟨_, _, _, h3, h4⟩ := hagree c
      rw [Cert.IndexReferenceIdeal.Read.val_main_v55_eq, h3, h4]
      exact (Cert.IndexIdeal.Value.finalKeys m c (hpre c)).symm
    · rw [Cert.IndexReferenceIdeal.Read.val_main_v56_eq]
      exact (Cert.IndexIdeal.Value.finalWeights m c).symm

theorem claim : Cert.Claim := by
  refine ⟨Cert.Kernel.Gen.facts, Cert.KernelIdeal.Gen.facts, Cert.ReferenceIdeal.Gen.facts, Cert.FfnUp.Gen.facts, Cert.FfnUpIdeal.Gen.facts, Cert.FfnUpReferenceIdeal.Gen.facts, Cert.Down.Gen.facts, Cert.DownIdeal.Gen.facts, Cert.DownReferenceIdeal.Gen.facts, Cert.Gates.Gen.facts, Cert.GatesIdeal.Gen.facts, Cert.GatesReferenceIdeal.Gen.facts, Cert.Plain.Gen.facts, Cert.PlainIdeal.Gen.facts, Cert.PlainReferenceIdeal.Gen.facts, Cert.OutProj.Gen.facts, Cert.OutProjIdeal.Gen.facts, Cert.OutProjReferenceIdeal.Gen.facts, Cert.Merge.Gen.facts, Cert.MergeIdeal.Gen.facts, Cert.MergeReferenceIdeal.Gen.facts, Cert.Vt.Gen.facts, Cert.VtIdeal.Gen.facts, Cert.VtReferenceIdeal.Gen.facts, Cert.FfnUpSecond.Gen.facts, Cert.FfnUpSecondIdeal.Gen.facts, Cert.FfnUpSecondReferenceIdeal.Gen.facts, Cert.DownSecond.Gen.facts, Cert.DownSecondIdeal.Gen.facts, Cert.DownSecondReferenceIdeal.Gen.facts, Cert.GatesSecond.Gen.facts, Cert.GatesSecondIdeal.Gen.facts, Cert.GatesSecondReferenceIdeal.Gen.facts, Cert.PlainSecond.Gen.facts, Cert.PlainSecondIdeal.Gen.facts, Cert.PlainSecondReferenceIdeal.Gen.facts, Cert.OutProjSecond.Gen.facts, Cert.OutProjSecondIdeal.Gen.facts, Cert.OutProjSecondReferenceIdeal.Gen.facts, Cert.MergeSecond.Gen.facts, Cert.MergeSecondIdeal.Gen.facts, Cert.MergeSecondReferenceIdeal.Gen.facts, Cert.Prenorm.Gen.facts, Cert.PrenormIdeal.Gen.facts, Cert.PrenormReferenceIdeal.Gen.facts, Cert.PostnormMix.Gen.facts, Cert.PostnormMixIdeal.Gen.facts, Cert.PostnormMixReferenceIdeal.Gen.facts, Cert.PostnormFfn.Gen.facts, Cert.PostnormFfnIdeal.Gen.facts, Cert.PostnormFfnReferenceIdeal.Gen.facts, Cert.PostnormLast.Gen.facts, Cert.PostnormLastIdeal.Gen.facts, Cert.PostnormLastReferenceIdeal.Gen.facts, Cert.Rope.Gen.facts, Cert.RopeIdeal.Gen.facts, Cert.RopeReferenceIdeal.Gen.facts, Cert.RopeSecond.Gen.facts, Cert.RopeSecondIdeal.Gen.facts, Cert.RopeSecondReferenceIdeal.Gen.facts, Cert.Index.Gen.facts, Cert.IndexIdeal.Gen.facts, Cert.IndexReferenceIdeal.Gen.facts, Cert.Pre_logits_at_most_64.Gen.facts, Cert.Pre_tables_of_angles.Gen.facts, Cert.Pre_index_tables_of_angles.Gen.facts, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.Kernel.Gen.frame m g
  · exact fun m g _ => Cert.KernelIdeal.Gen.frame m g
  · exact fun m g _ => Cert.KernelIdeal.Gen.frame m g
  · exact fun m g _ => reference_frame m g
  · exact fun m g _ => reference_frame m g
  · exact fun m g _ => Cert.FfnUp.Gen.frame m g
  · exact fun m g _ => Cert.FfnUpIdeal.Gen.frame m g
  · exact fun m g _ => (θ_run Cert.FfnUpReferenceIdeal.defs _ _).mono (fun r h => ⟨fun c => (h c).2, sem_eq_zero_of_no_sems (by decide) r.2⟩)
      (Cert.FfnUpReferenceIdeal.Value.run (F := Ideal) m g)
  · exact fun m g _ => Cert.Down.Gen.frame m g
  · exact fun m g _ => Cert.DownIdeal.Gen.frame m g
  · exact fun m g _ => (θ_run Cert.DownReferenceIdeal.defs _ _).mono (fun r h => ⟨fun c => (h c).2, sem_eq_zero_of_no_sems (by decide) r.2⟩)
      (Cert.DownReferenceIdeal.Value.run (F := Ideal) m g)
  · exact fun m g _ => Cert.Gates.Gen.frame m g
  · exact fun m g _ => Cert.GatesIdeal.Gen.frame m g
  · exact fun m g _ => (θ_run Cert.GatesReferenceIdeal.defs _ _).mono (fun r h => ⟨fun c => (h c).2, sem_eq_zero_of_no_sems (by decide) r.2⟩)
      (Cert.GatesReferenceIdeal.Value.run (F := Ideal) m g)
  · exact fun m g _ => Cert.Plain.Gen.frame m g
  · exact fun m g _ => Cert.PlainIdeal.Gen.frame m g
  · exact fun m g _ => (θ_run Cert.PlainReferenceIdeal.defs _ _).mono (fun r h => ⟨fun c => (h c).2, sem_eq_zero_of_no_sems (by decide) r.2⟩)
      (Cert.PlainReferenceIdeal.Value.run (F := Ideal) m g)
  · exact fun m g _ => Cert.OutProj.Gen.frame m g
  · exact fun m g _ => Cert.OutProjIdeal.Gen.frame m g
  · exact fun m g _ => (θ_run Cert.OutProjReferenceIdeal.defs _ _).mono (fun r h => ⟨fun c => (h c).2, sem_eq_zero_of_no_sems (by decide) r.2⟩)
      (Cert.OutProjReferenceIdeal.Value.run (F := Ideal) m g)
  · exact fun m g _ => Cert.Merge.Gen.frame m g
  · exact fun m g _ => Cert.MergeIdeal.Gen.frame m g
  · exact fun m g _ => (θ_run Cert.MergeReferenceIdeal.defs _ _).mono (fun r h => ⟨fun c => (h c).2, sem_eq_zero_of_no_sems (by decide) r.2⟩)
      (Cert.MergeReferenceIdeal.Value.run (F := Ideal) m g)
  · exact fun m g _ => Cert.Vt.Gen.frame m g
  · exact fun m g _ => Cert.VtIdeal.Gen.frame m g
  · exact fun m g _ => (θ_run Cert.VtReferenceIdeal.defs _ _).mono (fun r h => ⟨fun c => (h c).2, sem_eq_zero_of_no_sems (by decide) r.2⟩)
      (Cert.VtReferenceIdeal.Value.run (F := Ideal) m g)
  · exact fun m g _ => Cert.FfnUpSecond.Gen.frame m g
  · exact fun m g _ => Cert.FfnUpSecondIdeal.Gen.frame m g
  · exact fun m g _ => (θ_run Cert.FfnUpSecondReferenceIdeal.defs _ _).mono (fun r h => ⟨fun c => (h c).2, sem_eq_zero_of_no_sems (by decide) r.2⟩)
      (Cert.FfnUpSecondReferenceIdeal.Value.run (F := Ideal) m g)
  · exact fun m g _ => Cert.DownSecond.Gen.frame m g
  · exact fun m g _ => Cert.DownSecondIdeal.Gen.frame m g
  · exact fun m g _ => (θ_run Cert.DownSecondReferenceIdeal.defs _ _).mono (fun r h => ⟨fun c => (h c).2, sem_eq_zero_of_no_sems (by decide) r.2⟩)
      (Cert.DownSecondReferenceIdeal.Value.run (F := Ideal) m g)
  · exact fun m g _ => Cert.GatesSecond.Gen.frame m g
  · exact fun m g _ => Cert.GatesSecondIdeal.Gen.frame m g
  · exact fun m g _ => (θ_run Cert.GatesSecondReferenceIdeal.defs _ _).mono (fun r h => ⟨fun c => (h c).2, sem_eq_zero_of_no_sems (by decide) r.2⟩)
      (Cert.GatesSecondReferenceIdeal.Value.run (F := Ideal) m g)
  · exact fun m g _ => Cert.PlainSecond.Gen.frame m g
  · exact fun m g _ => Cert.PlainSecondIdeal.Gen.frame m g
  · exact fun m g _ => (θ_run Cert.PlainSecondReferenceIdeal.defs _ _).mono (fun r h => ⟨fun c => (h c).2, sem_eq_zero_of_no_sems (by decide) r.2⟩)
      (Cert.PlainSecondReferenceIdeal.Value.run (F := Ideal) m g)
  · exact fun m g _ => Cert.OutProjSecond.Gen.frame m g
  · exact fun m g _ => Cert.OutProjSecondIdeal.Gen.frame m g
  · exact fun m g _ => (θ_run Cert.OutProjSecondReferenceIdeal.defs _ _).mono (fun r h => ⟨fun c => (h c).2, sem_eq_zero_of_no_sems (by decide) r.2⟩)
      (Cert.OutProjSecondReferenceIdeal.Value.run (F := Ideal) m g)
  · exact fun m g _ => Cert.MergeSecond.Gen.frame m g
  · exact fun m g _ => Cert.MergeSecondIdeal.Gen.frame m g
  · exact fun m g _ => (θ_run Cert.MergeSecondReferenceIdeal.defs _ _).mono (fun r h => ⟨fun c => (h c).2, sem_eq_zero_of_no_sems (by decide) r.2⟩)
      (Cert.MergeSecondReferenceIdeal.Value.run (F := Ideal) m g)
  · exact fun m g _ => Cert.Prenorm.Gen.frame m g
  · exact fun m g _ => Cert.PrenormIdeal.Gen.frame m g
  · exact fun m g _ => (θ_run Cert.PrenormReferenceIdeal.defs _ _).mono (fun r h => ⟨fun c => (h c).2, sem_eq_zero_of_no_sems (by decide) r.2⟩)
      (Cert.PrenormReferenceIdeal.Value.run (F := Ideal) m g)
  · exact fun m g _ => Cert.PostnormMix.Gen.frame m g
  · exact fun m g _ => Cert.PostnormMixIdeal.Gen.frame m g
  · exact fun m g _ => (θ_run Cert.PostnormMixReferenceIdeal.defs _ _).mono (fun r h => ⟨fun c => (h c).2.2, sem_eq_zero_of_no_sems (by decide) r.2⟩)
      (Cert.PostnormMixReferenceIdeal.Value.run (F := Ideal) m g)
  · exact fun m g _ => Cert.PostnormFfn.Gen.frame m g
  · exact fun m g _ => Cert.PostnormFfnIdeal.Gen.frame m g
  · exact fun m g _ => (θ_run Cert.PostnormFfnReferenceIdeal.defs _ _).mono (fun r h => ⟨fun c => (h c).2.2, sem_eq_zero_of_no_sems (by decide) r.2⟩)
      (Cert.PostnormFfnReferenceIdeal.Value.run (F := Ideal) m g)
  · exact fun m g _ => Cert.PostnormLast.Gen.frame m g
  · exact fun m g _ => Cert.PostnormLastIdeal.Gen.frame m g
  · exact fun m g _ => (θ_run Cert.PostnormLastReferenceIdeal.defs _ _).mono (fun r h => ⟨fun c => (h c).2, sem_eq_zero_of_no_sems (by decide) r.2⟩)
      (Cert.PostnormLastReferenceIdeal.Value.run (F := Ideal) m g)
  · exact fun m g _ => Cert.Rope.Gen.frame m g
  · exact fun m g _ => Cert.RopeIdeal.Gen.frame m g
  · exact fun m g _ => Cert.RopeIdeal.Gen.frame m g
  · exact fun m g _ => (θ_run Cert.RopeReferenceIdeal.defs _ _).mono (fun r h => ⟨fun c => (h c).2, sem_eq_zero_of_no_sems (by decide) r.2⟩)
      (Cert.RopeReferenceIdeal.Value.run (F := Ideal) m g)
  · exact fun m g _ => (θ_run Cert.RopeReferenceIdeal.defs _ _).mono (fun r h => ⟨fun c => (h c).2, sem_eq_zero_of_no_sems (by decide) r.2⟩)
      (Cert.RopeReferenceIdeal.Value.run (F := Ideal) m g)
  · exact fun m g _ => Cert.RopeSecond.Gen.frame m g
  · exact fun m g _ => Cert.RopeSecondIdeal.Gen.frame m g
  · exact fun m g _ => Cert.RopeSecondIdeal.Gen.frame m g
  · exact fun m g _ => (θ_run Cert.RopeSecondReferenceIdeal.defs _ _).mono (fun r h => ⟨fun c => (h c).2, sem_eq_zero_of_no_sems (by decide) r.2⟩)
      (Cert.RopeSecondReferenceIdeal.Value.run (F := Ideal) m g)
  · exact fun m g _ => (θ_run Cert.RopeSecondReferenceIdeal.defs _ _).mono (fun r h => ⟨fun c => (h c).2, sem_eq_zero_of_no_sems (by decide) r.2⟩)
      (Cert.RopeSecondReferenceIdeal.Value.run (F := Ideal) m g)
  · exact fun m g _ => Cert.Index.Gen.frame m g
  · exact fun m g _ => Cert.IndexIdeal.Gen.frame m g
  · exact fun m g _ => Cert.IndexIdeal.Gen.frame m g
  · exact fun m g _ => (θ_run Cert.IndexReferenceIdeal.defs _ _).mono (fun r h => ⟨fun c => (h c).2.2.2, sem_eq_zero_of_no_sems (by decide) r.2⟩)
      (Cert.IndexReferenceIdeal.Value.run (F := Ideal) m g)
  · exact fun m g _ => (θ_run Cert.IndexReferenceIdeal.defs _ _).mono (fun r h => ⟨fun c => (h c).2.2.2, sem_eq_zero_of_no_sems (by decide) r.2⟩)
      (Cert.IndexReferenceIdeal.Value.run (F := Ideal) m g)
  · exact IdealRules.named_const.statement Cert.KernelIdeal.κ "log2e" .f32 0x3FB8AA3B#32 _ rfl
  · pair_intro
    · run_from Cert.KernelIdeal.Gen.run_main m g
    · run_from Cert.ReferenceIdeal.Value.run m' g'
      rw [Cert.ReferenceIdeal.Read.val_main_v35_eq]
      exact (congrArg (Cert.ReferenceIdeal.Read.val_main_v35 (F := Ideal)) (hagree c)).trans (Cert.SB.final m c (hpre c)).symm
  · trivial
  · exact FfnUp_pair
  · trivial
  · exact Down_pair
  · trivial
  · exact Gates_pair
  · trivial
  · exact Plain_pair
  · trivial
  · exact OutProj_pair
  · trivial
  · exact Merge_pair
  · trivial
  · exact Vt_pair
  · trivial
  · exact FfnUpSecond_pair
  · trivial
  · exact DownSecond_pair
  · trivial
  · exact GatesSecond_pair
  · trivial
  · exact PlainSecond_pair
  · trivial
  · exact OutProjSecond_pair
  · trivial
  · exact MergeSecond_pair
  · trivial
  · exact Prenorm_pair
  · trivial
  · exact PostnormMix_pair
  · trivial
  · exact PostnormFfn_pair
  · trivial
  · exact PostnormLast_pair
  · trivial
  · exact Rope_pair
  · trivial
  · exact RopeSecond_pair
  · trivial
  · exact Index_pair

end Cert.Proof

end
